-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S2600000x16 .f32) (main_arg2 : FVec F S2600000x1 .f32) (main_arg3 : FVec F S1 .f32) (main_arg4 : FVec F S416x256 .f32) (main_arg5 : FVec F S256 .f32) (main_arg6 : FVec F S256x128 .f32) (main_arg7 : FVec F S128 .f32) (main_arg8 : FVec F S128x1 .f32) (main_arg9 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S832 : Shape := ⟨1, ![832]⟩
abbrev S512x16 : Shape := ⟨2, ![512, 16]⟩
abbrev S512x2 : Shape := ⟨2, ![512, 2]⟩
abbrev S425984 : Shape := ⟨1, ![425984]⟩
abbrev S16x2600000 : Shape := ⟨2, ![16, 2600000]⟩
abbrev S325000x128 : Shape := ⟨2, ![325000, 128]⟩
abbrev S16x1024 : Shape := ⟨2, ![16, 1024]⟩
abbrev S128x128 : Shape := ⟨2, ![128, 128]⟩
abbrev S_ : Shape := ⟨0, ![]⟩
abbrev S16 : Shape := ⟨1, ![16]⟩
abbrev S1x16 : Shape := ⟨2, ![1, 16]⟩
abbrev S1x2600000 : Shape := ⟨2, ![1, 2600000]⟩
abbrev S162500x16 : Shape := ⟨2, ![162500, 16]⟩
abbrev S64x16 : Shape := ⟨2, ![64, 16]⟩
abbrev S16384x512 : Shape := ⟨2, ![16384, 512]⟩
abbrev S832x16 : Shape := ⟨2, ![832, 16]⟩
abbrev S32x512 : Shape := ⟨2, ![32, 512]⟩
abbrev S96x256 : Shape := ⟨2, ![96, 256]⟩
abbrev S512x256 : Shape := ⟨2, ![512, 256]⟩
abbrev S1x256 : Shape := ⟨2, ![1, 256]⟩
abbrev S1x128 : Shape := ⟨2, ![1, 128]⟩
abbrev S1x1 : Shape := ⟨2, ![1, 1]⟩
abbrev S16384x1 : Shape := ⟨2, ![16384, 1]⟩
abbrev S1024x512 : Shape := ⟨2, ![1024, 512]⟩
abbrev S1024x1 : Shape := ⟨2, ![1024, 1]⟩
abbrev S1024x16 : Shape := ⟨2, ![1024, 16]⟩
abbrev S1024x2 : Shape := ⟨2, ![1024, 2]⟩
abbrev S1024 : Shape := ⟨1, ![1024]⟩
abbrev S1024x256 : Shape := ⟨2, ![1024, 256]⟩
abbrev S1024x128 : Shape := ⟨2, ![1024, 128]⟩
abbrev S16384 : Shape := ⟨1, ![16384]⟩

abbrev nBuf : Table → Nat
  | .hbm => 30
  | .local .tc .vmem => 12
  | .local .scVector .vmem => 15
  | _ => 0

abbrev bufTy : (tb : Table) → Fin (nBuf tb) → BufTy
  | .hbm, ⟨0, _⟩ => ⟨S16384x26, .i32⟩
  | .hbm, ⟨1, _⟩ => ⟨S2600000x16, .f32⟩
  | .hbm, ⟨2, _⟩ => ⟨S2600000x1, .f32⟩
  | .hbm, ⟨3, _⟩ => ⟨S1, .f32⟩
  | .hbm, ⟨4, _⟩ => ⟨S416x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S832, .i32⟩
  | .hbm, ⟨11, _⟩ => ⟨S512x16, .f32⟩
  | .hbm, ⟨12, _⟩ => ⟨S512x2, .f32⟩
  | .hbm, ⟨13, _⟩ => ⟨S425984, .i32⟩
  | .hbm, ⟨14, _⟩ => ⟨S16x2600000, .f32⟩
  | .hbm, ⟨15, _⟩ => ⟨S325000x128, .f32⟩
  | .hbm, ⟨16, _⟩ => ⟨S2600000x16, .f32⟩
  | .hbm, ⟨17, _⟩ => ⟨S1x2600000, .f32⟩
  | .hbm, ⟨18, _⟩ => ⟨S162500x16, .f32⟩
  | .hbm, ⟨19, _⟩ => ⟨S64x16, .f32⟩
  | .hbm, ⟨20, _⟩ => ⟨S16384x512, .f32⟩
  | .hbm, ⟨21, _⟩ => ⟨S_, .f32⟩
  | .hbm, ⟨22, _⟩ => ⟨S96x256, .f32⟩
  | .hbm, ⟨23, _⟩ => ⟨S512x256, .f32⟩
  | .hbm, ⟨24, _⟩ => ⟨S1x256, .f32⟩
  | .hbm, ⟨25, _⟩ => ⟨S1x128, .f32⟩
  | .hbm, ⟨26, _⟩ => ⟨S1, .f32⟩
  | .hbm, ⟨27, _⟩ => ⟨S1x1, .f32⟩
  | .hbm, ⟨28, _⟩ => ⟨S16384x1, .f32⟩
  | .hbm, ⟨29, _⟩ => ⟨S16384, .f32⟩
  | .local .tc .vmem, ⟨0, _⟩ => ⟨S1024x512, .f32⟩
  | .local .tc .vmem, ⟨1, _⟩ => ⟨S1024x512, .f32⟩
  | .local .tc .vmem, ⟨2, _⟩ => ⟨S512x256, .f32⟩
  | .local .tc .vmem, ⟨3, _⟩ => ⟨S1x256, .f32⟩
  | .local .tc .vmem, ⟨4, _⟩ => ⟨S256x128, .f32⟩
  | .local .tc .vmem, ⟨5, _⟩ => ⟨S1x128, .f32⟩
  | .local .tc .vmem, ⟨6, _⟩ => ⟨S128x1, .f32⟩
  | .local .tc .vmem, ⟨7, _⟩ => ⟨S1x1, .f32⟩
  | .local .tc .vmem, ⟨8, _⟩ => ⟨S512x16, .f32⟩
  | .local .tc .vmem, ⟨9, _⟩ => ⟨S512x2, .f32⟩
  | .local .tc .vmem, ⟨10, _⟩ => ⟨S1024x1, .f32⟩
  | .local .tc .vmem, ⟨11, _⟩ => ⟨S1024x1, .f32⟩
  | .local .scVector .vmem, ⟨0, _⟩ => ⟨S16x1024, .f32⟩
  | .local .scVector .vmem, ⟨1, _⟩ => ⟨S16x1024, .f32⟩
  | .local .scVector .vmem, ⟨2, _⟩ => ⟨S128x128, .f32⟩
  | .local .scVector .vmem, ⟨3, _⟩ => ⟨S128x128, .f32⟩
  | .local .scVector .vmem, ⟨4, _⟩ => ⟨S832, .i32⟩
  | .local .scVector .vmem, ⟨5, _⟩ => ⟨S832, .i32⟩
  | .local .scVector .vmem, ⟨6, _⟩ => ⟨S832, .i32⟩
  | .local .scVector .vmem, ⟨7, _⟩ => ⟨S832, .i32⟩
  | .local .scVector .vmem, ⟨8, _⟩ => ⟨S832, .i32⟩
  | .local .scVector .vmem, ⟨9, _⟩ => ⟨S832x16, .f32⟩
  | .local .scVector .vmem, ⟨10, _⟩ => ⟨S832x16, .f32⟩
  | .local .scVector .vmem, ⟨11, _⟩ => ⟨S832x16, .f32⟩
  | .local .scVector .vmem, ⟨12, _⟩ => ⟨S832x16, .f32⟩
  | .local .scVector .vmem, ⟨13, _⟩ => ⟨S32x512, .f32⟩
  | .local .scVector .vmem, ⟨14, _⟩ => ⟨S64x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v1_scv : Ref sig .scVector := ⟨.hbm, 14, rfl⟩
abbrev main_v2_scv : Ref sig .scVector := ⟨.hbm, 15, rfl⟩
abbrev main_v0_scv : Ref sig .scVector := ⟨.hbm, 13, rfl⟩
abbrev main_v3_scv : Ref sig .scVector := ⟨.hbm, 16, rfl⟩
abbrev main_v5_scv : Ref sig .scVector := ⟨.hbm, 18, rfl⟩
abbrev main_c_scv : Ref sig .scVector := ⟨.hbm, 10, rfl⟩
abbrev main_v6_scv : Ref sig .scVector := ⟨.hbm, 19, rfl⟩
abbrev main_v7_scv : Ref sig .scVector := ⟨.hbm, 20, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg4_0 : Ref sig .tc := ⟨.vmem, 5, rfl⟩
abbrev cc2_stg5_0 : Ref sig .tc := ⟨.vmem, 6, rfl⟩
abbrev cc2_stg6_0 : Ref sig .tc := ⟨.vmem, 7, rfl⟩
abbrev cc2_stg7_0 : Ref sig .tc := ⟨.vmem, 8, rfl⟩
abbrev cc2_stg8_0 : Ref sig .tc := ⟨.vmem, 9, rfl⟩
abbrev cc2_stg9_0 : Ref sig .tc := ⟨.vmem, 10, rfl⟩
abbrev cc2_stg9_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev cc1_scratch6 : Ref sig .scVector := ⟨.vmem, 10, rfl⟩
abbrev cc1_scratch7 : Ref sig .scVector := ⟨.vmem, 11, rfl⟩
abbrev cc1_scratch8 : Ref sig .scVector := ⟨.vmem, 12, rfl⟩
abbrev cc1_scratch9 : Ref sig .scVector := ⟨.vmem, 13, rfl⟩
abbrev cc1_scratch10 : Ref sig .scVector := ⟨.vmem, 14, rfl⟩
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c1024_i32 : BitVec 32 := 1024#32
  let v4 : BitVec 32 := Scalar.muli v3 c1024_i32
  let c2598912_i32 : BitVec 32 := 2598912#32
  let v5 : BitVec 32 := Scalar.minsi v4 c2598912_i32
  v5
def k0_off1 (i : grid0.Coords) (c0_i32 : BitVec 32) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi v1 c0_i32
  let c1024_i32 : BitVec 32 := 1024#32
  let v4 : BitVec 32 := Scalar.muli v3 c1024_i32
  let c2598912_i32 : BitVec 32 := 2598912#32
  let v5 : BitVec 32 := Scalar.minsi v4 c2598912_i32
  let v6 : BitVec 32 := v5
  ![0, v6.toNat]
@[reducible] def k0_t1_loop : Scf.Loop 32 :=
  let c0_i32_3 : BitVec 32 := 0#32
  let c40_i32 : BitVec 32 := 40#32
  let v9 : BitVec 32 := Scalar.addi c0_i32_3 c40_i32
  let c1_i32 : BitVec 32 := 1#32
  ⟨c0_i32_3, v9, c1_i32⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c1_i32_10 : BitVec 32 := 1#32
  let v17 : BitVec 32 := Scalar.addi v16 c1_i32_10
  let c32_i32 : BitVec 32 := 32#32
  let v18 : BitVec 32 := Scalar.muli v17 c32_i32
  let v19 : BitVec 32 := Scalar.addi v1 v18
  let c1024_i32_11 : BitVec 32 := 1024#32
  let v20 : BitVec 32 := Scalar.muli v19 c1024_i32_11
  let c2598912_i32_12 : BitVec 32 := 2598912#32
  let v21 : BitVec 32 := Scalar.minsi v20 c2598912_i32_12
  v21
def k0_off2 (i : grid0.Coords) (k0_t1 : Fin k0_t1_loop.trips) (c1_i32_10 : BitVec 32) : Fin 2 → Nat :=
  let c0_i32_13 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let v17 : BitVec 32 := Scalar.addi v16 c1_i32_10
  let c32_i32 : BitVec 32 := 32#32
  let v18 : BitVec 32 := Scalar.muli v17 c32_i32
  let v19 : BitVec 32 := Scalar.addi v1 v18
  let c1024_i32_11 : BitVec 32 := 1024#32
  let v20 : BitVec 32 := Scalar.muli v19 c1024_i32_11
  let c2598912_i32_12 : BitVec 32 := 2598912#32
  let v21 : BitVec 32 := Scalar.minsi v20 c2598912_i32_12
  let v22 : BitVec 32 := v21
  ![0, v22.toNat]
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c32_i32_15 : BitVec 32 := 32#32
  let v25 : BitVec 32 := Scalar.muli v16 c32_i32_15
  let v26 : BitVec 32 := Scalar.addi v1 v25
  let c1024_i32_16 : BitVec 32 := 1024#32
  let v27 : BitVec 32 := Scalar.muli v26 c1024_i32_16
  let c2598912_i32_17 : BitVec 32 := 2598912#32
  let v28 : BitVec 32 := Scalar.minsi v27 c2598912_i32_17
  v28
def k0_off3 (i : grid0.Coords) (k0_t1 : Fin k0_t1_loop.trips) : Fin 2 → Nat :=
  let c0_i32_18 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c32_i32_15 : BitVec 32 := 32#32
  let v25 : BitVec 32 := Scalar.muli v16 c32_i32_15
  let v26 : BitVec 32 := Scalar.addi v1 v25
  let c1024_i32_16 : BitVec 32 := 1024#32
  let v27 : BitVec 32 := Scalar.muli v26 c1024_i32_16
  let c2598912_i32_17 : BitVec 32 := 2598912#32
  let v28 : BitVec 32 := Scalar.minsi v27 c2598912_i32_17
  let v29 : BitVec 32 := v28
  ![0, v29.toNat]
@[reducible] def k0_t2_loop : Scf.Loop 32 :=
  let c0_i32_21 : BitVec 32 := 0#32
  let c64_i32 : BitVec 32 := 64#32
  let v32 : BitVec 32 := Scalar.addi c0_i32_21 c64_i32
  let c1_i32_22 : BitVec 32 := 1#32
  ⟨c0_i32_21, v32, c1_i32_22⟩
def k0_mult4 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_47 : BitVec 32 := 16#32
  let v68 : BitVec 32 := Scalar.muli arg11 c16_i32_47
  v68
def k0_off4 (k0_t2 : Fin k0_t2_loop.trips) : Fin 2 → Nat :=
  let c0_i32_48 : BitVec 32 := 0#32
  let v70 : Index := Scalar.indexCast c0_i32_48
  let c0_i32_21 : BitVec 32 := 0#32
  let c1_i32_22 : BitVec 32 := 1#32
  let arg11 : BitVec 32 := Scf.iv c0_i32_21 c1_i32_22 k0_t2
  let c16_i32_47 : BitVec 32 := 16#32
  let v68 : BitVec 32 := Scalar.muli arg11 c16_i32_47
  let v69 : BitVec 32 := v68
  let v71 : Index := Scalar.indexCast v69
  ![0, v71.toNat]

def k0_chk1 (v63 : IVec S16 32) (v74 : IVec S16 32) : Prop :=
  (∀ a x, ((![v63, v74] : Fin 2 → IVec S16 32) a x).toNat < S128x128.size a)
theorem k0_idx1_inb : ∀ (v63 : IVec S16 32) (v74 : IVec S16 32) (k0_hw1 : k0_chk1 v63 v74), ∀ a x, ((![v63, v74] : Fin 2 → IVec S16 32) a x).toNat < S128x128.size a := fun v63 v74 k0_hw1 => k0_hw1
def k0_mult5 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_50 : BitVec 32 := 16#32
  let v75 : BitVec 32 := Scalar.muli arg11 c16_i32_50
  v75
def k0_off5 (k0_t2 : Fin k0_t2_loop.trips) : Fin 2 → Nat :=
  let c1_i32_51 : BitVec 32 := 1#32
  let v77 : Index := Scalar.indexCast c1_i32_51
  let c0_i32_21 : BitVec 32 := 0#32
  let c1_i32_22 : BitVec 32 := 1#32
  let arg11 : BitVec 32 := Scf.iv c0_i32_21 c1_i32_22 k0_t2
  let c16_i32_50 : BitVec 32 := 16#32
  let v75 : BitVec 32 := Scalar.muli arg11 c16_i32_50
  let v76 : BitVec 32 := v75
  let v78 : Index := Scalar.indexCast v76
  ![1, v78.toNat]

def k0_chk2 (v63 : IVec S16 32) (v81 : IVec S16 32) : Prop :=
  (∀ a x, ((![v63, v81] : Fin 2 → IVec S16 32) a x).toNat < S128x128.size a)
theorem k0_idx2_inb : ∀ (v63 : IVec S16 32) (v81 : IVec S16 32) (k0_hw2 : k0_chk2 v63 v81), ∀ a x, ((![v63, v81] : Fin 2 → IVec S16 32) a x).toNat < S128x128.size a := fun v63 v81 k0_hw2 => k0_hw2
def k0_mult6 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_53 : BitVec 32 := 16#32
  let v82 : BitVec 32 := Scalar.muli arg11 c16_i32_53
  v82
def k0_off6 (k0_t2 : Fin k0_t2_loop.trips) : Fin 2 → Nat :=
  let c2_i32_54 : BitVec 32 := 2#32
  let v84 : Index := Scalar.indexCast c2_i32_54
  let c0_i32_21 : BitVec 32 := 0#32
  let c1_i32_22 : BitVec 32 := 1#32
  let arg11 : BitVec 32 := Scf.iv c0_i32_21 c1_i32_22 k0_t2
  let c16_i32_53 : BitVec 32 := 16#32
  let v82 : BitVec 32 := Scalar.muli arg11 c16_i32_53
  let v83 : BitVec 32 := v82
  let v85 : Index := Scalar.indexCast v83
  ![2, v85.toNat]

def k0_chk3 (v63 : IVec S16 32) (v88 : IVec S16 32) : Prop :=
  (∀ a x, ((![v63, v88] : Fin 2 → IVec S16 32) a x).toNat < S128x128.size a)
theorem k0_idx3_inb : ∀ (v63 : IVec S16 32) (v88 : IVec S16 32) (k0_hw3 : k0_chk3 v63 v88), ∀ a x, ((![v63, v88] : Fin 2 → IVec S16 32) a x).toNat < S128x128.size a := fun v63 v88 k0_hw3 => k0_hw3
def k0_mult7 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_56 : BitVec 32 := 16#32
  let v89 : BitVec 32 := Scalar.muli arg11 c16_i32_56
  v89
def k0_off7 (k0_t2 : Fin k0_t2_loop.trips) : Fin 2 → Nat :=
  let c3_i32_57 : BitVec 32 := 3#32
  let v91 : Index := Scalar.indexCast c3_i32_57
  let c0_i32_21 : BitVec 32 := 0#32
  let c1_i32_22 : BitVec 32 := 1#32
  let arg11 : BitVec 32 := Scf.iv c0_i32_21 c1_i32_22 k0_t2
  let c16_i32_56 : BitVec 32 := 16#32
  let v89 : BitVec 32 := Scalar.muli arg11 c16_i32_56
  let v90 : BitVec 32 := v89
  let v92 : Index := Scalar.indexCast v90
  ![3, v92.toNat]

def k0_chk4 (v63 : IVec S16 32) (v95 : IVec S16 32) : Prop :=
  (∀ a x, ((![v63, v95] : Fin 2 → IVec S16 32) a x).toNat < S128x128.size a)
theorem k0_idx4_inb : ∀ (v63 : IVec S16 32) (v95 : IVec S16 32) (k0_hw4 : k0_chk4 v63 v95), ∀ a x, ((![v63, v95] : Fin 2 → IVec S16 32) a x).toNat < S128x128.size a := fun v63 v95 k0_hw4 => k0_hw4
def k0_mult8 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_59 : BitVec 32 := 16#32
  let v96 : BitVec 32 := Scalar.muli arg11 c16_i32_59
  v96
def k0_off8 (k0_t2 : Fin k0_t2_loop.trips) : Fin 2 → Nat :=
  let c4_i32 : BitVec 32 := 4#32
  let v98 : Index := Scalar.indexCast c4_i32
  let c0_i32_21 : BitVec 32 := 0#32
  let c1_i32_22 : BitVec 32 := 1#32
  let arg11 : BitVec 32 := Scf.iv c0_i32_21 c1_i32_22 k0_t2
  let c16_i32_59 : BitVec 32 := 16#32
  let v96 : BitVec 32 := Scalar.muli arg11 c16_i32_59
  let v97 : BitVec 32 := v96
  let v99 : Index := Scalar.indexCast v97
  ![4, v99.toNat]

def k0_chk5 (v63 : IVec S16 32) (v102 : IVec S16 32) : Prop :=
  (∀ a x, ((![v63, v102] : Fin 2 → IVec S16 32) a x).toNat < S128x128.size a)
theorem k0_idx5_inb : ∀ (v63 : IVec S16 32) (v102 : IVec S16 32) (k0_hw5 : k0_chk5 v63 v102), ∀ a x, ((![v63, v102] : Fin 2 → IVec S16 32) a x).toNat < S128x128.size a := fun v63 v102 k0_hw5 => k0_hw5
def k0_mult9 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_61 : BitVec 32 := 16#32
  let v103 : BitVec 32 := Scalar.muli arg11 c16_i32_61
  v103
def k0_off9 (k0_t2 : Fin k0_t2_loop.trips) : Fin 2 → Nat :=
  let c5_i32 : BitVec 32 := 5#32
  let v105 : Index := Scalar.indexCast c5_i32
  let c0_i32_21 : BitVec 32 := 0#32
  let c1_i32_22 : BitVec 32 := 1#32
  let arg11 : BitVec 32 := Scf.iv c0_i32_21 c1_i32_22 k0_t2
  let c16_i32_61 : BitVec 32 := 16#32
  let v103 : BitVec 32 := Scalar.muli arg11 c16_i32_61
  let v104 : BitVec 32 := v103
  let v106 : Index := Scalar.indexCast v104
  ![5, v106.toNat]

def k0_chk6 (v63 : IVec S16 32) (v109 : IVec S16 32) : Prop :=
  (∀ a x, ((![v63, v109] : Fin 2 → IVec S16 32) a x).toNat < S128x128.size a)
theorem k0_idx6_inb : ∀ (v63 : IVec S16 32) (v109 : IVec S16 32) (k0_hw6 : k0_chk6 v63 v109), ∀ a x, ((![v63, v109] : Fin 2 → IVec S16 32) a x).toNat < S128x128.size a := fun v63 v109 k0_hw6 => k0_hw6
def k0_mult10 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_63 : BitVec 32 := 16#32
  let v110 : BitVec 32 := Scalar.muli arg11 c16_i32_63
  v110
def k0_off10 (k0_t2 : Fin k0_t2_loop.trips) : Fin 2 → Nat :=
  let c6_i32 : BitVec 32 := 6#32
  let v112 : Index := Scalar.indexCast c6_i32
  let c0_i32_21 : BitVec 32 := 0#32
  let c1_i32_22 : BitVec 32 := 1#32
  let arg11 : BitVec 32 := Scf.iv c0_i32_21 c1_i32_22 k0_t2
  let c16_i32_63 : BitVec 32 := 16#32
  let v110 : BitVec 32 := Scalar.muli arg11 c16_i32_63
  let v111 : BitVec 32 := v110
  let v113 : Index := Scalar.indexCast v111
  ![6, v113.toNat]

def k0_chk7 (v63 : IVec S16 32) (v116 : IVec S16 32) : Prop :=
  (∀ a x, ((![v63, v116] : Fin 2 → IVec S16 32) a x).toNat < S128x128.size a)
theorem k0_idx7_inb : ∀ (v63 : IVec S16 32) (v116 : IVec S16 32) (k0_hw7 : k0_chk7 v63 v116), ∀ a x, ((![v63, v116] : Fin 2 → IVec S16 32) a x).toNat < S128x128.size a := fun v63 v116 k0_hw7 => k0_hw7
def k0_mult11 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_65 : BitVec 32 := 16#32
  let v117 : BitVec 32 := Scalar.muli arg11 c16_i32_65
  v117
def k0_off11 (k0_t2 : Fin k0_t2_loop.trips) : Fin 2 → Nat :=
  let c7_i32_66 : BitVec 32 := 7#32
  let v119 : Index := Scalar.indexCast c7_i32_66
  let c0_i32_21 : BitVec 32 := 0#32
  let c1_i32_22 : BitVec 32 := 1#32
  let arg11 : BitVec 32 := Scf.iv c0_i32_21 c1_i32_22 k0_t2
  let c16_i32_65 : BitVec 32 := 16#32
  let v117 : BitVec 32 := Scalar.muli arg11 c16_i32_65
  let v118 : BitVec 32 := v117
  let v120 : Index := Scalar.indexCast v118
  ![7, v120.toNat]

def k0_chk8 (v63 : IVec S16 32) (v123 : IVec S16 32) : Prop :=
  (∀ a x, ((![v63, v123] : Fin 2 → IVec S16 32) a x).toNat < S128x128.size a)
theorem k0_idx8_inb : ∀ (v63 : IVec S16 32) (v123 : IVec S16 32) (k0_hw8 : k0_chk8 v63 v123), ∀ a x, ((![v63, v123] : Fin 2 → IVec S16 32) a x).toNat < S128x128.size a := fun v63 v123 k0_hw8 => k0_hw8
def k0_mult12 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_68 : BitVec 32 := 16#32
  let v124 : BitVec 32 := Scalar.muli arg11 c16_i32_68
  v124
def k0_off12 (k0_t2 : Fin k0_t2_loop.trips) : Fin 2 → Nat :=
  let c8_i32 : BitVec 32 := 8#32
  let v126 : Index := Scalar.indexCast c8_i32
  let c0_i32_21 : BitVec 32 := 0#32
  let c1_i32_22 : BitVec 32 := 1#32
  let arg11 : BitVec 32 := Scf.iv c0_i32_21 c1_i32_22 k0_t2
  let c16_i32_68 : BitVec 32 := 16#32
  let v124 : BitVec 32 := Scalar.muli arg11 c16_i32_68
  let v125 : BitVec 32 := v124
  let v127 : Index := Scalar.indexCast v125
  ![8, v127.toNat]

def k0_chk9 (v63 : IVec S16 32) (v130 : IVec S16 32) : Prop :=
  (∀ a x, ((![v63, v130] : Fin 2 → IVec S16 32) a x).toNat < S128x128.size a)
theorem k0_idx9_inb : ∀ (v63 : IVec S16 32) (v130 : IVec S16 32) (k0_hw9 : k0_chk9 v63 v130), ∀ a x, ((![v63, v130] : Fin 2 → IVec S16 32) a x).toNat < S128x128.size a := fun v63 v130 k0_hw9 => k0_hw9
def k0_mult13 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_70 : BitVec 32 := 16#32
  let v131 : BitVec 32 := Scalar.muli arg11 c16_i32_70
  v131
def k0_off13 (k0_t2 : Fin k0_t2_loop.trips) : Fin 2 → Nat :=
  let c9_i32 : BitVec 32 := 9#32
  let v133 : Index := Scalar.indexCast c9_i32
  let c0_i32_21 : BitVec 32 := 0#32
  let c1_i32_22 : BitVec 32 := 1#32
  let arg11 : BitVec 32 := Scf.iv c0_i32_21 c1_i32_22 k0_t2
  let c16_i32_70 : BitVec 32 := 16#32
  let v131 : BitVec 32 := Scalar.muli arg11 c16_i32_70
  let v132 : BitVec 32 := v131
  let v134 : Index := Scalar.indexCast v132
  ![9, v134.toNat]

def k0_chk10 (v63 : IVec S16 32) (v137 : IVec S16 32) : Prop :=
  (∀ a x, ((![v63, v137] : Fin 2 → IVec S16 32) a x).toNat < S128x128.size a)
theorem k0_idx10_inb : ∀ (v63 : IVec S16 32) (v137 : IVec S16 32) (k0_hw10 : k0_chk10 v63 v137), ∀ a x, ((![v63, v137] : Fin 2 → IVec S16 32) a x).toNat < S128x128.size a := fun v63 v137 k0_hw10 => k0_hw10
def k0_mult14 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_72 : BitVec 32 := 16#32
  let v138 : BitVec 32 := Scalar.muli arg11 c16_i32_72
  v138
def k0_off14 (k0_t2 : Fin k0_t2_loop.trips) : Fin 2 → Nat :=
  let c10_i32 : BitVec 32 := 10#32
  let v140 : Index := Scalar.indexCast c10_i32
  let c0_i32_21 : BitVec 32 := 0#32
  let c1_i32_22 : BitVec 32 := 1#32
  let arg11 : BitVec 32 := Scf.iv c0_i32_21 c1_i32_22 k0_t2
  let c16_i32_72 : BitVec 32 := 16#32
  let v138 : BitVec 32 := Scalar.muli arg11 c16_i32_72
  let v139 : BitVec 32 := v138
  let v141 : Index := Scalar.indexCast v139
  ![10, v141.toNat]

def k0_chk11 (v63 : IVec S16 32) (v144 : IVec S16 32) : Prop :=
  (∀ a x, ((![v63, v144] : Fin 2 → IVec S16 32) a x).toNat < S128x128.size a)
theorem k0_idx11_inb : ∀ (v63 : IVec S16 32) (v144 : IVec S16 32) (k0_hw11 : k0_chk11 v63 v144), ∀ a x, ((![v63, v144] : Fin 2 → IVec S16 32) a x).toNat < S128x128.size a := fun v63 v144 k0_hw11 => k0_hw11
def k0_mult15 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_74 : BitVec 32 := 16#32
  let v145 : BitVec 32 := Scalar.muli arg11 c16_i32_74
  v145
def k0_off15 (k0_t2 : Fin k0_t2_loop.trips) : Fin 2 → Nat :=
  let c11_i32 : BitVec 32 := 11#32
  let v147 : Index := Scalar.indexCast c11_i32
  let c0_i32_21 : BitVec 32 := 0#32
  let c1_i32_22 : BitVec 32 := 1#32
  let arg11 : BitVec 32 := Scf.iv c0_i32_21 c1_i32_22 k0_t2
  let c16_i32_74 : BitVec 32 := 16#32
  let v145 : BitVec 32 := Scalar.muli arg11 c16_i32_74
  let v146 : BitVec 32 := v145
  let v148 : Index := Scalar.indexCast v146
  ![11, v148.toNat]

def k0_chk12 (v63 : IVec S16 32) (v151 : IVec S16 32) : Prop :=
  (∀ a x, ((![v63, v151] : Fin 2 → IVec S16 32) a x).toNat < S128x128.size a)
theorem k0_idx12_inb : ∀ (v63 : IVec S16 32) (v151 : IVec S16 32) (k0_hw12 : k0_chk12 v63 v151), ∀ a x, ((![v63, v151] : Fin 2 → IVec S16 32) a x).toNat < S128x128.size a := fun v63 v151 k0_hw12 => k0_hw12
def k0_mult16 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_76 : BitVec 32 := 16#32
  let v152 : BitVec 32 := Scalar.muli arg11 c16_i32_76
  v152
def k0_off16 (k0_t2 : Fin k0_t2_loop.trips) : Fin 2 → Nat :=
  let c12_i32 : BitVec 32 := 12#32
  let v154 : Index := Scalar.indexCast c12_i32
  let c0_i32_21 : BitVec 32 := 0#32
  let c1_i32_22 : BitVec 32 := 1#32
  let arg11 : BitVec 32 := Scf.iv c0_i32_21 c1_i32_22 k0_t2
  let c16_i32_76 : BitVec 32 := 16#32
  let v152 : BitVec 32 := Scalar.muli arg11 c16_i32_76
  let v153 : BitVec 32 := v152
  let v155 : Index := Scalar.indexCast v153
  ![12, v155.toNat]

def k0_chk13 (v63 : IVec S16 32) (v158 : IVec S16 32) : Prop :=
  (∀ a x, ((![v63, v158] : Fin 2 → IVec S16 32) a x).toNat < S128x128.size a)
theorem k0_idx13_inb : ∀ (v63 : IVec S16 32) (v158 : IVec S16 32) (k0_hw13 : k0_chk13 v63 v158), ∀ a x, ((![v63, v158] : Fin 2 → IVec S16 32) a x).toNat < S128x128.size a := fun v63 v158 k0_hw13 => k0_hw13
def k0_mult17 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_78 : BitVec 32 := 16#32
  let v159 : BitVec 32 := Scalar.muli arg11 c16_i32_78
  v159
def k0_off17 (k0_t2 : Fin k0_t2_loop.trips) : Fin 2 → Nat :=
  let c13_i32 : BitVec 32 := 13#32
  let v161 : Index := Scalar.indexCast c13_i32
  let c0_i32_21 : BitVec 32 := 0#32
  let c1_i32_22 : BitVec 32 := 1#32
  let arg11 : BitVec 32 := Scf.iv c0_i32_21 c1_i32_22 k0_t2
  let c16_i32_78 : BitVec 32 := 16#32
  let v159 : BitVec 32 := Scalar.muli arg11 c16_i32_78
  let v160 : BitVec 32 := v159
  let v162 : Index := Scalar.indexCast v160
  ![13, v162.toNat]

def k0_chk14 (v63 : IVec S16 32) (v165 : IVec S16 32) : Prop :=
  (∀ a x, ((![v63, v165] : Fin 2 → IVec S16 32) a x).toNat < S128x128.size a)
theorem k0_idx14_inb : ∀ (v63 : IVec S16 32) (v165 : IVec S16 32) (k0_hw14 : k0_chk14 v63 v165), ∀ a x, ((![v63, v165] : Fin 2 → IVec S16 32) a x).toNat < S128x128.size a := fun v63 v165 k0_hw14 => k0_hw14
def k0_mult18 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_80 : BitVec 32 := 16#32
  let v166 : BitVec 32 := Scalar.muli arg11 c16_i32_80
  v166
def k0_off18 (k0_t2 : Fin k0_t2_loop.trips) : Fin 2 → Nat :=
  let c14_i32 : BitVec 32 := 14#32
  let v168 : Index := Scalar.indexCast c14_i32
  let c0_i32_21 : BitVec 32 := 0#32
  let c1_i32_22 : BitVec 32 := 1#32
  let arg11 : BitVec 32 := Scf.iv c0_i32_21 c1_i32_22 k0_t2
  let c16_i32_80 : BitVec 32 := 16#32
  let v166 : BitVec 32 := Scalar.muli arg11 c16_i32_80
  let v167 : BitVec 32 := v166
  let v169 : Index := Scalar.indexCast v167
  ![14, v169.toNat]

def k0_chk15 (v63 : IVec S16 32) (v172 : IVec S16 32) : Prop :=
  (∀ a x, ((![v63, v172] : Fin 2 → IVec S16 32) a x).toNat < S128x128.size a)
theorem k0_idx15_inb : ∀ (v63 : IVec S16 32) (v172 : IVec S16 32) (k0_hw15 : k0_chk15 v63 v172), ∀ a x, ((![v63, v172] : Fin 2 → IVec S16 32) a x).toNat < S128x128.size a := fun v63 v172 k0_hw15 => k0_hw15
def k0_mult19 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_82 : BitVec 32 := 16#32
  let v173 : BitVec 32 := Scalar.muli arg11 c16_i32_82
  v173
def k0_off19 (k0_t2 : Fin k0_t2_loop.trips) : Fin 2 → Nat :=
  let c15_i32 : BitVec 32 := 15#32
  let v175 : Index := Scalar.indexCast c15_i32
  let c0_i32_21 : BitVec 32 := 0#32
  let c1_i32_22 : BitVec 32 := 1#32
  let arg11 : BitVec 32 := Scf.iv c0_i32_21 c1_i32_22 k0_t2
  let c16_i32_82 : BitVec 32 := 16#32
  let v173 : BitVec 32 := Scalar.muli arg11 c16_i32_82
  let v174 : BitVec 32 := v173
  let v176 : Index := Scalar.indexCast v174
  ![15, v176.toNat]

def k0_chk16 (v63 : IVec S16 32) (v179 : IVec S16 32) : Prop :=
  (∀ a x, ((![v63, v179] : Fin 2 → IVec S16 32) a x).toNat < S128x128.size a)
theorem k0_idx16_inb : ∀ (v63 : IVec S16 32) (v179 : IVec S16 32) (k0_hw16 : k0_chk16 v63 v179), ∀ a x, ((![v63, v179] : Fin 2 → IVec S16 32) a x).toNat < S128x128.size a := fun v63 v179 k0_hw16 => k0_hw16
def k0_mult20 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c32_i32_24 : BitVec 32 := 32#32
  let v33 : BitVec 32 := Scalar.muli v16 c32_i32_24
  let v34 : BitVec 32 := Scalar.addi v1 v33
  let c1024_i32_25 : BitVec 32 := 1024#32
  let v35 : BitVec 32 := Scalar.muli v34 c1024_i32_25
  let c2598912_i32_26 : BitVec 32 := 2598912#32
  let v36 : BitVec 32 := Scalar.minsi v35 c2598912_i32_26
  v36
def k0_mult21 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c32_i32_24 : BitVec 32 := 32#32
  let v33 : BitVec 32 := Scalar.muli v16 c32_i32_24
  let v34 : BitVec 32 := Scalar.addi v1 v33
  let c1024_i32_25 : BitVec 32 := 1024#32
  let v35 : BitVec 32 := Scalar.muli v34 c1024_i32_25
  let c2598912_i32_26 : BitVec 32 := 2598912#32
  let v36 : BitVec 32 := Scalar.minsi v35 c2598912_i32_26
  let v37 : BitVec 32 := v36
  let c3_i32 : BitVec 32 := 3#32
  let v38 : BitVec 32 := Scalar.shrui v37 c3_i32
  v38
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c32_i32_24 : BitVec 32 := 32#32
  let v33 : BitVec 32 := Scalar.muli v16 c32_i32_24
  let v34 : BitVec 32 := Scalar.addi v1 v33
  let c1024_i32_25 : BitVec 32 := 1024#32
  let v35 : BitVec 32 := Scalar.muli v34 c1024_i32_25
  let c2598912_i32_26 : BitVec 32 := 2598912#32
  let v36 : BitVec 32 := Scalar.minsi v35 c2598912_i32_26
  let v37 : BitVec 32 := v36
  let c3_i32 : BitVec 32 := 3#32
  let v38 : BitVec 32 := Scalar.shrui v37 c3_i32
  let v39 : BitVec 32 := v38
  let c0_i32_45_r0 : BitVec 32 := 0#32
  ![v39.toNat, 0]
def k0_mult22 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c2_i32_27 : BitVec 32 := 2#32
  let v40 : BitVec 32 := Scalar.addi v16 c2_i32_27
  let c32_i32_28 : BitVec 32 := 32#32
  let v41 : BitVec 32 := Scalar.muli v40 c32_i32_28
  let v42 : BitVec 32 := Scalar.addi v1 v41
  let c1024_i32_29 : BitVec 32 := 1024#32
  let v43 : BitVec 32 := Scalar.muli v42 c1024_i32_29
  let c2598912_i32_30 : BitVec 32 := 2598912#32
  let v44 : BitVec 32 := Scalar.minsi v43 c2598912_i32_30
  v44
@[reducible] def k0_t3_loop : Scf.Loop 32 :=
  let c0_i32_37 : BitVec 32 := 0#32
  let c64_i32_38 : BitVec 32 := 64#32
  let v51 : BitVec 32 := Scalar.addi c0_i32_37 c64_i32_38
  let c1_i32_39 : BitVec 32 := 1#32
  ⟨c0_i32_37, v51, c1_i32_39⟩
def k0_mult23 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_47 : BitVec 32 := 16#32
  let v68 : BitVec 32 := Scalar.muli arg11 c16_i32_47
  v68
def k0_off21 (k0_t3 : Fin k0_t3_loop.trips) : Fin 2 → Nat :=
  let c0_i32_48 : BitVec 32 := 0#32
  let v70 : Index := Scalar.indexCast c0_i32_48
  let c0_i32_37 : BitVec 32 := 0#32
  let c1_i32_39 : BitVec 32 := 1#32
  let arg11 : BitVec 32 := Scf.iv c0_i32_37 c1_i32_39 k0_t3
  let c16_i32_47 : BitVec 32 := 16#32
  let v68 : BitVec 32 := Scalar.muli arg11 c16_i32_47
  let v69 : BitVec 32 := v68
  let v71 : Index := Scalar.indexCast v69
  ![0, v71.toNat]

def k0_chk17 (v63 : IVec S16 32) (v74 : IVec S16 32) : Prop :=
  (∀ a x, ((![v63, v74] : Fin 2 → IVec S16 32) a x).toNat < S128x128.size a)
theorem k0_idx17_inb : ∀ (v63 : IVec S16 32) (v74 : IVec S16 32) (k0_hw17 : k0_chk17 v63 v74), ∀ a x, ((![v63, v74] : Fin 2 → IVec S16 32) a x).toNat < S128x128.size a := fun v63 v74 k0_hw17 => k0_hw17
def k0_mult24 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_50 : BitVec 32 := 16#32
  let v75 : BitVec 32 := Scalar.muli arg11 c16_i32_50
  v75
def k0_off22 (k0_t3 : Fin k0_t3_loop.trips) : Fin 2 → Nat :=
  let c1_i32_51 : BitVec 32 := 1#32
  let v77 : Index := Scalar.indexCast c1_i32_51
  let c0_i32_37 : BitVec 32 := 0#32
  let c1_i32_39 : BitVec 32 := 1#32
  let arg11 : BitVec 32 := Scf.iv c0_i32_37 c1_i32_39 k0_t3
  let c16_i32_50 : BitVec 32 := 16#32
  let v75 : BitVec 32 := Scalar.muli arg11 c16_i32_50
  let v76 : BitVec 32 := v75
  let v78 : Index := Scalar.indexCast v76
  ![1, v78.toNat]

def k0_chk18 (v63 : IVec S16 32) (v81 : IVec S16 32) : Prop :=
  (∀ a x, ((![v63, v81] : Fin 2 → IVec S16 32) a x).toNat < S128x128.size a)
theorem k0_idx18_inb : ∀ (v63 : IVec S16 32) (v81 : IVec S16 32) (k0_hw18 : k0_chk18 v63 v81), ∀ a x, ((![v63, v81] : Fin 2 → IVec S16 32) a x).toNat < S128x128.size a := fun v63 v81 k0_hw18 => k0_hw18
def k0_mult25 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_53 : BitVec 32 := 16#32
  let v82 : BitVec 32 := Scalar.muli arg11 c16_i32_53
  v82
def k0_off23 (k0_t3 : Fin k0_t3_loop.trips) : Fin 2 → Nat :=
  let c2_i32_54 : BitVec 32 := 2#32
  let v84 : Index := Scalar.indexCast c2_i32_54
  let c0_i32_37 : BitVec 32 := 0#32
  let c1_i32_39 : BitVec 32 := 1#32
  let arg11 : BitVec 32 := Scf.iv c0_i32_37 c1_i32_39 k0_t3
  let c16_i32_53 : BitVec 32 := 16#32
  let v82 : BitVec 32 := Scalar.muli arg11 c16_i32_53
  let v83 : BitVec 32 := v82
  let v85 : Index := Scalar.indexCast v83
  ![2, v85.toNat]

def k0_chk19 (v63 : IVec S16 32) (v88 : IVec S16 32) : Prop :=
  (∀ a x, ((![v63, v88] : Fin 2 → IVec S16 32) a x).toNat < S128x128.size a)
theorem k0_idx19_inb : ∀ (v63 : IVec S16 32) (v88 : IVec S16 32) (k0_hw19 : k0_chk19 v63 v88), ∀ a x, ((![v63, v88] : Fin 2 → IVec S16 32) a x).toNat < S128x128.size a := fun v63 v88 k0_hw19 => k0_hw19
def k0_mult26 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_56 : BitVec 32 := 16#32
  let v89 : BitVec 32 := Scalar.muli arg11 c16_i32_56
  v89
def k0_off24 (k0_t3 : Fin k0_t3_loop.trips) : Fin 2 → Nat :=
  let c3_i32_57 : BitVec 32 := 3#32
  let v91 : Index := Scalar.indexCast c3_i32_57
  let c0_i32_37 : BitVec 32 := 0#32
  let c1_i32_39 : BitVec 32 := 1#32
  let arg11 : BitVec 32 := Scf.iv c0_i32_37 c1_i32_39 k0_t3
  let c16_i32_56 : BitVec 32 := 16#32
  let v89 : BitVec 32 := Scalar.muli arg11 c16_i32_56
  let v90 : BitVec 32 := v89
  let v92 : Index := Scalar.indexCast v90
  ![3, v92.toNat]

def k0_chk20 (v63 : IVec S16 32) (v95 : IVec S16 32) : Prop :=
  (∀ a x, ((![v63, v95] : Fin 2 → IVec S16 32) a x).toNat < S128x128.size a)
theorem k0_idx20_inb : ∀ (v63 : IVec S16 32) (v95 : IVec S16 32) (k0_hw20 : k0_chk20 v63 v95), ∀ a x, ((![v63, v95] : Fin 2 → IVec S16 32) a x).toNat < S128x128.size a := fun v63 v95 k0_hw20 => k0_hw20
def k0_mult27 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_59 : BitVec 32 := 16#32
  let v96 : BitVec 32 := Scalar.muli arg11 c16_i32_59
  v96
def k0_off25 (k0_t3 : Fin k0_t3_loop.trips) : Fin 2 → Nat :=
  let c4_i32 : BitVec 32 := 4#32
  let v98 : Index := Scalar.indexCast c4_i32
  let c0_i32_37 : BitVec 32 := 0#32
  let c1_i32_39 : BitVec 32 := 1#32
  let arg11 : BitVec 32 := Scf.iv c0_i32_37 c1_i32_39 k0_t3
  let c16_i32_59 : BitVec 32 := 16#32
  let v96 : BitVec 32 := Scalar.muli arg11 c16_i32_59
  let v97 : BitVec 32 := v96
  let v99 : Index := Scalar.indexCast v97
  ![4, v99.toNat]

def k0_chk21 (v63 : IVec S16 32) (v102 : IVec S16 32) : Prop :=
  (∀ a x, ((![v63, v102] : Fin 2 → IVec S16 32) a x).toNat < S128x128.size a)
theorem k0_idx21_inb : ∀ (v63 : IVec S16 32) (v102 : IVec S16 32) (k0_hw21 : k0_chk21 v63 v102), ∀ a x, ((![v63, v102] : Fin 2 → IVec S16 32) a x).toNat < S128x128.size a := fun v63 v102 k0_hw21 => k0_hw21
def k0_mult28 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_61 : BitVec 32 := 16#32
  let v103 : BitVec 32 := Scalar.muli arg11 c16_i32_61
  v103
def k0_off26 (k0_t3 : Fin k0_t3_loop.trips) : Fin 2 → Nat :=
  let c5_i32 : BitVec 32 := 5#32
  let v105 : Index := Scalar.indexCast c5_i32
  let c0_i32_37 : BitVec 32 := 0#32
  let c1_i32_39 : BitVec 32 := 1#32
  let arg11 : BitVec 32 := Scf.iv c0_i32_37 c1_i32_39 k0_t3
  let c16_i32_61 : BitVec 32 := 16#32
  let v103 : BitVec 32 := Scalar.muli arg11 c16_i32_61
  let v104 : BitVec 32 := v103
  let v106 : Index := Scalar.indexCast v104
  ![5, v106.toNat]

def k0_chk22 (v63 : IVec S16 32) (v109 : IVec S16 32) : Prop :=
  (∀ a x, ((![v63, v109] : Fin 2 → IVec S16 32) a x).toNat < S128x128.size a)
theorem k0_idx22_inb : ∀ (v63 : IVec S16 32) (v109 : IVec S16 32) (k0_hw22 : k0_chk22 v63 v109), ∀ a x, ((![v63, v109] : Fin 2 → IVec S16 32) a x).toNat < S128x128.size a := fun v63 v109 k0_hw22 => k0_hw22
def k0_mult29 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_63 : BitVec 32 := 16#32
  let v110 : BitVec 32 := Scalar.muli arg11 c16_i32_63
  v110
def k0_off27 (k0_t3 : Fin k0_t3_loop.trips) : Fin 2 → Nat :=
  let c6_i32 : BitVec 32 := 6#32
  let v112 : Index := Scalar.indexCast c6_i32
  let c0_i32_37 : BitVec 32 := 0#32
  let c1_i32_39 : BitVec 32 := 1#32
  let arg11 : BitVec 32 := Scf.iv c0_i32_37 c1_i32_39 k0_t3
  let c16_i32_63 : BitVec 32 := 16#32
  let v110 : BitVec 32 := Scalar.muli arg11 c16_i32_63
  let v111 : BitVec 32 := v110
  let v113 : Index := Scalar.indexCast v111
  ![6, v113.toNat]

def k0_chk23 (v63 : IVec S16 32) (v116 : IVec S16 32) : Prop :=
  (∀ a x, ((![v63, v116] : Fin 2 → IVec S16 32) a x).toNat < S128x128.size a)
theorem k0_idx23_inb : ∀ (v63 : IVec S16 32) (v116 : IVec S16 32) (k0_hw23 : k0_chk23 v63 v116), ∀ a x, ((![v63, v116] : Fin 2 → IVec S16 32) a x).toNat < S128x128.size a := fun v63 v116 k0_hw23 => k0_hw23
def k0_mult30 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_65 : BitVec 32 := 16#32
  let v117 : BitVec 32 := Scalar.muli arg11 c16_i32_65
  v117
def k0_off28 (k0_t3 : Fin k0_t3_loop.trips) : Fin 2 → Nat :=
  let c7_i32_66 : BitVec 32 := 7#32
  let v119 : Index := Scalar.indexCast c7_i32_66
  let c0_i32_37 : BitVec 32 := 0#32
  let c1_i32_39 : BitVec 32 := 1#32
  let arg11 : BitVec 32 := Scf.iv c0_i32_37 c1_i32_39 k0_t3
  let c16_i32_65 : BitVec 32 := 16#32
  let v117 : BitVec 32 := Scalar.muli arg11 c16_i32_65
  let v118 : BitVec 32 := v117
  let v120 : Index := Scalar.indexCast v118
  ![7, v120.toNat]

def k0_chk24 (v63 : IVec S16 32) (v123 : IVec S16 32) : Prop :=
  (∀ a x, ((![v63, v123] : Fin 2 → IVec S16 32) a x).toNat < S128x128.size a)
theorem k0_idx24_inb : ∀ (v63 : IVec S16 32) (v123 : IVec S16 32) (k0_hw24 : k0_chk24 v63 v123), ∀ a x, ((![v63, v123] : Fin 2 → IVec S16 32) a x).toNat < S128x128.size a := fun v63 v123 k0_hw24 => k0_hw24
def k0_mult31 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_68 : BitVec 32 := 16#32
  let v124 : BitVec 32 := Scalar.muli arg11 c16_i32_68
  v124
def k0_off29 (k0_t3 : Fin k0_t3_loop.trips) : Fin 2 → Nat :=
  let c8_i32 : BitVec 32 := 8#32
  let v126 : Index := Scalar.indexCast c8_i32
  let c0_i32_37 : BitVec 32 := 0#32
  let c1_i32_39 : BitVec 32 := 1#32
  let arg11 : BitVec 32 := Scf.iv c0_i32_37 c1_i32_39 k0_t3
  let c16_i32_68 : BitVec 32 := 16#32
  let v124 : BitVec 32 := Scalar.muli arg11 c16_i32_68
  let v125 : BitVec 32 := v124
  let v127 : Index := Scalar.indexCast v125
  ![8, v127.toNat]

def k0_chk25 (v63 : IVec S16 32) (v130 : IVec S16 32) : Prop :=
  (∀ a x, ((![v63, v130] : Fin 2 → IVec S16 32) a x).toNat < S128x128.size a)
theorem k0_idx25_inb : ∀ (v63 : IVec S16 32) (v130 : IVec S16 32) (k0_hw25 : k0_chk25 v63 v130), ∀ a x, ((![v63, v130] : Fin 2 → IVec S16 32) a x).toNat < S128x128.size a := fun v63 v130 k0_hw25 => k0_hw25
def k0_mult32 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_70 : BitVec 32 := 16#32
  let v131 : BitVec 32 := Scalar.muli arg11 c16_i32_70
  v131
def k0_off30 (k0_t3 : Fin k0_t3_loop.trips) : Fin 2 → Nat :=
  let c9_i32 : BitVec 32 := 9#32
  let v133 : Index := Scalar.indexCast c9_i32
  let c0_i32_37 : BitVec 32 := 0#32
  let c1_i32_39 : BitVec 32 := 1#32
  let arg11 : BitVec 32 := Scf.iv c0_i32_37 c1_i32_39 k0_t3
  let c16_i32_70 : BitVec 32 := 16#32
  let v131 : BitVec 32 := Scalar.muli arg11 c16_i32_70
  let v132 : BitVec 32 := v131
  let v134 : Index := Scalar.indexCast v132
  ![9, v134.toNat]

def k0_chk26 (v63 : IVec S16 32) (v137 : IVec S16 32) : Prop :=
  (∀ a x, ((![v63, v137] : Fin 2 → IVec S16 32) a x).toNat < S128x128.size a)
theorem k0_idx26_inb : ∀ (v63 : IVec S16 32) (v137 : IVec S16 32) (k0_hw26 : k0_chk26 v63 v137), ∀ a x, ((![v63, v137] : Fin 2 → IVec S16 32) a x).toNat < S128x128.size a := fun v63 v137 k0_hw26 => k0_hw26
def k0_mult33 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_72 : BitVec 32 := 16#32
  let v138 : BitVec 32 := Scalar.muli arg11 c16_i32_72
  v138
def k0_off31 (k0_t3 : Fin k0_t3_loop.trips) : Fin 2 → Nat :=
  let c10_i32 : BitVec 32 := 10#32
  let v140 : Index := Scalar.indexCast c10_i32
  let c0_i32_37 : BitVec 32 := 0#32
  let c1_i32_39 : BitVec 32 := 1#32
  let arg11 : BitVec 32 := Scf.iv c0_i32_37 c1_i32_39 k0_t3
  let c16_i32_72 : BitVec 32 := 16#32
  let v138 : BitVec 32 := Scalar.muli arg11 c16_i32_72
  let v139 : BitVec 32 := v138
  let v141 : Index := Scalar.indexCast v139
  ![10, v141.toNat]

def k0_chk27 (v63 : IVec S16 32) (v144 : IVec S16 32) : Prop :=
  (∀ a x, ((![v63, v144] : Fin 2 → IVec S16 32) a x).toNat < S128x128.size a)
theorem k0_idx27_inb : ∀ (v63 : IVec S16 32) (v144 : IVec S16 32) (k0_hw27 : k0_chk27 v63 v144), ∀ a x, ((![v63, v144] : Fin 2 → IVec S16 32) a x).toNat < S128x128.size a := fun v63 v144 k0_hw27 => k0_hw27
def k0_mult34 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_74 : BitVec 32 := 16#32
  let v145 : BitVec 32 := Scalar.muli arg11 c16_i32_74
  v145
def k0_off32 (k0_t3 : Fin k0_t3_loop.trips) : Fin 2 → Nat :=
  let c11_i32 : BitVec 32 := 11#32
  let v147 : Index := Scalar.indexCast c11_i32
  let c0_i32_37 : BitVec 32 := 0#32
  let c1_i32_39 : BitVec 32 := 1#32
  let arg11 : BitVec 32 := Scf.iv c0_i32_37 c1_i32_39 k0_t3
  let c16_i32_74 : BitVec 32 := 16#32
  let v145 : BitVec 32 := Scalar.muli arg11 c16_i32_74
  let v146 : BitVec 32 := v145
  let v148 : Index := Scalar.indexCast v146
  ![11, v148.toNat]

def k0_chk28 (v63 : IVec S16 32) (v151 : IVec S16 32) : Prop :=
  (∀ a x, ((![v63, v151] : Fin 2 → IVec S16 32) a x).toNat < S128x128.size a)
theorem k0_idx28_inb : ∀ (v63 : IVec S16 32) (v151 : IVec S16 32) (k0_hw28 : k0_chk28 v63 v151), ∀ a x, ((![v63, v151] : Fin 2 → IVec S16 32) a x).toNat < S128x128.size a := fun v63 v151 k0_hw28 => k0_hw28
def k0_mult35 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_76 : BitVec 32 := 16#32
  let v152 : BitVec 32 := Scalar.muli arg11 c16_i32_76
  v152
def k0_off33 (k0_t3 : Fin k0_t3_loop.trips) : Fin 2 → Nat :=
  let c12_i32 : BitVec 32 := 12#32
  let v154 : Index := Scalar.indexCast c12_i32
  let c0_i32_37 : BitVec 32 := 0#32
  let c1_i32_39 : BitVec 32 := 1#32
  let arg11 : BitVec 32 := Scf.iv c0_i32_37 c1_i32_39 k0_t3
  let c16_i32_76 : BitVec 32 := 16#32
  let v152 : BitVec 32 := Scalar.muli arg11 c16_i32_76
  let v153 : BitVec 32 := v152
  let v155 : Index := Scalar.indexCast v153
  ![12, v155.toNat]

def k0_chk29 (v63 : IVec S16 32) (v158 : IVec S16 32) : Prop :=
  (∀ a x, ((![v63, v158] : Fin 2 → IVec S16 32) a x).toNat < S128x128.size a)
theorem k0_idx29_inb : ∀ (v63 : IVec S16 32) (v158 : IVec S16 32) (k0_hw29 : k0_chk29 v63 v158), ∀ a x, ((![v63, v158] : Fin 2 → IVec S16 32) a x).toNat < S128x128.size a := fun v63 v158 k0_hw29 => k0_hw29
def k0_mult36 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_78 : BitVec 32 := 16#32
  let v159 : BitVec 32 := Scalar.muli arg11 c16_i32_78
  v159
def k0_off34 (k0_t3 : Fin k0_t3_loop.trips) : Fin 2 → Nat :=
  let c13_i32 : BitVec 32 := 13#32
  let v161 : Index := Scalar.indexCast c13_i32
  let c0_i32_37 : BitVec 32 := 0#32
  let c1_i32_39 : BitVec 32 := 1#32
  let arg11 : BitVec 32 := Scf.iv c0_i32_37 c1_i32_39 k0_t3
  let c16_i32_78 : BitVec 32 := 16#32
  let v159 : BitVec 32 := Scalar.muli arg11 c16_i32_78
  let v160 : BitVec 32 := v159
  let v162 : Index := Scalar.indexCast v160
  ![13, v162.toNat]

def k0_chk30 (v63 : IVec S16 32) (v165 : IVec S16 32) : Prop :=
  (∀ a x, ((![v63, v165] : Fin 2 → IVec S16 32) a x).toNat < S128x128.size a)
theorem k0_idx30_inb : ∀ (v63 : IVec S16 32) (v165 : IVec S16 32) (k0_hw30 : k0_chk30 v63 v165), ∀ a x, ((![v63, v165] : Fin 2 → IVec S16 32) a x).toNat < S128x128.size a := fun v63 v165 k0_hw30 => k0_hw30
def k0_mult37 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_80 : BitVec 32 := 16#32
  let v166 : BitVec 32 := Scalar.muli arg11 c16_i32_80
  v166
def k0_off35 (k0_t3 : Fin k0_t3_loop.trips) : Fin 2 → Nat :=
  let c14_i32 : BitVec 32 := 14#32
  let v168 : Index := Scalar.indexCast c14_i32
  let c0_i32_37 : BitVec 32 := 0#32
  let c1_i32_39 : BitVec 32 := 1#32
  let arg11 : BitVec 32 := Scf.iv c0_i32_37 c1_i32_39 k0_t3
  let c16_i32_80 : BitVec 32 := 16#32
  let v166 : BitVec 32 := Scalar.muli arg11 c16_i32_80
  let v167 : BitVec 32 := v166
  let v169 : Index := Scalar.indexCast v167
  ![14, v169.toNat]

def k0_chk31 (v63 : IVec S16 32) (v172 : IVec S16 32) : Prop :=
  (∀ a x, ((![v63, v172] : Fin 2 → IVec S16 32) a x).toNat < S128x128.size a)
theorem k0_idx31_inb : ∀ (v63 : IVec S16 32) (v172 : IVec S16 32) (k0_hw31 : k0_chk31 v63 v172), ∀ a x, ((![v63, v172] : Fin 2 → IVec S16 32) a x).toNat < S128x128.size a := fun v63 v172 k0_hw31 => k0_hw31
def k0_mult38 (k0_t3 : Fin k0_t3_loop.trips) : BitVec 32 :=
  let c0_i32_37 : BitVec 32 := 0#32
  let c1_i32_39 : BitVec 32 := 1#32
  let arg11 : BitVec 32 := Scf.iv c0_i32_37 c1_i32_39 k0_t3
  let c16_i32_82 : BitVec 32 := 16#32
  let v173 : BitVec 32 := Scalar.muli arg11 c16_i32_82
  v173
def k0_off36 (k0_t3 : Fin k0_t3_loop.trips) : Fin 2 → Nat :=
  let c15_i32 : BitVec 32 := 15#32
  let v175 : Index := Scalar.indexCast c15_i32
  let c0_i32_37 : BitVec 32 := 0#32
  let c1_i32_39 : BitVec 32 := 1#32
  let arg11 : BitVec 32 := Scf.iv c0_i32_37 c1_i32_39 k0_t3
  let c16_i32_82 : BitVec 32 := 16#32
  let v173 : BitVec 32 := Scalar.muli arg11 c16_i32_82
  let v174 : BitVec 32 := v173
  let v176 : Index := Scalar.indexCast v174
  ![15, v176.toNat]

def k0_chk32 (v63 : IVec S16 32) (v179 : IVec S16 32) : Prop :=
  (∀ a x, ((![v63, v179] : Fin 2 → IVec S16 32) a x).toNat < S128x128.size a)
theorem k0_idx32_inb : ∀ (v63 : IVec S16 32) (v179 : IVec S16 32) (k0_hw32 : k0_chk32 v63 v179), ∀ a x, ((![v63, v179] : Fin 2 → IVec S16 32) a x).toNat < S128x128.size a := fun v63 v179 k0_hw32 => k0_hw32
def k0_mult39 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c1_i32_35 : BitVec 32 := 1#32
  let v50 : BitVec 32 := Scalar.addi v16 c1_i32_35
  let c32_i32_41 : BitVec 32 := 32#32
  let v52 : BitVec 32 := Scalar.muli v50 c32_i32_41
  let v53 : BitVec 32 := Scalar.addi v1 v52
  let c1024_i32_42 : BitVec 32 := 1024#32
  let v54 : BitVec 32 := Scalar.muli v53 c1024_i32_42
  let c2598912_i32_43 : BitVec 32 := 2598912#32
  let v55 : BitVec 32 := Scalar.minsi v54 c2598912_i32_43
  v55
def k0_mult40 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c1_i32_35 : BitVec 32 := 1#32
  let v50 : BitVec 32 := Scalar.addi v16 c1_i32_35
  let c32_i32_41 : BitVec 32 := 32#32
  let v52 : BitVec 32 := Scalar.muli v50 c32_i32_41
  let v53 : BitVec 32 := Scalar.addi v1 v52
  let c1024_i32_42 : BitVec 32 := 1024#32
  let v54 : BitVec 32 := Scalar.muli v53 c1024_i32_42
  let c2598912_i32_43 : BitVec 32 := 2598912#32
  let v55 : BitVec 32 := Scalar.minsi v54 c2598912_i32_43
  let v56 : BitVec 32 := v55
  let c3_i32_44 : BitVec 32 := 3#32
  let v57 : BitVec 32 := Scalar.shrui v56 c3_i32_44
  v57
def k0_off37 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c1_i32 : BitVec 32 := 1#32
  let arg10 : BitVec 32 := Scf.iv c0_i32_3 c1_i32 k0_t1
  let c2_i32_9 : BitVec 32 := 2#32
  let v16 : BitVec 32 := Scalar.muli arg10 c2_i32_9
  let c1_i32_35 : BitVec 32 := 1#32
  let v50 : BitVec 32 := Scalar.addi v16 c1_i32_35
  let c32_i32_41 : BitVec 32 := 32#32
  let v52 : BitVec 32 := Scalar.muli v50 c32_i32_41
  let v53 : BitVec 32 := Scalar.addi v1 v52
  let c1024_i32_42 : BitVec 32 := 1024#32
  let v54 : BitVec 32 := Scalar.muli v53 c1024_i32_42
  let c2598912_i32_43 : BitVec 32 := 2598912#32
  let v55 : BitVec 32 := Scalar.minsi v54 c2598912_i32_43
  let v56 : BitVec 32 := v55
  let c3_i32_44 : BitVec 32 := 3#32
  let v57 : BitVec 32 := Scalar.shrui v56 c3_i32_44
  let v58 : BitVec 32 := v57
  let c0_i32_45_r1 : BitVec 32 := 0#32
  ![v58.toNat, 0]
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v10 : BitVec 32 := Scalar.addi v1 c2560_i32
  let c1024_i32_5 : BitVec 32 := 1024#32
  let v11 : BitVec 32 := Scalar.muli v10 c1024_i32_5
  let c2598912_i32_6 : BitVec 32 := 2598912#32
  let v12 : BitVec 32 := Scalar.minsi v11 c2598912_i32_6
  v12
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  v2
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v4 : BitVec 32 := Scalar.muli v1 c512_i32
  v4
@[reducible] def k1_t1_loop : Scf.Loop 32 :=
  let c0_i32_0 : BitVec 32 := 0#32
  let c32_i32 : BitVec 32 := 32#32
  let v8 : BitVec 32 := Scalar.addi c0_i32_0 c32_i32
  let c1_i32 : BitVec 32 := 1#32
  ⟨c0_i32_0, v8, c1_i32⟩
def k1_off1 (k1_t1 : Fin k1_t1_loop.trips) : Fin 2 → Nat :=
  let c0_i32_0 : BitVec 32 := 0#32
  let c1_i32 : BitVec 32 := 1#32
  let arg23 : BitVec 32 := Scf.iv c0_i32_0 c1_i32 k1_t1
  let v18 : Index := Scalar.indexCast arg23
  let c416 : Index := 416#32
  ![v18.toNat, 416]
def k1_off2 (k1_t1 : Fin k1_t1_loop.trips) : Fin 2 → Nat :=
  let c0_i32_0 : BitVec 32 := 0#32
  let c1_i32 : BitVec 32 := 1#32
  let arg23 : BitVec 32 := Scf.iv c0_i32_0 c1_i32 k1_t1
  let v20 : Index := Scalar.indexCast arg23
  let c432 : Index := 432#32
  ![v20.toNat, 432]
def k1_off3 (k1_t1 : Fin k1_t1_loop.trips) : Fin 2 → Nat :=
  let c0_i32_0 : BitVec 32 := 0#32
  let c1_i32 : BitVec 32 := 1#32
  let arg23 : BitVec 32 := Scf.iv c0_i32_0 c1_i32 k1_t1
  let v22 : Index := Scalar.indexCast arg23
  let c448 : Index := 448#32
  ![v22.toNat, 448]
def k1_off4 (k1_t1 : Fin k1_t1_loop.trips) : Fin 2 → Nat :=
  let c0_i32_0 : BitVec 32 := 0#32
  let c1_i32 : BitVec 32 := 1#32
  let arg23 : BitVec 32 := Scf.iv c0_i32_0 c1_i32 k1_t1
  let v24 : Index := Scalar.indexCast arg23
  let c464 : Index := 464#32
  ![v24.toNat, 464]
def k1_off5 (k1_t1 : Fin k1_t1_loop.trips) : Fin 2 → Nat :=
  let c0_i32_0 : BitVec 32 := 0#32
  let c1_i32 : BitVec 32 := 1#32
  let arg23 : BitVec 32 := Scf.iv c0_i32_0 c1_i32 k1_t1
  let v26 : Index := Scalar.indexCast arg23
  let c480 : Index := 480#32
  ![v26.toNat, 480]
def k1_off6 (k1_t1 : Fin k1_t1_loop.trips) : Fin 2 → Nat :=
  let c0_i32_0 : BitVec 32 := 0#32
  let c1_i32 : BitVec 32 := 1#32
  let arg23 : BitVec 32 := Scf.iv c0_i32_0 c1_i32 k1_t1
  let v28 : Index := Scalar.indexCast arg23
  let c496 : Index := 496#32
  ![v28.toNat, 496]
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := v2
  let c0_i32_2 : BitVec 32 := 0#32
  let v9 : BitVec 32 := Scalar.addi v3 c0_i32_2
  let c425152_i32 : BitVec 32 := 425152#32
  let v10 : BitVec 32 := Scalar.minsi v9 c425152_i32
  v10
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := v2
  let c0_i32_2 : BitVec 32 := 0#32
  let v9 : BitVec 32 := Scalar.addi v3 c0_i32_2
  let c425152_i32 : BitVec 32 := 425152#32
  let v10 : BitVec 32 := Scalar.minsi v9 c425152_i32
  let v11 : BitVec 32 := v10
  ![v11.toNat]
@[reducible] def k1_t2_loop : Scf.Loop 32 :=
  let c0_i32_4 : BitVec 32 := 0#32
  let c52_i32 : BitVec 32 := 52#32
  let v12 : BitVec 32 := Scalar.addi c0_i32_4 c52_i32
  let c1_i32_5 : BitVec 32 := 1#32
  ⟨c0_i32_4, v12, c1_i32_5⟩
def k1_mult4 (k1_t2 : Fin k1_t2_loop.trips) : BitVec 32 :=
  let c0_i32_4 : BitVec 32 := 0#32
  let c1_i32_5 : BitVec 32 := 1#32
  let arg23 : BitVec 32 := Scf.iv c0_i32_4 c1_i32_5 k1_t2
  let c16_i32 : BitVec 32 := 16#32
  let v18 : BitVec 32 := Scalar.muli arg23 c16_i32
  v18
def k1_off8 (k1_t2 : Fin k1_t2_loop.trips) : Fin 1 → Nat :=
  let c0_i32_4 : BitVec 32 := 0#32
  let c1_i32_5 : BitVec 32 := 1#32
  let arg23 : BitVec 32 := Scf.iv c0_i32_4 c1_i32_5 k1_t2
  let c16_i32 : BitVec 32 := 16#32
  let v18 : BitVec 32 := Scalar.muli arg23 c16_i32
  let v19 : BitVec 32 := v18
  let v20 : Index := Scalar.indexCast v19
  ![v20.toNat]
@[reducible] def k1_t3_loop : Scf.Loop 32 :=
  let c0_i32_12 : BitVec 32 := 0#32
  let c8_i32 : BitVec 32 := 8#32
  let v15 : BitVec 32 := Scalar.addi c0_i32_12 c8_i32
  let c1_i32_13 : BitVec 32 := 1#32
  ⟨c0_i32_12, v15, c1_i32_13⟩
def k1_mult5 (i : grid1.Coords) (k1_t3 : Fin k1_t3_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := v2
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let c1_i32_20 : BitVec 32 := 1#32
  let v19 : BitVec 32 := Scalar.addi v18 c1_i32_20
  let c832_i32 : BitVec 32 := 832#32
  let v20 : BitVec 32 := Scalar.muli v19 c832_i32
  let v21 : BitVec 32 := Scalar.addi v3 v20
  let c425152_i32_21 : BitVec 32 := 425152#32
  let v22 : BitVec 32 := Scalar.minsi v21 c425152_i32_21
  v22
def k1_off9 (i : grid1.Coords) (k1_t3 : Fin k1_t3_loop.trips) (c1_i32_20 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := v2
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let v19 : BitVec 32 := Scalar.addi v18 c1_i32_20
  let c832_i32 : BitVec 32 := 832#32
  let v20 : BitVec 32 := Scalar.muli v19 c832_i32
  let v21 : BitVec 32 := Scalar.addi v3 v20
  let c425152_i32_21 : BitVec 32 := 425152#32
  let v22 : BitVec 32 := Scalar.minsi v21 c425152_i32_21
  let v23 : BitVec 32 := v22
  ![v23.toNat]
@[reducible] def k1_t4_loop : Scf.Loop 32 :=
  let c0_i32_23 : BitVec 32 := 0#32
  let c52_i32_24 : BitVec 32 := 52#32
  let v24 : BitVec 32 := Scalar.addi c0_i32_23 c52_i32_24
  let c1_i32_25 : BitVec 32 := 1#32
  ⟨c0_i32_23, v24, c1_i32_25⟩
def k1_mult6 (k1_t4 : Fin k1_t4_loop.trips) : BitVec 32 :=
  let c0_i32_23 : BitVec 32 := 0#32
  let c1_i32_25 : BitVec 32 := 1#32
  let arg24 : BitVec 32 := Scf.iv c0_i32_23 c1_i32_25 k1_t4
  let c16_i32 : BitVec 32 := 16#32
  let v52 : BitVec 32 := Scalar.muli arg24 c16_i32
  v52
def k1_off10 (k1_t4 : Fin k1_t4_loop.trips) : Fin 1 → Nat :=
  let c0_i32_23 : BitVec 32 := 0#32
  let c1_i32_25 : BitVec 32 := 1#32
  let arg24 : BitVec 32 := Scf.iv c0_i32_23 c1_i32_25 k1_t4
  let c16_i32 : BitVec 32 := 16#32
  let v52 : BitVec 32 := Scalar.muli arg24 c16_i32
  let v53 : BitVec 32 := v52
  let v54 : Index := Scalar.indexCast v53
  ![v54.toNat]
@[reducible] def k1_t5_loop : Scf.Loop 32 :=
  let c0_i32_36 : BitVec 32 := 0#32
  let c52_i32_37 : BitVec 32 := 52#32
  let v29 : BitVec 32 := Scalar.addi c0_i32_36 c52_i32_37
  let c1_i32_38 : BitVec 32 := 1#32
  ⟨c0_i32_36, v29, c1_i32_38⟩
def k1_mult7 (k1_t5 : Fin k1_t5_loop.trips) : BitVec 32 :=
  let c0_i32_36 : BitVec 32 := 0#32
  let c1_i32_38 : BitVec 32 := 1#32
  let arg24 : BitVec 32 := Scf.iv c0_i32_36 c1_i32_38 k1_t5
  let c16_i32 : BitVec 32 := 16#32
  let v52 : BitVec 32 := Scalar.muli arg24 c16_i32
  v52
def k1_off11 (k1_t5 : Fin k1_t5_loop.trips) : Fin 1 → Nat :=
  let c0_i32_36 : BitVec 32 := 0#32
  let c1_i32_38 : BitVec 32 := 1#32
  let arg24 : BitVec 32 := Scf.iv c0_i32_36 c1_i32_38 k1_t5
  let c16_i32 : BitVec 32 := 16#32
  let v52 : BitVec 32 := Scalar.muli arg24 c16_i32
  let v53 : BitVec 32 := v52
  let v54 : Index := Scalar.indexCast v53
  ![v54.toNat]

def k1_chk1 (v57 : IVec S16 32) (v60 : IVec S16 32) : Prop :=
  (∀ a x, ((![v60, v57] : Fin 2 → IVec S16 32) a x).toNat < S832x16.size a)
theorem k1_idx1_inb : ∀ (v57 : IVec S16 32) (v60 : IVec S16 32) (k1_hw1 : k1_chk1 v57 v60), ∀ a x, ((![v60, v57] : Fin 2 → IVec S16 32) a x).toNat < S832x16.size a := fun v57 v60 k1_hw1 => k1_hw1

def k1_chk2 (v66 : IVec S16 32) (v70 : IVec S16 32) : Prop :=
  (∀ a x, ((![v66, v70] : Fin 2 → IVec S16 32) a x).toNat < S32x512.size a)
theorem k1_idx2_inb : ∀ (v66 : IVec S16 32) (v70 : IVec S16 32) (k1_hw2 : k1_chk2 v66 v70), ∀ a x, ((![v66, v70] : Fin 2 → IVec S16 32) a x).toNat < S32x512.size a := fun v66 v70 k1_hw2 => k1_hw2
@[reducible] def k1_t6_loop : Scf.Loop 32 :=
  let c0_i32_41 : BitVec 32 := 0#32
  let c32_i32_42 : BitVec 32 := 32#32
  let v30 : BitVec 32 := Scalar.addi c0_i32_41 c32_i32_42
  let c1_i32_43 : BitVec 32 := 1#32
  ⟨c0_i32_41, v30, c1_i32_43⟩
def k1_off12 (k1_t6 : Fin k1_t6_loop.trips) (c0_i32_84 : BitVec 32) : Fin 2 → Nat :=
  let c0_i32_41 : BitVec 32 := 0#32
  let c1_i32_43 : BitVec 32 := 1#32
  let arg24 : BitVec 32 := Scf.iv c0_i32_41 c1_i32_43 k1_t6
  let c26_i32 : BitVec 32 := 26#32
  let v52 : BitVec 32 := Scalar.muli arg24 c26_i32
  let v53 : BitVec 32 := Scalar.addi v52 c0_i32_84
  let v54 : Index := Scalar.indexCast v53
  let c0 : Index := 0#32
  ![v54.toNat, 0]
def k1_off13 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v56 : Index := Scalar.indexCast arg24
  let c0_85 : Index := 0#32
  ![v56.toNat, 0]
def k1_off14 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v62 : Index := Scalar.indexCast arg24
  let c16 : Index := 16#32
  ![v62.toNat, 16]
def k1_off15 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v68 : Index := Scalar.indexCast arg24
  let c32 : Index := 32#32
  ![v68.toNat, 32]
def k1_off16 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v74 : Index := Scalar.indexCast arg24
  let c48 : Index := 48#32
  ![v74.toNat, 48]
def k1_off17 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v80 : Index := Scalar.indexCast arg24
  let c64 : Index := 64#32
  ![v80.toNat, 64]
def k1_off18 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v86 : Index := Scalar.indexCast arg24
  let c80 : Index := 80#32
  ![v86.toNat, 80]
def k1_off19 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v92 : Index := Scalar.indexCast arg24
  let c96 : Index := 96#32
  ![v92.toNat, 96]
def k1_off20 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v98 : Index := Scalar.indexCast arg24
  let c112 : Index := 112#32
  ![v98.toNat, 112]
def k1_off21 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v104 : Index := Scalar.indexCast arg24
  let c128 : Index := 128#32
  ![v104.toNat, 128]
def k1_off22 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v110 : Index := Scalar.indexCast arg24
  let c144 : Index := 144#32
  ![v110.toNat, 144]
def k1_off23 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v116 : Index := Scalar.indexCast arg24
  let c160 : Index := 160#32
  ![v116.toNat, 160]
def k1_off24 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v122 : Index := Scalar.indexCast arg24
  let c176 : Index := 176#32
  ![v122.toNat, 176]
def k1_off25 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v128 : Index := Scalar.indexCast arg24
  let c192 : Index := 192#32
  ![v128.toNat, 192]
def k1_off26 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v134 : Index := Scalar.indexCast arg24
  let c208 : Index := 208#32
  ![v134.toNat, 208]
def k1_off27 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v140 : Index := Scalar.indexCast arg24
  let c224 : Index := 224#32
  ![v140.toNat, 224]
def k1_off28 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v146 : Index := Scalar.indexCast arg24
  let c240 : Index := 240#32
  ![v146.toNat, 240]
def k1_off29 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v152 : Index := Scalar.indexCast arg24
  let c256 : Index := 256#32
  ![v152.toNat, 256]
def k1_off30 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v158 : Index := Scalar.indexCast arg24
  let c272 : Index := 272#32
  ![v158.toNat, 272]
def k1_off31 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v164 : Index := Scalar.indexCast arg24
  let c288 : Index := 288#32
  ![v164.toNat, 288]
def k1_off32 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v170 : Index := Scalar.indexCast arg24
  let c304 : Index := 304#32
  ![v170.toNat, 304]
def k1_off33 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v176 : Index := Scalar.indexCast arg24
  let c320 : Index := 320#32
  ![v176.toNat, 320]
def k1_off34 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v182 : Index := Scalar.indexCast arg24
  let c336 : Index := 336#32
  ![v182.toNat, 336]
def k1_off35 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v188 : Index := Scalar.indexCast arg24
  let c352 : Index := 352#32
  ![v188.toNat, 352]
def k1_off36 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v194 : Index := Scalar.indexCast arg24
  let c368 : Index := 368#32
  ![v194.toNat, 368]
def k1_off37 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v200 : Index := Scalar.indexCast arg24
  let c384 : Index := 384#32
  ![v200.toNat, 384]
def k1_off38 (k1_t6 : Fin k1_t6_loop.trips) : Fin 2 → Nat :=
  let c0_i32_41 : BitVec 32 := 0#32
  let c1_i32_43 : BitVec 32 := 1#32
  let arg24 : BitVec 32 := Scf.iv c0_i32_41 c1_i32_43 k1_t6
  let v206 : Index := Scalar.indexCast arg24
  let c400 : Index := 400#32
  ![v206.toNat, 400]
@[reducible] def k1_t7_loop : Scf.Loop 32 :=
  let c0_i32_46 : BitVec 32 := 0#32
  let c52_i32_47 : BitVec 32 := 52#32
  let v31 : BitVec 32 := Scalar.addi c0_i32_46 c52_i32_47
  let c1_i32_48 : BitVec 32 := 1#32
  ⟨c0_i32_46, v31, c1_i32_48⟩
def k1_mult8 (k1_t7 : Fin k1_t7_loop.trips) : BitVec 32 :=
  let c0_i32_46 : BitVec 32 := 0#32
  let c1_i32_48 : BitVec 32 := 1#32
  let arg24 : BitVec 32 := Scf.iv c0_i32_46 c1_i32_48 k1_t7
  let c16_i32 : BitVec 32 := 16#32
  let v52 : BitVec 32 := Scalar.muli arg24 c16_i32
  v52
def k1_off39 (k1_t7 : Fin k1_t7_loop.trips) : Fin 1 → Nat :=
  let c0_i32_46 : BitVec 32 := 0#32
  let c1_i32_48 : BitVec 32 := 1#32
  let arg24 : BitVec 32 := Scf.iv c0_i32_46 c1_i32_48 k1_t7
  let c16_i32 : BitVec 32 := 16#32
  let v52 : BitVec 32 := Scalar.muli arg24 c16_i32
  let v53 : BitVec 32 := v52
  let v54 : Index := Scalar.indexCast v53
  ![v54.toNat]
def k1_cond1 (v64 : BitVec 32) : BitVec 1 :=
  let c0_i32_84 : BitVec 32 := 0#32
  let v65 : BitVec 1 := Scalar.cmpi .sgt v64 c0_i32_84
  let v66 : BitVec 32 := Scalar.extui v65
  let c0_i32_85 : BitVec 32 := 0#32
  let v67 : BitVec 1 := Scalar.cmpi .ne v66 c0_i32_85
  v67

def k1_chk3 (v64 : BitVec 32) (v82 : IVec S16 32) (v83 : IVec S16 32) : Prop :=
  (∀ (k1_h1 : k1_cond1 v64 = 1#1), ∀ a x, ((![v82, v83] : Fin 2 → IVec S16 32) a x).toNat < S64x16.size a)
theorem k1_idx3_inb : ∀ (v64 : BitVec 32) (v82 : IVec S16 32) (v83 : IVec S16 32) (k1_hw3 : k1_chk3 v64 v82 v83), ∀ (k1_h1 : k1_cond1 v64 = 1#1), ∀ a x, ((![v82, v83] : Fin 2 → IVec S16 32) a x).toNat < S64x16.size a := fun v64 v82 v83 k1_hw3 k1_h1 => k1_hw3 k1_h1

def k1_chk4 (v64 : BitVec 32) (v72 : IVec S16 32) (v86 : IVec S16 32) : Prop :=
  (∀ (k1_h1 : k1_cond1 v64 = 1#1), ∀ a x, ((![v72, v86] : Fin 2 → IVec S16 32) a x).toNat < S32x512.size a)
theorem k1_idx4_inb : ∀ (v64 : BitVec 32) (v72 : IVec S16 32) (v86 : IVec S16 32) (k1_hw4 : k1_chk4 v64 v72 v86), ∀ (k1_h1 : k1_cond1 v64 = 1#1), ∀ a x, ((![v72, v86] : Fin 2 → IVec S16 32) a x).toNat < S32x512.size a := fun v64 v72 v86 k1_hw4 k1_h1 => k1_hw4 k1_h1

def k1_chk5 (v64 : BitVec 32) (v82 : IVec S16 32) (v87 : IVec S16 32) : Prop :=
  (∀ (k1_h1 : k1_cond1 v64 = 1#1), ∀ a x, ((![v82, v87] : Fin 2 → IVec S16 32) a x).toNat < S64x16.size a)
theorem k1_idx5_inb : ∀ (v64 : BitVec 32) (v82 : IVec S16 32) (v87 : IVec S16 32) (k1_hw5 : k1_chk5 v64 v82 v87), ∀ (k1_h1 : k1_cond1 v64 = 1#1), ∀ a x, ((![v82, v87] : Fin 2 → IVec S16 32) a x).toNat < S64x16.size a := fun v64 v82 v87 k1_hw5 k1_h1 => k1_hw5 k1_h1

def k1_chk6 (v64 : BitVec 32) (v72 : IVec S16 32) (v90 : IVec S16 32) : Prop :=
  (∀ (k1_h1 : k1_cond1 v64 = 1#1), ∀ a x, ((![v72, v90] : Fin 2 → IVec S16 32) a x).toNat < S32x512.size a)
theorem k1_idx6_inb : ∀ (v64 : BitVec 32) (v72 : IVec S16 32) (v90 : IVec S16 32) (k1_hw6 : k1_chk6 v64 v72 v90), ∀ (k1_h1 : k1_cond1 v64 = 1#1), ∀ a x, ((![v72, v90] : Fin 2 → IVec S16 32) a x).toNat < S32x512.size a := fun v64 v72 v90 k1_hw6 k1_h1 => k1_hw6 k1_h1

def k1_chk7 (v64 : BitVec 32) (v82 : IVec S16 32) (v91 : IVec S16 32) : Prop :=
  (∀ (k1_h1 : k1_cond1 v64 = 1#1), ∀ a x, ((![v82, v91] : Fin 2 → IVec S16 32) a x).toNat < S64x16.size a)
theorem k1_idx7_inb : ∀ (v64 : BitVec 32) (v82 : IVec S16 32) (v91 : IVec S16 32) (k1_hw7 : k1_chk7 v64 v82 v91), ∀ (k1_h1 : k1_cond1 v64 = 1#1), ∀ a x, ((![v82, v91] : Fin 2 → IVec S16 32) a x).toNat < S64x16.size a := fun v64 v82 v91 k1_hw7 k1_h1 => k1_hw7 k1_h1

def k1_chk8 (v64 : BitVec 32) (v72 : IVec S16 32) (v94 : IVec S16 32) : Prop :=
  (∀ (k1_h1 : k1_cond1 v64 = 1#1), ∀ a x, ((![v72, v94] : Fin 2 → IVec S16 32) a x).toNat < S32x512.size a)
theorem k1_idx8_inb : ∀ (v64 : BitVec 32) (v72 : IVec S16 32) (v94 : IVec S16 32) (k1_hw8 : k1_chk8 v64 v72 v94), ∀ (k1_h1 : k1_cond1 v64 = 1#1), ∀ a x, ((![v72, v94] : Fin 2 → IVec S16 32) a x).toNat < S32x512.size a := fun v64 v72 v94 k1_hw8 k1_h1 => k1_hw8 k1_h1

def k1_chk9 (v64 : BitVec 32) (v82 : IVec S16 32) (v95 : IVec S16 32) : Prop :=
  (∀ (k1_h1 : k1_cond1 v64 = 1#1), ∀ a x, ((![v82, v95] : Fin 2 → IVec S16 32) a x).toNat < S64x16.size a)
theorem k1_idx9_inb : ∀ (v64 : BitVec 32) (v82 : IVec S16 32) (v95 : IVec S16 32) (k1_hw9 : k1_chk9 v64 v82 v95), ∀ (k1_h1 : k1_cond1 v64 = 1#1), ∀ a x, ((![v82, v95] : Fin 2 → IVec S16 32) a x).toNat < S64x16.size a := fun v64 v82 v95 k1_hw9 k1_h1 => k1_hw9 k1_h1

def k1_chk10 (v64 : BitVec 32) (v72 : IVec S16 32) (v98 : IVec S16 32) : Prop :=
  (∀ (k1_h1 : k1_cond1 v64 = 1#1), ∀ a x, ((![v72, v98] : Fin 2 → IVec S16 32) a x).toNat < S32x512.size a)
theorem k1_idx10_inb : ∀ (v64 : BitVec 32) (v72 : IVec S16 32) (v98 : IVec S16 32) (k1_hw10 : k1_chk10 v64 v72 v98), ∀ (k1_h1 : k1_cond1 v64 = 1#1), ∀ a x, ((![v72, v98] : Fin 2 → IVec S16 32) a x).toNat < S32x512.size a := fun v64 v72 v98 k1_hw10 k1_h1 => k1_hw10 k1_h1

def k1_chk11 (v64 : BitVec 32) (v82 : IVec S16 32) (v99 : IVec S16 32) : Prop :=
  (∀ (k1_h1 : k1_cond1 v64 = 1#1), ∀ a x, ((![v82, v99] : Fin 2 → IVec S16 32) a x).toNat < S64x16.size a)
theorem k1_idx11_inb : ∀ (v64 : BitVec 32) (v82 : IVec S16 32) (v99 : IVec S16 32) (k1_hw11 : k1_chk11 v64 v82 v99), ∀ (k1_h1 : k1_cond1 v64 = 1#1), ∀ a x, ((![v82, v99] : Fin 2 → IVec S16 32) a x).toNat < S64x16.size a := fun v64 v82 v99 k1_hw11 k1_h1 => k1_hw11 k1_h1

def k1_chk12 (v64 : BitVec 32) (v72 : IVec S16 32) (v102 : IVec S16 32) : Prop :=
  (∀ (k1_h1 : k1_cond1 v64 = 1#1), ∀ a x, ((![v72, v102] : Fin 2 → IVec S16 32) a x).toNat < S32x512.size a)
theorem k1_idx12_inb : ∀ (v64 : BitVec 32) (v72 : IVec S16 32) (v102 : IVec S16 32) (k1_hw12 : k1_chk12 v64 v72 v102), ∀ (k1_h1 : k1_cond1 v64 = 1#1), ∀ a x, ((![v72, v102] : Fin 2 → IVec S16 32) a x).toNat < S32x512.size a := fun v64 v72 v102 k1_hw12 k1_h1 => k1_hw12 k1_h1

def k1_chk13 (v64 : BitVec 32) (v82 : IVec S16 32) (v103 : IVec S16 32) : Prop :=
  (∀ (k1_h1 : k1_cond1 v64 = 1#1), ∀ a x, ((![v82, v103] : Fin 2 → IVec S16 32) a x).toNat < S64x16.size a)
theorem k1_idx13_inb : ∀ (v64 : BitVec 32) (v82 : IVec S16 32) (v103 : IVec S16 32) (k1_hw13 : k1_chk13 v64 v82 v103), ∀ (k1_h1 : k1_cond1 v64 = 1#1), ∀ a x, ((![v82, v103] : Fin 2 → IVec S16 32) a x).toNat < S64x16.size a := fun v64 v82 v103 k1_hw13 k1_h1 => k1_hw13 k1_h1

def k1_chk14 (v64 : BitVec 32) (v72 : IVec S16 32) (v106 : IVec S16 32) : Prop :=
  (∀ (k1_h1 : k1_cond1 v64 = 1#1), ∀ a x, ((![v72, v106] : Fin 2 → IVec S16 32) a x).toNat < S32x512.size a)
theorem k1_idx14_inb : ∀ (v64 : BitVec 32) (v72 : IVec S16 32) (v106 : IVec S16 32) (k1_hw14 : k1_chk14 v64 v72 v106), ∀ (k1_h1 : k1_cond1 v64 = 1#1), ∀ a x, ((![v72, v106] : Fin 2 → IVec S16 32) a x).toNat < S32x512.size a := fun v64 v72 v106 k1_hw14 k1_h1 => k1_hw14 k1_h1

def k1_chk15 (v64 : BitVec 32) (v82 : IVec S16 32) (v107 : IVec S16 32) : Prop :=
  (∀ (k1_h1 : k1_cond1 v64 = 1#1), ∀ a x, ((![v82, v107] : Fin 2 → IVec S16 32) a x).toNat < S64x16.size a)
theorem k1_idx15_inb : ∀ (v64 : BitVec 32) (v82 : IVec S16 32) (v107 : IVec S16 32) (k1_hw15 : k1_chk15 v64 v82 v107), ∀ (k1_h1 : k1_cond1 v64 = 1#1), ∀ a x, ((![v82, v107] : Fin 2 → IVec S16 32) a x).toNat < S64x16.size a := fun v64 v82 v107 k1_hw15 k1_h1 => k1_hw15 k1_h1

def k1_chk16 (v64 : BitVec 32) (v72 : IVec S16 32) (v110 : IVec S16 32) : Prop :=
  (∀ (k1_h1 : k1_cond1 v64 = 1#1), ∀ a x, ((![v72, v110] : Fin 2 → IVec S16 32) a x).toNat < S32x512.size a)
theorem k1_idx16_inb : ∀ (v64 : BitVec 32) (v72 : IVec S16 32) (v110 : IVec S16 32) (k1_hw16 : k1_chk16 v64 v72 v110), ∀ (k1_h1 : k1_cond1 v64 = 1#1), ∀ a x, ((![v72, v110] : Fin 2 → IVec S16 32) a x).toNat < S32x512.size a := fun v64 v72 v110 k1_hw16 k1_h1 => k1_hw16 k1_h1

def k1_chk17 (v64 : BitVec 32) (v82 : IVec S16 32) (v111 : IVec S16 32) : Prop :=
  (∀ (k1_h1 : k1_cond1 v64 = 1#1), ∀ a x, ((![v82, v111] : Fin 2 → IVec S16 32) a x).toNat < S64x16.size a)
theorem k1_idx17_inb : ∀ (v64 : BitVec 32) (v82 : IVec S16 32) (v111 : IVec S16 32) (k1_hw17 : k1_chk17 v64 v82 v111), ∀ (k1_h1 : k1_cond1 v64 = 1#1), ∀ a x, ((![v82, v111] : Fin 2 → IVec S16 32) a x).toNat < S64x16.size a := fun v64 v82 v111 k1_hw17 k1_h1 => k1_hw17 k1_h1

def k1_chk18 (v64 : BitVec 32) (v72 : IVec S16 32) (v114 : IVec S16 32) : Prop :=
  (∀ (k1_h1 : k1_cond1 v64 = 1#1), ∀ a x, ((![v72, v114] : Fin 2 → IVec S16 32) a x).toNat < S32x512.size a)
theorem k1_idx18_inb : ∀ (v64 : BitVec 32) (v72 : IVec S16 32) (v114 : IVec S16 32) (k1_hw18 : k1_chk18 v64 v72 v114), ∀ (k1_h1 : k1_cond1 v64 = 1#1), ∀ a x, ((![v72, v114] : Fin 2 → IVec S16 32) a x).toNat < S32x512.size a := fun v64 v72 v114 k1_hw18 k1_h1 => k1_hw18 k1_h1

def k1_chk19 (v64 : BitVec 32) (v82 : IVec S16 32) (v115 : IVec S16 32) : Prop :=
  (∀ (k1_h1 : k1_cond1 v64 = 1#1), ∀ a x, ((![v82, v115] : Fin 2 → IVec S16 32) a x).toNat < S64x16.size a)
theorem k1_idx19_inb : ∀ (v64 : BitVec 32) (v82 : IVec S16 32) (v115 : IVec S16 32) (k1_hw19 : k1_chk19 v64 v82 v115), ∀ (k1_h1 : k1_cond1 v64 = 1#1), ∀ a x, ((![v82, v115] : Fin 2 → IVec S16 32) a x).toNat < S64x16.size a := fun v64 v82 v115 k1_hw19 k1_h1 => k1_hw19 k1_h1

def k1_chk20 (v64 : BitVec 32) (v72 : IVec S16 32) (v118 : IVec S16 32) : Prop :=
  (∀ (k1_h1 : k1_cond1 v64 = 1#1), ∀ a x, ((![v72, v118] : Fin 2 → IVec S16 32) a x).toNat < S32x512.size a)
theorem k1_idx20_inb : ∀ (v64 : BitVec 32) (v72 : IVec S16 32) (v118 : IVec S16 32) (k1_hw20 : k1_chk20 v64 v72 v118), ∀ (k1_h1 : k1_cond1 v64 = 1#1), ∀ a x, ((![v72, v118] : Fin 2 → IVec S16 32) a x).toNat < S32x512.size a := fun v64 v72 v118 k1_hw20 k1_h1 => k1_hw20 k1_h1

def k1_chk21 (v64 : BitVec 32) (v82 : IVec S16 32) (v119 : IVec S16 32) : Prop :=
  (∀ (k1_h1 : k1_cond1 v64 = 1#1), ∀ a x, ((![v82, v119] : Fin 2 → IVec S16 32) a x).toNat < S64x16.size a)
theorem k1_idx21_inb : ∀ (v64 : BitVec 32) (v82 : IVec S16 32) (v119 : IVec S16 32) (k1_hw21 : k1_chk21 v64 v82 v119), ∀ (k1_h1 : k1_cond1 v64 = 1#1), ∀ a x, ((![v82, v119] : Fin 2 → IVec S16 32) a x).toNat < S64x16.size a := fun v64 v82 v119 k1_hw21 k1_h1 => k1_hw21 k1_h1

def k1_chk22 (v64 : BitVec 32) (v72 : IVec S16 32) (v122 : IVec S16 32) : Prop :=
  (∀ (k1_h1 : k1_cond1 v64 = 1#1), ∀ a x, ((![v72, v122] : Fin 2 → IVec S16 32) a x).toNat < S32x512.size a)
theorem k1_idx22_inb : ∀ (v64 : BitVec 32) (v72 : IVec S16 32) (v122 : IVec S16 32) (k1_hw22 : k1_chk22 v64 v72 v122), ∀ (k1_h1 : k1_cond1 v64 = 1#1), ∀ a x, ((![v72, v122] : Fin 2 → IVec S16 32) a x).toNat < S32x512.size a := fun v64 v72 v122 k1_hw22 k1_h1 => k1_hw22 k1_h1

def k1_chk23 (v64 : BitVec 32) (v82 : IVec S16 32) (v123 : IVec S16 32) : Prop :=
  (∀ (k1_h1 : k1_cond1 v64 = 1#1), ∀ a x, ((![v82, v123] : Fin 2 → IVec S16 32) a x).toNat < S64x16.size a)
theorem k1_idx23_inb : ∀ (v64 : BitVec 32) (v82 : IVec S16 32) (v123 : IVec S16 32) (k1_hw23 : k1_chk23 v64 v82 v123), ∀ (k1_h1 : k1_cond1 v64 = 1#1), ∀ a x, ((![v82, v123] : Fin 2 → IVec S16 32) a x).toNat < S64x16.size a := fun v64 v82 v123 k1_hw23 k1_h1 => k1_hw23 k1_h1

def k1_chk24 (v64 : BitVec 32) (v72 : IVec S16 32) (v126 : IVec S16 32) : Prop :=
  (∀ (k1_h1 : k1_cond1 v64 = 1#1), ∀ a x, ((![v72, v126] : Fin 2 → IVec S16 32) a x).toNat < S32x512.size a)
theorem k1_idx24_inb : ∀ (v64 : BitVec 32) (v72 : IVec S16 32) (v126 : IVec S16 32) (k1_hw24 : k1_chk24 v64 v72 v126), ∀ (k1_h1 : k1_cond1 v64 = 1#1), ∀ a x, ((![v72, v126] : Fin 2 → IVec S16 32) a x).toNat < S32x512.size a := fun v64 v72 v126 k1_hw24 k1_h1 => k1_hw24 k1_h1

def k1_chk25 (v64 : BitVec 32) (v82 : IVec S16 32) (v127 : IVec S16 32) : Prop :=
  (∀ (k1_h1 : k1_cond1 v64 = 1#1), ∀ a x, ((![v82, v127] : Fin 2 → IVec S16 32) a x).toNat < S64x16.size a)
theorem k1_idx25_inb : ∀ (v64 : BitVec 32) (v82 : IVec S16 32) (v127 : IVec S16 32) (k1_hw25 : k1_chk25 v64 v82 v127), ∀ (k1_h1 : k1_cond1 v64 = 1#1), ∀ a x, ((![v82, v127] : Fin 2 → IVec S16 32) a x).toNat < S64x16.size a := fun v64 v82 v127 k1_hw25 k1_h1 => k1_hw25 k1_h1

def k1_chk26 (v64 : BitVec 32) (v72 : IVec S16 32) (v130 : IVec S16 32) : Prop :=
  (∀ (k1_h1 : k1_cond1 v64 = 1#1), ∀ a x, ((![v72, v130] : Fin 2 → IVec S16 32) a x).toNat < S32x512.size a)
theorem k1_idx26_inb : ∀ (v64 : BitVec 32) (v72 : IVec S16 32) (v130 : IVec S16 32) (k1_hw26 : k1_chk26 v64 v72 v130), ∀ (k1_h1 : k1_cond1 v64 = 1#1), ∀ a x, ((![v72, v130] : Fin 2 → IVec S16 32) a x).toNat < S32x512.size a := fun v64 v72 v130 k1_hw26 k1_h1 => k1_hw26 k1_h1

def k1_chk27 (v64 : BitVec 32) (v82 : IVec S16 32) (v131 : IVec S16 32) : Prop :=
  (∀ (k1_h1 : k1_cond1 v64 = 1#1), ∀ a x, ((![v82, v131] : Fin 2 → IVec S16 32) a x).toNat < S64x16.size a)
theorem k1_idx27_inb : ∀ (v64 : BitVec 32) (v82 : IVec S16 32) (v131 : IVec S16 32) (k1_hw27 : k1_chk27 v64 v82 v131), ∀ (k1_h1 : k1_cond1 v64 = 1#1), ∀ a x, ((![v82, v131] : Fin 2 → IVec S16 32) a x).toNat < S64x16.size a := fun v64 v82 v131 k1_hw27 k1_h1 => k1_hw27 k1_h1

def k1_chk28 (v64 : BitVec 32) (v72 : IVec S16 32) (v134 : IVec S16 32) : Prop :=
  (∀ (k1_h1 : k1_cond1 v64 = 1#1), ∀ a x, ((![v72, v134] : Fin 2 → IVec S16 32) a x).toNat < S32x512.size a)
theorem k1_idx28_inb : ∀ (v64 : BitVec 32) (v72 : IVec S16 32) (v134 : IVec S16 32) (k1_hw28 : k1_chk28 v64 v72 v134), ∀ (k1_h1 : k1_cond1 v64 = 1#1), ∀ a x, ((![v72, v134] : Fin 2 → IVec S16 32) a x).toNat < S32x512.size a := fun v64 v72 v134 k1_hw28 k1_h1 => k1_hw28 k1_h1

def k1_chk29 (v64 : BitVec 32) (v82 : IVec S16 32) (v135 : IVec S16 32) : Prop :=
  (∀ (k1_h1 : k1_cond1 v64 = 1#1), ∀ a x, ((![v82, v135] : Fin 2 → IVec S16 32) a x).toNat < S64x16.size a)
theorem k1_idx29_inb : ∀ (v64 : BitVec 32) (v82 : IVec S16 32) (v135 : IVec S16 32) (k1_hw29 : k1_chk29 v64 v82 v135), ∀ (k1_h1 : k1_cond1 v64 = 1#1), ∀ a x, ((![v82, v135] : Fin 2 → IVec S16 32) a x).toNat < S64x16.size a := fun v64 v82 v135 k1_hw29 k1_h1 => k1_hw29 k1_h1

def k1_chk30 (v64 : BitVec 32) (v72 : IVec S16 32) (v138 : IVec S16 32) : Prop :=
  (∀ (k1_h1 : k1_cond1 v64 = 1#1), ∀ a x, ((![v72, v138] : Fin 2 → IVec S16 32) a x).toNat < S32x512.size a)
theorem k1_idx30_inb : ∀ (v64 : BitVec 32) (v72 : IVec S16 32) (v138 : IVec S16 32) (k1_hw30 : k1_chk30 v64 v72 v138), ∀ (k1_h1 : k1_cond1 v64 = 1#1), ∀ a x, ((![v72, v138] : Fin 2 → IVec S16 32) a x).toNat < S32x512.size a := fun v64 v72 v138 k1_hw30 k1_h1 => k1_hw30 k1_h1

def k1_chk31 (v64 : BitVec 32) (v82 : IVec S16 32) (v139 : IVec S16 32) : Prop :=
  (∀ (k1_h1 : k1_cond1 v64 = 1#1), ∀ a x, ((![v82, v139] : Fin 2 → IVec S16 32) a x).toNat < S64x16.size a)
theorem k1_idx31_inb : ∀ (v64 : BitVec 32) (v82 : IVec S16 32) (v139 : IVec S16 32) (k1_hw31 : k1_chk31 v64 v82 v139), ∀ (k1_h1 : k1_cond1 v64 = 1#1), ∀ a x, ((![v82, v139] : Fin 2 → IVec S16 32) a x).toNat < S64x16.size a := fun v64 v82 v139 k1_hw31 k1_h1 => k1_hw31 k1_h1

def k1_chk32 (v64 : BitVec 32) (v72 : IVec S16 32) (v142 : IVec S16 32) : Prop :=
  (∀ (k1_h1 : k1_cond1 v64 = 1#1), ∀ a x, ((![v72, v142] : Fin 2 → IVec S16 32) a x).toNat < S32x512.size a)
theorem k1_idx32_inb : ∀ (v64 : BitVec 32) (v72 : IVec S16 32) (v142 : IVec S16 32) (k1_hw32 : k1_chk32 v64 v72 v142), ∀ (k1_h1 : k1_cond1 v64 = 1#1), ∀ a x, ((![v72, v142] : Fin 2 → IVec S16 32) a x).toNat < S32x512.size a := fun v64 v72 v142 k1_hw32 k1_h1 => k1_hw32 k1_h1

def k1_chk33 (v64 : BitVec 32) (v82 : IVec S16 32) (v143 : IVec S16 32) : Prop :=
  (∀ (k1_h1 : k1_cond1 v64 = 1#1), ∀ a x, ((![v82, v143] : Fin 2 → IVec S16 32) a x).toNat < S64x16.size a)
theorem k1_idx33_inb : ∀ (v64 : BitVec 32) (v82 : IVec S16 32) (v143 : IVec S16 32) (k1_hw33 : k1_chk33 v64 v82 v143), ∀ (k1_h1 : k1_cond1 v64 = 1#1), ∀ a x, ((![v82, v143] : Fin 2 → IVec S16 32) a x).toNat < S64x16.size a := fun v64 v82 v143 k1_hw33 k1_h1 => k1_hw33 k1_h1

def k1_chk34 (v64 : BitVec 32) (v72 : IVec S16 32) (v146 : IVec S16 32) : Prop :=
  (∀ (k1_h1 : k1_cond1 v64 = 1#1), ∀ a x, ((![v72, v146] : Fin 2 → IVec S16 32) a x).toNat < S32x512.size a)
theorem k1_idx34_inb : ∀ (v64 : BitVec 32) (v72 : IVec S16 32) (v146 : IVec S16 32) (k1_hw34 : k1_chk34 v64 v72 v146), ∀ (k1_h1 : k1_cond1 v64 = 1#1), ∀ a x, ((![v72, v146] : Fin 2 → IVec S16 32) a x).toNat < S32x512.size a := fun v64 v72 v146 k1_hw34 k1_h1 => k1_hw34 k1_h1
def k1_mult9 (i : grid1.Coords) (k1_t3 : Fin k1_t3_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v4 : BitVec 32 := Scalar.muli v1 c512_i32
  let v5 : BitVec 32 := v4
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let c32_i32_50 : BitVec 32 := 32#32
  let v32 : BitVec 32 := Scalar.muli v18 c32_i32_50
  let v33 : BitVec 32 := Scalar.addi v5 v32
  v33
def k1_off40 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v4 : BitVec 32 := Scalar.muli v1 c512_i32
  let v5 : BitVec 32 := v4
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let c32_i32_50 : BitVec 32 := 32#32
  let v32 : BitVec 32 := Scalar.muli v18 c32_i32_50
  let v33 : BitVec 32 := Scalar.addi v5 v32
  let v34 : BitVec 32 := v33
  let c0_i32_84_r4 : BitVec 32 := 0#32
  ![v34.toNat, 0]
def k1_mult10 (i : grid1.Coords) (k1_t3 : Fin k1_t3_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := v2
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let c2_i32_51 : BitVec 32 := 2#32
  let v35 : BitVec 32 := Scalar.addi v18 c2_i32_51
  let c832_i32_52 : BitVec 32 := 832#32
  let v36 : BitVec 32 := Scalar.muli v35 c832_i32_52
  let v37 : BitVec 32 := Scalar.addi v3 v36
  let c425152_i32_53 : BitVec 32 := 425152#32
  let v38 : BitVec 32 := Scalar.minsi v37 c425152_i32_53
  v38
@[reducible] def k1_t8_loop : Scf.Loop 32 :=
  let c0_i32_55 : BitVec 32 := 0#32
  let c52_i32_56 : BitVec 32 := 52#32
  let v40 : BitVec 32 := Scalar.addi c0_i32_55 c52_i32_56
  let c1_i32_57 : BitVec 32 := 1#32
  ⟨c0_i32_55, v40, c1_i32_57⟩
def k1_mult11 (k1_t8 : Fin k1_t8_loop.trips) : BitVec 32 :=
  let c0_i32_55 : BitVec 32 := 0#32
  let c1_i32_57 : BitVec 32 := 1#32
  let arg24 : BitVec 32 := Scf.iv c0_i32_55 c1_i32_57 k1_t8
  let c16_i32 : BitVec 32 := 16#32
  let v52 : BitVec 32 := Scalar.muli arg24 c16_i32
  v52
def k1_off41 (k1_t8 : Fin k1_t8_loop.trips) : Fin 1 → Nat :=
  let c0_i32_55 : BitVec 32 := 0#32
  let c1_i32_57 : BitVec 32 := 1#32
  let arg24 : BitVec 32 := Scf.iv c0_i32_55 c1_i32_57 k1_t8
  let c16_i32 : BitVec 32 := 16#32
  let v52 : BitVec 32 := Scalar.muli arg24 c16_i32
  let v53 : BitVec 32 := v52
  let v54 : Index := Scalar.indexCast v53
  ![v54.toNat]
@[reducible] def k1_t9_loop : Scf.Loop 32 :=
  let c0_i32_69 : BitVec 32 := 0#32
  let c52_i32_70 : BitVec 32 := 52#32
  let v46 : BitVec 32 := Scalar.addi c0_i32_69 c52_i32_70
  let c1_i32_71 : BitVec 32 := 1#32
  ⟨c0_i32_69, v46, c1_i32_71⟩
def k1_mult12 (k1_t9 : Fin k1_t9_loop.trips) : BitVec 32 :=
  let c0_i32_69 : BitVec 32 := 0#32
  let c1_i32_71 : BitVec 32 := 1#32
  let arg24 : BitVec 32 := Scf.iv c0_i32_69 c1_i32_71 k1_t9
  let c16_i32 : BitVec 32 := 16#32
  let v52 : BitVec 32 := Scalar.muli arg24 c16_i32
  v52
def k1_off42 (k1_t9 : Fin k1_t9_loop.trips) : Fin 1 → Nat :=
  let c0_i32_69 : BitVec 32 := 0#32
  let c1_i32_71 : BitVec 32 := 1#32
  let arg24 : BitVec 32 := Scf.iv c0_i32_69 c1_i32_71 k1_t9
  let c16_i32 : BitVec 32 := 16#32
  let v52 : BitVec 32 := Scalar.muli arg24 c16_i32
  let v53 : BitVec 32 := v52
  let v54 : Index := Scalar.indexCast v53
  ![v54.toNat]

def k1_chk35 (v57 : IVec S16 32) (v60 : IVec S16 32) : Prop :=
  (∀ a x, ((![v60, v57] : Fin 2 → IVec S16 32) a x).toNat < S832x16.size a)
theorem k1_idx35_inb : ∀ (v57 : IVec S16 32) (v60 : IVec S16 32) (k1_hw35 : k1_chk35 v57 v60), ∀ a x, ((![v60, v57] : Fin 2 → IVec S16 32) a x).toNat < S832x16.size a := fun v57 v60 k1_hw35 => k1_hw35

def k1_chk36 (v66 : IVec S16 32) (v70 : IVec S16 32) : Prop :=
  (∀ a x, ((![v66, v70] : Fin 2 → IVec S16 32) a x).toNat < S32x512.size a)
theorem k1_idx36_inb : ∀ (v66 : IVec S16 32) (v70 : IVec S16 32) (k1_hw36 : k1_chk36 v66 v70), ∀ a x, ((![v66, v70] : Fin 2 → IVec S16 32) a x).toNat < S32x512.size a := fun v66 v70 k1_hw36 => k1_hw36
@[reducible] def k1_t10_loop : Scf.Loop 32 :=
  let c0_i32_74 : BitVec 32 := 0#32
  let c32_i32_75 : BitVec 32 := 32#32
  let v47 : BitVec 32 := Scalar.addi c0_i32_74 c32_i32_75
  let c1_i32_76 : BitVec 32 := 1#32
  ⟨c0_i32_74, v47, c1_i32_76⟩
def k1_off43 (k1_t10 : Fin k1_t10_loop.trips) (c0_i32_84 : BitVec 32) : Fin 2 → Nat :=
  let c0_i32_74 : BitVec 32 := 0#32
  let c1_i32_76 : BitVec 32 := 1#32
  let arg24 : BitVec 32 := Scf.iv c0_i32_74 c1_i32_76 k1_t10
  let c26_i32 : BitVec 32 := 26#32
  let v52 : BitVec 32 := Scalar.muli arg24 c26_i32
  let v53 : BitVec 32 := Scalar.addi v52 c0_i32_84
  let v54 : Index := Scalar.indexCast v53
  let c0 : Index := 0#32
  ![v54.toNat, 0]
def k1_off44 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v56 : Index := Scalar.indexCast arg24
  let c0_85 : Index := 0#32
  ![v56.toNat, 0]
def k1_off45 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v62 : Index := Scalar.indexCast arg24
  let c16 : Index := 16#32
  ![v62.toNat, 16]
def k1_off46 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v68 : Index := Scalar.indexCast arg24
  let c32 : Index := 32#32
  ![v68.toNat, 32]
def k1_off47 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v74 : Index := Scalar.indexCast arg24
  let c48 : Index := 48#32
  ![v74.toNat, 48]
def k1_off48 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v80 : Index := Scalar.indexCast arg24
  let c64 : Index := 64#32
  ![v80.toNat, 64]
def k1_off49 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v86 : Index := Scalar.indexCast arg24
  let c80 : Index := 80#32
  ![v86.toNat, 80]
def k1_off50 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v92 : Index := Scalar.indexCast arg24
  let c96 : Index := 96#32
  ![v92.toNat, 96]
def k1_off51 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v98 : Index := Scalar.indexCast arg24
  let c112 : Index := 112#32
  ![v98.toNat, 112]
def k1_off52 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v104 : Index := Scalar.indexCast arg24
  let c128 : Index := 128#32
  ![v104.toNat, 128]
def k1_off53 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v110 : Index := Scalar.indexCast arg24
  let c144 : Index := 144#32
  ![v110.toNat, 144]
def k1_off54 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v116 : Index := Scalar.indexCast arg24
  let c160 : Index := 160#32
  ![v116.toNat, 160]
def k1_off55 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v122 : Index := Scalar.indexCast arg24
  let c176 : Index := 176#32
  ![v122.toNat, 176]
def k1_off56 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v128 : Index := Scalar.indexCast arg24
  let c192 : Index := 192#32
  ![v128.toNat, 192]
def k1_off57 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v134 : Index := Scalar.indexCast arg24
  let c208 : Index := 208#32
  ![v134.toNat, 208]
def k1_off58 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v140 : Index := Scalar.indexCast arg24
  let c224 : Index := 224#32
  ![v140.toNat, 224]
def k1_off59 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v146 : Index := Scalar.indexCast arg24
  let c240 : Index := 240#32
  ![v146.toNat, 240]
def k1_off60 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v152 : Index := Scalar.indexCast arg24
  let c256 : Index := 256#32
  ![v152.toNat, 256]
def k1_off61 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v158 : Index := Scalar.indexCast arg24
  let c272 : Index := 272#32
  ![v158.toNat, 272]
def k1_off62 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v164 : Index := Scalar.indexCast arg24
  let c288 : Index := 288#32
  ![v164.toNat, 288]
def k1_off63 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v170 : Index := Scalar.indexCast arg24
  let c304 : Index := 304#32
  ![v170.toNat, 304]
def k1_off64 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v176 : Index := Scalar.indexCast arg24
  let c320 : Index := 320#32
  ![v176.toNat, 320]
def k1_off65 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v182 : Index := Scalar.indexCast arg24
  let c336 : Index := 336#32
  ![v182.toNat, 336]
def k1_off66 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v188 : Index := Scalar.indexCast arg24
  let c352 : Index := 352#32
  ![v188.toNat, 352]
def k1_off67 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v194 : Index := Scalar.indexCast arg24
  let c368 : Index := 368#32
  ![v194.toNat, 368]
def k1_off68 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v200 : Index := Scalar.indexCast arg24
  let c384 : Index := 384#32
  ![v200.toNat, 384]
def k1_off69 (k1_t10 : Fin k1_t10_loop.trips) : Fin 2 → Nat :=
  let c0_i32_74 : BitVec 32 := 0#32
  let c1_i32_76 : BitVec 32 := 1#32
  let arg24 : BitVec 32 := Scf.iv c0_i32_74 c1_i32_76 k1_t10
  let v206 : Index := Scalar.indexCast arg24
  let c400 : Index := 400#32
  ![v206.toNat, 400]
@[reducible] def k1_t11_loop : Scf.Loop 32 :=
  let c0_i32_79 : BitVec 32 := 0#32
  let c52_i32_80 : BitVec 32 := 52#32
  let v48 : BitVec 32 := Scalar.addi c0_i32_79 c52_i32_80
  let c1_i32_81 : BitVec 32 := 1#32
  ⟨c0_i32_79, v48, c1_i32_81⟩
def k1_mult13 (k1_t11 : Fin k1_t11_loop.trips) : BitVec 32 :=
  let c0_i32_79 : BitVec 32 := 0#32
  let c1_i32_81 : BitVec 32 := 1#32
  let arg24 : BitVec 32 := Scf.iv c0_i32_79 c1_i32_81 k1_t11
  let c16_i32 : BitVec 32 := 16#32
  let v52 : BitVec 32 := Scalar.muli arg24 c16_i32
  v52
def k1_off70 (k1_t11 : Fin k1_t11_loop.trips) : Fin 1 → Nat :=
  let c0_i32_79 : BitVec 32 := 0#32
  let c1_i32_81 : BitVec 32 := 1#32
  let arg24 : BitVec 32 := Scf.iv c0_i32_79 c1_i32_81 k1_t11
  let c16_i32 : BitVec 32 := 16#32
  let v52 : BitVec 32 := Scalar.muli arg24 c16_i32
  let v53 : BitVec 32 := v52
  let v54 : Index := Scalar.indexCast v53
  ![v54.toNat]
def k1_cond2 (v64 : BitVec 32) : BitVec 1 :=
  let c0_i32_84 : BitVec 32 := 0#32
  let v65 : BitVec 1 := Scalar.cmpi .sgt v64 c0_i32_84
  let v66 : BitVec 32 := Scalar.extui v65
  let c0_i32_85 : BitVec 32 := 0#32
  let v67 : BitVec 1 := Scalar.cmpi .ne v66 c0_i32_85
  v67

def k1_chk37 (v64 : BitVec 32) (v82 : IVec S16 32) (v83 : IVec S16 32) : Prop :=
  (∀ (k1_h2 : k1_cond2 v64 = 1#1), ∀ a x, ((![v82, v83] : Fin 2 → IVec S16 32) a x).toNat < S64x16.size a)
theorem k1_idx37_inb : ∀ (v64 : BitVec 32) (v82 : IVec S16 32) (v83 : IVec S16 32) (k1_hw37 : k1_chk37 v64 v82 v83), ∀ (k1_h2 : k1_cond2 v64 = 1#1), ∀ a x, ((![v82, v83] : Fin 2 → IVec S16 32) a x).toNat < S64x16.size a := fun v64 v82 v83 k1_hw37 k1_h2 => k1_hw37 k1_h2

def k1_chk38 (v64 : BitVec 32) (v72 : IVec S16 32) (v86 : IVec S16 32) : Prop :=
  (∀ (k1_h2 : k1_cond2 v64 = 1#1), ∀ a x, ((![v72, v86] : Fin 2 → IVec S16 32) a x).toNat < S32x512.size a)
theorem k1_idx38_inb : ∀ (v64 : BitVec 32) (v72 : IVec S16 32) (v86 : IVec S16 32) (k1_hw38 : k1_chk38 v64 v72 v86), ∀ (k1_h2 : k1_cond2 v64 = 1#1), ∀ a x, ((![v72, v86] : Fin 2 → IVec S16 32) a x).toNat < S32x512.size a := fun v64 v72 v86 k1_hw38 k1_h2 => k1_hw38 k1_h2

def k1_chk39 (v64 : BitVec 32) (v82 : IVec S16 32) (v87 : IVec S16 32) : Prop :=
  (∀ (k1_h2 : k1_cond2 v64 = 1#1), ∀ a x, ((![v82, v87] : Fin 2 → IVec S16 32) a x).toNat < S64x16.size a)
theorem k1_idx39_inb : ∀ (v64 : BitVec 32) (v82 : IVec S16 32) (v87 : IVec S16 32) (k1_hw39 : k1_chk39 v64 v82 v87), ∀ (k1_h2 : k1_cond2 v64 = 1#1), ∀ a x, ((![v82, v87] : Fin 2 → IVec S16 32) a x).toNat < S64x16.size a := fun v64 v82 v87 k1_hw39 k1_h2 => k1_hw39 k1_h2

def k1_chk40 (v64 : BitVec 32) (v72 : IVec S16 32) (v90 : IVec S16 32) : Prop :=
  (∀ (k1_h2 : k1_cond2 v64 = 1#1), ∀ a x, ((![v72, v90] : Fin 2 → IVec S16 32) a x).toNat < S32x512.size a)
theorem k1_idx40_inb : ∀ (v64 : BitVec 32) (v72 : IVec S16 32) (v90 : IVec S16 32) (k1_hw40 : k1_chk40 v64 v72 v90), ∀ (k1_h2 : k1_cond2 v64 = 1#1), ∀ a x, ((![v72, v90] : Fin 2 → IVec S16 32) a x).toNat < S32x512.size a := fun v64 v72 v90 k1_hw40 k1_h2 => k1_hw40 k1_h2

def k1_chk41 (v64 : BitVec 32) (v82 : IVec S16 32) (v91 : IVec S16 32) : Prop :=
  (∀ (k1_h2 : k1_cond2 v64 = 1#1), ∀ a x, ((![v82, v91] : Fin 2 → IVec S16 32) a x).toNat < S64x16.size a)
theorem k1_idx41_inb : ∀ (v64 : BitVec 32) (v82 : IVec S16 32) (v91 : IVec S16 32) (k1_hw41 : k1_chk41 v64 v82 v91), ∀ (k1_h2 : k1_cond2 v64 = 1#1), ∀ a x, ((![v82, v91] : Fin 2 → IVec S16 32) a x).toNat < S64x16.size a := fun v64 v82 v91 k1_hw41 k1_h2 => k1_hw41 k1_h2

def k1_chk42 (v64 : BitVec 32) (v72 : IVec S16 32) (v94 : IVec S16 32) : Prop :=
  (∀ (k1_h2 : k1_cond2 v64 = 1#1), ∀ a x, ((![v72, v94] : Fin 2 → IVec S16 32) a x).toNat < S32x512.size a)
theorem k1_idx42_inb : ∀ (v64 : BitVec 32) (v72 : IVec S16 32) (v94 : IVec S16 32) (k1_hw42 : k1_chk42 v64 v72 v94), ∀ (k1_h2 : k1_cond2 v64 = 1#1), ∀ a x, ((![v72, v94] : Fin 2 → IVec S16 32) a x).toNat < S32x512.size a := fun v64 v72 v94 k1_hw42 k1_h2 => k1_hw42 k1_h2

def k1_chk43 (v64 : BitVec 32) (v82 : IVec S16 32) (v95 : IVec S16 32) : Prop :=
  (∀ (k1_h2 : k1_cond2 v64 = 1#1), ∀ a x, ((![v82, v95] : Fin 2 → IVec S16 32) a x).toNat < S64x16.size a)
theorem k1_idx43_inb : ∀ (v64 : BitVec 32) (v82 : IVec S16 32) (v95 : IVec S16 32) (k1_hw43 : k1_chk43 v64 v82 v95), ∀ (k1_h2 : k1_cond2 v64 = 1#1), ∀ a x, ((![v82, v95] : Fin 2 → IVec S16 32) a x).toNat < S64x16.size a := fun v64 v82 v95 k1_hw43 k1_h2 => k1_hw43 k1_h2

def k1_chk44 (v64 : BitVec 32) (v72 : IVec S16 32) (v98 : IVec S16 32) : Prop :=
  (∀ (k1_h2 : k1_cond2 v64 = 1#1), ∀ a x, ((![v72, v98] : Fin 2 → IVec S16 32) a x).toNat < S32x512.size a)
theorem k1_idx44_inb : ∀ (v64 : BitVec 32) (v72 : IVec S16 32) (v98 : IVec S16 32) (k1_hw44 : k1_chk44 v64 v72 v98), ∀ (k1_h2 : k1_cond2 v64 = 1#1), ∀ a x, ((![v72, v98] : Fin 2 → IVec S16 32) a x).toNat < S32x512.size a := fun v64 v72 v98 k1_hw44 k1_h2 => k1_hw44 k1_h2

def k1_chk45 (v64 : BitVec 32) (v82 : IVec S16 32) (v99 : IVec S16 32) : Prop :=
  (∀ (k1_h2 : k1_cond2 v64 = 1#1), ∀ a x, ((![v82, v99] : Fin 2 → IVec S16 32) a x).toNat < S64x16.size a)
theorem k1_idx45_inb : ∀ (v64 : BitVec 32) (v82 : IVec S16 32) (v99 : IVec S16 32) (k1_hw45 : k1_chk45 v64 v82 v99), ∀ (k1_h2 : k1_cond2 v64 = 1#1), ∀ a x, ((![v82, v99] : Fin 2 → IVec S16 32) a x).toNat < S64x16.size a := fun v64 v82 v99 k1_hw45 k1_h2 => k1_hw45 k1_h2

def k1_chk46 (v64 : BitVec 32) (v72 : IVec S16 32) (v102 : IVec S16 32) : Prop :=
  (∀ (k1_h2 : k1_cond2 v64 = 1#1), ∀ a x, ((![v72, v102] : Fin 2 → IVec S16 32) a x).toNat < S32x512.size a)
theorem k1_idx46_inb : ∀ (v64 : BitVec 32) (v72 : IVec S16 32) (v102 : IVec S16 32) (k1_hw46 : k1_chk46 v64 v72 v102), ∀ (k1_h2 : k1_cond2 v64 = 1#1), ∀ a x, ((![v72, v102] : Fin 2 → IVec S16 32) a x).toNat < S32x512.size a := fun v64 v72 v102 k1_hw46 k1_h2 => k1_hw46 k1_h2

def k1_chk47 (v64 : BitVec 32) (v82 : IVec S16 32) (v103 : IVec S16 32) : Prop :=
  (∀ (k1_h2 : k1_cond2 v64 = 1#1), ∀ a x, ((![v82, v103] : Fin 2 → IVec S16 32) a x).toNat < S64x16.size a)
theorem k1_idx47_inb : ∀ (v64 : BitVec 32) (v82 : IVec S16 32) (v103 : IVec S16 32) (k1_hw47 : k1_chk47 v64 v82 v103), ∀ (k1_h2 : k1_cond2 v64 = 1#1), ∀ a x, ((![v82, v103] : Fin 2 → IVec S16 32) a x).toNat < S64x16.size a := fun v64 v82 v103 k1_hw47 k1_h2 => k1_hw47 k1_h2

def k1_chk48 (v64 : BitVec 32) (v72 : IVec S16 32) (v106 : IVec S16 32) : Prop :=
  (∀ (k1_h2 : k1_cond2 v64 = 1#1), ∀ a x, ((![v72, v106] : Fin 2 → IVec S16 32) a x).toNat < S32x512.size a)
theorem k1_idx48_inb : ∀ (v64 : BitVec 32) (v72 : IVec S16 32) (v106 : IVec S16 32) (k1_hw48 : k1_chk48 v64 v72 v106), ∀ (k1_h2 : k1_cond2 v64 = 1#1), ∀ a x, ((![v72, v106] : Fin 2 → IVec S16 32) a x).toNat < S32x512.size a := fun v64 v72 v106 k1_hw48 k1_h2 => k1_hw48 k1_h2

def k1_chk49 (v64 : BitVec 32) (v82 : IVec S16 32) (v107 : IVec S16 32) : Prop :=
  (∀ (k1_h2 : k1_cond2 v64 = 1#1), ∀ a x, ((![v82, v107] : Fin 2 → IVec S16 32) a x).toNat < S64x16.size a)
theorem k1_idx49_inb : ∀ (v64 : BitVec 32) (v82 : IVec S16 32) (v107 : IVec S16 32) (k1_hw49 : k1_chk49 v64 v82 v107), ∀ (k1_h2 : k1_cond2 v64 = 1#1), ∀ a x, ((![v82, v107] : Fin 2 → IVec S16 32) a x).toNat < S64x16.size a := fun v64 v82 v107 k1_hw49 k1_h2 => k1_hw49 k1_h2

def k1_chk50 (v64 : BitVec 32) (v72 : IVec S16 32) (v110 : IVec S16 32) : Prop :=
  (∀ (k1_h2 : k1_cond2 v64 = 1#1), ∀ a x, ((![v72, v110] : Fin 2 → IVec S16 32) a x).toNat < S32x512.size a)
theorem k1_idx50_inb : ∀ (v64 : BitVec 32) (v72 : IVec S16 32) (v110 : IVec S16 32) (k1_hw50 : k1_chk50 v64 v72 v110), ∀ (k1_h2 : k1_cond2 v64 = 1#1), ∀ a x, ((![v72, v110] : Fin 2 → IVec S16 32) a x).toNat < S32x512.size a := fun v64 v72 v110 k1_hw50 k1_h2 => k1_hw50 k1_h2

def k1_chk51 (v64 : BitVec 32) (v82 : IVec S16 32) (v111 : IVec S16 32) : Prop :=
  (∀ (k1_h2 : k1_cond2 v64 = 1#1), ∀ a x, ((![v82, v111] : Fin 2 → IVec S16 32) a x).toNat < S64x16.size a)
theorem k1_idx51_inb : ∀ (v64 : BitVec 32) (v82 : IVec S16 32) (v111 : IVec S16 32) (k1_hw51 : k1_chk51 v64 v82 v111), ∀ (k1_h2 : k1_cond2 v64 = 1#1), ∀ a x, ((![v82, v111] : Fin 2 → IVec S16 32) a x).toNat < S64x16.size a := fun v64 v82 v111 k1_hw51 k1_h2 => k1_hw51 k1_h2

def k1_chk52 (v64 : BitVec 32) (v72 : IVec S16 32) (v114 : IVec S16 32) : Prop :=
  (∀ (k1_h2 : k1_cond2 v64 = 1#1), ∀ a x, ((![v72, v114] : Fin 2 → IVec S16 32) a x).toNat < S32x512.size a)
theorem k1_idx52_inb : ∀ (v64 : BitVec 32) (v72 : IVec S16 32) (v114 : IVec S16 32) (k1_hw52 : k1_chk52 v64 v72 v114), ∀ (k1_h2 : k1_cond2 v64 = 1#1), ∀ a x, ((![v72, v114] : Fin 2 → IVec S16 32) a x).toNat < S32x512.size a := fun v64 v72 v114 k1_hw52 k1_h2 => k1_hw52 k1_h2

def k1_chk53 (v64 : BitVec 32) (v82 : IVec S16 32) (v115 : IVec S16 32) : Prop :=
  (∀ (k1_h2 : k1_cond2 v64 = 1#1), ∀ a x, ((![v82, v115] : Fin 2 → IVec S16 32) a x).toNat < S64x16.size a)
theorem k1_idx53_inb : ∀ (v64 : BitVec 32) (v82 : IVec S16 32) (v115 : IVec S16 32) (k1_hw53 : k1_chk53 v64 v82 v115), ∀ (k1_h2 : k1_cond2 v64 = 1#1), ∀ a x, ((![v82, v115] : Fin 2 → IVec S16 32) a x).toNat < S64x16.size a := fun v64 v82 v115 k1_hw53 k1_h2 => k1_hw53 k1_h2

def k1_chk54 (v64 : BitVec 32) (v72 : IVec S16 32) (v118 : IVec S16 32) : Prop :=
  (∀ (k1_h2 : k1_cond2 v64 = 1#1), ∀ a x, ((![v72, v118] : Fin 2 → IVec S16 32) a x).toNat < S32x512.size a)
theorem k1_idx54_inb : ∀ (v64 : BitVec 32) (v72 : IVec S16 32) (v118 : IVec S16 32) (k1_hw54 : k1_chk54 v64 v72 v118), ∀ (k1_h2 : k1_cond2 v64 = 1#1), ∀ a x, ((![v72, v118] : Fin 2 → IVec S16 32) a x).toNat < S32x512.size a := fun v64 v72 v118 k1_hw54 k1_h2 => k1_hw54 k1_h2

def k1_chk55 (v64 : BitVec 32) (v82 : IVec S16 32) (v119 : IVec S16 32) : Prop :=
  (∀ (k1_h2 : k1_cond2 v64 = 1#1), ∀ a x, ((![v82, v119] : Fin 2 → IVec S16 32) a x).toNat < S64x16.size a)
theorem k1_idx55_inb : ∀ (v64 : BitVec 32) (v82 : IVec S16 32) (v119 : IVec S16 32) (k1_hw55 : k1_chk55 v64 v82 v119), ∀ (k1_h2 : k1_cond2 v64 = 1#1), ∀ a x, ((![v82, v119] : Fin 2 → IVec S16 32) a x).toNat < S64x16.size a := fun v64 v82 v119 k1_hw55 k1_h2 => k1_hw55 k1_h2

def k1_chk56 (v64 : BitVec 32) (v72 : IVec S16 32) (v122 : IVec S16 32) : Prop :=
  (∀ (k1_h2 : k1_cond2 v64 = 1#1), ∀ a x, ((![v72, v122] : Fin 2 → IVec S16 32) a x).toNat < S32x512.size a)
theorem k1_idx56_inb : ∀ (v64 : BitVec 32) (v72 : IVec S16 32) (v122 : IVec S16 32) (k1_hw56 : k1_chk56 v64 v72 v122), ∀ (k1_h2 : k1_cond2 v64 = 1#1), ∀ a x, ((![v72, v122] : Fin 2 → IVec S16 32) a x).toNat < S32x512.size a := fun v64 v72 v122 k1_hw56 k1_h2 => k1_hw56 k1_h2

def k1_chk57 (v64 : BitVec 32) (v82 : IVec S16 32) (v123 : IVec S16 32) : Prop :=
  (∀ (k1_h2 : k1_cond2 v64 = 1#1), ∀ a x, ((![v82, v123] : Fin 2 → IVec S16 32) a x).toNat < S64x16.size a)
theorem k1_idx57_inb : ∀ (v64 : BitVec 32) (v82 : IVec S16 32) (v123 : IVec S16 32) (k1_hw57 : k1_chk57 v64 v82 v123), ∀ (k1_h2 : k1_cond2 v64 = 1#1), ∀ a x, ((![v82, v123] : Fin 2 → IVec S16 32) a x).toNat < S64x16.size a := fun v64 v82 v123 k1_hw57 k1_h2 => k1_hw57 k1_h2

def k1_chk58 (v64 : BitVec 32) (v72 : IVec S16 32) (v126 : IVec S16 32) : Prop :=
  (∀ (k1_h2 : k1_cond2 v64 = 1#1), ∀ a x, ((![v72, v126] : Fin 2 → IVec S16 32) a x).toNat < S32x512.size a)
theorem k1_idx58_inb : ∀ (v64 : BitVec 32) (v72 : IVec S16 32) (v126 : IVec S16 32) (k1_hw58 : k1_chk58 v64 v72 v126), ∀ (k1_h2 : k1_cond2 v64 = 1#1), ∀ a x, ((![v72, v126] : Fin 2 → IVec S16 32) a x).toNat < S32x512.size a := fun v64 v72 v126 k1_hw58 k1_h2 => k1_hw58 k1_h2

def k1_chk59 (v64 : BitVec 32) (v82 : IVec S16 32) (v127 : IVec S16 32) : Prop :=
  (∀ (k1_h2 : k1_cond2 v64 = 1#1), ∀ a x, ((![v82, v127] : Fin 2 → IVec S16 32) a x).toNat < S64x16.size a)
theorem k1_idx59_inb : ∀ (v64 : BitVec 32) (v82 : IVec S16 32) (v127 : IVec S16 32) (k1_hw59 : k1_chk59 v64 v82 v127), ∀ (k1_h2 : k1_cond2 v64 = 1#1), ∀ a x, ((![v82, v127] : Fin 2 → IVec S16 32) a x).toNat < S64x16.size a := fun v64 v82 v127 k1_hw59 k1_h2 => k1_hw59 k1_h2

def k1_chk60 (v64 : BitVec 32) (v72 : IVec S16 32) (v130 : IVec S16 32) : Prop :=
  (∀ (k1_h2 : k1_cond2 v64 = 1#1), ∀ a x, ((![v72, v130] : Fin 2 → IVec S16 32) a x).toNat < S32x512.size a)
theorem k1_idx60_inb : ∀ (v64 : BitVec 32) (v72 : IVec S16 32) (v130 : IVec S16 32) (k1_hw60 : k1_chk60 v64 v72 v130), ∀ (k1_h2 : k1_cond2 v64 = 1#1), ∀ a x, ((![v72, v130] : Fin 2 → IVec S16 32) a x).toNat < S32x512.size a := fun v64 v72 v130 k1_hw60 k1_h2 => k1_hw60 k1_h2

def k1_chk61 (v64 : BitVec 32) (v82 : IVec S16 32) (v131 : IVec S16 32) : Prop :=
  (∀ (k1_h2 : k1_cond2 v64 = 1#1), ∀ a x, ((![v82, v131] : Fin 2 → IVec S16 32) a x).toNat < S64x16.size a)
theorem k1_idx61_inb : ∀ (v64 : BitVec 32) (v82 : IVec S16 32) (v131 : IVec S16 32) (k1_hw61 : k1_chk61 v64 v82 v131), ∀ (k1_h2 : k1_cond2 v64 = 1#1), ∀ a x, ((![v82, v131] : Fin 2 → IVec S16 32) a x).toNat < S64x16.size a := fun v64 v82 v131 k1_hw61 k1_h2 => k1_hw61 k1_h2

def k1_chk62 (v64 : BitVec 32) (v72 : IVec S16 32) (v134 : IVec S16 32) : Prop :=
  (∀ (k1_h2 : k1_cond2 v64 = 1#1), ∀ a x, ((![v72, v134] : Fin 2 → IVec S16 32) a x).toNat < S32x512.size a)
theorem k1_idx62_inb : ∀ (v64 : BitVec 32) (v72 : IVec S16 32) (v134 : IVec S16 32) (k1_hw62 : k1_chk62 v64 v72 v134), ∀ (k1_h2 : k1_cond2 v64 = 1#1), ∀ a x, ((![v72, v134] : Fin 2 → IVec S16 32) a x).toNat < S32x512.size a := fun v64 v72 v134 k1_hw62 k1_h2 => k1_hw62 k1_h2

def k1_chk63 (v64 : BitVec 32) (v82 : IVec S16 32) (v135 : IVec S16 32) : Prop :=
  (∀ (k1_h2 : k1_cond2 v64 = 1#1), ∀ a x, ((![v82, v135] : Fin 2 → IVec S16 32) a x).toNat < S64x16.size a)
theorem k1_idx63_inb : ∀ (v64 : BitVec 32) (v82 : IVec S16 32) (v135 : IVec S16 32) (k1_hw63 : k1_chk63 v64 v82 v135), ∀ (k1_h2 : k1_cond2 v64 = 1#1), ∀ a x, ((![v82, v135] : Fin 2 → IVec S16 32) a x).toNat < S64x16.size a := fun v64 v82 v135 k1_hw63 k1_h2 => k1_hw63 k1_h2

def k1_chk64 (v64 : BitVec 32) (v72 : IVec S16 32) (v138 : IVec S16 32) : Prop :=
  (∀ (k1_h2 : k1_cond2 v64 = 1#1), ∀ a x, ((![v72, v138] : Fin 2 → IVec S16 32) a x).toNat < S32x512.size a)
theorem k1_idx64_inb : ∀ (v64 : BitVec 32) (v72 : IVec S16 32) (v138 : IVec S16 32) (k1_hw64 : k1_chk64 v64 v72 v138), ∀ (k1_h2 : k1_cond2 v64 = 1#1), ∀ a x, ((![v72, v138] : Fin 2 → IVec S16 32) a x).toNat < S32x512.size a := fun v64 v72 v138 k1_hw64 k1_h2 => k1_hw64 k1_h2

def k1_chk65 (v64 : BitVec 32) (v82 : IVec S16 32) (v139 : IVec S16 32) : Prop :=
  (∀ (k1_h2 : k1_cond2 v64 = 1#1), ∀ a x, ((![v82, v139] : Fin 2 → IVec S16 32) a x).toNat < S64x16.size a)
theorem k1_idx65_inb : ∀ (v64 : BitVec 32) (v82 : IVec S16 32) (v139 : IVec S16 32) (k1_hw65 : k1_chk65 v64 v82 v139), ∀ (k1_h2 : k1_cond2 v64 = 1#1), ∀ a x, ((![v82, v139] : Fin 2 → IVec S16 32) a x).toNat < S64x16.size a := fun v64 v82 v139 k1_hw65 k1_h2 => k1_hw65 k1_h2

def k1_chk66 (v64 : BitVec 32) (v72 : IVec S16 32) (v142 : IVec S16 32) : Prop :=
  (∀ (k1_h2 : k1_cond2 v64 = 1#1), ∀ a x, ((![v72, v142] : Fin 2 → IVec S16 32) a x).toNat < S32x512.size a)
theorem k1_idx66_inb : ∀ (v64 : BitVec 32) (v72 : IVec S16 32) (v142 : IVec S16 32) (k1_hw66 : k1_chk66 v64 v72 v142), ∀ (k1_h2 : k1_cond2 v64 = 1#1), ∀ a x, ((![v72, v142] : Fin 2 → IVec S16 32) a x).toNat < S32x512.size a := fun v64 v72 v142 k1_hw66 k1_h2 => k1_hw66 k1_h2

def k1_chk67 (v64 : BitVec 32) (v82 : IVec S16 32) (v143 : IVec S16 32) : Prop :=
  (∀ (k1_h2 : k1_cond2 v64 = 1#1), ∀ a x, ((![v82, v143] : Fin 2 → IVec S16 32) a x).toNat < S64x16.size a)
theorem k1_idx67_inb : ∀ (v64 : BitVec 32) (v82 : IVec S16 32) (v143 : IVec S16 32) (k1_hw67 : k1_chk67 v64 v82 v143), ∀ (k1_h2 : k1_cond2 v64 = 1#1), ∀ a x, ((![v82, v143] : Fin 2 → IVec S16 32) a x).toNat < S64x16.size a := fun v64 v82 v143 k1_hw67 k1_h2 => k1_hw67 k1_h2

def k1_chk68 (v64 : BitVec 32) (v72 : IVec S16 32) (v146 : IVec S16 32) : Prop :=
  (∀ (k1_h2 : k1_cond2 v64 = 1#1), ∀ a x, ((![v72, v146] : Fin 2 → IVec S16 32) a x).toNat < S32x512.size a)
theorem k1_idx68_inb : ∀ (v64 : BitVec 32) (v72 : IVec S16 32) (v146 : IVec S16 32) (k1_hw68 : k1_chk68 v64 v72 v146), ∀ (k1_h2 : k1_cond2 v64 = 1#1), ∀ a x, ((![v72, v146] : Fin 2 → IVec S16 32) a x).toNat < S32x512.size a := fun v64 v72 v146 k1_hw68 k1_h2 => k1_hw68 k1_h2
def k1_mult14 (i : grid1.Coords) (k1_t3 : Fin k1_t3_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v4 : BitVec 32 := Scalar.muli v1 c512_i32
  let v5 : BitVec 32 := v4
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let c1_i32_67 : BitVec 32 := 1#32
  let v45 : BitVec 32 := Scalar.addi v18 c1_i32_67
  let c32_i32_83 : BitVec 32 := 32#32
  let v49 : BitVec 32 := Scalar.muli v45 c32_i32_83
  let v50 : BitVec 32 := Scalar.addi v5 v49
  v50
def k1_off71 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v4 : BitVec 32 := Scalar.muli v1 c512_i32
  let v5 : BitVec 32 := v4
  let c0_i32_12 : BitVec 32 := 0#32
  let c1_i32_13 : BitVec 32 := 1#32
  let arg23 : BitVec 32 := Scf.iv c0_i32_12 c1_i32_13 k1_t3
  let c2_i32_19 : BitVec 32 := 2#32
  let v18 : BitVec 32 := Scalar.muli arg23 c2_i32_19
  let c1_i32_67 : BitVec 32 := 1#32
  let v45 : BitVec 32 := Scalar.addi v18 c1_i32_67
  let c32_i32_83 : BitVec 32 := 32#32
  let v49 : BitVec 32 := Scalar.muli v45 c32_i32_83
  let v50 : BitVec 32 := Scalar.addi v5 v49
  let v51 : BitVec 32 := v50
  let c0_i32_84_r6 : BitVec 32 := 0#32
  ![v51.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1024x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩
abbrev S16384x26x16 : Shape := ⟨3, ![16384, 26, 16]⟩
abbrev S16384x16 : Shape := ⟨2, ![16384, 16]⟩
abbrev S16384 : Shape := ⟨1, ![16384]⟩
abbrev S16384x416 : Shape := ⟨2, ![16384, 416]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S2600000x16, .f32⟩
  | .hbm, ⟨2, _⟩ => ⟨S2600000x1, .f32⟩
  | .hbm, ⟨3, _⟩ => ⟨S1, .f32⟩
  | .hbm, ⟨4, _⟩ => ⟨S416x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S16384x26, .i32⟩
  | .hbm, ⟨13, _⟩ => ⟨S16384x26, .i32⟩
  | .hbm, ⟨14, _⟩ => ⟨S_, .i32⟩
  | .hbm, ⟨15, _⟩ => ⟨S16384x26, .i32⟩
  | .hbm, ⟨16, _⟩ => ⟨S16384x26, .i1⟩
  | .hbm, ⟨17, _⟩ => ⟨S_, .i32⟩
  | .hbm, ⟨18, _⟩ => ⟨S16384x26, .i32⟩
  | .hbm, ⟨19, _⟩ => ⟨S16384x26, .i32⟩
  | .hbm, ⟨20, _⟩ => ⟨S16384x26, .i32⟩
  | .hbm, ⟨21, _⟩ => ⟨S16384x26x1, .i32⟩
  | .hbm, ⟨22, _⟩ => ⟨S1, .i32⟩
  | .hbm, ⟨23, _⟩ => ⟨S_, .i32⟩
  | .hbm, ⟨24, _⟩ => ⟨S16384x26x1, .i32⟩
  | .hbm, ⟨25, _⟩ => ⟨S16384x26x1, .i1⟩
  | .hbm, ⟨26, _⟩ => ⟨S1x1x1, .i32⟩
  | .hbm, ⟨27, _⟩ => ⟨S16384x26x1, .i32⟩
  | .hbm, ⟨28, _⟩ => ⟨S16384x26x1, .i1⟩
  | .hbm, ⟨29, _⟩ => ⟨S16384x26x1, .i1⟩
  | .hbm, ⟨30, _⟩ => ⟨S_, .i1⟩
  | .hbm, ⟨31, _⟩ => ⟨S16384x26, .i1⟩
  | .hbm, ⟨32, _⟩ => ⟨S16384x26x1, .f32⟩
  | .hbm, ⟨33, _⟩ => ⟨S16384x26x1, .i1⟩
  | .hbm, ⟨34, _⟩ => ⟨S_, .f32⟩
  | .hbm, ⟨35, _⟩ => ⟨S16384x26x1, .f32⟩
  | .hbm, ⟨36, _⟩ => ⟨S16384x26x1, .f32⟩
  | .hbm, ⟨37, _⟩ => ⟨S_, .f32⟩
  | .hbm, ⟨38, _⟩ => ⟨S16384x1, .f32⟩
  | .hbm, ⟨39, _⟩ => ⟨S1x1, .f32⟩
  | .hbm, ⟨40, _⟩ => ⟨S16384x1, .f32⟩
  | .hbm, ⟨41, _⟩ => ⟨S16384x1, .f32⟩
  | .hbm, ⟨42, _⟩ => ⟨S_, .i32⟩
  | .hbm, ⟨43, _⟩ => ⟨S16384x26, .i32⟩
  | .hbm, ⟨44, _⟩ => ⟨S16384x26, .i1⟩
  | .hbm, ⟨45, _⟩ => ⟨S_, .i32⟩
  | .hbm, ⟨46, _⟩ => ⟨S16384x26, .i32⟩
  | .hbm, ⟨47, _⟩ => ⟨S16384x26, .i32⟩
  | .hbm, ⟨48, _⟩ => ⟨S16384x26, .i32⟩
  | .hbm, ⟨49, _⟩ => ⟨S16384x26x1, .i32⟩
  | .hbm, ⟨50, _⟩ => ⟨S1, .i32⟩
  | .hbm, ⟨51, _⟩ => ⟨S_, .i32⟩
  | .hbm, ⟨52, _⟩ => ⟨S16384x26x1, .i32⟩
  | .hbm, ⟨53, _⟩ => ⟨S16384x26x1, .i1⟩
  | .hbm, ⟨54, _⟩ => ⟨S1x1x1, .i32⟩
  | .hbm, ⟨55, _⟩ => ⟨S16384x26x1, .i32⟩
  | .hbm, ⟨56, _⟩ => ⟨S16384x26x1, .i1⟩
  | .hbm, ⟨57, _⟩ => ⟨S16384x26x1, .i1⟩
  | .hbm, ⟨58, _⟩ => ⟨S_, .i1⟩
  | .hbm, ⟨59, _⟩ => ⟨S16384x26, .i1⟩
  | .hbm, ⟨60, _⟩ => ⟨S16384x26x16, .f32⟩
  | .hbm, ⟨61, _⟩ => ⟨S16384x26x16, .i1⟩
  | .hbm, ⟨62, _⟩ => ⟨S_, .f32⟩
  | .hbm, ⟨63, _⟩ => ⟨S16384x26x16, .f32⟩
  | .hbm, ⟨64, _⟩ => ⟨S16384x26x16, .f32⟩
  | .hbm, ⟨65, _⟩ => ⟨S_, .f32⟩
  | .hbm, ⟨66, _⟩ => ⟨S16384x16, .f32⟩
  | .hbm, ⟨67, _⟩ => ⟨S16384x16, .f32⟩
  | .hbm, ⟨68, _⟩ => ⟨S16384x26x16, .f32⟩
  | .hbm, ⟨69, _⟩ => ⟨S_, .f32⟩
  | .hbm, ⟨70, _⟩ => ⟨S16384x16, .f32⟩
  | .hbm, ⟨71, _⟩ => ⟨S16384x16, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x416, .f32⟩
  | .hbm, ⟨80, _⟩ => ⟨S16384x256, .f32⟩
  | .hbm, ⟨81, _⟩ => ⟨S1x256, .f32⟩
  | .hbm, ⟨82, _⟩ => ⟨S16384x256, .f32⟩
  | .hbm, ⟨83, _⟩ => ⟨S16384x256, .f32⟩
  | .hbm, ⟨84, _⟩ => ⟨S_, .f32⟩
  | .hbm, ⟨85, _⟩ => ⟨S16384x256, .f32⟩
  | .hbm, ⟨86, _⟩ => ⟨S16384x256, .f32⟩
  | .hbm, ⟨87, _⟩ => ⟨S16384x128, .f32⟩
  | .hbm, ⟨88, _⟩ => ⟨S1x128, .f32⟩
  | .hbm, ⟨89, _⟩ => ⟨S16384x128, .f32⟩
  | .hbm, ⟨90, _⟩ => ⟨S16384x128, .f32⟩
  | .hbm, ⟨91, _⟩ => ⟨S_, .f32⟩
  | .hbm, ⟨92, _⟩ => ⟨S16384x128, .f32⟩
  | .hbm, ⟨93, _⟩ => ⟨S16384x128, .f32⟩
  | .hbm, ⟨94, _⟩ => ⟨S16384x1, .f32⟩
  | .hbm, ⟨95, _⟩ => ⟨S1x1, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v8 : Ref sig .tc := ⟨.hbm, 64, rfl⟩
abbrev main_cst_0 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst_1 : Ref sig .tc := ⟨.hbm, 69, rfl⟩
abbrev main_v12 : Ref sig .tc := ⟨.hbm, 70, rfl⟩
abbrev main_v13 : Ref sig .tc := ⟨.hbm, 71, rfl⟩
abbrev main_cst_2 : Ref sig .tc := ⟨.hbm, 72, rfl⟩
abbrev main_v14 : Ref sig .tc := ⟨.hbm, 73, rfl⟩
abbrev main_v15 : Ref sig .tc := ⟨.hbm, 74, rfl⟩
abbrev main_cst_3 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_call2_cst : Ref sig .tc := ⟨.hbm, 84, rfl⟩
abbrev main_call2_v0 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_call3_cst : Ref sig .tc := ⟨.hbm, 91, rfl⟩
abbrev main_call3_v0 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩

abbrev nD : Nat := 1
abbrev τ : Topo := Topo.v7x

variable {F : FTy → Type} [FloatOps F]
-- ==== Proof.SameProgram.lean ====
/- The program as printed and its ideal printing are the same program, for any float values. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxRecDepth 100000
set_option maxHeartbeats 0

theorem layout_same : @Cert.Kernel.cc0_k F _ _ = @Cert.KernelIdeal.cc0_k F _ _ := rfl

theorem body_same : @Cert.Kernel.cc1_k F _ _ = @Cert.KernelIdeal.cc1_k F _ _ := rfl

theorem layers_same : @Cert.Kernel.cc2__tc_body F _ _ = @Cert.KernelIdeal.cc2__tc_body F _ _ := rfl

theorem table_same : @Cert.Kernel.defs₀ F _ _ = @Cert.KernelIdeal.defs₀ F _ _ := by
  funext k ℓ a
  change Fin 3 at ℓ
  cases k with
  | tc => match ℓ, a with
    | 0, _ => rfl
    | 1, _ => rfl
    | 2, (t, s) =>
      unfold Cert.Kernel.defs₀ Cert.KernelIdeal.defs₀
      rw [layers_same]
      rfl
  | scScalar c => match ℓ, a with
    | 0, _ => rfl
    | 1, _ => rfl
    | 2, (t, s) => rfl
  | scVector c s => match ℓ, a with
    | 0, _ =>
      unfold Cert.Kernel.defs₀ Cert.KernelIdeal.defs₀
      rw [layout_same]
      rfl
    | 1, _ =>
      unfold Cert.Kernel.defs₀ Cert.KernelIdeal.defs₀
      rw [body_same]
      rfl
    | 2, (t, s) => rfl

theorem defs_same : @Cert.Kernel.defs F _ _ = @Cert.KernelIdeal.defs F _ _ :=
  congrArg (fun D => Cert.KernelIdeal.sc.defs (Pipeline.defs Cert.KernelIdeal.pcfgs D)) table_same

theorem main_same : (Cert.Kernel.main (F := F)) = Cert.KernelIdeal.main (F := F) := rfl

theorem threads_same : (Cert.Kernel.threads (F := F)) = Cert.KernelIdeal.threads (F := F) :=
  congrArg (fun m => Cert.KernelIdeal.sc.threads m) main_same

/-- A run of the one is a run of the other. -/
theorem run_same (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (Cert.KernelIdeal.threads (F := F)) s Q) :
    θ_run (Cert.Kernel.defs (F := F)) (Cert.Kernel.threads (F := F)) s Q := by
  rw [← defs_same, ← threads_same] at h
  exact h

end Cert.Proof

end
-- ==== Proof.Step.lean ====
/- What one load, one store, one indexed load and one indexed store of a vector subcore do to a buffer held whole, its
   contents a plain function of the buffer's indices (`Own`); and what an indexed store leaves (`storeIdx_eq`). -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.WriteMode
public import proofs.«01_k».proof.Proof.Gen.KernelIdeal
public import proofs.«01_k».proof.Proof.Gen.KernelIdeal.Skeleton
public import proofs.«01_k».proof.Proof.Gen.Pre_in_vocab

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the staging cells' rounds library, the write mode, the transfers' counters -/

abbrev UH : Type := URounds (GSem nD τ sig) ℕ
abbrev UP : Type := URounds (GSem nD τ sig) Unit
/-- The bookkeeping of arrays that several subcores write with the same values. -/
abbrev UW (F : FTy → Type) : Type := WmRA nD τ sig (Elt F)
abbrev UU (F : FTy → Type) : Type := UH × (UP × (UW F × Counters))

local notation "𝕄" => MT nD τ sig (HIx 2) (Elt F) ℕ (UU F) ℕ

abbrev EH : Emb UH (MT nD τ sig (HIx 2) (Elt F) ℕ (UU F) ℕ) := embL
/-- The staging cells' rounds library, as part of the second of the pair. -/
abbrev EP : Emb UP (MT nD τ sig (HIx 2) (Elt F) ℕ (UU F) ℕ) := (Emb.inl : Emb UP (UP × (UW F × Counters))).trans embR

instance : (EP : Emb UP (MT nD τ sig (HIx 2) (Elt F) ℕ (UU F) ℕ)).LandsIn upEmb := by unfold EP; infer_instance

/-! ## A buffer held whole -/

variable [FloatOps F]

/-- The memref's elements, held outright, reading `f`. -/
def Own (c : Thread nD τ) {sp : Space} {s : Shape} {e : EltTy} (M : Memref sig c.2.kind sp s e) (f : Vec F s e) : sProp 𝕄 :=
  iprop(∃ g, ⌜M.view.read (Elt F) g = f⌝ ∗ (M.view.loc c ↦[M.view.set]{fullShare} g))

omit [FloatOps F] in
theorem own_intro {c : Thread nD τ} {sp : Space} {s : Shape} {e : EltTy} (M : Memref sig c.2.kind sp s e) (g : Buf (Elt F) (M.view.loc c)) :
    (M.view.loc c ↦[M.view.set]{fullShare} g : sProp 𝕄) ⊢ Own c M (M.view.read (Elt F) g) := by
  unfold Own
  iintro H; iexists g; isplitr
  · ipureintro; rfl
  · iexact H

omit [FloatOps F] in
theorem own_congr {c : Thread nD τ} {sp : Space} {s : Shape} {e : EltTy} {M : Memref sig c.2.kind sp s e} {f f' : Vec F s e} (h : f = f') :
    (Own c M f : sProp 𝕄) ⊢ Own c M f' := by subst h; exact .rfl

omit [FloatOps F] in
/-- A whole buffer held at `f`. -/
theorem own_whole (c : Thread nD τ) (b : Ref sig c.2.kind) (f : b.ty.Contents (Elt F)) :
    (Own c (Memref.whole b) f : sProp 𝕄) ⊣⊢ iprop(c.loc b ↦{fullShare} f) := by
  constructor
  · unfold Own
    iintro ⟨%g, %hg, H⟩
    have hg' : g = f := hg
    subst hg'
    rw [show (Memref.whole b).view.set = Finset.univ from View.set_whole b]
    iexact H
  · unfold Own
    iintro H; iexists f; isplitr
    · ipureintro; rfl
    · rw [show (Memref.whole b).view.set = Finset.univ from View.set_whole b]
      iexact H

/-- `f` with the rectangle's elements replaced by `v`. -/
def putRect {s : Shape} {α : Type} (r : Rect s) (f : s.Idx → α) (v : r.shape.Idx → α) : s.Idx → α :=
  fun p => if h : ∃ x, r.emb x = p then v h.choose else f p

theorem putRect_emb {s : Shape} {α : Type} (r : Rect s) (f : s.Idx → α) (v : r.shape.Idx → α) (x : r.shape.Idx) :
    putRect r f v (r.emb x) = v x := by
  unfold putRect
  have h : ∃ y, r.emb y = r.emb x := ⟨x, rfl⟩
  rw [dif_pos h]
  exact congrArg v (r.emb.injective h.choose_spec)

theorem putRect_off {s : Shape} {α : Type} (r : Rect s) (f : s.Idx → α) (v : r.shape.Idx → α) (p : s.Idx) (h : ∀ x, r.emb x ≠ p) :
    putRect r f v p = f p := by
  unfold putRect
  rw [dif_neg (fun ⟨x, hx⟩ => h x hx)]

/-- A function that is `v` on the rectangle and `f` off it is what `putRect` makes. -/
theorem putRect_eq {s : Shape} {α : Type} (r : Rect s) (f f' : s.Idx → α) (v : r.shape.Idx → α)
    (h₁ : ∀ x, f' (r.emb x) = v x) (h₂ : ∀ p, (∀ x, r.emb x ≠ p) → f' p = f p) : putRect r f v = f' := by
  funext p
  by_cases h : ∃ x, r.emb x = p
  · obtain ⟨x, rfl⟩ := h; rw [putRect_emb, h₁]
  · have h' : ∀ x, r.emb x ≠ p := fun x hx => h ⟨x, hx⟩
    rw [putRect_off r f v p h', h₂ p h']

section Rules

variable {Λ : Labels} {defs : Defs nD τ sig (Elt F) Λ} {𝒱' : Variants} {c : Thread nD τ} {bd : Option 𝒱'.V} {E : Set ℕ}
variable {cs : CoreSpace} {s : Shape} {e : EltTy} {α : Type}

omit [FloatOps F] in
/-- A load through a rectangle of a buffer held whole. -/
theorem step_load {Q : α → sProp 𝕄} {M : Memref sig c.2.kind cs s e} {r : Rect s} {hl : M.view.LoadsAt r.toLoadRect}
    {k : (r.shape.Idx → Elt F e) → Prog (TpuEff nD τ sig (Elt F) Λ c.2) α} {f : Vec F s e} :
    Own c M f ⊢ iprop((Own c M f -∗ wp frame (wpE defs 𝒱' c bd) E (k fun x => f (r.emb x)) Q)
      -∗ wp frame (wpE defs 𝒱' c bd) E (Prog.lift (.load M r.toLoadRect hl) >>= k) Q) := by
  unfold Own
  iintro ⟨%g, %hg, H⟩ Hk
  iapply (wp_load_rect (defs := defs) 𝒱' c bd E (m := M) (r := r) (hl := hl) (k := k) (q := fullShare) (f := g)
    (S := M.view.set) (View.set_slice_subset M.view r)) $$ H
  iintro H
  have e : (M.access r).read (Elt F) g = fun x => f (r.emb x) := by subst hg; rfl
  rw [e]
  iapply Hk
  iexists g; isplitr
  · ipureintro; exact hg
  · iexact H

omit [FloatOps F] in
/-- A store through a rectangle of a buffer held whole. -/
theorem step_store {Q : α → sProp 𝕄} {M : Memref sig c.2.kind cs s e} {r : Rect s} {v : r.shape.Idx → Elt F e} {hx : (M.access r).Stores Finset.univ}
    {hm : (Finset.univ : Finset r.shape.Idx) = Finset.univ ∨ ∀ a, r.stride a = 1}
    {k : PUnit → Prog (TpuEff nD τ sig (Elt F) Λ c.2) α} {f f' : Vec F s e} (hf : putRect r f v = f') :
    Own c M f ⊢ iprop((Own c M f' -∗ wp frame (wpE defs 𝒱' c bd) E (k ⟨⟩) Q)
      -∗ wp frame (wpE defs 𝒱' c bd) E (Prog.lift (.store M r v Finset.univ hx hm) >>= k) Q) := by
  subst hf
  unfold Own
  iintro ⟨%g, %hg, H⟩ Hk
  iapply (wp_store (defs := defs) 𝒱' c bd E (m := M) (r := r) (w := v) (Mk := Finset.univ) (hx := hx) (hm := hm) (k := k) (f := g)
    (S := M.view.set) (View.set_slice_subset M.view r)) $$ H
  iintro H
  iapply Hk
  iexists _; isplitr
  · ipureintro
    symm
    refine putRect_eq r f _ v (fun x => ?_) (fun p hp => ?_)
    · exact View.read_slice_write_emb r g v (Finset.mem_univ x)
    · rw [View.read_slice_write_of_not_mem r g v Finset.univ (y := p) (by
        intro hmem; obtain ⟨x, -, hx⟩ := Finset.mem_map.mp hmem; exact hp x hx), hg]
  · iexact H

omit [FloatOps F] in
/-- An indexed load of a buffer held whole. -/
theorem step_loadIdx {Q : α → sProp 𝕄} {t : Shape} {M : Memref sig c.2.kind .vmem s e} {idxs : Fin s.rank → IVec t 32}
    {h : ∀ a x, (idxs a x).toNat < s.size a} {hl : M.view.Loads} {k : Vec F t e → Prog (TpuEff nD τ sig (Elt F) Λ c.2) α} {f : Vec F s e} :
    Own c M f ⊢ iprop((Own c M f -∗ wp frame (wpE defs 𝒱' c bd) E (k (loadIdx f idxs h)) Q)
      -∗ wp frame (wpE defs 𝒱' c bd) E (SparseCore.vectorLoadIdx M idxs h hl >>= k) Q) := by
  unfold Own
  iintro ⟨%g, %hg, H⟩ Hk
  iapply (SparseCore.wp_vectorLoadIdx (defs := defs) 𝒱' c bd E (base := M) (idxs := idxs) (h := h) (hl := hl) (k := k) (q := fullShare) (f := g)
    (S := M.view.set) (View.set_slice_subset M.view _)) $$ H
  iintro H
  have e : (M.access (.whole s)).read (Elt F) g = f := by
    subst hg; funext x
    show M.view.read (Elt F) g ((Rect.whole s).emb x) = _
    rw [Rect.emb_whole_apply]
  rw [e]
  iapply Hk
  iexists g; isplitr
  · ipureintro; exact hg
  · iexact H

/-- An indexed store into a buffer held whole. -/
theorem step_storeIdx {Q : α → sProp 𝕄} {d : Fin 1 → Nat} {M : Memref sig c.2.kind .vmem s e} {idxs : Fin s.rank → IVec ⟨1, d⟩ 32} {v : Vec F ⟨1, d⟩ e}
    {mask : IVec ⟨1, d⟩ 1} {h : ∀ a x, (idxs a x).toNat < s.size a} {hs : (M.access (.whole s)).Stores Finset.univ}
    {k : PUnit → Prog (TpuEff nD τ sig (Elt F) Λ c.2) α} {f f' : Vec F s e} (hf : storeIdx f idxs v mask false h = f') :
    Own c M f ⊢ iprop((Own c M f' -∗ wp frame (wpE defs 𝒱' c bd) E (k ⟨⟩) Q)
      -∗ wp frame (wpE defs 𝒱' c bd) E (SparseCore.vectorStoreIdx M idxs v mask false h hs >>= k) Q) := by
  subst hf
  unfold Own
  have hset : (M.access (.whole s)).set = M.view.set := by rw [View.set_slice, Rect.set_whole]; rfl
  iintro ⟨%g, %hg, H⟩ Hk
  rw [← hset]
  iapply (SparseCore.wp_vectorStoreIdx (defs := defs) 𝒱' c bd E (base := M) (idxs := idxs) (v := v) (mask := mask) (add := false) (h := h)
    (hs := hs) (k := k) (f := g)) $$ H
  iintro H
  iapply Hk
  iexists _; isplitr
  · ipureintro
    have e : (M.access (.whole s)).read (Elt F) g = f := by
      subst hg; funext x
      show M.view.read (Elt F) g ((Rect.whole s).emb x) = _
      rw [Rect.emb_whole_apply]
    funext x
    rw [← e]
    have := View.read_slice_write_emb (v := M.view) (Val := Elt F) (.whole s) g (storeIdx ((M.access (.whole s)).read (Elt F) g) idxs v mask false h) (M := Finset.univ) (x := x) (Finset.mem_univ _)
    rw [Rect.emb_whole_apply] at this
    exact this
  · iexact H

omit [FloatOps F] in
theorem step_assume {Q : α → sProp 𝕄} {P : Prop} {d : Decidable P} {k : PLift P → Prog (TpuEff nD τ sig (Elt F) Λ c.2) α} (h : P) :
    (wp frame (wpE defs 𝒱' c bd) E (k ⟨h⟩) Q : sProp 𝕄) ⊢ wp frame (wpE defs 𝒱' c bd) E (Prog.lift (.assume P d) >>= k) Q :=
  wp_assume 𝒱' c bd E h

end Rules

/-! ## What an indexed store leaves -/

/-- Where every stored lane names an element at which `f'` is the lane's value, and `f'` is `f` at every element no stored
    lane names, the indexed store leaves `f'`. -/
theorem storeIdx_eq {s : Shape} {e : EltTy} {d : Fin 1 → Nat} (f f' : Vec F s e) (idxs : Fin s.rank → IVec ⟨1, d⟩ 32) (v : Vec F ⟨1, d⟩ e)
    (mask : IVec ⟨1, d⟩ 1) (h : ∀ a x, (idxs a x).toNat < s.size a)
    (hit : ∀ k : Fin (d 0), mask (Shape.ofLane k) = 1 → f' (idxAt idxs h (Shape.ofLane k)) = v (Shape.ofLane k))
    (miss : ∀ p : s.Idx, (∀ k : Fin (d 0), mask (Shape.ofLane k) = 1 → idxAt idxs h (Shape.ofLane k) ≠ p) → f' p = f p) :
    storeIdx f idxs v mask false h = f' := by
  have miss' : ∀ p : s.Idx, (∀ k ∈ List.finRange (d 0), mask (Shape.ofLane k) = 1 → idxAt idxs h (Shape.ofLane k) ≠ p) → f' p = f p :=
    fun p hp => miss p fun k => hp k (List.mem_finRange k)
  clear miss
  unfold storeIdx
  revert miss'
  generalize List.finRange (d 0) = l
  induction l generalizing f with
  | nil => intro hg; funext p; exact (hg p (by simp)).symm
  | cons k l ih =>
    intro hg
    rw [List.foldl_cons]
    apply ih
    intro p hp
    by_cases hm : mask (Shape.ofLane k) = 1
    · simp only [hm, if_true]
      by_cases he : ∀ a, (p a).val = (idxAt idxs h (Shape.ofLane k) a).val
      · have : p = idxAt idxs h (Shape.ofLane k) := funext fun a => Fin.ext (he a)
        rw [if_pos he, this, hit k hm]; rfl
      · rw [if_neg he]
        apply hg
        intro k' hk' hm' heq
        rcases List.mem_cons.mp hk' with rfl | hk'
        · exact he fun a => by rw [← heq]
        · exact hp k' hk' hm' heq
    · simp only [hm, if_false]
      apply hg
      intro k' hk' hm' heq
      rcases List.mem_cons.mp hk' with rfl | hk'
      · exact hm hm'
      · exact hp k' hk' hm' heq

end Cert.Proof

end
-- ==== Proof.Contents.lean ====
/- The contents the loops of the two SparseCore kernels leave, as functions of a buffer's indices, and what one trip adds. -/
module

public import proofs.«01_k».proof.Proof.Step
public import Idealize.ShloMosaic.Lib.Pipeline.Value

@[expose] public section

noncomputable section

namespace Cert.Proof

open Cert.KernelIdeal Cert.KernelIdeal.Gen
open Idealize.ShloMosaic

variable {F : FTy → Type} [FloatOps F]

/-! ## Indices by numbers -/

/-- The index `a` of a one-axis shape (`a` modulo the size). -/
def i1 {n : ℕ} [NeZero n] (a : ℕ) : (⟨1, ![n]⟩ : Shape).Idx := fun | 0 => (Fin.ofNat n a : Fin n)

/-- The index `(a, b)` of a two-axis shape. -/
def i2 {n m : ℕ} [NeZero n] [NeZero m] (a b : ℕ) : (⟨2, ![n, m]⟩ : Shape).Idx := fun | 0 => (Fin.ofNat n a : Fin n) | 1 => (Fin.ofNat m b : Fin m)

theorem i1_val {n : ℕ} [NeZero n] (a : ℕ) : ((i1 (n := n) a) 0).val = a % n := rfl
theorem i2_val0 {n m : ℕ} [NeZero n] [NeZero m] (a b : ℕ) : ((i2 (n := n) (m := m) a b) 0).val = a % n := rfl
theorem i2_val1 {n m : ℕ} [NeZero n] [NeZero m] (a b : ℕ) : ((i2 (n := n) (m := m) a b) 1).val = b % m := rfl

theorem eq_i1 {n : ℕ} [NeZero n] (p : (⟨1, ![n]⟩ : Shape).Idx) (a : ℕ) (h : (p 0).val = a) : p = i1 a := by
  funext x
  match x with
  | 0 => exact Fin.ext (by rw [i1_val, ← h]; exact (Nat.mod_eq_of_lt (p 0).isLt).symm)

theorem eq_i2 {n m : ℕ} [NeZero n] [NeZero m] (p : (⟨2, ![n, m]⟩ : Shape).Idx) (a b : ℕ) (h₀ : (p 0).val = a) (h₁ : (p 1).val = b) : p = i2 a b := by
  funext x
  match x with
  | 0 => exact Fin.ext (by rw [i2_val0, ← h₀]; exact (Nat.mod_eq_of_lt (p 0).isLt).symm)
  | 1 => exact Fin.ext (by rw [i2_val1, ← h₁]; exact (Nat.mod_eq_of_lt (p 1).isLt).symm)

theorem ext1 {n : ℕ} {p q : (⟨1, ![n]⟩ : Shape).Idx} (h : (p 0).val = (q 0).val) : p = q := by
  funext x
  match x with
  | 0 => exact Fin.ext h

theorem ext2 {n m : ℕ} {p q : (⟨2, ![n, m]⟩ : Shape).Idx} (h₀ : (p 0).val = (q 0).val) (h₁ : (p 1).val = (q 1).val) : p = q := by
  funext x
  match x with
  | 0 => exact Fin.ext h₀
  | 1 => exact Fin.ext h₁

theorem lt0 {n m : ℕ} (p : (⟨2, ![n, m]⟩ : Shape).Idx) : (p 0).val < n := (p 0).isLt
theorem lt1 {n m : ℕ} (p : (⟨2, ![n, m]⟩ : Shape).Idx) : (p 1).val < m := (p 1).isLt
theorem lt01 {n : ℕ} (p : (⟨1, ![n]⟩ : Shape).Idx) : (p 0).val < n := (p 0).isLt

theorem unit_emb {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem lane0 {d : Fin 1 → Nat} (k : Fin (d 0)) : (Shape.ofLane k (0 : Fin 1)).val = k.val := rfl

theorem forall_lt16 {P : S16.Idx → Prop} (h : ∀ k : Fin 16, P (i1 k.val)) (x : S16.Idx) : P x := by
  have := h ⟨(x 0).val, (x 0).isLt⟩
  rwa [← eq_i1 x (x 0).val rfl] at this

/-! ## A row put into a two-axis buffer, sixteen columns at a time -/

/-- The row `r`, columns `c … c+15`, replaced. -/
theorem putRow_eq {n m : ℕ} {α : Type} {off : Fin 2 → ℕ} {inb} {r c : ℕ} (hoff : off = ![r, c])
    (f f' : (⟨2, ![n, m]⟩ : Shape).Idx → α) (v : S1x16.Idx → α)
    (h₁ : ∀ p, (p 0).val = r → c ≤ (p 1).val → (p 1).val < c + 16 → f' p = v (i2 0 ((p 1).val - c)))
    (h₂ : ∀ p, ¬ ((p 0).val = r ∧ c ≤ (p 1).val ∧ (p 1).val < c + 16) → f' p = f p) :
    putRect (Rect.unit (s := ⟨2, ![n, m]⟩) off S1x16.size inb) f v = f' := by
  subst hoff
  refine putRect_eq (Rect.unit (s := ⟨2, ![n, m]⟩) ![r, c] S1x16.size inb) f f' v (fun x => ?_) (fun p hp => h₂ p fun ⟨ha, hb, hc⟩ => ?_)
  · have e0 := unit_emb (s := ⟨2, ![n, m]⟩) ![r, c] S1x16.size inb x 0
    have e1 := unit_emb (s := ⟨2, ![n, m]⟩) ![r, c] S1x16.size inb x 1
    have hx0 : (x 0).val < 1 := (x 0).isLt
    have hx1 : (x 1).val < 16 := (x 1).isLt
    have e0' : ((Rect.unit (s := ⟨2, ![n, m]⟩) ![r, c] S1x16.size inb).emb x 0).val = r + (x 0).val := e0
    have e1' : ((Rect.unit (s := ⟨2, ![n, m]⟩) ![r, c] S1x16.size inb).emb x 1).val = c + (x 1).val := e1
    rw [h₁ _ (by omega) (by omega) (by omega)]
    congr 1
    exact (eq_i2 x 0 _ (by omega) (by omega)).symm
  · refine hp (i2 0 ((p 1).val - c)) ?_
    have e0 : ((Rect.unit (s := ⟨2, ![n, m]⟩) ![r, c] S1x16.size inb).emb (i2 0 ((p 1).val - c)) 0).val = r + 0 % 1 := unit_emb _ _ inb _ 0
    have e1 : ((Rect.unit (s := ⟨2, ![n, m]⟩) ![r, c] S1x16.size inb).emb (i2 0 ((p 1).val - c)) 1).val = c + ((p 1).val - c) % 16 := unit_emb _ _ inb _ 1
    refine ext2 ?_ ?_
    · rw [e0]; omega
    · rw [e1, Nat.mod_eq_of_lt (by omega)]; omega

/-- What a load of the row `r`, columns `c … c+15`, reads. -/
theorem row_read {n m : ℕ} [NeZero n] [NeZero m] {α : Type} {off : Fin 2 → ℕ} {inb} {r c : ℕ} (hoff : off = ![r, c])
    (f : (⟨2, ![n, m]⟩ : Shape).Idx → α) :
    (fun x : S1x16.Idx => f ((Rect.unit (s := ⟨2, ![n, m]⟩) off S1x16.size inb).emb x)) = fun x => f (i2 r (c + (x 1).val)) := by
  subst hoff
  funext x
  congr 1
  have hx0 : (x 0).val < 1 := (x 0).isLt
  have e0 : ((Rect.unit (s := ⟨2, ![n, m]⟩) ![r, c] S1x16.size inb).emb x 0).val = r + (x 0).val := unit_emb _ _ inb x 0
  exact eq_i2 _ _ _ (by omega) (unit_emb (s := ⟨2, ![n, m]⟩) _ _ inb x 1)

/-- What a load of sixteen elements from `c` reads. -/
theorem lane_read {n : ℕ} [NeZero n] {α : Type} {off : Fin 1 → ℕ} {inb} {c : ℕ} (hoff : off = ![c])
    (f : (⟨1, ![n]⟩ : Shape).Idx → α) :
    (fun x : S16.Idx => f ((Rect.unit (s := ⟨1, ![n]⟩) off S16.size inb).emb x)) = fun x => f (i1 (c + (x 0).val)) := by
  subst hoff
  funext x
  congr 1
  exact eq_i1 _ _ (unit_emb (s := ⟨1, ![n]⟩) _ _ inb x 0)

theorem putLane_eq {n : ℕ} {α : Type} {off : Fin 1 → ℕ} {inb} {c : ℕ} (hoff : off = ![c])
    (f f' : (⟨1, ![n]⟩ : Shape).Idx → α) (v : S16.Idx → α)
    (h₁ : ∀ p, c ≤ (p 0).val → (p 0).val < c + 16 → f' p = v (i1 ((p 0).val - c)))
    (h₂ : ∀ p, ¬ (c ≤ (p 0).val ∧ (p 0).val < c + 16) → f' p = f p) :
    putRect (Rect.unit (s := ⟨1, ![n]⟩) off S16.size inb) f v = f' := by
  subst hoff
  refine putRect_eq (Rect.unit (s := ⟨1, ![n]⟩) ![c] S16.size inb) f f' v (fun x => ?_) (fun p hp => h₂ p fun ⟨hb, hc⟩ => ?_)
  · have hx : (x 0).val < 16 := (x 0).isLt
    have e0 : ((Rect.unit (s := ⟨1, ![n]⟩) ![c] S16.size inb).emb x 0).val = c + (x 0).val := unit_emb _ _ inb x 0
    rw [h₁ _ (by omega) (by omega)]
    congr 1
    exact (eq_i1 x _ (by omega)).symm
  · refine hp (i1 ((p 0).val - c)) (ext1 ?_)
    have e0 : ((Rect.unit (s := ⟨1, ![n]⟩) ![c] S16.size inb).emb (i1 ((p 0).val - c)) 0).val = c + ((p 0).val - c) % 16 := unit_emb _ _ inb _ 0
    rw [e0, Nat.mod_eq_of_lt (by omega)]; omega

/-! ## The gather's loops -/

/-- The first `16 n` elements replaced by `g`. -/
def addF {e : EltTy} (f0 g : Vec F S832 e) (n : ℕ) : Vec F S832 e := fun p => if (p 0).val < 16 * n then g p else f0 p

theorem addF_step {e : EltTy} {off : Fin 1 → ℕ} {inb} (f0 g : Vec F S832 e) (n : ℕ) (hoff : off = ![16 * n]) (v : S16.Idx → Elt F e)
    (hv : ∀ k : ℕ, k < 16 → v (i1 k) = g (i1 (16 * n + k))) :
    putRect (Rect.unit (s := S832) off S16.size inb) (addF f0 g n) v = addF f0 g (n + 1) := by
  refine putLane_eq hoff _ _ _ (fun p h1 h2 => ?_) (fun p h => ?_)
  · unfold addF
    rw [if_pos (by omega), hv _ (by omega)]
    congr 1
    exact eq_i1 p _ (by omega)
  · unfold addF
    by_cases hp : (p 0).val < 16 * n
    · rw [if_pos (by omega), if_pos hp]
    · rw [if_neg (by omega), if_neg hp]

/-- The columns from 416 on of the first `n` rows set to `z`, and of row `n` the first `j` sixteens of them. -/
def zeroF (f0 : Vec F S32x512 .f32) (z : Elt F .f32) (n j : ℕ) : Vec F S32x512 .f32 := fun p =>
  if 416 ≤ (p 1).val ∧ ((p 0).val < n ∨ ((p 0).val = n ∧ (p 1).val < 416 + 16 * j)) then z else f0 p

theorem zeroF_next (f0 : Vec F S32x512 .f32) (z : Elt F .f32) (n : ℕ) : zeroF f0 z n 6 = zeroF f0 z (n + 1) 0 := by
  funext p
  unfold zeroF
  have := lt1 p
  congr 1
  simp only [eq_iff_iff]; omega

theorem zeroF_step {off : Fin 2 → ℕ} {inb} (f0 : Vec F S32x512 .f32) (z : Elt F .f32) (n j : ℕ) (hoff : off = ![n, 416 + 16 * j])
    (v : S1x16.Idx → Elt F .f32) (hv : ∀ x, v x = z) :
    putRect (Rect.unit (s := S32x512) off S1x16.size inb) (zeroF f0 z n j) v = zeroF f0 z n (j + 1) := by
  refine putRow_eq hoff _ _ _ (fun p h0 h1 h2 => ?_) (fun p h => ?_)
  · unfold zeroF
    rw [if_pos (by omega), hv]
  · unfold zeroF
    split <;> split <;> first | rfl | omega

/-- Of the first `16 n` of the `832` looked-up words, the linear weights' lane each index names, put at its row and field. -/
def selF (f0 : Vec F S32x512 .f32) (L : Vec F S832x16 .f32) (ix : IVec S832 32) (n : ℕ) : Vec F S32x512 .f32 := fun p =>
  if 416 ≤ (p 1).val ∧ (p 1).val < 442 ∧ 26 * (p 0).val + ((p 1).val - 416) < 16 * n then
    L (i2 (26 * (p 0).val + ((p 1).val - 416)) ((ix (i1 (26 * (p 0).val + ((p 1).val - 416)))).toNat % 16))
  else f0 p

theorem selF_step (f0 : Vec F S32x512 .f32) (L : Vec F S832x16 .f32) (ix : IVec S832 32) (t : ℕ) (ht : t < 52)
    (a b c d : IVec S16 32) (h1 : ∀ x y, ((![a, b] : Fin 2 → IVec S16 32) x y).toNat < S832x16.size x)
    (h2 : ∀ x y, ((![c, d] : Fin 2 → IVec S16 32) x y).toNat < S32x512.size x)
    (ha : ∀ x : S16.Idx, (a x).toNat = 16 * t + (x 0).val) (hb : ∀ x : S16.Idx, (b x).toNat = (ix (i1 (16 * t + (x 0).val))).toNat % 16)
    (hc : ∀ x : S16.Idx, (c x).toNat = (16 * t + (x 0).val) / 26) (hd : ∀ x : S16.Idx, (d x).toNat = 416 + (16 * t + (x 0).val) % 26) :
    storeIdx (selF f0 L ix t) ![c, d] (loadIdx L ![a, b] h1) (fun _ => 1#1) false h2 = selF f0 L ix (t + 1) := by
  have ec : ∀ k : Fin 16, (idxAt (s := S32x512) ![c, d] h2 (Shape.ofLane k) 0).val = (16 * t + k.val) / 26 := fun k => hc _
  have ed : ∀ k : Fin 16, (idxAt (s := S32x512) ![c, d] h2 (Shape.ofLane k) 1).val = 416 + (16 * t + k.val) % 26 := fun k => hd _
  refine storeIdx_eq _ _ _ _ _ _ (fun k _ => ?_) (fun p hp => ?_)
  · have hk : (k : ℕ) < 16 := k.isLt
    have e0 := ec k
    have e1 := ed k
    unfold selF
    rw [if_pos (by omega), e0, e1]
    have eq : 26 * ((16 * t + k.val) / 26) + (416 + (16 * t + k.val) % 26 - 416) = 16 * t + k.val := by omega
    rw [eq]
    unfold loadIdx
    congr 1
    refine (eq_i2 _ _ _ (ha (Shape.ofLane k)) ?_).symm
    exact hb (Shape.ofLane k)
  · have l0 := lt0 p
    have l1 := lt1 p
    by_cases hin : 416 ≤ (p 1).val ∧ (p 1).val < 442 ∧ 26 * (p 0).val + ((p 1).val - 416) < 16 * (t + 1)
    · by_cases hlt : 26 * (p 0).val + ((p 1).val - 416) < 16 * t
      · unfold selF
        rw [if_pos hin, if_pos (by omega)]
      · exfalso
        have hk : 26 * (p 0).val + ((p 1).val - 416) - 16 * t < 16 := by omega
        refine hp ⟨_, hk⟩ rfl (ext2 ?_ ?_)
        · refine (ec ⟨_, hk⟩).trans ?_; show (16 * t + (26 * (p 0).val + ((p 1).val - 416) - 16 * t)) / 26 = _; omega
        · refine (ed ⟨_, hk⟩).trans ?_; show 416 + (16 * t + (26 * (p 0).val + ((p 1).val - 416) - 16 * t)) % 26 = _; omega
    · unfold selF
      rw [if_neg hin, if_neg (by omega)]

/-- The gathered rows of the first `r` rows' twenty-six words, and of row `r`'s first `n`, each in its sixteen columns. -/
def repF (f0 : Vec F S32x512 .f32) (E : Vec F S832x16 .f32) (r n : ℕ) : Vec F S32x512 .f32 := fun p =>
  if (p 1).val < 416 ∧ ((p 0).val < r ∨ ((p 0).val = r ∧ (p 1).val < 16 * n)) then E (i2 (26 * (p 0).val + (p 1).val / 16) ((p 1).val % 16)) else f0 p

theorem repF_next (f0 : Vec F S32x512 .f32) (E : Vec F S832x16 .f32) (r : ℕ) : repF f0 E r 26 = repF f0 E (r + 1) 0 := by
  funext p
  unfold repF
  congr 1
  simp only [eq_iff_iff]; omega

theorem repF_step {off off' : Fin 2 → ℕ} {inb inb'} (f0 : Vec F S32x512 .f32) (E : Vec F S832x16 .f32) (r n : ℕ) (hn : n < 26)
    (hoff : off = ![26 * r + n, 0]) (hoff' : off' = ![r, 16 * n])
    (v : S1x16.Idx → Elt F .f32) (hv : v = fun x => E ((Rect.unit (s := S832x16) off S1x16.size inb).emb x)) :
    putRect (Rect.unit (s := S32x512) off' S1x16.size inb') (repF f0 E r n) v = repF f0 E r (n + 1) := by
  have hr := row_read (inb := inb) (n := 832) (m := 16) hoff E
  replace hv := hv.trans hr
  subst hv
  refine putRow_eq hoff' _ _ _ (fun p h0 h1 h2 => ?_) (fun p h => ?_)
  · unfold repF
    rw [if_pos (by omega), h0, i2_val1]
    congr 2 <;> omega
  · unfold repF
    split <;> split <;> first | rfl | omega

/-- The words whose row the tail copy holds, and which row of it. -/
def inTail (w : BitVec 32) : BitVec 1 := IntOp.cmpi .sge w 2599936#32
def tailRow (w : BitVec 32) : ℕ := (IntOp.minsi 63#32 (IntOp.maxsi 0#32 (IntOp.subi w 2599936#32))).toNat

/-- The rows of the words the tail copy holds, taken from it: the first `16 t` words', and the first `n` columns of the next
    sixteen's. -/
def fixF (f0 : Vec F S32x512 .f32) (Tl : Vec F S64x16 .f32) (ix : IVec S832 32) (t n : ℕ) : Vec F S32x512 .f32 := fun p =>
  if (p 1).val < 416 ∧ inTail (ix (i1 (26 * (p 0).val + (p 1).val / 16))) = 1#1
      ∧ (26 * (p 0).val + (p 1).val / 16 < 16 * t ∨ (26 * (p 0).val + (p 1).val / 16 < 16 * (t + 1) ∧ (p 1).val % 16 < n)) then
    Tl (i2 (tailRow (ix (i1 (26 * (p 0).val + (p 1).val / 16)))) ((p 1).val % 16))
  else f0 p

theorem fixF_next (f0 : Vec F S32x512 .f32) (Tl : Vec F S64x16 .f32) (ix : IVec S832 32) (t : ℕ) : fixF f0 Tl ix t 16 = fixF f0 Tl ix (t + 1) 0 := by
  funext p
  unfold fixF
  congr 1
  simp only [eq_iff_iff]
  constructor <;> rintro ⟨h1, h2, h3⟩ <;> exact ⟨h1, h2, by omega⟩

/-- A trip with no word of the tail changes nothing. -/
theorem fixF_skip (f0 : Vec F S32x512 .f32) (Tl : Vec F S64x16 .f32) (ix : IVec S832 32) (t : ℕ)
    (h : ∀ k, k < 16 → inTail (ix (i1 (16 * t + k))) ≠ 1#1) : fixF f0 Tl ix t 0 = fixF f0 Tl ix (t + 1) 0 := by
  funext p
  unfold fixF
  congr 1
  simp only [eq_iff_iff]
  constructor
  · rintro ⟨h1, h2, h3⟩; exact ⟨h1, h2, by omega⟩
  · rintro ⟨h1, h2, h3⟩
    refine ⟨h1, h2, ?_⟩
    by_contra hc
    have := h (26 * (p 0).val + (p 1).val / 16 - 16 * t) (by omega)
    rw [show 16 * t + (26 * (p 0).val + (p 1).val / 16 - 16 * t) = 26 * (p 0).val + (p 1).val / 16 by omega] at this
    exact this h2

theorem fixF_step (f0 : Vec F S32x512 .f32) (Tl : Vec F S64x16 .f32) (ix : IVec S832 32) (t n : ℕ) (ht : t < 52) (hn : n < 16)
    (a b c d : IVec S16 32) (msk : IVec S16 1) (h1 : ∀ x y, ((![a, b] : Fin 2 → IVec S16 32) x y).toNat < S64x16.size x)
    (h2 : ∀ x y, ((![c, d] : Fin 2 → IVec S16 32) x y).toNat < S32x512.size x)
    (hm : ∀ x : S16.Idx, msk x = inTail (ix (i1 (16 * t + (x 0).val))))
    (ha : ∀ x : S16.Idx, (a x).toNat = tailRow (ix (i1 (16 * t + (x 0).val)))) (hb : ∀ x : S16.Idx, (b x).toNat = n)
    (hc : ∀ x : S16.Idx, (c x).toNat = (16 * t + (x 0).val) / 26) (hd : ∀ x : S16.Idx, (d x).toNat = 16 * ((16 * t + (x 0).val) % 26) + n) :
    storeIdx (fixF f0 Tl ix t n) ![c, d] (loadIdx Tl ![a, b] h1) msk false h2 = fixF f0 Tl ix t (n + 1) := by
  have ec : ∀ k : Fin 16, (idxAt (s := S32x512) ![c, d] h2 (Shape.ofLane k) 0).val = (16 * t + k.val) / 26 := fun k => hc _
  have ed : ∀ k : Fin 16, (idxAt (s := S32x512) ![c, d] h2 (Shape.ofLane k) 1).val = 16 * ((16 * t + k.val) % 26) + n := fun k => hd _
  refine storeIdx_eq _ _ _ _ _ _ (fun k hk1 => ?_) (fun p hp => ?_)
  · have hk : (k : ℕ) < 16 := k.isLt
    have e0 := ec k
    have e1 := ed k
    have hk1 : msk (Shape.ofLane k) = 1 := hk1
    rw [hm] at hk1
    have hk1 : inTail (ix (i1 (16 * t + k.val))) = 1#1 := hk1
    have eq : 26 * ((16 * t + k.val) / 26) + (16 * ((16 * t + k.val) % 26) + n) / 16 = 16 * t + k.val := by omega
    have eq' : (16 * ((16 * t + k.val) % 26) + n) % 16 = n := by omega
    unfold fixF
    rw [e0, e1, eq, eq']
    rw [if_pos ⟨by omega, hk1, by omega⟩]
    unfold loadIdx
    congr 1
    exact (eq_i2 _ _ _ (ha (Shape.ofLane k)) (hb _)).symm
  · have l0 := lt0 p
    have l1 := lt1 p
    unfold fixF
    by_cases hin : (p 1).val < 416 ∧ inTail (ix (i1 (26 * (p 0).val + (p 1).val / 16))) = 1#1
      ∧ (26 * (p 0).val + (p 1).val / 16 < 16 * t ∨ (26 * (p 0).val + (p 1).val / 16 < 16 * (t + 1) ∧ (p 1).val % 16 < n))
    · rw [if_pos hin, if_pos ⟨hin.1, hin.2.1, by omega⟩]
    · rw [if_neg hin]
      rw [if_neg]
      rintro ⟨g1, g2, g3⟩
      have g4 : ¬ (26 * (p 0).val + (p 1).val / 16 < 16 * t ∨ (26 * (p 0).val + (p 1).val / 16 < 16 * (t + 1) ∧ (p 1).val % 16 < n)) :=
        fun h => hin ⟨g1, g2, h⟩
      have hk : 26 * (p 0).val + (p 1).val / 16 - 16 * t < 16 := by omega
      refine hp ⟨_, hk⟩ ?_ (ext2 ?_ ?_)
      · show msk _ = 1
        rw [hm]
        show inTail (ix (i1 (16 * t + (26 * (p 0).val + (p 1).val / 16 - 16 * t)))) = 1#1
        rw [show 16 * t + (26 * (p 0).val + (p 1).val / 16 - 16 * t) = 26 * (p 0).val + (p 1).val / 16 by omega]
        exact g2
      · refine (ec ⟨_, hk⟩).trans ?_; show (16 * t + (26 * (p 0).val + (p 1).val / 16 - 16 * t)) / 26 = _; omega
      · refine (ed ⟨_, hk⟩).trans ?_; show 16 * ((16 * t + (26 * (p 0).val + (p 1).val / 16 - 16 * t)) % 26) + n = _; omega

end Cert.Proof

end
-- ==== Proof.Moves.lean ====
/- What a copy that is waited for at once does, and what a started row gather and its wait do, for one thread that owes `O`. -/
module

public import proofs.«01_k».proof.Proof.Contents

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-- The memref's elements, a share of them, reading `f`. -/
def At (q : PosShare TreeShare) (c : Thread nD τ) {sp : Space} {s : Shape} {e : EltTy} (M : Memref sig c.2.kind sp s e) (f : Vec F s e) : sProp 𝕄 :=
  iprop(∃ g, ⌜M.view.read (Elt F) g = f⌝ ∗ (M.view.loc c ↦[M.view.set]{q} g))

/-- The thread owes `O`, waits at no stage of its own, and has waited for what `W` says and for kernel cells. -/
def Duty (c : Thread nD τ) (O : CellTallies nD τ sig (HIx 2)) (W : Waits sig (HIx 2)) : sProp 𝕄 :=
  iprop(Transfers.MayWaits c (default : HIx 2) O ∗ ∃ W', ⌜∀ p ∈ W', p ∈ W ∨ p.2 = none⌝ ∗ owes c O W')

/-- A copy or a gather in flight on the semaphore: its wait gives `X`. -/
abbrev Fly (c : Thread nD τ) (sem : DmaSem sig) (N : ℕ) (X : sProp 𝕄) : sProp 𝕄 :=
  Transfers.Flight countersEmb c (.dma sem) (default : HIx 2) N X

variable {Λ : Labels} {defs : Defs nD τ sig (Elt F) Λ} {𝒱' : Variants} {c : Thread nD τ} {bd : Option 𝒱'.V}
variable {sp sp' : Space} {s s' : Shape} {e e' : EltTy} {α : Type}

/-- A sequence is run part by part. -/
theorem wp_seq {β : Type} {E : Set ℕ} {p : Prog (TpuEff nD τ sig (Elt F) Λ c.2) β} {k : β → Prog (TpuEff nD τ sig (Elt F) Λ c.2) α} {Q : α → sProp 𝕄} :
    wp frame (wpE defs 𝒱' c bd) E p (fun b => wp frame (wpE defs 𝒱' c bd) E (k b) Q) ⊢ wp frame (wpE defs 𝒱' c bd) E (p >>= k) Q :=
  by rw [wp_bind]

/-- A part whose run is known, then the rest. -/
theorem wp_then {β : Type} {E : Set ℕ} {p : Prog (TpuEff nD τ sig (Elt F) Λ c.2) β} {k : β → Prog (TpuEff nD τ sig (Elt F) Λ c.2) α}
    {Q : α → sProp 𝕄} {P : sProp 𝕄} {R : β → sProp 𝕄} (h : P ⊢ wp frame (wpE defs 𝒱' c bd) E p R) :
    P ⊢ iprop((∀ b, R b -∗ wp frame (wpE defs 𝒱' c bd) E (k b) Q) -∗ wp frame (wpE defs 𝒱' c bd) E (p >>= k) Q) := by
  iintro HP Hk
  iapply wp_seq
  ihave H := h $$ HP
  iapply wp_wand $$ H
  iintro %b HR
  iapply Hk $$ HR

/-- A wait. -/
theorem step_wait {Q : α → sProp 𝕄} {κ' : Kind} {sem : DmaSem sig} {src : Memref sig c.2.kind sp' s' e'} {dst : Memref sig κ' sp s e} {hsrc : src.view.WordExact}
    {hdst : dst.view.WordExact} {k : PUnit → Prog (TpuEff nD τ sig (Elt F) Λ c.2) α} {N : ℕ} (hN : dst.view.dmaCredit = N) {X : sProp 𝕄}
    {O : CellTallies nD τ sig (HIx 2)} {W : Waits sig (HIx 2)} :
    iprop(Fly c sem N X ∗ Duty c O W) ⊢ iprop((iprop(X ∗ semVal (c, .dma sem) 0 ∗ Duty c O W) -∗ wp frame (wpE defs 𝒱' c bd) Set.univ (k ⟨⟩) Q)
      -∗ wp frame (wpE defs 𝒱' c bd) Set.univ (Prog.lift (.waitDma2 sem src dst hsrc hdst) >>= k) Q) := by
  unfold Duty
  iintro ⟨HF, #Hm, %W', %hW', HO⟩ Hk
  ihave Hm' := Transfers.MayWaits.elim (SemLoc.dma sem) $$ Hm
  iapply (Transfers.wp_waitLocalO (defs := defs) countersEmb 𝒱' c bd (srcw := src) (dstw := dst) (hsrc := hsrc) (hdst := hdst) (k := k) (default : HIx 2) hN
    (D := X) (O := O) (W := W')) $$ [HF HO Hm']
  · isplitl [HF]; · iexact HF
    isplitl [HO]; · iexact HO
    iexact Hm'
  iintro ⟨HX, Hs, HO⟩
  iapply Hk
  isplitl [HX]; · iexact HX
  isplitl [Hs]; · iexact Hs
  isplitr; · iexact Hm
  iexists (insert (SemLoc.dma sem, (default : HIx 2)) W')
  isplitr
  · ipureintro
    intro p hp
    rcases Finset.mem_insert.mp hp with rfl | hp
    · exact Or.inr rfl
    · exact hW' p hp
  · iexact HO

/-- A copy and its wait. -/
theorem step_copy {Q : α → sProp 𝕄} {q : PosShare TreeShare} {src : Memref sig c.2.kind sp' s e} {dst : Memref sig c.2.kind sp s e} {sem : DmaSem sig}
    {hsrc hsrc' : src.view.WordExact} {hdst hdst' : dst.view.WordExact} {hsem : DmaTarget.Typed (nD := nD) sp' (.dma sem) (.here dst)}
    {k : PUnit → Prog (TpuEff nD τ sig (Elt F) Λ c.2) α} (hs : 0 < s.numel) {f f₀ : Vec F s e}
    {O : CellTallies nD τ sig (HIx 2)} {W : Waits sig (HIx 2)} :
    iprop(At q c src f ∗ Own c dst f₀ ∗ semVal (c, .dma sem) 0 ∗ Duty c O W) ⊢
      iprop((iprop(At q c src f ∗ Own c dst f ∗ semVal (c, .dma sem) 0 ∗ Duty c O W) -∗ wp frame (wpE defs 𝒱' c bd) Set.univ (k ⟨⟩) Q)
      -∗ wp frame (wpE defs 𝒱' c bd) Set.univ (Prog.lift (.enqueueDma src (.here dst) (.dma sem) hsrc hdst hsem) >>= fun _ =>
          Prog.lift (.waitDma2 sem src dst hsrc' hdst') >>= k) Q) := by
  unfold At Own
  iintro ⟨⟨%gs, %hgs, Hs⟩, ⟨%gd, %hgd, Hd⟩, Hv, Hu⟩ Hk
  iapply (Transfers.wp_dmaLocal (defs := defs) countersEmb 𝒱' c bd (src := src) (via := .same) (dst := dst) (sm := .dma sem)
    (hsrc := hsrc) (hdst := hdst) (hsem := hsem) (k := fun _ => Prog.lift (.waitDma2 sem src dst hsrc' hdst') >>= k) (q := q) (fs := gs) (Sd := dst.view.set) (fd := gd)
    (default : HIx 2) dst.view.dmaCredit rfl (View.dmaCredit_pos _ hs) (Finset.Subset.refl _)) $$ [Hs Hd Hv]
  · isplitl [Hs]; · iexact Hs
    isplitl [Hd]; · iexact Hd
    iexact Hv
  iintro HF
  iapply (step_wait (defs := defs) (𝒱' := 𝒱') (bd := bd) (src := src) (dst := dst) (hsrc := hsrc') (hdst := hdst') (k := k) rfl (O := O) (W := W)) $$ [HF Hu]
  · isplitl [HF]; · iexact HF
    iexact Hu
  iintro ⟨⟨Hd, Hs⟩, Hv, Hu⟩
  iapply Hk
  isplitl [Hs]
  · iexists gs; isplitr
    · ipureintro; exact hgs
    · iexact Hs
  isplitl [Hd]
  · iexists (dst.view.write (Elt F) gd (src.view.read (Elt F) gs) Finset.univ); isplitr
    · ipureintro; rw [View.read_write_univ]; exact hgs
    · iexact Hd
  isplitl [Hv] <;> iassumption

omit [FloatOps F] in
/-- A part of what a share holds, and the way back. -/
theorem at_slice {q : PosShare TreeShare} {M : Memref sig c.2.kind sp s e} (r : Rect s) (hr : ∀ a, r.stride a = 1) {f : Vec F s e} :
    (At q c M f : sProp 𝕄) ⊢ iprop(At q c (M.slice r hr) (fun x => f (r.emb x)) ∗ (At q c (M.slice r hr) (fun x => f (r.emb x)) -∗ At q c M f)) := by
  unfold At
  iintro ⟨%g, %hg, H⟩
  have hsub : (M.slice r hr).view.set ⊆ M.view.set := View.set_slice_subset M.view r
  ihave H' := (pointsTo_split_subset hsub).1 $$ H
  icases H' with ⟨H₁, H₂⟩
  isplitl [H₁]
  · iexists g; isplitr
    · ipureintro; subst hg; rfl
    · iexact H₁
  iintro ⟨%g', %hg', H₁⟩
  iexists g; isplitr
  · ipureintro; exact hg
  iapply (pointsTo_split_subset hsub).2
  isplitl [H₁]
  · iapply (Entails.of_eq (pointsTo_congr (f := g') (g := g) ?_)) $$ H₁
    intro i hi
    obtain ⟨x, -, hx⟩ := Finset.mem_map.mp hi
    subst hx
    have h1 : (M.slice r hr).view.read (Elt F) g' x = (M.slice r hr).view.read (Elt F) g x := by rw [hg', ← hg]; rfl
    exact (cast_inj _).1 h1
  · iexact H₂

/-- The view of the whole of it. -/
theorem at_full {q : PosShare TreeShare} {n m : ℕ} {e : EltTy} {M : Memref sig c.2.kind sp ⟨2, ![n, m]⟩ e} (inb) (hr) {f : Vec F ⟨2, ![n, m]⟩ e} :
    (At q c M f : sProp 𝕄) ⊢ iprop(At q c (M.slice (Rect.unit (s := ⟨2, ![n, m]⟩) ![0, 0] (⟨2, ![n, m]⟩ : Shape).size inb) hr) f
      ∗ (At q c (M.slice (Rect.unit (s := ⟨2, ![n, m]⟩) ![0, 0] (⟨2, ![n, m]⟩ : Shape).size inb) hr) f -∗ At q c M f)) := by
  have h : (fun x => f ((Rect.unit (s := ⟨2, ![n, m]⟩) ![0, 0] (⟨2, ![n, m]⟩ : Shape).size inb).emb x)) = f := by
    funext x
    congr 1
    refine ext2 ?_ ?_ <;> simp [unit_emb]
  have := at_slice (F := F) (q := q) (M := M) (Rect.unit (s := ⟨2, ![n, m]⟩) ![0, 0] (⟨2, ![n, m]⟩ : Shape).size inb) hr (f := f)
  rw [h] at this
  exact this

/-- The rows of `E` that the list names. -/
def gRows {n : ℕ} [NeZero n] {e : EltTy} (E : Vec F ⟨2, ![n, 16]⟩ e) (ix : IVec S832 32) : Vec F S832x16 e :=
  fun p => E (i2 (ix (i1 (p 0).val)).toNat (p 1).val)

omit [FloatOps F] in
theorem gather_eq {n : ℕ} [NeZero n] {e : EltTy} {hg : (⟨2, ![n, 16]⟩ : Shape).Gathers 0 S832x16} {hn : S832.numel = S832x16.size hg.axis'}
    (E : Vec F ⟨2, ![n, 16]⟩ e) (ix : Vec F S832 .i32) (hin : ∀ x, (ix x).toNat < (⟨2, ![n, 16]⟩ : Shape).size hg.axis) :
    SparseCore.gatherPayload hg E (SparseCore.rows ix hn hin) = gRows E (show IVec S832 32 from ix) := by
  funext p
  show E (hg.idx (SparseCore.rows ix hn hin) p) = E (i2 (ix (i1 (p 0).val)).toNat (p 1).val)
  congr 1
  have hlt : (ix (i1 (p 0).val)).toNat < n := hin _
  refine ext2 ?_ ?_
  · have h0 : hg.idx (SparseCore.rows ix hn hin) p 0 = SparseCore.rows ix hn hin (p 0) := hg.idx_axis (SparseCore.rows ix hn hin) p
    rw [i2_val0, Nat.mod_eq_of_lt hlt, h0]
    show (ix (S832.rowMajor.symm ((p 0).cast hn.symm))).toNat = _
    congr 2
    refine ext1 ?_
    rw [i1_val, Nat.mod_eq_of_lt (lt0 p)]
    rw [← Shape.rowMajor_val_one, Equiv.apply_symm_apply]; rfl
  · rw [i2_val1, Nat.mod_eq_of_lt (lt1 p)]
    exact hg.idx_of_ne (SparseCore.rows ix hn hin) p 1 (show ((1 : Fin 2).val) ≠ 0 by decide)

/-- A row gather is started. -/
theorem step_gather {Q : α → sProp 𝕄} {q : PosShare TreeShare} {n : ℕ} [NeZero n] {src : Memref sig c.2.kind sp ⟨2, ![n, 16]⟩ .f32} {dst : Memref sig c.2.kind .vmem S832x16 .f32}
    {hg : (⟨2, ![n, 16]⟩ : Shape).Gathers 0 S832x16} {offs : Memref sig c.2.kind .vmem S832 .i32} {hn : S832.numel = S832x16.size hg.axis'} {sem : DmaSem sig}
    {hp : c.2.kind = .scVector} {hsrc : src.view.WordExact} {he : (EltTy.f32).bits = 32} {hsp : sp = .hbm ∨ sp = .shared} {hr : (⟨2, ![n, 16]⟩ : Shape).StreamRows 0}
    {k : PUnit → Prog (TpuEff nD τ sig (Elt F) Λ c.2) α} {E : Vec F ⟨2, ![n, 16]⟩ .f32} {f₀ : Vec F S832x16 .f32} {ix : IVec S832 32} (N : ℕ)
    (hN : ∑ j, (dst.slice (S832x16.rowRect hg.axis' j) (S832x16.stride_rowRect hg.axis' j)).view.dmaCredit = N)
    (hin : ∀ x, (ix x).toNat < n) :
    iprop(At q c src E ∗ Own c dst f₀ ∗ Own c offs (show Vec F S832 .i32 from ix) ∗ semVal (c, .dma sem) 0) ⊢
      iprop((Fly c sem N iprop(At q c src E ∗ Own c dst (gRows E ix) ∗ Own c offs (show Vec F S832 .i32 from ix)) -∗ wp frame (wpE defs 𝒱' c bd) Set.univ (k ⟨⟩) Q)
      -∗ wp frame (wpE defs 𝒱' c bd) Set.univ (SparseCore.enqueueIndirectGather hp src dst hg offs hn sem hsrc he hsp hr >>= k) Q) := by
  unfold At Own
  iintro ⟨⟨%gs, %hgs, Hs⟩, ⟨%gd, %hgd, Hd⟩, ⟨%go, %hgo, Ho⟩, Hv⟩ Hk
  have hin' : ∀ x, (offs.view.read (Elt F) go x).toNat < (⟨2, ![n, 16]⟩ : Shape).size hg.axis := by
    intro x; rw [hgo]; exact hin x
  iapply (SparseCore.wp_indirectGatherLocal (defs := defs) countersEmb 𝒱' c bd (src := src) (dst := dst) (hg := hg) (offs := offs) (hn := hn) (sem := sem) (hp := hp)
    (hsrc := hsrc) (he := he) (hsp := hsp) (hr := hr) (k := k) (q := q) (qo := fullShare) (fs := gs) (fd := gd) (fo := go) (default : HIx 2) N hN (by decide) hin') $$ [Hs Hd Ho Hv]
  · isplitl [Hs]; · iexact Hs
    isplitl [Hd]; · iexact Hd
    isplitl [Ho] <;> iassumption
  iintro HF
  iapply Hk
  have hD : iprop((dst.view.loc c ↦[dst.view.set]{fullShare} (dst.view.write (Elt F) gd (SparseCore.gatherPayload hg (src.view.read (Elt F) gs)
        (SparseCore.rows (offs.view.read (Elt F) go) hn hin')) Finset.univ)) ∗ (src.view.loc c ↦[src.view.set]{q} gs) ∗ (offs.view.loc c ↦[offs.view.set]{fullShare} go))
      ⊢ (iprop((∃ g, ⌜src.view.read (Elt F) g = E⌝ ∗ (src.view.loc c ↦[src.view.set]{q} g))
          ∗ (∃ g, ⌜dst.view.read (Elt F) g = gRows E ix⌝ ∗ (dst.view.loc c ↦[dst.view.set]{fullShare} g))
          ∗ (∃ g, ⌜offs.view.read (Elt F) g = (show Vec F S832 .i32 from ix)⌝ ∗ (offs.view.loc c ↦[offs.view.set]{fullShare} g))) : sProp 𝕄) := by
    iintro ⟨Hd, Hs, Ho⟩
    isplitl [Hs]
    · iexists gs; isplitr
      · ipureintro; exact hgs
      · iexact Hs
    isplitl [Hd]
    · iexists (dst.view.write (Elt F) gd (SparseCore.gatherPayload hg (src.view.read (Elt F) gs)
        (SparseCore.rows (offs.view.read (Elt F) go) hn hin')) Finset.univ); isplitr
      · ipureintro
        rw [View.read_write_univ, gather_eq, hgs, hgo]
      · iexact Hd
    · iexists go; isplitr
      · ipureintro; exact hgo
      · iexact Ho
  have hF := Transfers.Flight_mono (EC := countersEmb) (c := c) (sm := .dma sem) (ι := (default : HIx 2)) (N := N) hD
  iapply hF $$ HF

/-- The rows' credits make the credit of all of them. -/
theorem credit_rows {n : ℕ} (hg : (⟨2, ![n, 16]⟩ : Shape).Gathers 0 S832x16) (dst : Memref sig .scVector .vmem S832x16 .f32) :
    ∑ j, (dst.slice (S832x16.rowRect hg.axis' j) (S832x16.stride_rowRect hg.axis' j)).view.dmaCredit = dst.view.dmaCredit := by
  have h : ∀ j, (dst.slice (S832x16.rowRect hg.axis' j) (S832x16.stride_rowRect hg.axis' j)).view.dmaCredit = 512 := by
    intro j
    show (S832x16.rowShape hg.axis').numel * 32 = 512
    rw [show hg.axis' = (0 : Fin 2) from rfl]
    decide
  rw [Finset.sum_congr rfl (fun j _ => h j), Finset.sum_const, Finset.card_univ, Fintype.card_fin]
  show 832 * 512 = S832x16.numel * 32
  decide

end Cert.Proof

end
-- ==== Proof.GatherLoops.lean ====
/- The loops of the gathering kernel, one theorem a loop body: from the buffers' contents before a trip to those after it. -/
module

public import proofs.«01_k».proof.Proof.Contents

@[expose] public section

set_option maxHeartbeats 400000

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

section Steps

variable {Λ : Labels} {defs : Defs nD τ sig (Elt F) Λ} {𝒱' : Variants} {c : Thread nD τ} {bd : Option 𝒱'.V} {E : Set ℕ} {α : Type}

omit [FloatOps F] in
theorem wp_done {P : sProp 𝕄} {Q : α → sProp 𝕄} {a : α} (h : P ⊢ Q a) : P ⊢ wp frame (wpE defs 𝒱' c bd) E (pure a) Q := by
  rw [wp_pure]
  refine h.trans ?_
  iintro H; imodintro; iexact H

/-- One field's sixteen columns: its row loaded, what is there loaded for nothing, the row stored. -/
theorem wp_repack {Q : α → sProp 𝕄} {ME : Memref sig c.2.kind .vmem S832x16 .f32} {MO : Memref sig c.2.kind .vmem S32x512 .f32}
    {f0 : Vec F S32x512 .f32} {Em : Vec F S832x16 .f32} {n r : ℕ} {off off' : Fin 2 → ℕ} {inb inb'} {hl hl' hx hm}
    {w : Vec F S1x16 .f32 → Vec F S1x16 .f32} {k : PUnit → Prog (TpuEff nD τ sig (Elt F) Λ c.2) α}
    (hw : ∀ v, w v = v) (hn : n < 26)
    (hoff : off = ![26 * r + n, 0]) (hoff' : off' = ![r, 16 * n])
    (hk : iprop(Own c ME Em ∗ Own c MO (repF f0 Em r (n + 1))) ⊢ wp frame (wpE defs 𝒱' c bd) E (k ⟨⟩) Q) :
    iprop(Own c ME Em ∗ Own c MO (repF f0 Em r n)) ⊢ wp frame (wpE defs 𝒱' c bd) E
      (Prog.lift (.load ME (Rect.unit (s := S832x16) off S1x16.size inb).toLoadRect hl) >>= fun v =>
        Prog.lift (.load MO (Rect.unit (s := S32x512) off' S1x16.size inb').toLoadRect hl') >>= fun _ =>
        Prog.lift (.store MO (Rect.unit (s := S32x512) off' S1x16.size inb') (w v) Finset.univ hx hm) >>= k) Q := by
  iintro ⟨H1, H2⟩
  iapply step_load $$ H1
  iintro H1
  iapply step_load $$ H2
  iintro H2
  iapply (step_store (repF_step f0 Em r n hn hoff hoff' _ (hw _))) $$ H2
  iintro H2
  iapply hk
  isplitl [H1] <;> iassumption

/-- The first half alone: the row loaded. -/
theorem wp_repack_load {Q : α → sProp 𝕄} {ME : Memref sig c.2.kind .vmem S832x16 .f32} {R : sProp 𝕄} {Em : Vec F S832x16 .f32}
    {r : Rect S832x16} {hl} {k : (r.shape.Idx → Elt F .f32) → Prog (TpuEff nD τ sig (Elt F) Λ c.2) α}
    (hk : iprop(Own c ME Em ∗ R) ⊢ wp frame (wpE defs 𝒱' c bd) E (k fun x => Em (r.emb x)) Q) :
    iprop(Own c ME Em ∗ R) ⊢ wp frame (wpE defs 𝒱' c bd) E (Prog.lift (.load ME r.toLoadRect hl) >>= k) Q := by
  iintro ⟨H1, H2⟩
  iapply step_load $$ H1
  iintro H1
  iapply hk
  isplitl [H1] <;> iassumption

/-- The second half: what is there loaded for nothing, the row stored. -/
theorem wp_repack_store {Q : α → sProp 𝕄} {ME : Memref sig c.2.kind .vmem S832x16 .f32} {MO : Memref sig c.2.kind .vmem S32x512 .f32}
    {f0 : Vec F S32x512 .f32} {Em : Vec F S832x16 .f32} {n r : ℕ} {off off' : Fin 2 → ℕ} {inb inb'} {hl' hx hm}
    {v : Vec F S1x16 .f32} {k : PUnit → Prog (TpuEff nD τ sig (Elt F) Λ c.2) α}
    (hv : v = fun x : S1x16.Idx => Em ((Rect.unit (s := S832x16) off S1x16.size inb).emb x)) (hn : n < 26)
    (hoff : off = ![26 * r + n, 0]) (hoff' : off' = ![r, 16 * n])
    (hk : iprop(Own c ME Em ∗ Own c MO (repF f0 Em r (n + 1))) ⊢ wp frame (wpE defs 𝒱' c bd) E (k ⟨⟩) Q) :
    iprop(Own c ME Em ∗ Own c MO (repF f0 Em r n)) ⊢ wp frame (wpE defs 𝒱' c bd) E
      (Prog.lift (.load MO (Rect.unit (s := S32x512) off' S1x16.size inb').toLoadRect hl') >>= fun _ =>
        Prog.lift (.store MO (Rect.unit (s := S32x512) off' S1x16.size inb') v Finset.univ hx hm) >>= k) Q := by
  iintro ⟨H1, H2⟩
  iapply step_load $$ H2
  iintro H2
  iapply (step_store (repF_step f0 Em r n hn hoff hoff' _ hv)) $$ H2
  iintro H2
  iapply hk
  isplitl [H1] <;> iassumption

end Steps

/-- The thread of a subcore of the gathering call. -/
abbrev thr1 (d : Dev nD) (i : grid1.Coords) : Thread nD τ := (d, .scVector ((i 0).castLE hcore1) ((i 1).castLE hsub1))

section Bodies

variable {defs : Defs nD τ sig (Elt F) Λ₀} {𝒱' : Variants} {bd : Option 𝒱'.V} {E : Set ℕ} (d : Dev nD)
variable (i : grid1.Coords) (arg2 : Memref sig .scVector .hbm S425984 .i32) (harg2 : arg2.IsWhole)
  (arg3 : Memref sig .scVector .hbm S2600000x16 .f32) (harg3 : arg3.IsWhole)
  (arg4 : Memref sig .scVector .hbm S162500x16 .f32) (harg4 : arg4.IsWhole)
  (arg5 : Memref sig .scVector .hbm S832 .i32) (harg5 : arg5.IsWhole)
  (arg6 : Memref sig .scVector .hbm S64x16 .f32) (harg6 : arg6.IsWhole)
  (arg7 : Memref sig .scVector .hbm S16384x512 .f32) (harg7 : arg7.IsWhole)
  (arg8 : Memref sig .scVector .vmem S832 .i32) (harg8 : arg8.IsWhole)
  (arg9 : Memref sig .scVector .vmem S832 .i32) (harg9 : arg9.IsWhole)
  (arg10 : Memref sig .scVector .vmem S832 .i32) (harg10 : arg10.IsWhole)
  (arg11 : Memref sig .scVector .vmem S832 .i32) (harg11 : arg11.IsWhole)
  (arg12 : Memref sig .scVector .vmem S832 .i32) (harg12 : arg12.IsWhole)
  (arg13 : Memref sig .scVector .vmem S832x16 .f32) (harg13 : arg13.IsWhole)
  (arg14 : Memref sig .scVector .vmem S832x16 .f32) (harg14 : arg14.IsWhole)
  (arg15 : Memref sig .scVector .vmem S832x16 .f32) (harg15 : arg15.IsWhole)
  (arg16 : Memref sig .scVector .vmem S832x16 .f32) (harg16 : arg16.IsWhole)
  (arg17 : Memref sig .scVector .vmem S32x512 .f32) (harg17 : arg17.IsWhole)
  (arg18 : Memref sig .scVector .vmem S64x16 .f32) (harg18 : arg18.IsWhole) (arg19 : DmaSems sig S_)
  (arg20 : DmaSems sig S_) (arg21 : DmaSems sig S_) (arg22 : DmaSems sig S_) (v18_r0 : DmaSems sig S_)
  (v18_r1 : DmaSems sig S_) (v18_r2 : DmaSems sig S_) (v52_r3 : DmaSems sig S_) (v52_r4 : DmaSems sig S_)
  (v52_r5 : DmaSems sig S_) (v52_r6 : DmaSems sig S_)

theorem wp_t6 (v3 : BitVec 32) (v6 : IVec S16 32) (x1 x2 : BitVec 32) (t3 : Fin k1_t3_loop.trips) (f0 : Vec F S32x512 .f32) (Em : Vec F S832x16 .f32)
    (t : Fin k1_t6_loop.trips) :
    iprop(Own (thr1 d i) arg13 Em ∗ Own (thr1 d i) arg17 (repF f0 Em t.val 0)) ⊢ wp frame (wpE defs 𝒱' (thr1 d i) bd) E
      (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v6 x1 x2 t3 t ()) fun _ => iprop(Own (thr1 d i) arg13 Em ∗ Own (thr1 d i) arg17 (repF f0 Em (t.val + 1) 0)) := by
  have hs : ∀ v : Vec F S1x16 .f32, shapeCast S1x16 (shapeCast S16 v shapeCasts_S1x16_S16) shapeCasts_S16_S1x16 = v := fun v => shapeCast_shapeCast v _ _
  unfold k1_t6_body
  rw [wp_bind, k1_part1_eq_skeleton]; unfold k1_part1_skel
  iterate 4 refine wp_repack hs (by decide) (by revert t; decide +kernel) (by revert t; decide +kernel) ?_
  refine wp_repack_load (wp_done ?_)
  dsimp only
  rw [wp_bind, k1_part2_eq_skeleton]; unfold k1_part2_skel
  refine wp_repack_store (hs (fun x => Em ((Rect.unit (s := S832x16) (k1_off12 t 4#32) S1x16.size (k1_off12_inb t 4)).emb x)))
    (by decide) (by revert t; decide +kernel) (by revert t; decide +kernel) ?_
  iterate 4 refine wp_repack hs (by decide) (by revert t; decide +kernel) (by revert t; decide +kernel) ?_
  refine wp_done ?_
  rw [wp_bind, k1_part3_eq_skeleton]; unfold k1_part3_skel
  iterate 4 refine wp_repack hs (by decide) (by revert t; decide +kernel) (by revert t; decide +kernel) ?_
  refine wp_repack_load (wp_done ?_)
  rw [wp_bind, k1_part4_eq_skeleton]; unfold k1_part4_skel
  refine wp_repack_store (hs (fun x => Em ((Rect.unit (s := S832x16) (k1_off12 t 13#32) S1x16.size (k1_off12_inb t 13)).emb x)))
    (by decide) (by revert t; decide +kernel) (by revert t; decide +kernel) ?_
  iterate 4 refine wp_repack hs (by decide) (by revert t; decide +kernel) (by revert t; decide +kernel) ?_
  refine wp_done ?_
  rw [wp_bind, k1_part5_eq_skeleton]; unfold k1_part5_skel
  iterate 5 refine wp_repack hs (by decide) (by revert t; decide +kernel) (by revert t; decide +kernel) ?_
  refine wp_done ?_
  iterate 3 refine wp_repack hs (by decide) (by revert t; decide +kernel) (by revert t; decide +kernel) ?_
  refine wp_done ?_
  rw [← repF_next]

end Bodies

end Cert.Proof

end
-- ==== Proof.GatherLoops2.lean ====
/- The other loops of the gathering call, one trip each: the last columns set to zero, the offsets added, the linear weights
   taken, the rows near the table's end taken from the tail copy. -/
module

public import proofs.«01_k».proof.Proof.GatherLoops

@[expose] public section

set_option maxHeartbeats 400000

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## When no lane is masked -/

theorem max_fold {ι : Type} (u : ι → BitVec 32) (hall : ∀ y, u y = 0x80000000#32 ∨ u y = 0x80000001#32) (l : List ι) :
    ∀ a : BitVec 32, (a = 0x80000000#32 ∨ a = 0x80000001#32) → (a = 0x80000001#32 ∨ ∃ q ∈ l, u q = 0x80000001#32) →
      l.foldl (fun r q => ScanKind.max.step r (u q)) a = 0x80000001#32 := by
  induction l with
  | nil => intro a _ h; exact h.elim id (fun ⟨q, hq, _⟩ => by simp at hq)
  | cons x l ih =>
    intro a ha h
    have hx := hall x
    rw [List.foldl_cons]
    refine ih _ ?_ ?_
    · rcases ha with rfl | rfl <;> rcases hx with hx | hx <;> rw [hx] <;> decide
    · rcases h with rfl | ⟨q, hq, hu⟩
      · left; rcases hx with hx | hx <;> rw [hx] <;> decide
      · rcases List.mem_cons.mp hq with rfl | hq
        · left; rw [hu]; rcases ha with rfl | rfl <;> decide
        · exact .inr ⟨q, hq, hu⟩

theorem scan_max15 (u : IVec S16 32) (hall : ∀ y, u y = 0x80000000#32 ∨ u y = 0x80000001#32) (k : ℕ) (hk : k < 16) (hkk : u (i1 k) = 0x80000001#32) :
    scan .max u (fun a => ⟨![15] a, inpos_S16_p15 a⟩) = 0x80000001#32 := by
  refine max_fold (fun q : Fin 16 => u (Shape.ofLane q)) (fun _ => hall _) _ _ (hall _) ?_
  by_cases hk0 : k = 0
  · left; subst hk0; rw [← hkk]; exact congrArg u (eq_i1 _ 0 rfl)
  · right
    refine ⟨⟨k, hk⟩, ?_, ?_⟩
    · exact List.mem_filter.mpr ⟨List.mem_finRange (n := 16) ⟨k, hk⟩, decide_eq_true ⟨show 0 < k by omega, show k ≤ 15 by omega⟩⟩
    · rw [← hkk]; exact congrArg u (eq_i1 _ k rfl)

/-- The word of one lane of the mask, and the running maximum of them at the last lane. -/
theorem none_masked (v : Vec F S16 .i32) (hc : k1_cond1 (extractAt ![15] (k1_pay90 v) inpos_S16_p15) ≠ 1#1) (k : ℕ) (hk : k < 16) :
    inTail (v (i1 k)) ≠ 1#1 := by
  intro h
  apply hc
  have hu : ∀ y : S16.Idx, (xori (extui 32 (k1_pay89 v) natLt_1_32) (broadcast S16 2147483648#32) y : BitVec 32)
      = IntOp.xori (BitVec.setWidth 32 (inTail (v y))) 2147483648#32 := fun y => rfl
  have h2 : ∀ b : BitVec 1, IntOp.xori (BitVec.setWidth 32 b) 2147483648#32 = 0x80000000#32 ∨ IntOp.xori (BitVec.setWidth 32 b) 2147483648#32 = 0x80000001#32 := by decide
  have hall : ∀ y : S16.Idx, (xori (extui 32 (k1_pay89 v) natLt_1_32) (broadcast S16 2147483648#32) y : BitVec 32) = 0x80000000#32
      ∨ (xori (extui 32 (k1_pay89 v) natLt_1_32) (broadcast S16 2147483648#32) y : BitVec 32) = 0x80000001#32 := fun y => by rw [hu]; exact h2 _
  have hkk : (xori (extui 32 (k1_pay89 v) natLt_1_32) (broadcast S16 2147483648#32) (i1 k) : BitVec 32) = 0x80000001#32 := by
    rw [hu, h]; decide
  have key : (k1_pay90 v) (fun a => ⟨![15] a, inpos_S16_p15 a⟩) = 1#32 := by
    unfold k1_pay90
    show IntOp.xori (scan .max _ _) 2147483648#32 = 1#32
    have := scan_max15 _ hall k hk hkk
    rw [this]; decide
  show k1_cond1 ((k1_pay90 v) (fun a => ⟨![15] a, inpos_S16_p15 a⟩)) = 1#1
  rw [key]; decide

/-- The kernel's zero. -/
def zeroC : Elt F .f32 := Scalar.ofBits .f32 0x00000000#32

theorem tailRow_lt (w : BitVec 32) : tailRow w < 64 := by
  unfold tailRow
  generalize IntOp.subi w 2599936#32 = v
  unfold IntOp.minsi IntOp.maxsi
  have e63 : (63#32).toInt = 63 := by decide
  have e0 : (0#32).toInt = 0 := by decide
  have hv := v.isLt
  have hi : v.toInt = if 2 * v.toNat < 2 ^ 32 then (v.toNat : ℤ) else (v.toNat : ℤ) - 2 ^ 32 := BitVec.toInt_eq_toNat_cond v
  by_cases h1 : v.slt 0#32
  · rw [if_pos h1, if_neg (by decide)]; decide
  · rw [if_neg h1]
    simp only [BitVec.slt, decide_eq_true_eq, e0] at h1
    by_cases h2 : (63#32).slt v
    · rw [if_pos h2]; decide
    · rw [if_neg h2]
      simp only [BitVec.slt, decide_eq_true_eq, e63] at h2
      split at hi <;> omega

/-! ## One column of the rows near the table's end -/

section Steps

variable {Λ : Labels} {defs : Defs nD τ sig (Elt F) Λ} {𝒱' : Variants} {c : Thread nD τ} {bd : Option 𝒱'.V} {E : Set ℕ} {α : Type}

/-- Sixteen words loaded. -/
theorem step_load16 {Q : α → sProp 𝕄} {n : ℕ} [NeZero n] {M : Memref sig c.2.kind .vmem ⟨1, ![n]⟩ .i32} {off : Fin 1 → ℕ} {inb} {hl} {q : ℕ} (hoff : off = ![q])
    {k : Vec F S16 .i32 → Prog (TpuEff nD τ sig (Elt F) Λ c.2) α} {f : Vec F ⟨1, ![n]⟩ .i32} :
    Own c M f ⊢ iprop((Own c M f -∗ wp frame (wpE defs 𝒱' c bd) E (k fun x : S16.Idx => f (i1 (q + (x 0).val))) Q)
      -∗ wp frame (wpE defs 𝒱' c bd) E (Prog.lift (.load M (Rect.unit (s := ⟨1, ![n]⟩) off S16.size inb).toLoadRect hl) >>= k) Q) := by
  rw [← lane_read (inb := inb) hoff f]
  exact step_load (M := M) (r := Rect.unit (s := ⟨1, ![n]⟩) off S16.size inb)

/-- The column's number checked and loaded from the tail copy. -/
theorem wp_fix_load {Q : α → sProp 𝕄} {MT : Memref sig c.2.kind .vmem S64x16 .f32} {R : sProp 𝕄} {Tl : Vec F S64x16 .f32} {ix : IVec S832 32}
    {t : ℕ} {a : IVec S16 32} {w : BitVec 32} {P1 : Prop} {d1 : Decidable P1}
    {h1 : PLift P1 → ∀ x y, ((![a, broadcast S16 w] : Fin 2 → IVec S16 32) x y).toNat < S64x16.size x} {hl}
    {k : PLift P1 → Vec F S16 .f32 → Prog (TpuEff nD τ sig (Elt F) Λ c.2) α}
    (ha : ∀ x : S16.Idx, (a x).toNat = tailRow (ix (i1 (16 * t + (x 0).val)))) (hw : w.toNat < 16)
    (hP1 : (∀ x y, ((![a, broadcast S16 w] : Fin 2 → IVec S16 32) x y).toNat < S64x16.size x) → P1)
    (hk : ∀ p h, iprop(Own c MT Tl ∗ R) ⊢ wp frame (wpE defs 𝒱' c bd) E (k p (loadIdx Tl ![a, broadcast S16 w] h)) Q) :
    iprop(Own c MT Tl ∗ R) ⊢ wp frame (wpE defs 𝒱' c bd) E
      (Prog.lift (.assume P1 d1) >>= fun w1 => SparseCore.vectorLoadIdx MT ![a, broadcast S16 w] (h1 w1) hl >>= k w1) Q := by
  have hab : ∀ x y, ((![a, broadcast S16 w] : Fin 2 → IVec S16 32) x y).toNat < S64x16.size x := fun x y => by
    match x with
    | 0 => exact lt_of_eq_of_lt (ha y) (tailRow_lt _)
    | 1 => exact hw
  have key : iprop(Own c MT Tl ∗ R) ⊢ wp frame (wpE defs 𝒱' c bd) E
      (SparseCore.vectorLoadIdx MT ![a, broadcast S16 w] (h1 ⟨hP1 hab⟩) hl >>= k ⟨hP1 hab⟩) Q := by
    iintro ⟨H1, H2⟩
    iapply step_loadIdx $$ H1
    iintro H1
    iapply hk
    isplitl [H1] <;> iassumption
  exact BI.Entails.trans key (step_assume (F := F) (k := fun w1 => SparseCore.vectorLoadIdx MT ![a, broadcast S16 w] (h1 w1) hl >>= k w1) (hP1 hab))

/-- The column's places checked. -/
theorem wp_fix_chk {Q : α → sProp 𝕄} {R : sProp 𝕄} {t n : ℕ} {a b : IVec S16 32} {P1 : Prop} {d1 : Decidable P1}
    {k : PLift P1 → Prog (TpuEff nD τ sig (Elt F) Λ c.2) α} (ht : t < 52) (hn : n < 16)
    (ha : ∀ x : S16.Idx, (a x).toNat = (16 * t + (x 0).val) / 26) (hb : ∀ x : S16.Idx, (b x).toNat = 16 * ((16 * t + (x 0).val) % 26) + n)
    (hP1 : (∀ x y, ((![a, b] : Fin 2 → IVec S16 32) x y).toNat < S32x512.size x) → P1)
    (hk : ∀ p, R ⊢ wp frame (wpE defs 𝒱' c bd) E (k p) Q) :
    R ⊢ wp frame (wpE defs 𝒱' c bd) E (Prog.lift (.assume P1 d1) >>= k) Q := by
  have hab : ∀ x y, ((![a, b] : Fin 2 → IVec S16 32) x y).toNat < S32x512.size x := fun x y => by
    have := lt01 y
    match x with
    | 0 => refine lt_of_eq_of_lt (ha y) ?_; show _ < 32; omega
    | 1 => refine lt_of_eq_of_lt (hb y) ?_; show _ < 512; omega
  exact BI.Entails.trans (hk ⟨hP1 hab⟩) (step_assume (hP1 hab))

/-- What was loaded stored in its places. -/
theorem wp_fix_store {Q : α → sProp 𝕄} {R : sProp 𝕄} {MT : Memref sig c.2.kind .vmem S64x16 .f32} {MO : Memref sig c.2.kind .vmem S32x512 .f32}
    {f0 : Vec F S32x512 .f32} {Tl : Vec F S64x16 .f32} {ix : IVec S832 32} {t n : ℕ} {a b p q : IVec S16 32} {msk : IVec S16 1} {h1 h2 hs}
    {k : PUnit → Prog (TpuEff nD τ sig (Elt F) Λ c.2) α} (ht : t < 52) (hn : n < 16)
    (hm : ∀ x : S16.Idx, msk x = inTail (ix (i1 (16 * t + (x 0).val))))
    (ha : ∀ x : S16.Idx, (a x).toNat = tailRow (ix (i1 (16 * t + (x 0).val)))) (hb : ∀ x : S16.Idx, (b x).toNat = n)
    (hc : ∀ x : S16.Idx, (p x).toNat = (16 * t + (x 0).val) / 26) (hd : ∀ x : S16.Idx, (q x).toNat = 16 * ((16 * t + (x 0).val) % 26) + n)
    (hk : iprop(Own c MT Tl ∗ Own c MO (fixF f0 Tl ix t (n + 1)) ∗ R) ⊢ wp frame (wpE defs 𝒱' c bd) E (k ⟨⟩) Q) :
    iprop(Own c MT Tl ∗ Own c MO (fixF f0 Tl ix t n) ∗ R) ⊢ wp frame (wpE defs 𝒱' c bd) E
      (SparseCore.vectorStoreIdx MO ![p, q] (loadIdx Tl ![a, b] h1) msk false h2 hs >>= k) Q := by
  iintro ⟨H1, H2, HR⟩
  iapply (step_storeIdx (fixF_step f0 Tl ix t n ht hn a b p q msk h1 h2 hm ha hb hc hd)) $$ H2
  iintro H2
  iapply hk
  isplitl [H1]
  · iexact H1
  isplitl [H2]
  · iexact H2
  · iexact HR

/-- Sixteen words loaded, two other buffers beside them. -/
theorem wp_load16 {Q : α → sProp 𝕄} {P R : sProp 𝕄} {n : ℕ} [NeZero n] {M : Memref sig c.2.kind .vmem ⟨1, ![n]⟩ .i32} {off : Fin 1 → ℕ} {inb} {hl} {q : ℕ}
    (hoff : off = ![q]) {k : Vec F S16 .i32 → Prog (TpuEff nD τ sig (Elt F) Λ c.2) α} {f : Vec F ⟨1, ![n]⟩ .i32}
    (hk : iprop(P ∗ R ∗ Own c M f) ⊢ wp frame (wpE defs 𝒱' c bd) E (k fun x : S16.Idx => f (i1 (q + (x 0).val))) Q) :
    iprop(P ∗ R ∗ Own c M f) ⊢ wp frame (wpE defs 𝒱' c bd) E (Prog.lift (.load M (Rect.unit (s := ⟨1, ![n]⟩) off S16.size inb).toLoadRect hl) >>= k) Q := by
  iintro ⟨H1, H2, H3⟩
  iapply (step_load16 hoff) $$ H3
  iintro H3
  iapply hk
  isplitl [H1]
  · iexact H1
  isplitl [H2]
  · iexact H2
  · iexact H3

/-- Sixteen columns' part set to zero. -/
theorem wp_zero {Q : α → sProp 𝕄} {MO : Memref sig c.2.kind .vmem S32x512 .f32} {f0 : Vec F S32x512 .f32} {z : Elt F .f32} {n j : ℕ}
    {off : Fin 2 → ℕ} {inb hl hx hm} {v : Vec F S1x16 .f32} {k : PUnit → Prog (TpuEff nD τ sig (Elt F) Λ c.2) α}
    (hv : ∀ x, v x = z) (hoff : off = ![n, 416 + 16 * j])
    (hk : Own c MO (zeroF f0 z n (j + 1)) ⊢ wp frame (wpE defs 𝒱' c bd) E (k ⟨⟩) Q) :
    Own c MO (zeroF f0 z n j) ⊢ wp frame (wpE defs 𝒱' c bd) E
      (Prog.lift (.load MO (Rect.unit (s := S32x512) off S1x16.size inb).toLoadRect hl) >>= fun _ =>
        Prog.lift (.store MO (Rect.unit (s := S32x512) off S1x16.size inb) v Finset.univ hx hm) >>= k) Q := by
  iintro H
  iapply step_load $$ H
  iintro H
  iapply (step_store (zeroF_step f0 z n j hoff v hv)) $$ H
  iintro H
  iapply hk
  iexact H

end Steps

/-- The numbers of the sixteen lanes. -/
abbrev lanes : IVec S16 32 := iota .scVector S16 32 [0] iota_S16_d0_w32_scVector

section Bodies

variable {defs : Defs nD τ sig (Elt F) Λ₀} {𝒱' : Variants} {bd : Option 𝒱'.V} {E : Set ℕ} (d : Dev nD)
variable (i : grid1.Coords) (arg2 : Memref sig .scVector .hbm S425984 .i32) (harg2 : arg2.IsWhole)
  (arg3 : Memref sig .scVector .hbm S2600000x16 .f32) (harg3 : arg3.IsWhole)
  (arg4 : Memref sig .scVector .hbm S162500x16 .f32) (harg4 : arg4.IsWhole)
  (arg5 : Memref sig .scVector .hbm S832 .i32) (harg5 : arg5.IsWhole)
  (arg6 : Memref sig .scVector .hbm S64x16 .f32) (harg6 : arg6.IsWhole)
  (arg7 : Memref sig .scVector .hbm S16384x512 .f32) (harg7 : arg7.IsWhole)
  (arg8 : Memref sig .scVector .vmem S832 .i32) (harg8 : arg8.IsWhole)
  (arg9 : Memref sig .scVector .vmem S832 .i32) (harg9 : arg9.IsWhole)
  (arg10 : Memref sig .scVector .vmem S832 .i32) (harg10 : arg10.IsWhole)
  (arg11 : Memref sig .scVector .vmem S832 .i32) (harg11 : arg11.IsWhole)
  (arg12 : Memref sig .scVector .vmem S832 .i32) (harg12 : arg12.IsWhole)
  (arg13 : Memref sig .scVector .vmem S832x16 .f32) (harg13 : arg13.IsWhole)
  (arg14 : Memref sig .scVector .vmem S832x16 .f32) (harg14 : arg14.IsWhole)
  (arg15 : Memref sig .scVector .vmem S832x16 .f32) (harg15 : arg15.IsWhole)
  (arg16 : Memref sig .scVector .vmem S832x16 .f32) (harg16 : arg16.IsWhole)
  (arg17 : Memref sig .scVector .vmem S32x512 .f32) (harg17 : arg17.IsWhole)
  (arg18 : Memref sig .scVector .vmem S64x16 .f32) (harg18 : arg18.IsWhole) (arg19 : DmaSems sig S_)
  (arg20 : DmaSems sig S_) (arg21 : DmaSems sig S_) (arg22 : DmaSems sig S_) (v18_r0 : DmaSems sig S_)
  (v18_r1 : DmaSems sig S_) (v18_r2 : DmaSems sig S_) (v52_r3 : DmaSems sig S_) (v52_r4 : DmaSems sig S_)
  (v52_r5 : DmaSems sig S_) (v52_r6 : DmaSems sig S_)

theorem wp_t1 (f0 : Vec F S32x512 .f32) (t : Fin k1_t1_loop.trips) :
    Own (thr1 d i) arg17 (zeroF f0 zeroC t.val 0) ⊢ wp frame (wpE defs 𝒱' (thr1 d i) bd) E
      (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 t ()) fun _ => Own (thr1 d i) arg17 (zeroF f0 zeroC (t.val + 1) 0) := by
  unfold k1_t1_body
  iterate 6 refine wp_zero (fun _ => rfl) (by revert t; decide +kernel) ?_
  refine wp_done ?_
  rw [← zeroF_next]

/-- The words with the fields' offsets added. -/
def ixF (X O : IVec S832 32) : IVec S832 32 := fun p => IntOp.addi (X p) (O p)
/-- The rows of the sixteen-wide linear table that they lie in. -/
def lxF (X O : IVec S832 32) : IVec S832 32 := fun p => IntOp.shrui .vector (IntOp.addi (X p) (O p)) 4#32

theorem wp_t2 (X O L0 : IVec S832 32) (t : Fin k1_t2_loop.trips) :
    iprop(Own (thr1 d i) arg8 (addF (F := F) (e := .i32) X (ixF X O) t.val) ∗ Own (thr1 d i) arg12 O ∗ Own (thr1 d i) arg10 (addF (F := F) (e := .i32) L0 (lxF X O) t.val)) ⊢
      wp frame (wpE defs 𝒱' (thr1 d i) bd) E (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 t ()) fun _ =>
        iprop(Own (thr1 d i) arg8 (addF (F := F) (e := .i32) X (ixF X O) (t.val + 1)) ∗ Own (thr1 d i) arg12 O ∗ Own (thr1 d i) arg10 (addF (F := F) (e := .i32) L0 (lxF X O) (t.val + 1))) := by
  have hoff : k1_off8 t = ![16 * t.val] := by revert t; decide +kernel
  have hr : ∀ (x : S16.Idx), addF (F := F) (e := .i32) X (ixF X O) t.val (i1 (16 * t.val + (x 0).val)) = X (i1 (16 * t.val + (x 0).val)) := fun x => by
    have ht : t.val < 52 := t.isLt
    have := lt01 x
    unfold addF; rw [if_neg]; rw [i1_val, Nat.mod_eq_of_lt (by omega)]; omega
  unfold k1_t2_body
  iintro ⟨H8, H12, H10⟩
  iapply (step_load16 hoff) $$ H8
  iintro H8
  iapply (step_load16 hoff) $$ H12
  iintro H12
  iapply step_load $$ H8
  iintro H8
  iapply (step_store (addF_step (F := F) (e := .i32) X (ixF X O) t.val hoff _ ?_)) $$ H8
  · intro k hk
    show IntOp.addi (addF (F := F) (e := .i32) X (ixF X O) t.val (i1 (16 * t.val + ((i1 k : S16.Idx) 0).val))) _ = _
    rw [hr]
    show IntOp.addi (X (i1 (16 * t.val + k % 16))) (O (i1 (16 * t.val + k % 16))) = _
    rw [Nat.mod_eq_of_lt hk]; rfl
  iintro H8
  iapply step_load $$ H10
  iintro H10
  iapply (step_store (addF_step (F := F) (e := .i32) L0 (lxF X O) t.val hoff _ ?_)) $$ H10
  · intro k hk
    show IntOp.shrui .vector (IntOp.addi (addF (F := F) (e := .i32) X (ixF X O) t.val (i1 (16 * t.val + ((i1 k : S16.Idx) 0).val))) _) 4#32 = _
    rw [hr]
    show IntOp.shrui .vector (IntOp.addi (X (i1 (16 * t.val + k % 16))) (O (i1 (16 * t.val + k % 16)))) 4#32 = _
    rw [Nat.mod_eq_of_lt hk]; rfl
  iintro H10
  iapply wp_done .rfl
  isplitl [H8]
  · iexact H8
  isplitl [H12]
  · iexact H12
  · iexact H10

theorem wp_t5 (v3 : BitVec 32) (x1 x2 : BitVec 32) (t3 : Fin k1_t3_loop.trips) (f0 : Vec F S32x512 .f32) (L : Vec F S832x16 .f32) (ix : IVec S832 32)
    (t : Fin k1_t5_loop.trips) :
    iprop(Own (thr1 d i) arg8 (show Vec F S832 .i32 from ix) ∗ Own (thr1 d i) arg15 L ∗ Own (thr1 d i) arg17 (selF f0 L ix t.val)) ⊢ wp frame (wpE defs 𝒱' (thr1 d i) bd) E
      (k1_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes x1 x2 t3 t ()) fun _ =>
        iprop(Own (thr1 d i) arg8 (show Vec F S832 .i32 from ix) ∗ Own (thr1 d i) arg15 L ∗ Own (thr1 d i) arg17 (selF f0 L ix (t.val + 1))) := by
  have hoff : k1_off11 t = ![16 * t.val] := by revert t; decide +kernel
  have ht : t.val < 52 := t.isLt
  have ha : ∀ x : S16.Idx, (k1_pay82 lanes t x).toNat = 16 * t.val + (x 0).val := forall_lt16 (by revert t; decide +kernel)
  have hc : ∀ x : S16.Idx, (k1_pay84 lanes t x).toNat = (16 * t.val + (x 0).val) / 26 := forall_lt16 (by revert t; decide +kernel)
  have hd : ∀ x : S16.Idx, (k1_pay85 lanes t x).toNat = 416 + (16 * t.val + (x 0).val) % 26 := forall_lt16 (by revert t; decide +kernel)
  have hb : ∀ x : S16.Idx, (k1_pay81 (F := F) (fun y : S16.Idx => ix (i1 (16 * t.val + (y 0).val))) x).toNat = (ix (i1 (16 * t.val + (x 0).val))).toNat % 16 := fun x => by
    show (ix (i1 (16 * t.val + (x 0).val)) &&& 15#32).toNat = _
    rw [BitVec.toNat_and]
    exact Nat.and_two_pow_sub_one_eq_mod _ 4
  unfold k1_t5_body
  iintro ⟨H8, H15, H17⟩
  iapply (step_load16 hoff) $$ H8
  iintro H8
  iapply step_assume (fun x y => by
    have := lt01 y
    match x with
    | 0 => refine lt_of_eq_of_lt (ha y) ?_; show _ < 832; omega
    | 1 => refine lt_of_eq_of_lt (hb y) ?_; show _ < 16; omega)
  iapply step_loadIdx $$ H15
  iintro H15
  iapply step_assume (fun x y => by
    have := lt01 y
    match x with
    | 0 => refine lt_of_eq_of_lt (hc y) ?_; show _ < 32; omega
    | 1 => refine lt_of_eq_of_lt (hd y) ?_; show _ < 512; omega)
  iapply (step_storeIdx (selF_step f0 L ix t.val ht _ _ _ _ _ _ ha hb hc hd)) $$ H17
  iintro H17
  iapply wp_done .rfl
  isplitl [H8]
  · iexact H8
  isplitl [H15]
  · iexact H15
  · iexact H17

theorem fix_row : ∀ (t : Fin k1_t7_loop.trips) (k : Fin 16),
    (k1_pay25 lanes (Scf.iv 0#32 1#32 t.val) (i1 k.val)).toNat = (16 * t.val + ((i1 k.val : S16.Idx) 0).val) / 26 := by decide +kernel

theorem fix_col : ∀ (t : Fin k1_t7_loop.trips) (k : Fin 16),
    (k1_pay26 lanes (Scf.iv 0#32 1#32 t.val) (i1 k.val)).toNat = 16 * ((16 * t.val + ((i1 k.val : S16.Idx) 0).val) % 26) := by decide +kernel

theorem wp_t7 (v3 : BitVec 32) (x1 x2 : BitVec 32) (t3 : Fin k1_t3_loop.trips) (f0 : Vec F S32x512 .f32) (Tl : Vec F S64x16 .f32) (ix : IVec S832 32)
    (t : Fin k1_t7_loop.trips) :
    iprop(Own (thr1 d i) arg18 Tl ∗ Own (thr1 d i) arg17 (fixF f0 Tl ix t.val 0) ∗ Own (thr1 d i) arg8 (show Vec F S832 .i32 from ix)) ⊢ wp frame (wpE defs 𝒱' (thr1 d i) bd) E
      (k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes x1 x2 t3 t ()) fun _ =>
        iprop(Own (thr1 d i) arg18 Tl ∗ Own (thr1 d i) arg17 (fixF f0 Tl ix (t.val + 1) 0) ∗ Own (thr1 d i) arg8 (show Vec F S832 .i32 from ix)) := by
  have hoff : k1_off39 t = ![16 * t.val] := by revert t; decide +kernel
  have ht : t.val < 52 := t.isLt
  have hm : ∀ x : S16.Idx, k1_pay89 (F := F) (fun y : S16.Idx => ix (i1 (16 * t.val + (y 0).val))) x = inTail (ix (i1 (16 * t.val + (x 0).val))) := fun x => rfl
  have ha : ∀ x : S16.Idx, (k1_pay27 (F := F) (fun y : S16.Idx => ix (i1 (16 * t.val + (y 0).val))) x).toNat = tailRow (ix (i1 (16 * t.val + (x 0).val))) := fun x => rfl
  have hc : ∀ x : S16.Idx, (k1_pay25 lanes (Scf.iv 0#32 1#32 t.val) x).toNat = (16 * t.val + (x 0).val) / 26 := forall_lt16 (fix_row t)
  have hd : ∀ n, n < 16 → ∀ x : S16.Idx, (addi (k1_pay26 lanes (Scf.iv 0#32 1#32 t.val)) (broadcast S16 (BitVec.ofNat 32 n)) x).toNat
      = 16 * ((16 * t.val + (x 0).val) % 26) + n := fun n hn x => by
    have h := forall_lt16 (P := fun x => (k1_pay26 lanes (Scf.iv 0#32 1#32 t.val) x).toNat = 16 * ((16 * t.val + (x 0).val) % 26)) (fix_col t) x
    show (k1_pay26 lanes (Scf.iv 0#32 1#32 t.val) x + BitVec.ofNat 32 n).toNat = _
    rw [BitVec.toNat_add, h, BitVec.toNat_ofNat]
    omega
  unfold k1_t7_body
  refine wp_load16 hoff ?_
  dsimp only
  by_cases hcond : k1_cond1 (extractAt ![15] (k1_pay90 (F := F) (fun y : S16.Idx => ix (i1 (16 * t.val + (y 0).val)))) inpos_S16_p15) = 1#1
  · rw [dif_pos hcond, wp_bind, k1_part6_eq_skeleton]; unfold k1_part6_skel
    iterate 4
      refine wp_fix_load ha (by decide) (fun h _ => h) fun _ _ => ?_
      refine wp_fix_chk ht (by decide) hc (hd _ (by decide)) (fun h _ => h) fun _ => ?_
      refine wp_fix_store ht (by decide) hm ha (fun _ => rfl) hc (hd _ (by decide)) ?_
    refine wp_done ?_
    dsimp only
    rw [wp_bind, k1_part7_eq_skeleton]; unfold k1_part7_skel
    iterate 6
      refine wp_fix_load ha (by decide) (fun h _ => h) fun _ _ => ?_
      refine wp_fix_chk ht (by decide) hc (hd _ (by decide)) (fun h _ => h) fun _ => ?_
      refine wp_fix_store ht (by decide) hm ha (fun _ => rfl) hc (hd _ (by decide)) ?_
    refine wp_fix_load ha (by decide) (fun h _ => h) fun _ _ => ?_
    refine wp_fix_chk ht (by decide) hc (hd _ (by decide)) (fun h _ => h) fun _ => ?_
    refine wp_done ?_
    dsimp only
    refine wp_fix_store ht (by decide) hm ha (fun _ => rfl) hc (hd _ (by decide)) ?_
    iterate 5
      refine wp_fix_load ha (by decide) (fun h _ => h) fun _ _ => ?_
      refine wp_fix_chk ht (by decide) hc (hd _ (by decide)) (fun h _ => h) fun _ => ?_
      refine wp_fix_store ht (by decide) hm ha (fun _ => rfl) hc (hd _ (by decide)) ?_
    refine wp_done ?_
    rw [← fixF_next]
  · rw [dif_neg hcond]
    refine wp_done ?_
    rw [← fixF_skip f0 Tl ix t.val (fun k hk => by
      have := none_masked (F := F) _ hcond k hk
      rwa [i1_val, Nat.mod_eq_of_lt hk] at this)]

end Bodies

end Cert.Proof

end
-- ==== Proof.GatherSame.lean ====
/- The gather body in the order in which it is proved: the printed parts, joined and cut at the loops. -/
module

public import proofs.«01_k».proof.Proof.Contents
@[expose] public section
noncomputable section
namespace Cert.Proof
open Cert.KernelIdeal Cert.KernelIdeal.Gen
open Idealize.ShloMosaic
variable {F : FTy → Type} [FloatOps F]

variable (i : grid1.Coords) (arg2 : Memref sig .scVector .hbm S425984 .i32) (harg2 : arg2.IsWhole)
  (arg3 : Memref sig .scVector .hbm S2600000x16 .f32) (harg3 : arg3.IsWhole)
  (arg4 : Memref sig .scVector .hbm S162500x16 .f32) (harg4 : arg4.IsWhole)
  (arg5 : Memref sig .scVector .hbm S832 .i32) (harg5 : arg5.IsWhole)
  (arg6 : Memref sig .scVector .hbm S64x16 .f32) (harg6 : arg6.IsWhole)
  (arg7 : Memref sig .scVector .hbm S16384x512 .f32) (harg7 : arg7.IsWhole)
  (arg8 : Memref sig .scVector .vmem S832 .i32) (harg8 : arg8.IsWhole)
  (arg9 : Memref sig .scVector .vmem S832 .i32) (harg9 : arg9.IsWhole)
  (arg10 : Memref sig .scVector .vmem S832 .i32) (harg10 : arg10.IsWhole)
  (arg11 : Memref sig .scVector .vmem S832 .i32) (harg11 : arg11.IsWhole)
  (arg12 : Memref sig .scVector .vmem S832 .i32) (harg12 : arg12.IsWhole)
  (arg13 : Memref sig .scVector .vmem S832x16 .f32) (harg13 : arg13.IsWhole)
  (arg14 : Memref sig .scVector .vmem S832x16 .f32) (harg14 : arg14.IsWhole)
  (arg15 : Memref sig .scVector .vmem S832x16 .f32) (harg15 : arg15.IsWhole)
  (arg16 : Memref sig .scVector .vmem S832x16 .f32) (harg16 : arg16.IsWhole)
  (arg17 : Memref sig .scVector .vmem S32x512 .f32) (harg17 : arg17.IsWhole)
  (arg18 : Memref sig .scVector .vmem S64x16 .f32) (harg18 : arg18.IsWhole) (arg19 : DmaSems sig S_)
  (arg20 : DmaSems sig S_) (arg21 : DmaSems sig S_) (arg22 : DmaSems sig S_) (v18_r0 : DmaSems sig S_)
  (v18_r1 : DmaSems sig S_) (v18_r2 : DmaSems sig S_) (v52_r3 : DmaSems sig S_) (v52_r4 : DmaSems sig S_)
  (v52_r5 : DmaSems sig S_) (v52_r6 : DmaSems sig S_)

set_option maxRecDepth 100000
set_option maxHeartbeats 1000000
theorem t10_eq (v3 v6 x1 x2 t3) (t : Fin k1_t10_loop.trips) : k1_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 t () = k1_t6_body (F := F) i arg2 harg2 arg3 harg3 arg4 harg4 arg5 harg5 arg6 harg6 arg7 harg7 arg8 harg8 arg9 harg9 arg10 harg10 arg11 harg11 arg12 harg12 arg14 harg14 arg14 harg14 arg15 harg15 arg16 harg16 arg17 harg17 arg18 harg18 arg19 arg20 arg21 arg22 v18_r0 v18_r1 v18_r2 v52_r3 v52_r4 v52_r5 v52_r6 v3 v6 x1 x2 t3 t () := rfl
theorem t8_eq (v3 v5 v6 t3 v18) (t : Fin k1_t8_loop.trips) : k1_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v5 v6 t3 v18 t () = k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 t () := rfl
theorem t4_eq (v3 v6 x1 x2 t3) (t : Fin k1_t4_loop.trips) : k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v6 x1 x2 t3 t () = k1_t2_body (F := F) i arg2 harg2 arg3 harg3 arg4 harg4 arg5 harg5 arg6 harg6 arg7 harg7 arg9 harg9 arg9 harg9 arg11 harg11 arg11 harg11 arg12 harg12 arg13 harg13 arg14 harg14 arg15 harg15 arg16 harg16 arg17 harg17 arg18 harg18 arg19 arg20 arg21 arg22 v18_r0 v18_r1 v18_r2 v52_r3 v52_r4 v52_r5 v52_r6 t () := rfl
theorem t9_eq (v3 v5 v6 t3 v18 x1 x2) (t : Fin k1_t9_loop.trips) : k1_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v5 v6 t3 v18 t () = k1_t5_body (F := F) i arg2 harg2 arg3 harg3 arg4 harg4 arg5 harg5 arg6 harg6 arg7 harg7 arg9 harg9 arg9 harg9 arg10 harg10 arg11 harg11 arg12 harg12 arg13 harg13 arg14 harg14 arg16 harg16 arg16 harg16 arg17 harg17 arg18 harg18 arg19 arg20 arg21 arg22 v18_r0 v18_r1 v18_r2 v52_r3 v52_r4 v52_r5 v52_r6 v3 v6 x1 x2 t3 t () := rfl
theorem t11_eq (v3 v6 t3 x1 x2) (t : Fin k1_t11_loop.trips) : k1_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v6 t () = k1_t7_body (F := F) i arg2 harg2 arg3 harg3 arg4 harg4 arg5 harg5 arg6 harg6 arg7 harg7 arg9 harg9 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v6 x1 x2 t3 t () := rfl
end Cert.Proof
end
-- ==== Proof.GatherChunk.lean ====
/- The parts of a chunk of the gathering call: its indices are brought in and its rows' gathers started; the rows of the result are written out. -/
module

public import proofs.«01_k».proof.Proof.Moves
public import proofs.«01_k».proof.Proof.GatherLoops2
public import proofs.«01_k».proof.Proof.GatherSame

@[expose] public section

set_option maxHeartbeats 400000

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## What the buffers hold, chunk by chunk -/

/-- The 832 words of the list from `b` on. -/
def xs (X : IVec S425984 32) (b : ℕ) : IVec S832 32 := fun p => X (i1 (b + (p 0).val))

/-- The rows of the table that they name, and the rows of sixteen linear weights. -/
def cI (X : IVec S425984 32) (O : IVec S832 32) (b : ℕ) : IVec S832 32 := ixF (xs X b) O
def cL (X : IVec S425984 32) (O : IVec S832 32) (b : ℕ) : IVec S832 32 := lxF (xs X b) O

/-- The float zero. -/
def zF : Vec F S32x512 .f32 := fun _ => zeroC

/-- Thirty-two rows of the result, from the words at `b` on, written over `f`. -/
def rows32 (X : IVec S425984 32) (O : IVec S832 32) (E : Vec F S2600000x16 .f32) (L : Vec F S162500x16 .f32) (Tl : Vec F S64x16 .f32) (b : ℕ)
    (f : Vec F S32x512 .f32) : Vec F S32x512 .f32 :=
  fixF (repF (selF f (gRows L (cL X O b)) (cI X O b) 52) (gRows E (cI X O b)) 32 0) Tl (cI X O b) 52 0

/-- The whole result. -/
def hOut (X : IVec S425984 32) (O : IVec S832 32) (E : Vec F S2600000x16 .f32) (L : Vec F S162500x16 .f32) (Tl : Vec F S64x16 .f32) : Vec F S16384x512 .f32 :=
  fun p => rows32 X O E L Tl (832 * ((p 0).val / 32)) zF (i2 ((p 0).val % 32) (p 1).val)

/-- The columns from 442 on are zero. -/
def Zero442 (f : Vec F S32x512 .f32) : Prop := ∀ p, 442 ≤ (p 1).val → f p = zeroC

omit [FloatOps F] in
theorem rows32_last (f : Vec F S32x512 .f32) (X O E L Tl) (b : ℕ) (p) (h : 442 ≤ (p 1).val) : rows32 X O E L Tl b f p = f p := by
  have h0 := lt0 p
  unfold rows32 fixF repF selF
  rw [if_neg (by omega), if_neg (by omega), if_neg (by omega)]

/-- What the other columns held does not matter. -/
theorem rows32_zero {f : Vec F S32x512 .f32} (h : Zero442 f) (X O E L Tl) (b : ℕ) : rows32 X O E L Tl b f = rows32 X O E L Tl b zF := by
  funext p
  by_cases hp : 442 ≤ (p 1).val
  · rw [rows32_last f X O E L Tl b p hp, rows32_last zF X O E L Tl b p hp]; exact h p hp
  have h0 := lt0 p
  unfold rows32 fixF repF selF
  by_cases h4 : (p 1).val < 416
  · have hr : (p 1).val < 416 ∧ ((p 0).val < 32 ∨ ((p 0).val = 32 ∧ (p 1).val < 16 * 0)) := ⟨h4, Or.inl h0⟩
    simp only [if_pos hr]
  · have hr : 416 ≤ (p 1).val ∧ (p 1).val < 442 ∧ 26 * (p 0).val + ((p 1).val - 416) < 16 * 52 := by omega
    simp only [if_pos hr]

theorem zero442_rows32 {f : Vec F S32x512 .f32} (h : Zero442 f) (X O E L Tl) (b : ℕ) : Zero442 (rows32 X O E L Tl b f) :=
  fun p hp => (rows32_last f X O E L Tl b p hp).trans (h p hp)

/-! ## The steps -/

/-- The tile's number. -/
def wid (i : grid1.Coords) : ℕ := 2 * (i 1).val + (i 0).val

theorem off7_eq (i : grid1.Coords) : k1_off7 i = ![13312 * wid i] := by revert i; decide +kernel
theorem off9_eq (i : grid1.Coords) (t) : k1_off9 i t 1#32 = ![13312 * wid i + 832 * (2 * t.val + 1)] := by revert i t; decide +kernel
theorem off9_eq' (i : grid1.Coords) (t) : k1_off9 i t 2#32 = ![min (13312 * wid i + 832 * (2 * (t.val + 1))) 425152] := by
  revert i t; decide +kernel
theorem off40_eq (i : grid1.Coords) (t) : k1_off40 i t = ![512 * wid i + 32 * (2 * t.val), 0] := by revert i t; decide +kernel
theorem off71_eq (i : grid1.Coords) (t) : k1_off71 i t = ![512 * wid i + 32 * (2 * t.val + 1), 0] := by revert i t; decide +kernel

omit [FloatOps F] in
theorem at_back {c : Thread nD τ} {sp : Space} {q : PosShare TreeShare} {n m : ℕ} {e : EltTy} {M : Memref sig c.2.kind sp ⟨2, ![n, m]⟩ e} (inb) (hr) {f : Vec F ⟨2, ![n, m]⟩ e} :
    (At q c (M.slice (Rect.unit (s := ⟨2, ![n, m]⟩) ![0, 0] (⟨2, ![n, m]⟩ : Shape).size inb) hr) f : sProp 𝕄) ⊢ At q c M f := by
  have he : ∀ x, (Rect.unit (s := ⟨2, ![n, m]⟩) ![0, 0] (⟨2, ![n, m]⟩ : Shape).size inb).emb x = x := by
    intro x; refine ext2 ?_ ?_ <;> simp [unit_emb]
  have hs : (M.slice (Rect.unit (s := ⟨2, ![n, m]⟩) ![0, 0] (⟨2, ![n, m]⟩ : Shape).size inb) hr).view.set = M.view.set := by
    refine (View.set_slice M.view _).trans ?_
    show Finset.map _ _ = Finset.map _ _
    congr 1
    refine Finset.eq_univ_iff_forall.mpr fun x => ?_
    rw [← he x]; exact (Rect.unit (s := ⟨2, ![n, m]⟩) ![0, 0] (⟨2, ![n, m]⟩ : Shape).size inb).toLoadRect.idx_mem x
  unfold At
  iintro ⟨%g, %hg, H⟩
  iexists g
  isplitr
  · ipureintro
    rw [← hg]
    funext x
    show M.view.read (Elt F) g x = M.view.read (Elt F) g ((Rect.unit (s := ⟨2, ![n, m]⟩) ![0, 0] (⟨2, ![n, m]⟩ : Shape).size inb).emb x)
    rw [he]
  · iapply (Entails.of_eq (congrArg (fun S => pointsTo _ S q g) hs)) $$ H

section Steps

variable {Λ : Labels} {defs : Defs nD τ sig (Elt F) Λ} {𝒱' : Variants} {bd : Option 𝒱'.V} {α : Type}

/-- A loop by an invariant that counts its trips. -/
theorem wp_loop {Q : α → sProp 𝕄} {c : Thread nD τ} {E : Set ℕ} {l : Scf.Loop 32} {hok : Scf.OK l.lb l.ub l.st} {body : Fin l.trips → Unit → Prog (TpuEff nD τ sig (Elt F) Λ c.2) Unit}
    {k : Unit → Prog (TpuEff nD τ sig (Elt F) Λ c.2) α} {n : ℕ} (hn : l.trips = n) (I : ℕ → sProp 𝕄)
    (hbody : ∀ t : Fin l.trips, I t.val ⊢ wp frame (wpE defs 𝒱' c bd) E (body t ()) fun _ => I (t.val + 1)) :
    I 0 ⊢ iprop((I n -∗ wp frame (wpE defs 𝒱' c bd) E (k ()) Q) -∗ wp frame (wpE defs 𝒱' c bd) E (Scf.Loop.for l hok () body >>= k) Q) := by
  subst hn
  iintro H Hk
  iapply (Scf.wp_for_bind frame (wpE defs 𝒱' c bd) E l.lb l.ub l.st hok () body (fun t _ => I t) (fun t _ => hbody t) (kk := k) (Q := Q)) $$ H
  iintro %acc H
  iapply Hk $$ H

/-- The words and rows of a chunk are in range. -/
def InRange (X : IVec S425984 32) (O : IVec S832 32) : Prop :=
  ∀ b ≤ 425152, ∀ p, (cI X O b p).toNat < 2600000 ∧ (cL X O b p).toNat < 162500

omit [FloatOps F] in
theorem addF_zero {e : EltTy} (f g : Vec F S832 e) : addF f g 0 = f := funext fun p => if_neg (by omega)
omit [FloatOps F] in
theorem addF_all {e : EltTy} (f g : Vec F S832 e) : addF f g 52 = g := funext fun p => if_pos (by have h : (p 0).val < 832 := (p 0).isLt; omega)
omit [FloatOps F] in
theorem selF_zero (f : Vec F S32x512 .f32) (L : Vec F S832x16 .f32) (ix : IVec S832 32) : selF f L ix 0 = f := funext fun p => if_neg (by omega)
omit [FloatOps F] in
theorem repF_zero (f : Vec F S32x512 .f32) (L : Vec F S832x16 .f32) : repF f L 0 0 = f := funext fun p => if_neg (by omega)
omit [FloatOps F] in
theorem fixF_zero (f : Vec F S32x512 .f32) (Tl : Vec F S64x16 .f32) (ix : IVec S832 32) : fixF f Tl ix 0 0 = f := funext fun p => if_neg (by omega)

omit [FloatOps F] in
theorem xs_slice (X : IVec S425984 32) {b : ℕ} (hb : b ≤ 425152) (inb) :
    (fun x => X ((Rect.unit (s := S425984) ![b] S832.size inb).emb x)) = xs X b := by
  funext x
  refine congrArg X (ext1 ?_)
  have hx : (x 0).val < 832 := (x 0).isLt
  rw [i1_val, Nat.mod_eq_of_lt (by omega)]
  simp [unit_emb]

variable {d : Dev nD} {i : grid1.Coords}

/-- The words of a chunk are brought in, the offsets added, and the gathers of its rows started. -/
theorem step_prep {Q : α → sProp 𝕄} {q2 qa qb : PosShare TreeShare} {M2 : Memref sig .scVector .hbm S425984 .i32} {M3 : Memref sig .scVector .hbm S2600000x16 .f32}
    {M4 : Memref sig .scVector .hbm S162500x16 .f32} {M8 M10 M12 : Memref sig .scVector .vmem S832 .i32} {M13 M15 : Memref sig .scVector .vmem S832x16 .f32}
    {sr sg sl : DmaSem sig} {off : Fin 1 → ℕ} {inb} {b : ℕ} {X : IVec S425984 32} {O : IVec S832 32} {E : Vec F S2600000x16 .f32} {L : Vec F S162500x16 .f32}
    {T : CellTallies nD τ sig (HIx 2)} {W : Waits sig (HIx 2)} {l : Scf.Loop 32} {hok : Scf.OK l.lb l.ub l.st}
    {body : Fin l.trips → Unit → Prog (TpuEff nD τ sig (Elt F) Λ (thr1 d i).2) Unit}
    {k : PUnit → Prog (TpuEff nD τ sig (Elt F) Λ (thr1 d i).2) α} {w1 w2 w3 w4 w5 w6 w7 w8 w9 w10 w11 w12 w13 w14 w15 w16 w17 w18 w19 w20 w21}
    (hoff : off = ![b]) (hb : b ≤ 425152) (hx : InRange X O) (hl : l.trips = 52)
    (hbody : ∀ (X O L0 : IVec S832 32) (t : Fin l.trips),
      iprop(Own (thr1 d i) M8 (addF (F := F) (e := .i32) X (ixF X O) t.val) ∗ Own (thr1 d i) M12 O ∗ Own (thr1 d i) M10 (addF (F := F) (e := .i32) L0 (lxF X O) t.val)) ⊢
      wp frame (wpE defs 𝒱' (thr1 d i) bd) Set.univ (body t ()) fun _ =>
        iprop(Own (thr1 d i) M8 (addF (F := F) (e := .i32) X (ixF X O) (t.val + 1)) ∗ Own (thr1 d i) M12 O ∗ Own (thr1 d i) M10 (addF (F := F) (e := .i32) L0 (lxF X O) (t.val + 1)))) :
    iprop(At q2 (thr1 d i) M2 X ∗ (∃ f, Own (thr1 d i) M8 f) ∗ (∃ f, Own (thr1 d i) M10 f) ∗ Own (thr1 d i) M12 O ∗ At qa (thr1 d i) M3 E ∗ At qb (thr1 d i) M4 L
      ∗ (∃ f, Own (thr1 d i) M13 f) ∗ (∃ f, Own (thr1 d i) M15 f) ∗ semVal (thr1 d i, .dma sr) 0 ∗ semVal (thr1 d i, .dma sg) 0 ∗ semVal (thr1 d i, .dma sl) 0
      ∗ Duty (thr1 d i) T W) ⊢
    iprop((iprop(At q2 (thr1 d i) M2 X ∗ Own (thr1 d i) M12 O ∗ semVal (thr1 d i, .dma sr) 0 ∗ Duty (thr1 d i) T W
        ∗ Fly (thr1 d i) sg M13.view.dmaCredit iprop(At qa (thr1 d i) M3 E ∗ Own (thr1 d i) M13 (gRows E (cI X O b)) ∗ Own (thr1 d i) M8 (show Vec F S832 .i32 from cI X O b))
        ∗ Fly (thr1 d i) sl M15.view.dmaCredit iprop(At qb (thr1 d i) M4 L ∗ Own (thr1 d i) M15 (gRows L (cL X O b)) ∗ Own (thr1 d i) M10 (show Vec F S832 .i32 from cL X O b)))
        -∗ wp frame (wpE defs 𝒱' (thr1 d i) bd) Set.univ (k ⟨⟩) Q)
      -∗ wp frame (wpE defs 𝒱' (thr1 d i) bd) Set.univ
        (Prog.lift (.enqueueDma (M2.slice (Rect.unit (s := S425984) off S832.size inb) w1) (.here M8) (.dma sr) w2 w3 w4) >>= fun _ =>
          Prog.lift (.waitDma2 sr (M2.slice (Rect.unit (s := S425984) off S832.size inb) w1) M8 w5 w6) >>= fun _ =>
          Scf.Loop.for l hok () body >>= fun _ =>
          SparseCore.enqueueIndirectGather w7 (M3.slice (Rect.unit (s := S2600000x16) ![0, 0] S2600000x16.size w8) w9) M13 gathers_S2600000x16_S832x16 M8 w10 sg w11 w12 w13 w20 >>= fun _ =>
          SparseCore.enqueueIndirectGather w7 (M4.slice (Rect.unit (s := S162500x16) ![0, 0] S162500x16.size w14) w15) M15 gathers_S162500x16_S832x16 M10 w16 sl w17 w18 w19 w21 >>= k) Q) := by
  subst hoff
  iintro ⟨HX, ⟨%f8, H8⟩, ⟨%f10, H10⟩, H12, HE, HL, ⟨%f13, H13⟩, ⟨%f15, H15⟩, Hr, Hg, Hl, Hu⟩ Hk
  ihave HX := (at_slice (c := thr1 d i) (M := M2) (Rect.unit (s := S425984) ![b] S832.size inb) w1) $$ HX
  icases HX with ⟨HX, HXw⟩
  iapply (step_copy (defs := defs) (𝒱' := 𝒱') (c := thr1 d i) (bd := bd) (by decide : 0 < S832.numel)) $$ [HX H8 Hr Hu]
  · isplitl [HX]; · iexact HX
    isplitl [H8]; · iexact H8
    isplitl [Hr] <;> iassumption
  iintro ⟨HX, H8, Hr, Hu⟩
  ihave HX := HXw $$ HX
  iapply (wp_loop (defs := defs) (𝒱' := 𝒱') (c := thr1 d i) (bd := bd) hl (fun t => iprop(Own (thr1 d i) M8 (addF (F := F) (e := .i32) (xs X b) (ixF (xs X b) O) t) ∗ Own (thr1 d i) M12 O
    ∗ Own (thr1 d i) M10 (addF (F := F) (e := .i32) f10 (lxF (xs X b) O) t))) (fun t => hbody (xs X b) O f10 t)) $$ [H8 H10 H12]
  · isplitl [H8]
    · rw [addF_zero, ← xs_slice X hb inb]; iexact H8
    isplitl [H12]; · iexact H12
    rw [addF_zero]; iexact H10
  rw [addF_all, addF_all]
  iintro ⟨H8, H12, H10⟩
  ihave HE := (at_full (c := thr1 d i) (M := M3) w8 w9) $$ HE
  icases HE with ⟨HE, -⟩
  iapply (step_gather (defs := defs) (𝒱' := 𝒱') (c := thr1 d i) (bd := bd) (dst := M13) (offs := M8) (ix := cI X O b) M13.view.dmaCredit (credit_rows _ M13)
    (fun p => (hx b hb p).1)) $$ [HE H13 H8 Hg]
  · isplitl [HE]; · iexact HE
    isplitl [H13]; · iexact H13
    isplitl [H8]; · iexact H8
    iexact Hg
  iintro HFE
  ihave HL := (at_full (c := thr1 d i) (M := M4) w14 w15) $$ HL
  icases HL with ⟨HL, -⟩
  iapply (step_gather (defs := defs) (𝒱' := 𝒱') (c := thr1 d i) (bd := bd) (dst := M15) (offs := M10) (ix := cL X O b) M15.view.dmaCredit (credit_rows _ M15)
    (fun p => (hx b hb p).2)) $$ [HL H15 H10 Hl]
  · isplitl [HL]; · iexact HL
    isplitl [H15]; · iexact H15
    isplitl [H10]; · iexact H10
    iexact Hl
  iintro HFL
  iapply Hk
  isplitl [HX]; · iexact HX
  isplitl [H12]; · iexact H12
  isplitl [Hr]; · iexact Hr
  isplitl [Hu]; · iexact Hu
  have hE := sep_mono_l (at_back (c := thr1 d i) (q := qa) (M := M3) (f := E) w8 w9) (Q := iprop(Own (thr1 d i) M13 (gRows E (cI X O b)) ∗ Own (thr1 d i) M8 (show Vec F S832 .i32 from cI X O b)))
  have hL := sep_mono_l (at_back (c := thr1 d i) (q := qb) (M := M4) (f := L) w14 w15) (Q := iprop(Own (thr1 d i) M15 (gRows L (cL X O b)) ∗ Own (thr1 d i) M10 (show Vec F S832 .i32 from cL X O b)))
  have hEF := Transfers.Flight_mono (EC := countersEmb) (c := thr1 d i) (sm := .dma sg) (ι := (default : HIx 2)) (N := M13.view.dmaCredit) hE
  have hLF := Transfers.Flight_mono (EC := countersEmb) (c := thr1 d i) (sm := .dma sl) (ι := (default : HIx 2)) (N := M15.view.dmaCredit) hL
  isplitl [HFE]
  · iapply hEF $$ HFE
  · iapply hLF $$ HFL

/-- The rows of the result that a tile writes. -/
def rowsOf (w : ℕ) : Finset S16384x512.Idx := Finset.univ.filter fun p => (p 0).val / 512 = w

/-- The tile's rows of the result, its first `n` blocks of them holding `G`. -/
def Out (d : Dev nD) (i : grid1.Coords) (M : Memref sig .scVector .hbm S16384x512 .f32) (w n : ℕ) (G : Vec F S16384x512 .f32) : sProp 𝕄 :=
  iprop(∃ g, ⌜∀ p : S16384x512.Idx, 512 * w ≤ (p 0).val → (p 0).val < 512 * w + 32 * n → M.view.read (Elt F) g p = G p⌝
    ∗ (M.view.loc (thr1 d i) ↦[(rowsOf w).map M.view.emb]{fullShare} g))

/-- The next block of rows is written out. -/
theorem step_out {Q : α → sProp 𝕄} {M7 : Memref sig .scVector .hbm S16384x512 .f32} {M17 : Memref sig .scVector .vmem S32x512 .f32} {sem : DmaSem sig}
    {off : Fin 2 → ℕ} {inb} {w n : ℕ} {f : Vec F S32x512 .f32} {G : Vec F S16384x512 .f32} {T : CellTallies nD τ sig (HIx 2)} {W : Waits sig (HIx 2)}
    {k : PUnit → Prog (TpuEff nD τ sig (Elt F) Λ (thr1 d i).2) α} {w1 w2 w3 w4 w5 w6}
    (hoff : off = ![512 * w + 32 * n, 0]) (hn : n < 16)
    (hG : ∀ x : S32x512.Idx, f x = G (i2 (512 * w + 32 * n + (x 0).val) (x 1).val)) :
    iprop(Own (thr1 d i) M17 f ∗ Out d i M7 w n G ∗ semVal (thr1 d i, .dma sem) 0 ∗ Duty (thr1 d i) T W) ⊢
    iprop((iprop(Own (thr1 d i) M17 f ∗ Out d i M7 w (n + 1) G ∗ semVal (thr1 d i, .dma sem) 0 ∗ Duty (thr1 d i) T W)
        -∗ wp frame (wpE defs 𝒱' (thr1 d i) bd) Set.univ (k ⟨⟩) Q)
      -∗ wp frame (wpE defs 𝒱' (thr1 d i) bd) Set.univ
        (Prog.lift (.enqueueDma M17 (.here (M7.slice (Rect.unit (s := S16384x512) off S32x512.size inb) w1)) (.dma sem) w2 w3 w4) >>= fun _ =>
          Prog.lift (.waitDma2 sem M17 (M7.slice (Rect.unit (s := S16384x512) off S32x512.size inb) w1) w5 w6) >>= k) Q) := by
  subst hoff
  unfold Own Out
  iintro ⟨⟨%gs, %hgs, Hs⟩, ⟨%gd, %hgd, Hd⟩, Hv, Hu⟩ Hk
  have hb : 512 * w + 32 * n + 32 ≤ 16384 := inb 0
  have hmem : ∀ y : S16384x512.Idx, y ∈ (Rect.unit (s := S16384x512) ![512 * w + 32 * n, 0] S32x512.size inb).set ↔ 512 * w + 32 * n ≤ (y 0).val ∧ (y 0).val < 512 * w + 32 * n + 32 := by
    intro y
    refine Rect.mem_set_unit.trans ⟨fun h => h 0, fun h a => ?_⟩
    match a with
    | 0 => exact h
    | 1 => exact ⟨Nat.zero_le _, lt_of_lt_of_eq (lt1 y) (by simp)⟩
  have hsub : (M7.slice (Rect.unit (s := S16384x512) ![512 * w + 32 * n, 0] S32x512.size inb) w1).view.set ⊆ (rowsOf w).map M7.view.emb := by
    refine (Finset.subset_of_eq (View.set_slice M7.view _)).trans (Finset.map_subset_map.mpr fun y hy => ?_)
    have := (hmem y).mp hy
    refine Finset.mem_filter.mpr ⟨Finset.mem_univ _, ?_⟩
    omega
  iapply (Transfers.wp_dmaLocal (defs := defs) countersEmb 𝒱' (thr1 d i) bd (src := M17) (via := .same) (dst := M7.slice (Rect.unit (s := S16384x512) ![512 * w + 32 * n, 0] S32x512.size inb) w1) (sm := .dma sem)
    (hsrc := w2) (hdst := w3) (hsem := w4)
    (k := fun _ => Prog.lift (.waitDma2 sem M17 (M7.slice (Rect.unit (s := S16384x512) ![512 * w + 32 * n, 0] S32x512.size inb) w1) w5 w6) >>= k) (q := fullShare) (fs := gs)
    (Sd := (rowsOf w).map M7.view.emb) (fd := gd)
    (default : HIx 2) (M7.slice (Rect.unit (s := S16384x512) ![512 * w + 32 * n, 0] S32x512.size inb) w1).view.dmaCredit rfl (View.dmaCredit_pos _ (by decide : 0 < S32x512.numel)) hsub) $$ [Hs Hd Hv]
  · isplitl [Hs]; · iexact Hs
    isplitl [Hd]; · iexact Hd
    iexact Hv
  iintro HF
  iapply (step_wait (defs := defs) (𝒱' := 𝒱') (c := thr1 d i) (bd := bd) (src := M17) (dst := M7.slice (Rect.unit (s := S16384x512) ![512 * w + 32 * n, 0] S32x512.size inb) w1)
    (hsrc := w5) (hdst := w6) (k := k) rfl (O := T) (W := W)) $$ [HF Hu]
  · isplitl [HF]; · iexact HF
    iexact Hu
  iintro ⟨⟨Hd, Hs⟩, Hv, Hu⟩
  iapply Hk
  isplitl [Hs]
  · iexists gs; isplitr
    · ipureintro; exact hgs
    · iexact Hs
  isplitl [Hd]
  · iexists ((M7.slice (Rect.unit (s := S16384x512) ![512 * w + 32 * n, 0] S32x512.size inb) w1).view.write (Elt F) gd (M17.view.read (Elt F) gs) Finset.univ); isplitr
    · ipureintro
      intro p h1 h2
      by_cases hp : 512 * w + 32 * n ≤ (p 0).val
      · have hx : p = (Rect.unit (s := S16384x512) ![512 * w + 32 * n, 0] S32x512.size inb).emb (i2 ((p 0).val - (512 * w + 32 * n)) (p 1).val : S32x512.Idx) := by
          have h4 := lt1 p
          refine ext2 ?_ ?_ <;> simp only [unit_emb, i2_val0, i2_val1]
          · rw [Nat.mod_eq_of_lt (by omega)]; simp; omega
          · rw [Nat.mod_eq_of_lt h4]; simp
        conv_lhs => rw [hx]
        refine (View.read_slice_write_emb (v := M7.view) (Rect.unit (s := S16384x512) ![512 * w + 32 * n, 0] S32x512.size inb) gd _ (Finset.mem_univ _)).trans ?_
        rw [hgs, hG]
        refine congrArg G (ext2 ?_ ?_)
        · have h3 := lt0 p
          rw [i2_val0, i2_val0, Nat.mod_eq_of_lt (by omega : (p 0).val - (512 * w + 32 * n) < 32), Nat.mod_eq_of_lt (by omega)]; omega
        · rw [i2_val1, i2_val1, Nat.mod_mod]; exact Nat.mod_eq_of_lt (lt1 p)
      · refine (View.read_slice_write_of_not_mem (v := M7.view) (Rect.unit (s := S16384x512) ![512 * w + 32 * n, 0] S32x512.size inb) gd _ Finset.univ ?_).trans (hgd p h1 (by omega))
        rw [Rect.map_emb_univ]
        exact fun h => hp ((hmem p).mp h).1
    · iexact Hd
  isplitl [Hv] <;> iassumption

end Steps

end Cert.Proof

end
-- ==== Proof.GatherTile.lean ====
/- A tile of the gathering call: its trips, and the whole of its work. -/
module

public import proofs.«01_k».proof.Proof.GatherChunk

@[expose] public section

set_option maxHeartbeats 400000

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-- A chunk's rows of the table in flight. -/
abbrev FlyE (d : Dev nD) (i : grid1.Coords) (s : DmaSem sig) (q : PosShare TreeShare) (M3 : Memref sig .scVector .hbm S2600000x16 .f32) (M13 : Memref sig .scVector .vmem S832x16 .f32)
    (M8 : Memref sig .scVector .vmem S832 .i32) (E : Vec F S2600000x16 .f32) (ix : IVec S832 32) : sProp 𝕄 :=
  Fly (thr1 d i) s M13.view.dmaCredit iprop(At q (thr1 d i) M3 E ∗ Own (thr1 d i) M13 (gRows E ix) ∗ Own (thr1 d i) M8 (show Vec F S832 .i32 from ix))

/-- A chunk's rows of the linear weights in flight. -/
abbrev FlyL (d : Dev nD) (i : grid1.Coords) (s : DmaSem sig) (q : PosShare TreeShare) (M4 : Memref sig .scVector .hbm S162500x16 .f32) (M15 : Memref sig .scVector .vmem S832x16 .f32)
    (M10 : Memref sig .scVector .vmem S832 .i32) (L : Vec F S162500x16 .f32) (ix : IVec S832 32) : sProp 𝕄 :=
  Fly (thr1 d i) s M15.view.dmaCredit iprop(At q (thr1 d i) M4 L ∗ Own (thr1 d i) M15 (gRows L ix) ∗ Own (thr1 d i) M10 (show Vec F S832 .i32 from ix))

theorem wid_lt (i : grid1.Coords) : wid i < 32 := by revert i; decide +kernel

/-- What a chunk's rows are in the whole result. -/
theorem rows_out {f : Vec F S32x512 .f32} (h : Zero442 f) (X O E L Tl) {w n b : ℕ} (hw : w < 32) (hn : n < 16) (hb : b = 13312 * w + 832 * n) (x : S32x512.Idx) :
    rows32 X O E L Tl b f x = hOut X O E L Tl (i2 (512 * w + 32 * n + (x 0).val) (x 1).val) := by
  have h0 := lt0 x
  have h1 := lt1 x
  unfold hOut
  rw [rows32_zero h, i2_val0, i2_val1, Nat.mod_eq_of_lt (by omega : 512 * w + 32 * n + (x 0).val < 16384), Nat.mod_eq_of_lt h1,
    show 832 * ((512 * w + 32 * n + (x 0).val) / 32) = b by omega, show (512 * w + 32 * n + (x 0).val) % 32 = (x 0).val by omega]
  exact congrArg _ (ext2 (by rw [i2_val0]; exact (Nat.mod_eq_of_lt h0).symm) (by rw [i2_val1]; exact (Nat.mod_eq_of_lt h1).symm))

section Tile

variable {defs : Defs nD τ sig (Elt F) Λ₀} {𝒱' : Variants} {bd : Option 𝒱'.V} (d : Dev nD)
variable (i : grid1.Coords) (arg2 : Memref sig .scVector .hbm S425984 .i32) (harg2 : arg2.IsWhole)
  (arg3 : Memref sig .scVector .hbm S2600000x16 .f32) (harg3 : arg3.IsWhole)
  (arg4 : Memref sig .scVector .hbm S162500x16 .f32) (harg4 : arg4.IsWhole)
  (arg5 : Memref sig .scVector .hbm S832 .i32) (harg5 : arg5.IsWhole)
  (arg6 : Memref sig .scVector .hbm S64x16 .f32) (harg6 : arg6.IsWhole)
  (arg7 : Memref sig .scVector .hbm S16384x512 .f32) (harg7 : arg7.IsWhole)
  (arg8 : Memref sig .scVector .vmem S832 .i32) (harg8 : arg8.IsWhole)
  (arg9 : Memref sig .scVector .vmem S832 .i32) (harg9 : arg9.IsWhole)
  (arg10 : Memref sig .scVector .vmem S832 .i32) (harg10 : arg10.IsWhole)
  (arg11 : Memref sig .scVector .vmem S832 .i32) (harg11 : arg11.IsWhole)
  (arg12 : Memref sig .scVector .vmem S832 .i32) (harg12 : arg12.IsWhole)
  (arg13 : Memref sig .scVector .vmem S832x16 .f32) (harg13 : arg13.IsWhole)
  (arg14 : Memref sig .scVector .vmem S832x16 .f32) (harg14 : arg14.IsWhole)
  (arg15 : Memref sig .scVector .vmem S832x16 .f32) (harg15 : arg15.IsWhole)
  (arg16 : Memref sig .scVector .vmem S832x16 .f32) (harg16 : arg16.IsWhole)
  (arg17 : Memref sig .scVector .vmem S32x512 .f32) (harg17 : arg17.IsWhole)
  (arg18 : Memref sig .scVector .vmem S64x16 .f32) (harg18 : arg18.IsWhole) (arg19 : DmaSems sig S_)
  (arg20 : DmaSems sig S_) (arg21 : DmaSems sig S_) (arg22 : DmaSems sig S_) (v18_r0 : DmaSems sig S_)
  (v18_r1 : DmaSems sig S_) (v18_r2 : DmaSems sig S_) (v52_r3 : DmaSems sig S_) (v52_r4 : DmaSems sig S_)
  (v52_r5 : DmaSems sig S_) (v52_r6 : DmaSems sig S_)

variable {q2 q3 q3' q4 q4' : PosShare TreeShare} {X : IVec S425984 32} {O : IVec S832 32} {Et : Vec F S2600000x16 .f32} {Lt : Vec F S162500x16 .f32} {Tl : Vec F S64x16 .f32}
  {T : CellTallies nD τ sig (HIx 2)} {W : Waits sig (HIx 2)}

set_option maxRecDepth 4000 in
theorem wp_part15 (hx : InRange X O) (v3 x1 x2 : BitVec 32) (t3 : Fin k1_t3_loop.trips) (f : Vec F S32x512 .f32) (b : ℕ) :
    iprop(At q2 (thr1 d i) arg2 X ∗ Own (thr1 d i) arg12 O ∗ Own (thr1 d i) arg18 Tl
      ∗ FlyE d i arg19.sem q3 arg3 arg13 arg8 Et (cI X O b) ∗ FlyL d i arg21.sem q4 arg4 arg15 arg10 Lt (cL X O b)
      ∗ At q3' (thr1 d i) arg3 Et ∗ At q4' (thr1 d i) arg4 Lt ∗ (∃ g, Own (thr1 d i) arg9 g) ∗ (∃ g, Own (thr1 d i) arg11 g) ∗ (∃ g, Own (thr1 d i) arg14 g) ∗ (∃ g, Own (thr1 d i) arg16 g) ∗ Own (thr1 d i) arg17 f
      ∗ semVal (thr1 d i, .dma v52_r3.sem) 0 ∗ semVal (thr1 d i, .dma arg20.sem) 0 ∗ semVal (thr1 d i, .dma arg22.sem) 0 ∗ Duty (thr1 d i) T W) ⊢
    wp frame (wpE defs 𝒱' (thr1 d i) bd) Set.univ (k1_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes x1 1#32 t3) fun _ =>
    iprop(At q2 (thr1 d i) arg2 X ∗ Own (thr1 d i) arg12 O ∗ Own (thr1 d i) arg18 Tl
      ∗ FlyE d i arg20.sem q3' arg3 arg14 arg9 Et (cI X O (13312 * wid i + 832 * (2 * t3.val + 1))) ∗ FlyL d i arg22.sem q4' arg4 arg16 arg11 Lt (cL X O (13312 * wid i + 832 * (2 * t3.val + 1)))
      ∗ At q3 (thr1 d i) arg3 Et ∗ At q4 (thr1 d i) arg4 Lt ∗ (∃ g, Own (thr1 d i) arg8 g) ∗ (∃ g, Own (thr1 d i) arg10 g) ∗ (∃ g, Own (thr1 d i) arg13 g) ∗ (∃ g, Own (thr1 d i) arg15 g) ∗ Own (thr1 d i) arg17 (rows32 X O Et Lt Tl b f)
      ∗ semVal (thr1 d i, .dma v52_r3.sem) 0 ∗ semVal (thr1 d i, .dma arg19.sem) 0 ∗ semVal (thr1 d i, .dma arg21.sem) 0 ∗ Duty (thr1 d i) T W) := by
  have hw := wid_lt i
  have ht : t3.val < 8 := t3.isLt
  rw [k1_part15_eq_skeleton]; unfold k1_part15_skel
  iintro ⟨H2, H12, H18, HFE, HFL, H3, H4, H9, H11, H14, H16, H17, Hr, Hs20, Hs22, Hu⟩
  iapply (step_prep (defs := defs) (𝒱' := 𝒱') (bd := bd) (d := d) (i := i) (X := X) (O := O) (off9_eq i t3) (by omega) hx (by decide +kernel)
    (fun X' O' L0 t => by
      rw [t4_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes x1 1#32 t3 t]
      exact wp_t2 d i arg2 harg2 arg3 harg3 arg4 harg4 arg5 harg5 arg6 harg6 arg7 harg7 arg9 harg9 arg9 harg9 arg11 harg11 arg11 harg11 arg12 harg12 arg13 harg13 arg14 harg14 arg15 harg15 arg16 harg16 arg17 harg17 arg18 harg18 arg19 arg20 arg21 arg22 v18_r0 v18_r1 v18_r2 v52_r3 v52_r4 v52_r5 v52_r6 X' O' L0 t)) $$ [H2 H12 H3 H4 H9 H11 H14 H16 Hr Hs20 Hs22 Hu]
  · isplitl [H2]; · iexact H2
    isplitl [H9]; · iexact H9
    isplitl [H11]; · iexact H11
    isplitl [H12]; · iexact H12
    isplitl [H3]; · iexact H3
    isplitl [H4]; · iexact H4
    isplitl [H14]; · iexact H14
    isplitl [H16]; · iexact H16
    isplitl [Hr]; · iexact Hr
    isplitl [Hs20]; · iexact Hs20
    isplitl [Hs22]; · iexact Hs22
    iexact Hu
  iintro ⟨H2, H12, Hr, Hu, HFE', HFL'⟩
  iapply (step_wait (defs := defs) (𝒱' := 𝒱') (c := thr1 d i) (bd := bd) (dst := arg13) rfl (O := T) (W := W)) $$ [HFE Hu]
  · isplitl [HFE]; · iexact HFE
    iexact Hu
  iintro ⟨⟨H3, H13, H8⟩, Hs19, Hu⟩
  iapply (step_wait (defs := defs) (𝒱' := 𝒱') (c := thr1 d i) (bd := bd) (dst := arg15) rfl (O := T) (W := W)) $$ [HFL Hu]
  · isplitl [HFL]; · iexact HFL
    iexact Hu
  iintro ⟨⟨H4, H15, H10⟩, Hs21, Hu⟩
  iapply (wp_loop (defs := defs) (𝒱' := 𝒱') (c := thr1 d i) (bd := bd) (show _ = 52 by decide +kernel) (fun t => iprop(Own (thr1 d i) arg8 (show Vec F S832 .i32 from cI X O b) ∗ Own (thr1 d i) arg15 (gRows Lt (cL X O b))
    ∗ Own (thr1 d i) arg17 (selF f (gRows Lt (cL X O b)) (cI X O b) t))) (fun t => wp_t5 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 x1 1#32 t3 f (gRows Lt (cL X O b)) (cI X O b) t)) $$ [H8 H15 H17]
  · isplitl [H8]; · iexact H8
    isplitl [H15]; · iexact H15
    rw [selF_zero]; iexact H17
  iintro ⟨H8, H15, H17⟩
  iapply (wp_loop (defs := defs) (𝒱' := 𝒱') (c := thr1 d i) (bd := bd) (show _ = 32 by decide +kernel) (fun t => iprop(Own (thr1 d i) arg13 (gRows Et (cI X O b))
    ∗ Own (thr1 d i) arg17 (repF (selF f (gRows Lt (cL X O b)) (cI X O b) 52) (gRows Et (cI X O b)) t 0))) (fun t => wp_t6 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes x1 1#32 t3 (selF f (gRows Lt (cL X O b)) (cI X O b) 52) (gRows Et (cI X O b)) t)) $$ [H13 H17]
  · isplitl [H13]; · iexact H13
    rw [repF_zero]; iexact H17
  iintro ⟨H13, H17⟩
  iapply (wp_loop (defs := defs) (𝒱' := 𝒱') (c := thr1 d i) (bd := bd) (show _ = 52 by decide +kernel) (fun t => iprop(Own (thr1 d i) arg18 Tl
    ∗ Own (thr1 d i) arg17 (fixF (repF (selF f (gRows Lt (cL X O b)) (cI X O b) 52) (gRows Et (cI X O b)) 32 0) Tl (cI X O b) t 0) ∗ Own (thr1 d i) arg8 (show Vec F S832 .i32 from cI X O b))) (fun t => wp_t7 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 x1 1#32 t3 (repF (selF f (gRows Lt (cL X O b)) (cI X O b) 52) (gRows Et (cI X O b)) 32 0) Tl (cI X O b) t)) $$ [H18 H17 H8]
  · isplitl [H18]; · iexact H18
    isplitl [H17]
    · rw [fixF_zero]; iexact H17
    · iexact H8
  iintro ⟨H18, H17, H8⟩
  rw [wp_pure]
  imodintro
  isplitl [H2]; · iexact H2
  isplitl [H12]; · iexact H12
  isplitl [H18]; · iexact H18
  isplitl [HFE']; · iexact HFE'
  isplitl [HFL']; · iexact HFL'
  isplitl [H3]; · iexact H3
  isplitl [H4]; · iexact H4
  isplitl [H8]; · iexists _; iexact H8
  isplitl [H10]; · iexists _; iexact H10
  isplitl [H13]; · iexists _; iexact H13
  isplitl [H15]; · iexists _; iexact H15
  isplitl [H17]; · iexact H17
  isplitl [Hr]; · iexact Hr
  isplitl [Hs19]; · iexact Hs19
  isplitl [Hs21]; · iexact Hs21
  iexact Hu

set_option maxRecDepth 4000 in
theorem wp_part16 (hx : InRange X O) (v3 v5 v18 : BitVec 32) (t3 : Fin k1_t3_loop.trips) (f : Vec F S32x512 .f32) (b : ℕ) (G : Vec F S16384x512 .f32)
    (hG : ∀ x : S32x512.Idx, f x = G (i2 (512 * wid i + 32 * (2 * t3.val) + (x 0).val) (x 1).val)) :
    iprop(At q2 (thr1 d i) arg2 X ∗ Own (thr1 d i) arg12 O
      ∗ FlyE d i arg20.sem q3' arg3 arg14 arg9 Et (cI X O b) ∗ FlyL d i arg22.sem q4' arg4 arg16 arg11 Lt (cL X O b)
      ∗ At q3 (thr1 d i) arg3 Et ∗ At q4 (thr1 d i) arg4 Lt ∗ (∃ g, Own (thr1 d i) arg8 g) ∗ (∃ g, Own (thr1 d i) arg10 g) ∗ (∃ g, Own (thr1 d i) arg13 g) ∗ (∃ g, Own (thr1 d i) arg15 g) ∗ Own (thr1 d i) arg17 f
      ∗ semVal (thr1 d i, .dma v52_r4.sem) 0 ∗ semVal (thr1 d i, .dma v52_r5.sem) 0 ∗ semVal (thr1 d i, .dma arg19.sem) 0 ∗ semVal (thr1 d i, .dma arg21.sem) 0
      ∗ Duty (thr1 d i) T W ∗ Out d i arg7 (wid i) (2 * t3.val) G) ⊢
    wp frame (wpE defs 𝒱' (thr1 d i) bd) Set.univ (k1_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v5 lanes t3 v18) fun _ =>
    iprop(At q2 (thr1 d i) arg2 X ∗ Own (thr1 d i) arg12 O
      ∗ FlyE d i arg19.sem q3 arg3 arg13 arg8 Et (cI X O (min (13312 * wid i + 832 * (2 * (t3.val + 1))) 425152)) ∗ FlyL d i arg21.sem q4 arg4 arg15 arg10 Lt (cL X O (min (13312 * wid i + 832 * (2 * (t3.val + 1))) 425152))
      ∗ At q3' (thr1 d i) arg3 Et ∗ At q4' (thr1 d i) arg4 Lt
      ∗ Own (thr1 d i) arg9 (show Vec F S832 .i32 from cI X O b) ∗ (∃ g, Own (thr1 d i) arg11 g) ∗ Own (thr1 d i) arg14 (gRows Et (cI X O b)) ∗ (∃ g, Own (thr1 d i) arg16 g)
      ∗ Own (thr1 d i) arg17 (selF f (gRows Lt (cL X O b)) (cI X O b) 52)
      ∗ semVal (thr1 d i, .dma v52_r4.sem) 0 ∗ semVal (thr1 d i, .dma v52_r5.sem) 0 ∗ semVal (thr1 d i, .dma arg20.sem) 0 ∗ semVal (thr1 d i, .dma arg22.sem) 0
      ∗ Duty (thr1 d i) T W ∗ Out d i arg7 (wid i) (2 * t3.val + 1) G) := by
  have hw := wid_lt i
  have ht : t3.val < 8 := t3.isLt
  rw [k1_part16_eq_skeleton]; unfold k1_part16_skel
  iintro ⟨H2, H12, HFE, HFL, H3, H4, H8, H10, H13, H15, H17, Hr4, Hr5, Hs19, Hs21, Hu, HOut⟩
  iapply (step_out (defs := defs) (𝒱' := 𝒱') (bd := bd) (d := d) (i := i) (off40_eq i t3) (by omega) hG) $$ [H17 HOut Hr4 Hu]
  · isplitl [H17]; · iexact H17
    isplitl [HOut]; · iexact HOut
    isplitl [Hr4]; · iexact Hr4
    iexact Hu
  iintro ⟨H17, HOut, Hr4, Hu⟩
  iapply (step_prep (defs := defs) (𝒱' := 𝒱') (bd := bd) (d := d) (i := i) (X := X) (O := O) (off9_eq' i t3) (Nat.min_le_right _ _) hx (by decide +kernel)
    (fun X' O' L0 t => by
      rw [t8_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v5 lanes t3 v18 t]
      exact wp_t2 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 X' O' L0 t)) $$ [H2 H12 H3 H4 H8 H10 H13 H15 Hr5 Hs19 Hs21 Hu]
  · isplitl [H2]; · iexact H2
    isplitl [H8]; · iexact H8
    isplitl [H10]; · iexact H10
    isplitl [H12]; · iexact H12
    isplitl [H3]; · iexact H3
    isplitl [H4]; · iexact H4
    isplitl [H13]; · iexact H13
    isplitl [H15]; · iexact H15
    isplitl [Hr5]; · iexact Hr5
    isplitl [Hs19]; · iexact Hs19
    isplitl [Hs21]; · iexact Hs21
    iexact Hu
  iintro ⟨H2, H12, Hr5, Hu, HFE', HFL'⟩
  iapply (step_wait (defs := defs) (𝒱' := 𝒱') (c := thr1 d i) (bd := bd) (dst := arg14) rfl (O := T) (W := W)) $$ [HFE Hu]
  · isplitl [HFE]; · iexact HFE
    iexact Hu
  iintro ⟨⟨H3, H14, H9⟩, Hs20, Hu⟩
  iapply (step_wait (defs := defs) (𝒱' := 𝒱') (c := thr1 d i) (bd := bd) (dst := arg16) rfl (O := T) (W := W)) $$ [HFL Hu]
  · isplitl [HFL]; · iexact HFL
    iexact Hu
  iintro ⟨⟨H4, H16, H11⟩, Hs22, Hu⟩
  iapply (wp_loop (defs := defs) (𝒱' := 𝒱') (c := thr1 d i) (bd := bd) (show _ = 52 by decide +kernel) (fun t => iprop(Own (thr1 d i) arg9 (show Vec F S832 .i32 from cI X O b) ∗ Own (thr1 d i) arg16 (gRows Lt (cL X O b))
    ∗ Own (thr1 d i) arg17 (selF f (gRows Lt (cL X O b)) (cI X O b) t))) (fun t => by
      rw [t9_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v5 lanes t3 v18 0#32 1#32 t]
      exact wp_t5 d i arg2 harg2 arg3 harg3 arg4 harg4 arg5 harg5 arg6 harg6 arg7 harg7 arg9 harg9 arg9 harg9 arg10 harg10 arg11 harg11 arg12 harg12 arg13 harg13 arg14 harg14 arg16 harg16 arg16 harg16 arg17 harg17 arg18 harg18 arg19 arg20 arg21 arg22 v18_r0 v18_r1 v18_r2 v52_r3 v52_r4 v52_r5 v52_r6 v3 0#32 1#32 t3 f (gRows Lt (cL X O b)) (cI X O b) t)) $$ [H9 H16 H17]
  · isplitl [H9]; · iexact H9
    isplitl [H16]; · iexact H16
    rw [selF_zero]; iexact H17
  iintro ⟨H9, H16, H17⟩
  rw [wp_pure]
  imodintro
  isplitl [H2]; · iexact H2
  isplitl [H12]; · iexact H12
  isplitl [HFE']; · iexact HFE'
  isplitl [HFL']; · iexact HFL'
  isplitl [H3]; · iexact H3
  isplitl [H4]; · iexact H4
  isplitl [H9]; · iexact H9
  isplitl [H11]; · iexists _; iexact H11
  isplitl [H14]; · iexact H14
  isplitl [H16]; · iexists _; iexact H16
  isplitl [H17]; · iexact H17
  isplitl [Hr4]; · iexact Hr4
  isplitl [Hr5]; · iexact Hr5
  isplitl [Hs20]; · iexact Hs20
  isplitl [Hs22]; · iexact Hs22
  isplitl [Hu]; · iexact Hu
  iexact HOut

/-- What a tile holds before trip `t`. -/
def TileInv (q2 q3 q3' q4 q4' : PosShare TreeShare) (X : IVec S425984 32) (O : IVec S832 32) (Et : Vec F S2600000x16 .f32) (Lt : Vec F S162500x16 .f32) (Tl : Vec F S64x16 .f32)
    (T : CellTallies nD τ sig (HIx 2)) (W : Waits sig (HIx 2)) (t : ℕ) : sProp 𝕄 :=
    iprop(At q2 (thr1 d i) arg2 X ∗ Own (thr1 d i) arg12 O ∗ Own (thr1 d i) arg18 Tl
      ∗ FlyE d i arg19.sem q3 arg3 arg13 arg8 Et (cI X O (min (13312 * wid i + 832 * (2 * t)) 425152)) ∗ FlyL d i arg21.sem q4 arg4 arg15 arg10 Lt (cL X O (min (13312 * wid i + 832 * (2 * t)) 425152))
      ∗ At q3' (thr1 d i) arg3 Et ∗ At q4' (thr1 d i) arg4 Lt ∗ (∃ g, Own (thr1 d i) arg9 g) ∗ (∃ g, Own (thr1 d i) arg11 g) ∗ (∃ g, Own (thr1 d i) arg14 g) ∗ (∃ g, Own (thr1 d i) arg16 g) ∗ (∃ f, ⌜Zero442 f⌝ ∗ Own (thr1 d i) arg17 f)
      ∗ semVal (thr1 d i, .dma v52_r3.sem) 0 ∗ semVal (thr1 d i, .dma v52_r4.sem) 0 ∗ semVal (thr1 d i, .dma v52_r5.sem) 0 ∗ semVal (thr1 d i, .dma v52_r6.sem) 0
      ∗ semVal (thr1 d i, .dma arg20.sem) 0 ∗ semVal (thr1 d i, .dma arg22.sem) 0 ∗ Duty (thr1 d i) T W ∗ Out d i arg7 (wid i) (2 * t) (hOut X O Et Lt Tl))

local notation "INV" => TileInv (F := F) d i arg2 arg3 arg4 arg7 arg8 arg9 arg10 arg11 arg12 arg13 arg14 arg15 arg16 arg17 arg18 arg19 arg20 arg21 arg22 v52_r3 v52_r4 v52_r5 v52_r6 q2 q3 q3' q4 q4' X O Et Lt Tl T W

set_option maxRecDepth 4000 in
/-- A trip: two blocks of thirty-two rows. -/
theorem wp_trip (hx : InRange X O) (v3 v5 : BitVec 32) (t3 : Fin k1_t3_loop.trips) :
    INV t3.val ⊢ wp frame (wpE defs 𝒱' (thr1 d i) bd) Set.univ (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 v5 lanes t3 ()) fun _ => INV (t3.val + 1) := by
  have hw := wid_lt i
  have ht : t3.val < 8 := t3.isLt
  unfold k1_t3_body TileInv
  iintro ⟨H2, H12, H18, HFE, HFL, H3, H4, H9, H11, H14, H16, ⟨%f, %hf, H17⟩, Hr3, Hr4, Hr5, Hr6, Hs20, Hs22, Hu, HOut⟩
  have hz := zero442_rows32 hf X O Et Lt Tl (min (13312 * wid i + 832 * (2 * t3.val)) 425152)
  iapply (wp_then (wp_part15 (bd := bd) (defs := defs) (𝒱' := 𝒱') d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 hx v3 0#32 1#32 t3 f (min (13312 * wid i + 832 * (2 * t3.val)) 425152) (q2 := q2) (q3 := q3) (q3' := q3') (q4 := q4) (q4' := q4')
    (Et := Et) (Lt := Lt) (Tl := Tl) (T := T) (W := W))) $$ [H2 H12 H18 HFE HFL H3 H4 H9 H11 H14 H16 H17 Hr3 Hs20 Hs22 Hu]
  · isplitl [H2]; · iexact H2
    isplitl [H12]; · iexact H12
    isplitl [H18]; · iexact H18
    isplitl [HFE]; · iexact HFE
    isplitl [HFL]; · iexact HFL
    isplitl [H3]; · iexact H3
    isplitl [H4]; · iexact H4
    isplitl [H9]; · iexact H9
    isplitl [H11]; · iexact H11
    isplitl [H14]; · iexact H14
    isplitl [H16]; · iexact H16
    isplitl [H17]; · iexact H17
    isplitl [Hr3]; · iexact Hr3
    isplitl [Hs20]; · iexact Hs20
    isplitl [Hs22]; · iexact Hs22
    iexact Hu
  iintro %v18 ⟨H2, H12, H18, HFE, HFL, H3, H4, H8, H10, H13, H15, H17, Hr3, Hs19, Hs21, Hu⟩
  iapply (wp_then (wp_part16 (bd := bd) (defs := defs) (𝒱' := 𝒱') d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 hx v3 v5 v18 t3 _ (13312 * wid i + 832 * (2 * t3.val + 1)) (hOut X O Et Lt Tl)
    (rows_out hf X O Et Lt Tl hw (by omega : 2 * t3.val < 16) (show min (13312 * wid i + 832 * (2 * t3.val)) 425152 = (13312 * wid i + 832 * (2 * t3.val)) by omega)) (q2 := q2) (q3 := q3) (q3' := q3') (q4 := q4) (q4' := q4')
    (Et := Et) (Lt := Lt) (T := T) (W := W))) $$ [H2 H12 HFE HFL H3 H4 H8 H10 H13 H15 H17 Hr4 Hr5 Hs19 Hs21 Hu HOut]
  · isplitl [H2]; · iexact H2
    isplitl [H12]; · iexact H12
    isplitl [HFE]; · iexact HFE
    isplitl [HFL]; · iexact HFL
    isplitl [H3]; · iexact H3
    isplitl [H4]; · iexact H4
    isplitl [H8]; · iexact H8
    isplitl [H10]; · iexact H10
    isplitl [H13]; · iexact H13
    isplitl [H15]; · iexact H15
    isplitl [H17]; · iexact H17
    isplitl [Hr4]; · iexact Hr4
    isplitl [Hr5]; · iexact Hr5
    isplitl [Hs19]; · iexact Hs19
    isplitl [Hs21]; · iexact Hs21
    isplitl [Hu]; · iexact Hu
    iexact HOut
  iintro %v45 ⟨H2, H12, HFE, HFL, H3, H4, H9, H11, H14, H16, H17, Hr4, Hr5, Hs20, Hs22, Hu, HOut⟩
  iapply (wp_loop (defs := defs) (𝒱' := 𝒱') (c := thr1 d i) (bd := bd) (show _ = 32 by decide +kernel) (fun t => iprop(Own (thr1 d i) arg14 (gRows Et (cI X O (13312 * wid i + 832 * (2 * t3.val + 1))))
    ∗ Own (thr1 d i) arg17 (repF (selF (rows32 X O Et Lt Tl (min (13312 * wid i + 832 * (2 * t3.val)) 425152) f) (gRows Lt (cL X O (13312 * wid i + 832 * (2 * t3.val + 1)))) (cI X O (13312 * wid i + 832 * (2 * t3.val + 1))) 52) (gRows Et (cI X O (13312 * wid i + 832 * (2 * t3.val + 1)))) t 0))) (fun t => by
      rw [t10_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes 0#32 1#32 t3 t]
      exact wp_t6 d i arg2 harg2 arg3 harg3 arg4 harg4 arg5 harg5 arg6 harg6 arg7 harg7 arg8 harg8 arg9 harg9 arg10 harg10 arg11 harg11 arg12 harg12 arg14 harg14 arg14 harg14 arg15 harg15 arg16 harg16 arg17 harg17 arg18 harg18 arg19 arg20 arg21 arg22 v18_r0 v18_r1 v18_r2 v52_r3 v52_r4 v52_r5 v52_r6 v3 lanes 0#32 1#32 t3 (selF (rows32 X O Et Lt Tl (min (13312 * wid i + 832 * (2 * t3.val)) 425152) f) (gRows Lt (cL X O (13312 * wid i + 832 * (2 * t3.val + 1)))) (cI X O (13312 * wid i + 832 * (2 * t3.val + 1))) 52) (gRows Et (cI X O (13312 * wid i + 832 * (2 * t3.val + 1)))) t)) $$ [H14 H17]
  · isplitl [H14]; · iexact H14
    rw [repF_zero]; iexact H17
  iintro ⟨H14, H17⟩
  iapply (wp_loop (defs := defs) (𝒱' := 𝒱') (c := thr1 d i) (bd := bd) (show _ = 52 by decide +kernel) (fun t => iprop(Own (thr1 d i) arg18 Tl
    ∗ Own (thr1 d i) arg17 (fixF (repF (selF (rows32 X O Et Lt Tl (min (13312 * wid i + 832 * (2 * t3.val)) 425152) f) (gRows Lt (cL X O (13312 * wid i + 832 * (2 * t3.val + 1)))) (cI X O (13312 * wid i + 832 * (2 * t3.val + 1))) 52) (gRows Et (cI X O (13312 * wid i + 832 * (2 * t3.val + 1)))) 32 0) Tl (cI X O (13312 * wid i + 832 * (2 * t3.val + 1))) t 0) ∗ Own (thr1 d i) arg9 (show Vec F S832 .i32 from cI X O (13312 * wid i + 832 * (2 * t3.val + 1))))) (fun t => by
      rw [t11_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 lanes t3 0#32 1#32 t]
      exact wp_t7 d i arg2 harg2 arg3 harg3 arg4 harg4 arg5 harg5 arg6 harg6 arg7 harg7 arg9 harg9 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 v3 0#32 1#32 t3 (repF (selF (rows32 X O Et Lt Tl (min (13312 * wid i + 832 * (2 * t3.val)) 425152) f) (gRows Lt (cL X O (13312 * wid i + 832 * (2 * t3.val + 1)))) (cI X O (13312 * wid i + 832 * (2 * t3.val + 1))) 52) (gRows Et (cI X O (13312 * wid i + 832 * (2 * t3.val + 1)))) 32 0) Tl (cI X O (13312 * wid i + 832 * (2 * t3.val + 1))) t)) $$ [H18 H17 H9]
  · isplitl [H18]; · iexact H18
    isplitl [H17]
    · rw [fixF_zero]; iexact H17
    · iexact H9
  iintro ⟨H18, H17, H9⟩
  iapply (step_out (defs := defs) (𝒱' := 𝒱') (bd := bd) (d := d) (i := i) (off71_eq i t3) (by omega) (rows_out hz X O Et Lt Tl hw (by omega : 2 * t3.val + 1 < 16) rfl)) $$ [H17 HOut Hr6 Hu]
  · isplitl [H17]; · iexact H17
    isplitl [HOut]; · iexact HOut
    isplitl [Hr6]; · iexact Hr6
    iexact Hu
  iintro ⟨H17, HOut, Hr6, Hu⟩
  rw [wp_pure]
  imodintro
  isplitl [H2]; · iexact H2
  isplitl [H12]; · iexact H12
  isplitl [H18]; · iexact H18
  isplitl [HFE]; · iexact HFE
  isplitl [HFL]; · iexact HFL
  isplitl [H3]; · iexact H3
  isplitl [H4]; · iexact H4
  isplitl [H9]; · iexists _; iexact H9
  isplitl [H11]; · iexact H11
  isplitl [H14]; · iexists _; iexact H14
  isplitl [H16]; · iexact H16
  isplitl [H17]
  · iexists (rows32 X O Et Lt Tl (13312 * wid i + 832 * (2 * t3.val + 1)) (rows32 X O Et Lt Tl (min (13312 * wid i + 832 * (2 * t3.val)) 425152) f)); isplitr
    · ipureintro; exact zero442_rows32 hz X O Et Lt Tl _
    · iexact H17
  isplitl [Hr3]; · iexact Hr3
  isplitl [Hr4]; · iexact Hr4
  isplitl [Hr5]; · iexact Hr5
  isplitl [Hr6]; · iexact Hr6
  isplitl [Hs20]; · iexact Hs20
  isplitl [Hs22]; · iexact Hs22
  isplitl [Hu]; · iexact Hu
  iexact HOut

variable {q5 q6 : PosShare TreeShare}

omit [FloatOps F] in
theorem zeroF_zero (f : Vec F S32x512 .f32) (z) : zeroF f z 0 0 = f := funext fun p => if_neg (by omega)

theorem zero442_zeroF (f : Vec F S32x512 .f32) : Zero442 (zeroF f zeroC 32 0) := fun p hp => if_pos ⟨by omega, Or.inl (lt0 p)⟩

set_option maxRecDepth 4000 in
/-- What comes before the last waits. -/
theorem wp_part17 (hx : InRange X O) :
    iprop(At q2 (thr1 d i) arg2 X ∗ At q3 (thr1 d i) arg3 Et ∗ At q3' (thr1 d i) arg3 Et ∗ At q4 (thr1 d i) arg4 Lt ∗ At q4' (thr1 d i) arg4 Lt ∗ At q5 (thr1 d i) arg5 O ∗ At q6 (thr1 d i) arg6 Tl ∗ (∃ g, Own (thr1 d i) arg8 g) ∗ (∃ g, Own (thr1 d i) arg9 g) ∗ (∃ g, Own (thr1 d i) arg10 g) ∗ (∃ g, Own (thr1 d i) arg11 g) ∗ (∃ g, Own (thr1 d i) arg12 g) ∗ (∃ g, Own (thr1 d i) arg13 g) ∗ (∃ g, Own (thr1 d i) arg14 g) ∗ (∃ g, Own (thr1 d i) arg15 g) ∗ (∃ g, Own (thr1 d i) arg16 g) ∗ (∃ g, Own (thr1 d i) arg17 g) ∗ (∃ g, Own (thr1 d i) arg18 g) ∗ semVal (thr1 d i, .dma arg19.sem) 0 ∗ semVal (thr1 d i, .dma arg20.sem) 0 ∗ semVal (thr1 d i, .dma arg21.sem) 0 ∗ semVal (thr1 d i, .dma arg22.sem) 0 ∗ semVal (thr1 d i, .dma v18_r0.sem) 0 ∗ semVal (thr1 d i, .dma v18_r1.sem) 0 ∗ semVal (thr1 d i, .dma v18_r2.sem) 0 ∗ semVal (thr1 d i, .dma v52_r3.sem) 0 ∗ semVal (thr1 d i, .dma v52_r4.sem) 0 ∗ semVal (thr1 d i, .dma v52_r5.sem) 0 ∗ semVal (thr1 d i, .dma v52_r6.sem) 0 ∗ Duty (thr1 d i) T W ∗ Out d i arg7 (wid i) 0 (hOut X O Et Lt Tl)) ⊢
    wp frame (wpE defs 𝒱' (thr1 d i) bd) Set.univ (k1_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6) fun _ =>
    iprop(INV 8 ∗ At q5 (thr1 d i) arg5 O ∗ At q6 (thr1 d i) arg6 Tl ∗ semVal (thr1 d i, .dma v18_r0.sem) 0 ∗ semVal (thr1 d i, .dma v18_r1.sem) 0 ∗ semVal (thr1 d i, .dma v18_r2.sem) 0) := by
  have hw := wid_lt i
  rw [k1_part17_eq_skeleton]; unfold k1_part17_skel
  iintro ⟨H2, H3, H3', H4, H4', H5, H6, H8, H9, H10, H11, ⟨%f12, H12⟩, H13, H14, H15, H16, ⟨%f17, H17⟩, ⟨%f18, H18⟩, Hs19, Hs20, Hs21, Hs22, Hr0, Hr1, Hr2, Hr3, Hr4, Hr5, Hr6, Hu, HOut⟩
  iapply (step_copy (defs := defs) (𝒱' := 𝒱') (c := thr1 d i) (bd := bd) (by decide : 0 < S832.numel)) $$ [H5 H12 Hr0 Hu]
  · isplitl [H5]; · iexact H5
    isplitl [H12]; · iexact H12
    isplitl [Hr0]; · iexact Hr0
    iexact Hu
  iintro ⟨H5, H12, Hr0, Hu⟩
  iapply (step_copy (defs := defs) (𝒱' := 𝒱') (c := thr1 d i) (bd := bd) (by decide : 0 < S64x16.numel)) $$ [H6 H18 Hr1 Hu]
  · isplitl [H6]; · iexact H6
    isplitl [H18]; · iexact H18
    isplitl [Hr1]; · iexact Hr1
    iexact Hu
  iintro ⟨H6, H18, Hr1, Hu⟩
  iapply (wp_loop (defs := defs) (𝒱' := 𝒱') (c := thr1 d i) (bd := bd) (show _ = 32 by decide +kernel) (fun t => Own (thr1 d i) arg17 (zeroF f17 zeroC t 0))
    (fun t => wp_t1 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 f17 t)) $$ [H17]
  · rw [zeroF_zero]; iexact H17
  iintro H17
  iapply (step_prep (defs := defs) (𝒱' := 𝒱') (bd := bd) (d := d) (i := i) (X := X) (O := O) (off7_eq i) (by omega) hx (by decide +kernel)
    (fun X' O' L0 t => wp_t2 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 X' O' L0 t)) $$ [H2 H12 H3 H4 H8 H10 H13 H15 Hr2 Hs19 Hs21 Hu]
  · isplitl [H2]; · iexact H2
    isplitl [H8]; · iexact H8
    isplitl [H10]; · iexact H10
    isplitl [H12]; · iexact H12
    isplitl [H3]; · iexact H3
    isplitl [H4]; · iexact H4
    isplitl [H13]; · iexact H13
    isplitl [H15]; · iexact H15
    isplitl [Hr2]; · iexact Hr2
    isplitl [Hs19]; · iexact Hs19
    isplitl [Hs21]; · iexact Hs21
    iexact Hu
  iintro ⟨H2, H12, Hr2, Hu, HFE, HFL⟩
  iapply (wp_loop (defs := defs) (𝒱' := 𝒱') (c := thr1 d i) (bd := bd) (show _ = 8 by decide +kernel) (fun t => INV t)
    (fun t => wp_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 hx _ _ t)) $$ [H2 H12 H18 HFE HFL H3' H4' H9 H11 H14 H16 H17 Hr3 Hr4 Hr5 Hr6 Hs20 Hs22 Hu HOut]
  · rw [show 13312 * wid i = min (13312 * wid i + 832 * (2 * 0)) 425152 by omega]
    unfold TileInv
    isplitl [H2]; · iexact H2
    isplitl [H12]; · iexact H12
    isplitl [H18]; · iexact H18
    isplitl [HFE]; · iexact HFE
    isplitl [HFL]; · iexact HFL
    isplitl [H3']; · iexact H3'
    isplitl [H4']; · iexact H4'
    isplitl [H9]; · iexact H9
    isplitl [H11]; · iexact H11
    isplitl [H14]; · iexact H14
    isplitl [H16]; · iexact H16
    isplitl [H17]
    · iexists (zeroF f17 zeroC 32 0); isplitr
      · ipureintro; exact zero442_zeroF f17
      · iexact H17
    isplitl [Hr3]; · iexact Hr3
    isplitl [Hr4]; · iexact Hr4
    isplitl [Hr5]; · iexact Hr5
    isplitl [Hr6]; · iexact Hr6
    isplitl [Hs20]; · iexact Hs20
    isplitl [Hs22]; · iexact Hs22
    isplitl [Hu]; · iexact Hu
    iexact HOut
  iintro HI
  rw [wp_pure]
  imodintro
  isplitl [HI]; · iexact HI
  isplitl [H5]; · iexact H5
  isplitl [H6]; · iexact H6
  isplitl [Hr0]; · iexact Hr0
  isplitl [Hr1]; · iexact Hr1
  iexact Hr2

set_option maxRecDepth 4000 in
/-- The whole of a tile's work. -/
theorem wp_tile (hx : InRange X O) :
    iprop(At q2 (thr1 d i) arg2 X ∗ At q3 (thr1 d i) arg3 Et ∗ At q3' (thr1 d i) arg3 Et ∗ At q4 (thr1 d i) arg4 Lt ∗ At q4' (thr1 d i) arg4 Lt ∗ At q5 (thr1 d i) arg5 O ∗ At q6 (thr1 d i) arg6 Tl ∗ (∃ g, Own (thr1 d i) arg8 g) ∗ (∃ g, Own (thr1 d i) arg9 g) ∗ (∃ g, Own (thr1 d i) arg10 g) ∗ (∃ g, Own (thr1 d i) arg11 g) ∗ (∃ g, Own (thr1 d i) arg12 g) ∗ (∃ g, Own (thr1 d i) arg13 g) ∗ (∃ g, Own (thr1 d i) arg14 g) ∗ (∃ g, Own (thr1 d i) arg15 g) ∗ (∃ g, Own (thr1 d i) arg16 g) ∗ (∃ g, Own (thr1 d i) arg17 g) ∗ (∃ g, Own (thr1 d i) arg18 g) ∗ semVal (thr1 d i, .dma arg19.sem) 0 ∗ semVal (thr1 d i, .dma arg20.sem) 0 ∗ semVal (thr1 d i, .dma arg21.sem) 0 ∗ semVal (thr1 d i, .dma arg22.sem) 0 ∗ semVal (thr1 d i, .dma v18_r0.sem) 0 ∗ semVal (thr1 d i, .dma v18_r1.sem) 0 ∗ semVal (thr1 d i, .dma v18_r2.sem) 0 ∗ semVal (thr1 d i, .dma v52_r3.sem) 0 ∗ semVal (thr1 d i, .dma v52_r4.sem) 0 ∗ semVal (thr1 d i, .dma v52_r5.sem) 0 ∗ semVal (thr1 d i, .dma v52_r6.sem) 0 ∗ Duty (thr1 d i) T W ∗ Out d i arg7 (wid i) 0 (hOut X O Et Lt Tl)) ⊢
    wp frame (wpE defs 𝒱' (thr1 d i) bd) Set.univ (cc1_k (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6) fun _ =>
    iprop(At q2 (thr1 d i) arg2 X ∗ At q3 (thr1 d i) arg3 Et ∗ At q3' (thr1 d i) arg3 Et ∗ At q4 (thr1 d i) arg4 Lt ∗ At q4' (thr1 d i) arg4 Lt ∗ At q5 (thr1 d i) arg5 O ∗ At q6 (thr1 d i) arg6 Tl ∗ (∃ g, Own (thr1 d i) arg8 g) ∗ (∃ g, Own (thr1 d i) arg9 g) ∗ (∃ g, Own (thr1 d i) arg10 g) ∗ (∃ g, Own (thr1 d i) arg11 g) ∗ (∃ g, Own (thr1 d i) arg12 g) ∗ (∃ g, Own (thr1 d i) arg13 g) ∗ (∃ g, Own (thr1 d i) arg14 g) ∗ (∃ g, Own (thr1 d i) arg15 g) ∗ (∃ g, Own (thr1 d i) arg16 g) ∗ (∃ g, Own (thr1 d i) arg17 g) ∗ (∃ g, Own (thr1 d i) arg18 g) ∗ semVal (thr1 d i, .dma arg19.sem) 0 ∗ semVal (thr1 d i, .dma arg20.sem) 0 ∗ semVal (thr1 d i, .dma arg21.sem) 0 ∗ semVal (thr1 d i, .dma arg22.sem) 0 ∗ semVal (thr1 d i, .dma v18_r0.sem) 0 ∗ semVal (thr1 d i, .dma v18_r1.sem) 0 ∗ semVal (thr1 d i, .dma v18_r2.sem) 0 ∗ semVal (thr1 d i, .dma v52_r3.sem) 0 ∗ semVal (thr1 d i, .dma v52_r4.sem) 0 ∗ semVal (thr1 d i, .dma v52_r5.sem) 0 ∗ semVal (thr1 d i, .dma v52_r6.sem) 0 ∗ Duty (thr1 d i) T W ∗ Out d i arg7 (wid i) 16 (hOut X O Et Lt Tl)) := by
  rw [cc1_k_eq_skeleton]; unfold cc1_k_skel
  iintro H
  iapply (wp_then (wp_part17 (bd := bd) (defs := defs) (𝒱' := 𝒱') d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v18_r0 v18_r1 v18_r2 v52_r3 v52_r4 v52_r5 v52_r6 hx)) $$ H
  iintro %_ ⟨HI, H5, H6, Hr0, Hr1, Hr2⟩
  ihave HI := (show INV 8 ⊢ _ from Entails.of_eq (by unfold TileInv; rfl)) $$ HI
  icases HI with ⟨H2, H12, H18, HFE, HFL, H3', H4', H9, H11, H14, H16, ⟨%f17, -, H17⟩, Hr3, Hr4, Hr5, Hr6, Hs20, Hs22, Hu, HOut⟩
  iapply (step_wait (defs := defs) (𝒱' := 𝒱') (c := thr1 d i) (bd := bd) (dst := arg13) rfl (O := T) (W := W)) $$ [HFE Hu]
  · isplitl [HFE]; · iexact HFE
    iexact Hu
  iintro ⟨⟨H3, H13, H8⟩, Hs19, Hu⟩
  iapply (step_wait (defs := defs) (𝒱' := 𝒱') (c := thr1 d i) (bd := bd) (dst := arg15) rfl (O := T) (W := W)) $$ [HFL Hu]
  · isplitl [HFL]; · iexact HFL
    iexact Hu
  iintro ⟨⟨H4, H15, H10⟩, Hs21, Hu⟩
  rw [wp_pure]
  imodintro
  isplitl [H2]; · iexact H2
  isplitl [H3]; · iexact H3
  isplitl [H3']; · iexact H3'
  isplitl [H4]; · iexact H4
  isplitl [H4']; · iexact H4'
  isplitl [H5]; · iexact H5
  isplitl [H6]; · iexact H6
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [H14]; · iexact H14
  isplitl [H15]; · iexists _; iexact H15
  isplitl [H16]; · iexact H16
  isplitl [H17]; · iexists _; iexact H17
  isplitl [H18]; · iexists _; iexact H18
  isplitl [Hs19]; · iexact Hs19
  isplitl [Hs20]; · iexact Hs20
  isplitl [Hs21]; · iexact Hs21
  isplitl [Hs22]; · iexact Hs22
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hu]; · iexact Hu
  iexact HOut

end Tile

end Cert.Proof

end
-- ==== Proof.GatherTask.lean ====
/- The SparseCore call's tasks as the launch hands them out: each vector subcore's task from its share of the tables and its rows
   of the result (`tile_body`). -/
module

public import Idealize.ShloMosaic.Lib.ShareLeaves
public import proofs.«01_k».proof.Proof.GatherTile

@[expose] public section

set_option maxHeartbeats 400000

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## The buffers and what a part of the call is given -/

abbrev xLoc (d : Dev nD) : Loc nD τ sig := (SparseCore.T d).loc main_v0
abbrev eLoc (d : Dev nD) : Loc nD τ sig := (SparseCore.T d).loc main_v3
abbrev lLoc (d : Dev nD) : Loc nD τ sig := (SparseCore.T d).loc main_v5
abbrev cLoc (d : Dev nD) : Loc nD τ sig := (SparseCore.T d).loc main_c
abbrev tLoc (d : Dev nD) : Loc nD τ sig := (SparseCore.T d).loc main_v6
abbrev hLoc (d : Dev nD) : Loc nD τ sig := (SparseCore.T d).loc main_v7

/-- What the call reads: the indices, the table, the linear table sixteen to a row, the fields' offsets, the table's end. -/
structure Ins (F : FTy → Type) where
  X : IVec S425984 32
  E : Vec F S2600000x16 .f32
  L : Vec F S162500x16 .f32
  O : IVec S832 32
  Tl : Vec F S64x16 .f32

/-- What the call leaves. -/
abbrev Ins.out (v : Ins F) : Vec F S16384x512 .f32 := hOut v.X v.O v.E v.L v.Tl

/-- A share of everything the call reads, and some rows of what it writes. -/
abbrev Part (d : Dev nD) (v : Ins F) (q : PosShare TreeShare) (R : Finset S16384x512.Idx) (g : Vec F S16384x512 .f32) : sProp 𝕄 :=
  iprop((xLoc d ↦{q} v.X) ∗ (eLoc d ↦{q} v.E) ∗ (lLoc d ↦{q} v.L) ∗ (cLoc d ↦{q} v.O) ∗ (tLoc d ↦{q} v.Tl) ∗ (hLoc d ↦[R]{fullShare} g))

omit [FloatOps F] in
/-- A part is `2 ^ n` parts at once, its share dealt out and its rows divided. -/
theorem part_deal (d : Dev nD) (v : Ins F) (n : ℕ) (q : PosShare TreeShare) (R : Finset S16384x512.Idx) (g : Vec F S16384x512 .f32)
    (Rs : Fin (2 ^ n) → Finset S16384x512.Idx) (hd : ∀ i ∈ (Finset.univ : Finset (Fin (2 ^ n))), ∀ j ∈ (Finset.univ : Finset (Fin (2 ^ n))), i ≠ j → Disjoint (Rs i) (Rs j))
    (hR : Finset.univ.biUnion Rs = R) :
    (Part d v q R g : sProp 𝕄) = bigSep Finset.univ fun i : Fin (2 ^ n) => Part d v (ShareLeaves.leaf n q i) (Rs i) g := by
  unfold Part
  rw [bigSep_sep', bigSep_sep', bigSep_sep', bigSep_sep', bigSep_sep', ← ShareLeaves.pointsTo_leaves, ← ShareLeaves.pointsTo_leaves, ← ShareLeaves.pointsTo_leaves,
    ← ShareLeaves.pointsTo_leaves, ← ShareLeaves.pointsTo_leaves, ← pointsTo_biUnion Finset.univ (ℓ := hLoc d) Rs hd, hR]

omit [FloatOps F] in
theorem part_out (d : Dev nD) (v : Ins F) (q : PosShare TreeShare) (R : Finset S16384x512.Idx) (g : Vec F S16384x512 .f32) :
    (Part d v q R g : sProp 𝕄) = iprop((xLoc d ↦{q} v.X) ∗ (eLoc d ↦{q} v.E) ∗ (lLoc d ↦{q} v.L) ∗ (cLoc d ↦{q} v.O) ∗ (tLoc d ↦{q} v.Tl) ∗ (hLoc d ↦[R]{fullShare} g)) := rfl

omit [FloatOps F] in
/-- A whole buffer at a share. -/
theorem at_whole (q : PosShare TreeShare) (c : Thread nD τ) (b : Ref sig c.2.kind) (f : b.ty.Contents (Elt F)) :
    (At q c (Memref.whole b) f : sProp 𝕄) ⊣⊢ iprop(c.loc b ↦{q} f) := by
  constructor
  · unfold At
    iintro ⟨%g, %hg, H⟩
    have hg' : g = f := hg
    subst hg'
    rw [show (Memref.whole b).view.set = Finset.univ from View.set_whole b]
    iexact H
  · unfold At
    iintro H; iexists f; isplitr
    · ipureintro; rfl
    · rw [show (Memref.whole b).view.set = Finset.univ from View.set_whole b]
      iexact H

/-! ## A vector subcore's own storage -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL2 (L : grid1.Coords) : Fin (2 ^ 1) := Fin.cast bound_zero (L 0)
abbrev jL2 (L : grid1.Coords) : Fin (2 ^ 4) := Fin.cast bound_one (L 1)

/-- The kernel's semaphores on the subcore. -/
abbrev semsOf : Finset (DmaSem sig) := {cc1_scratch11.sem, cc1_scratch12.sem, cc1_scratch13.sem, cc1_scratch14.sem, cc1_scoped0.sem, cc1_scoped1.sem, cc1_scoped2.sem, cc1_scoped3.sem, cc1_scoped4.sem, cc1_scoped5.sem, cc1_scoped6.sem}
/-- Its scratch buffers. -/
abbrev bufsOf : Finset (Ref sig .scVector) := {cc1_scratch0, cc1_scratch1, cc1_scratch2, cc1_scratch3, cc1_scratch4, cc1_scratch5, cc1_scratch6, cc1_scratch7, cc1_scratch8, cc1_scratch9, cc1_scratch10}

def cellOf (t : Thread nD τ) : DmaSem sig ↪ GSem nD τ sig := ⟨fun s => (t, .dma s), fun _ _ h => by injection h with _ h; injection h⟩
def refOf (c : Fin τ.nSC) (j : Fin τ.nSub) : Ref sig .scVector ↪ DevRef τ sig := ⟨(Proc.scVector c j).devRef, Proc.devRef_injective (Proc.scVector c j)⟩

omit [FloatOps F] in
theorem ownSems0_V :
    (ownSems0 (V d (cV L) (jV L)) : sProp 𝕄) = iprop((semVal ((V d (cV L) (jV L)), .dma cc1_scratch11.sem) 0 ∗ semVal ((V d (cV L) (jV L)), .dma cc1_scratch12.sem) 0 ∗ semVal ((V d (cV L) (jV L)), .dma cc1_scratch13.sem) 0 ∗ semVal ((V d (cV L) (jV L)), .dma cc1_scratch14.sem) 0 ∗ semVal ((V d (cV L) (jV L)), .dma cc1_scoped0.sem) 0 ∗ semVal ((V d (cV L) (jV L)), .dma cc1_scoped1.sem) 0 ∗ semVal ((V d (cV L) (jV L)), .dma cc1_scoped2.sem) 0 ∗ semVal ((V d (cV L) (jV L)), .dma cc1_scoped3.sem) 0 ∗ semVal ((V d (cV L) (jV L)), .dma cc1_scoped4.sem) 0 ∗ semVal ((V d (cV L) (jV L)), .dma cc1_scoped5.sem) 0 ∗ semVal ((V d (cV L) (jV L)), .dma cc1_scoped6.sem) 0)
      ∗ bigSep (ownCells (V d (cV L) (jV L)) \ semsOf.map (cellOf (V d (cV L) (jV L)))) fun g => semVal g 0) := by
  unfold SparseCore.Cfg.ownSems0
  rw [SparseCore.bigSep_sdiff_split' (t := semsOf.map (cellOf (V d (cV L) (jV L)))) (fun g hg => by
    obtain ⟨s, hs, rfl⟩ := Finset.mem_map.mp hg
    refine mem_ownCells.mpr ⟨rfl, ?_⟩
    show (SemLoc.dma s : SemLoc sig).isScoped .scVector = true
    clear hg; revert hs; revert s; decide), BI.bigSep_map]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] in
theorem ownBufs_V :
    (ownBufs (V d (cV L) (jV L)) : sProp 𝕄) = iprop(((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f) ∗ (∃ f, (V d (cV L) (jV L)).loc cc1_scratch7 ↦{fullShare} f) ∗ (∃ f, (V d (cV L) (jV L)).loc cc1_scratch8 ↦{fullShare} f) ∗ (∃ f, (V d (cV L) (jV L)).loc cc1_scratch9 ↦{fullShare} f) ∗ (∃ f, (V d (cV L) (jV L)).loc cc1_scratch10 ↦{fullShare} f))
      ∗ bigSep (ownRefs (τ := τ) (.scVector (cV L) (jV L)) \ bufsOf.map (refOf (cV L) (jV L))) fun b => iprop(∃ f, ((d, b) : Loc nD τ sig) ↦{fullShare} f)) := by
  unfold SparseCore.Cfg.ownBufs
  have hs : bufsOf.map (refOf (cV L) (jV L)) ⊆ ownRefs (τ := τ) (.scVector (cV L) (jV L)) := fun g hg => by
    obtain ⟨s, hs, rfl⟩ := Finset.mem_map.mp hg
    refine SparseCore.Cfg.mem_ownRefs_of_owner (p := Proc.scVector (cV L) (jV L)) (b := (Proc.scVector (cV L) (jV L)).devRef s) ?_
    have hs' : s.space = .vmem := by clear hg; revert hs; revert s; decide
    obtain ⟨sp, ix, h⟩ := s
    subst hs'
    rfl
  refine (SparseCore.bigSep_sdiff_split' hs).trans ?_
  rw [BI.bigSep_map]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The subcore's task: from its share of what the call reads and its rows of the result, to the same with the rows written. -/
theorem tile_body {X : sProp 𝕄} (hF : (K (F := F)).Facts) (v : Ins F) (hx : InRange v.X v.O) (q : PosShare TreeShare) (g : Vec F S16384x512 .f32)
    (O : CellTallies nD τ sig (HIx 2)) (W : Waits sig (HIx 2)) (hO : ∀ g, O g none = 0) :
    iprop(levAts (K (F := F)).L (K (F := F)).lev ∗ X ∗ Part d v q (rowsOf (wid L)) g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L (Memref.whole main_v0_scv) (Memref.isWhole_whole _) (Memref.whole main_v3_scv) (Memref.isWhole_whole _) (Memref.whole main_v5_scv) (Memref.isWhole_whole _) (Memref.whole main_c_scv) (Memref.isWhole_whole _) (Memref.whole main_v6_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scoped0 cc1_scoped1 cc1_scoped2 cc1_scoped3 cc1_scoped4 cc1_scoped5 cc1_scoped6)
          fun _ => iprop(Part d v q (rowsOf (wid L)) v.out ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, He, Hl, Hc, Ht, Hh⟩, ⟨⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩⟩, Hbufs⟩, ⟨⟨S0, S1, S2, S3, S4, S5, S6, S7, S8, S9, S10⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave He := (pointsTo_share (PosShare.mem_left_op_right q)).1 $$ He
  icases He with ⟨He, He'⟩
  ihave Hl := (pointsTo_share (PosShare.mem_left_op_right q)).1 $$ Hl
  icases Hl with ⟨Hl, Hl'⟩
  ihave Hx := (at_whole (F := F) (q) (V d (cV L) (jV L)) main_v0_scv (v.X)).2 $$ Hx
  ihave He := (at_whole (F := F) (q.left) (V d (cV L) (jV L)) main_v3_scv (v.E)).2 $$ He
  ihave He' := (at_whole (F := F) (q.right) (V d (cV L) (jV L)) main_v3_scv (v.E)).2 $$ He'
  ihave Hl := (at_whole (F := F) (q.left) (V d (cV L) (jV L)) main_v5_scv (v.L)).2 $$ Hl
  ihave Hl' := (at_whole (F := F) (q.right) (V d (cV L) (jV L)) main_v5_scv (v.L)).2 $$ Hl'
  ihave Hc := (at_whole (F := F) (q) (V d (cV L) (jV L)) main_c_scv (v.O)).2 $$ Hc
  ihave Ht := (at_whole (F := F) (q) (V d (cV L) (jV L)) main_v6_scv (v.Tl)).2 $$ Ht
  ihave B0 := (own_whole (F := F) (V d (cV L) (jV L)) cc1_scratch0 f0).2 $$ B0
  ihave B1 := (own_whole (F := F) (V d (cV L) (jV L)) cc1_scratch1 f1).2 $$ B1
  ihave B2 := (own_whole (F := F) (V d (cV L) (jV L)) cc1_scratch2 f2).2 $$ B2
  ihave B3 := (own_whole (F := F) (V d (cV L) (jV L)) cc1_scratch3 f3).2 $$ B3
  ihave B4 := (own_whole (F := F) (V d (cV L) (jV L)) cc1_scratch4 f4).2 $$ B4
  ihave B5 := (own_whole (F := F) (V d (cV L) (jV L)) cc1_scratch5 f5).2 $$ B5
  ihave B6 := (own_whole (F := F) (V d (cV L) (jV L)) cc1_scratch6 f6).2 $$ B6
  ihave B7 := (own_whole (F := F) (V d (cV L) (jV L)) cc1_scratch7 f7).2 $$ B7
  ihave B8 := (own_whole (F := F) (V d (cV L) (jV L)) cc1_scratch8 f8).2 $$ B8
  ihave B9 := (own_whole (F := F) (V d (cV L) (jV L)) cc1_scratch9 f9).2 $$ B9
  ihave B10 := (own_whole (F := F) (V d (cV L) (jV L)) cc1_scratch10 f10).2 $$ B10
  ihave Hh := (show (hLoc d ↦[rowsOf (wid L)]{fullShare} g : sProp 𝕄) ⊢ Out d L (Memref.whole main_v7_scv) (wid L) 0 v.out from by
    unfold Out
    iintro H; iexists g; isplitr
    · ipureintro; intro p h1 h2; omega
    · rw [show (rowsOf (wid L)).map (Memref.whole (main_v7_scv : Ref sig .scVector)).view.emb = rowsOf (wid L) from Finset.map_refl]
      iexact H) $$ Hh
  ihave Hu := (show iprop(Transfers.MayWaits (V d (cV L) (jV L)) (default : HIx 2) O ∗ owes (V d (cV L) (jV L)) O W) ⊢ (Duty (V d (cV L) (jV L)) O W : sProp 𝕄) from by
    unfold Duty
    iintro ⟨Hm, HO⟩
    isplitl [Hm]; · iexact Hm
    iexists W; isplitr
    · ipureintro; exact fun p hp => .inl hp
    · iexact HO) $$ [Hmw HO]
  · isplitl [Hmw]; · iexact Hmw
    iexact HO
  ihave Hwp := ((wp_tile (F := F) (defs := defs₀ (F := F)) (𝒱' := 𝒱₀) (bd := none) d L (Memref.whole main_v0_scv) (Memref.isWhole_whole _) (Memref.whole main_v3_scv) (Memref.isWhole_whole _) (Memref.whole main_v5_scv) (Memref.isWhole_whole _) (Memref.whole main_c_scv) (Memref.isWhole_whole _) (Memref.whole main_v6_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scoped0 cc1_scoped1 cc1_scoped2 cc1_scoped3 cc1_scoped4 cc1_scoped5 cc1_scoped6 (q2 := q) (q3 := q.left) (q3' := q.right) (q4 := q.left) (q4' := q.right) (q5 := q) (q6 := q) (Et := v.E) (Lt := v.L) (Tl := v.Tl) (T := O) (W := W) hx)) $$ [Hx He He' Hl Hl' Hc Ht B0 B1 B2 B3 B4 B5 B6 B7 B8 B9 B10 S0 S1 S2 S3 S4 S5 S6 S7 S8 S9 S10 Hu Hh]
  · isplitl [Hx]; · iexact Hx
    isplitl [He]; · iexact He
    isplitl [He']; · iexact He'
    isplitl [Hl]; · iexact Hl
    isplitl [Hl']; · iexact Hl'
    isplitl [Hc]; · iexact Hc
    isplitl [Ht]; · iexact Ht
    isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    isplitl [B10]; · iexists _; iexact B10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hu]; · iexact Hu
    iexact Hh
  iapply wp_wand $$ Hwp
  iintro %_ ⟨Hx, He, He', Hl, Hl', Hc, Ht, ⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩, S0, S1, S2, S3, S4, S5, S6, S7, S8, S9, S10, Hu, Hh⟩
  ihave Hx := (at_whole (F := F) (q) (V d (cV L) (jV L)) main_v0_scv (v.X)).1 $$ Hx
  ihave He := (at_whole (F := F) (q.left) (V d (cV L) (jV L)) main_v3_scv (v.E)).1 $$ He
  ihave He' := (at_whole (F := F) (q.right) (V d (cV L) (jV L)) main_v3_scv (v.E)).1 $$ He'
  ihave Hl := (at_whole (F := F) (q.left) (V d (cV L) (jV L)) main_v5_scv (v.L)).1 $$ Hl
  ihave Hl' := (at_whole (F := F) (q.right) (V d (cV L) (jV L)) main_v5_scv (v.L)).1 $$ Hl'
  ihave Hc := (at_whole (F := F) (q) (V d (cV L) (jV L)) main_c_scv (v.O)).1 $$ Hc
  ihave Ht := (at_whole (F := F) (q) (V d (cV L) (jV L)) main_v6_scv (v.Tl)).1 $$ Ht
  ihave B0 := (own_whole (F := F) (V d (cV L) (jV L)) cc1_scratch0 f0).1 $$ B0
  ihave B1 := (own_whole (F := F) (V d (cV L) (jV L)) cc1_scratch1 f1).1 $$ B1
  ihave B2 := (own_whole (F := F) (V d (cV L) (jV L)) cc1_scratch2 f2).1 $$ B2
  ihave B3 := (own_whole (F := F) (V d (cV L) (jV L)) cc1_scratch3 f3).1 $$ B3
  ihave B4 := (own_whole (F := F) (V d (cV L) (jV L)) cc1_scratch4 f4).1 $$ B4
  ihave B5 := (own_whole (F := F) (V d (cV L) (jV L)) cc1_scratch5 f5).1 $$ B5
  ihave B6 := (own_whole (F := F) (V d (cV L) (jV L)) cc1_scratch6 f6).1 $$ B6
  ihave B7 := (own_whole (F := F) (V d (cV L) (jV L)) cc1_scratch7 f7).1 $$ B7
  ihave B8 := (own_whole (F := F) (V d (cV L) (jV L)) cc1_scratch8 f8).1 $$ B8
  ihave B9 := (own_whole (F := F) (V d (cV L) (jV L)) cc1_scratch9 f9).1 $$ B9
  ihave B10 := (own_whole (F := F) (V d (cV L) (jV L)) cc1_scratch10 f10).1 $$ B10
  ihave He := (pointsTo_share (PosShare.mem_left_op_right q)).2 $$ [He He']
  · isplitl [He]; · iexact He
    iexact He'
  ihave Hl := (pointsTo_share (PosShare.mem_left_op_right q)).2 $$ [Hl Hl']
  · isplitl [Hl]; · iexact Hl
    iexact Hl'
  ihave Hh := (show (Out d L (Memref.whole main_v7_scv) (wid L) 16 v.out : sProp 𝕄) ⊢ (hLoc d ↦[rowsOf (wid L)]{fullShare} v.out) from by
    unfold Out
    rw [show (rowsOf (wid L)).map (Memref.whole (main_v7_scv : Ref sig .scVector)).view.emb = rowsOf (wid L) from Finset.map_refl]
    iintro ⟨%g', %hg, H⟩
    rw [← pointsTo_congr (ℓ := hLoc d) (I := rowsOf (wid L)) (q := fullShare) (f := g') (g := v.out) (fun p hp => by
      have h := (Finset.mem_filter.mp hp).2
      exact hg p (by omega) (by omega))]
    iexact H) $$ Hh
  ihave HO := (show (Duty (thr1 d L) O W : sProp 𝕄) ⊢ iprop(∃ W', ⌜∀ p ∈ W', p ∈ W ∨ p.2 = none⌝ ∗ owes (thr1 d L) O W') from by
    unfold Duty
    iintro ⟨-, H⟩; iexact H) $$ Hu
  isplitl [Hx He Hl Hc Ht Hh]
  · isplitl [Hx]; · iexact Hx
    isplitl [He]; · iexact He
    isplitl [Hl]; · iexact Hl
    isplitl [Hc]; · iexact Hc
    isplitl [Ht]; · iexact Ht
    iexact Hh
  isplitl [B0 B1 B2 B3 B4 B5 B6 B7 B8 B9 B10 Hbufs]
  · isplitr [Hbufs]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      iexists _; iexact B10
    iexact Hbufs
  isplitl [S0 S1 S2 S3 S4 S5 S6 S7 S8 S9 S10 Hsems]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hsems
  iexact HO

end Tile

end Cert.Proof

end
-- ==== Proof.UntileLoop.lean ====
/- The table's layout call: the loop that transposes a block. A block of 16 rows by 1024 columns of the transposed table
becomes 128 rows by 128 columns: the column `v` becomes the sixteen elements from `16 (v % 8)` of the row `v / 8`. -/
module

public import proofs.«01_k».proof.Proof.GatherLoops2

@[expose] public section

set_option maxHeartbeats 400000

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-- The first `16 t` columns of `T` laid out, and `n` elements of each of the next sixteen. -/
def unT (f0 : Vec F S128x128 .f32) (T : Vec F S16x1024 .f32) (t n : ℕ) : Vec F S128x128 .f32 := fun p =>
  if 8 * (p 0).val + (p 1).val / 16 < 16 * t ∨ (8 * (p 0).val + (p 1).val / 16 < 16 * (t + 1) ∧ (p 1).val % 16 < n)
  then T (i2 ((p 1).val % 16) (8 * (p 0).val + (p 1).val / 16)) else f0 p

omit [FloatOps F] in
theorem unT_zero (f0 : Vec F S128x128 .f32) (T : Vec F S16x1024 .f32) : unT f0 T 0 0 = f0 := by
  funext p; unfold unT; rw [if_neg (by omega)]

omit [FloatOps F] in
theorem unT_next (f0 : Vec F S128x128 .f32) (T : Vec F S16x1024 .f32) (t : ℕ) : unT f0 T t 16 = unT f0 T (t + 1) 0 := by
  funext p
  have h : (8 * (p 0).val + (p 1).val / 16 < 16 * t ∨ (8 * (p 0).val + (p 1).val / 16 < 16 * (t + 1) ∧ (p 1).val % 16 < 16))
      ↔ (8 * (p 0).val + (p 1).val / 16 < 16 * (t + 1) ∨ (8 * (p 0).val + (p 1).val / 16 < 16 * (t + 1 + 1) ∧ (p 1).val % 16 < 0)) := by omega
  unfold unT
  simp only [h]

omit [FloatOps F] in
theorem unT_all (f0 : Vec F S128x128 .f32) (T : Vec F S16x1024 .f32) (p : S128x128.Idx) :
    unT f0 T 64 0 p = T (i2 ((p 1).val % 16) (8 * (p 0).val + (p 1).val / 16)) := by
  have h0 := lt0 p
  have h1 := lt1 p
  unfold unT; rw [if_pos (by omega)]

theorem unT_step (f0 : Vec F S128x128 .f32) (T : Vec F S16x1024 .f32) (t n : ℕ) (ht : t < 64) (hn : n < 16) (a b : IVec S16 32) (w : Vec F S16 .f32)
    (h : ∀ x y, ((![a, b] : Fin 2 → IVec S16 32) x y).toNat < S128x128.size x)
    (ha : ∀ x : S16.Idx, (a x).toNat = (16 * t + (x 0).val) / 8) (hb : ∀ x : S16.Idx, (b x).toNat = 16 * ((16 * t + (x 0).val) % 8) + n)
    (hw : ∀ x : S16.Idx, w x = T (i2 n (16 * t + (x 0).val))) :
    storeIdx (unT f0 T t n) ![a, b] w (fun _ => 1#1) false h = unT f0 T t (n + 1) := by
  have ec : ∀ k : Fin 16, (idxAt (s := S128x128) ![a, b] h (Shape.ofLane k) 0).val = (16 * t + k.val) / 8 := fun k => ha _
  have ed : ∀ k : Fin 16, (idxAt (s := S128x128) ![a, b] h (Shape.ofLane k) 1).val = 16 * ((16 * t + k.val) % 8) + n := fun k => hb _
  refine storeIdx_eq _ _ _ _ _ _ (fun k _ => ?_) (fun p hp => ?_)
  · have hk : (k : ℕ) < 16 := k.isLt
    have e0 := ec k
    have e1 := ed k
    unfold unT
    rw [e0, e1, if_pos (.inr ⟨by omega, by omega⟩), show (16 * ((16 * t + k.val) % 8) + n) % 16 = n by omega,
      show 8 * ((16 * t + k.val) / 8) + (16 * ((16 * t + k.val) % 8) + n) / 16 = 16 * t + k.val by omega]
    exact (hw (Shape.ofLane k)).symm
  · have l0 := lt0 p
    have l1 := lt1 p
    unfold unT
    by_cases hin : 8 * (p 0).val + (p 1).val / 16 < 16 * t ∨ (8 * (p 0).val + (p 1).val / 16 < 16 * (t + 1) ∧ (p 1).val % 16 < n)
    · rw [if_pos hin, if_pos (by omega)]
    · rw [if_neg hin, if_neg]
      intro g3
      have hk : 8 * (p 0).val + (p 1).val / 16 - 16 * t < 16 := by omega
      refine hp ⟨_, hk⟩ rfl (ext2 ?_ ?_)
      · refine (ec ⟨_, hk⟩).trans ?_; show (16 * t + (8 * (p 0).val + (p 1).val / 16 - 16 * t)) / 8 = _; omega
      · refine (ed ⟨_, hk⟩).trans ?_; show 16 * ((16 * t + (8 * (p 0).val + (p 1).val / 16 - 16 * t)) % 8) + n = _; omega

omit [FloatOps F] in
/-- Sixteen lanes read out of a row of sixteen. -/
theorem cast16 (v : Vec F S1x16 .f32) (x : S16.Idx) : shapeCast S16 v shapeCasts_S1x16_S16 x = v (i2 0 (x 0).val) := by
  revert x
  exact forall_lt16 fun k => congrArg v (by revert k; decide +kernel)

section Steps

variable {Λ : Labels} {defs : Defs nD τ sig (Elt F) Λ} {𝒱' : Variants} {c : Thread nD τ} {bd : Option 𝒱'.V} {E : Set ℕ} {α : Type}

/-- Sixteen columns of a row of the block loaded. -/
theorem wp_un_load {Q : α → sProp 𝕄} {MT : Memref sig c.2.kind .vmem S16x1024 .f32} {MO : Memref sig c.2.kind .vmem S128x128 .f32}
    {f0 : Vec F S128x128 .f32} {T : Vec F S16x1024 .f32} {n t : ℕ} {off : Fin 2 → ℕ} {inb} {hl} {k : Vec F S1x16 .f32 → Prog (TpuEff nD τ sig (Elt F) Λ c.2) α}
    (hoff : off = ![n, 16 * t])
    (hk : iprop(Own c MT T ∗ Own c MO (unT f0 T t n)) ⊢ wp frame (wpE defs 𝒱' c bd) E (k fun x => T (i2 n (16 * t + (x 1).val))) Q) :
    iprop(Own c MT T ∗ Own c MO (unT f0 T t n)) ⊢ wp frame (wpE defs 𝒱' c bd) E (Prog.lift (.load MT (Rect.unit (s := S16x1024) off S1x16.size inb).toLoadRect hl) >>= k) Q := by
  rw [← row_read (inb := inb) hoff T] at hk
  iintro ⟨H1, H2⟩
  iapply step_load $$ H1
  iintro H1
  iapply hk
  isplitl [H1] <;> iassumption

/-- Their places checked. -/
theorem wp_un_chk {Q : α → sProp 𝕄} {R : sProp 𝕄} {t n : ℕ} {a b v : IVec S16 32} {P1 : Prop} {d1 : Decidable P1}
    {k : PLift P1 → Prog (TpuEff nD τ sig (Elt F) Λ c.2) α} (ht : t < 64) (hn : n < 16)
    (ha : ∀ x : S16.Idx, (a x).toNat = (16 * t + (x 0).val) / 8) (hv : ∀ x : S16.Idx, (v x).toNat = 16 * ((16 * t + (x 0).val) % 8))
    (hb : ∀ x, b x = IntOp.addi (v x) (BitVec.ofNat 32 n))
    (hP1 : (∀ x y, ((![a, b] : Fin 2 → IVec S16 32) x y).toNat < S128x128.size x) → P1)
    (hk : ∀ p, (∀ x : S16.Idx, (b x).toNat = 16 * ((16 * t + (x 0).val) % 8) + n) → (R ⊢ wp frame (wpE defs 𝒱' c bd) E (k p) Q)) :
    R ⊢ wp frame (wpE defs 𝒱' c bd) E (Prog.lift (.assume P1 d1) >>= k) Q := by
  have hb' : ∀ x : S16.Idx, (b x).toNat = 16 * ((16 * t + (x 0).val) % 8) + n := fun x => by
    rw [hb]
    show (v x + BitVec.ofNat 32 n).toNat = _
    rw [BitVec.toNat_add, hv, BitVec.toNat_ofNat]; omega
  have hab : ∀ x y, ((![a, b] : Fin 2 → IVec S16 32) x y).toNat < S128x128.size x := fun x y => by
    have := lt01 y
    match x with
    | 0 => refine lt_of_eq_of_lt (ha y) ?_; show _ < 128; omega
    | 1 => refine lt_of_eq_of_lt (hb' y) ?_; show _ < 128; omega
  exact BI.Entails.trans (hk ⟨hP1 hab⟩ hb') (step_assume (hP1 hab))

/-- What was loaded stored in its places. -/
theorem wp_un_store {Q : α → sProp 𝕄} {MT : Memref sig c.2.kind .vmem S16x1024 .f32} {MO : Memref sig c.2.kind .vmem S128x128 .f32}
    {f0 : Vec F S128x128 .f32} {T : Vec F S16x1024 .f32} {t n : ℕ} {a b : IVec S16 32} {w : Vec F S16 .f32} {h2 hs}
    {k : PUnit → Prog (TpuEff nD τ sig (Elt F) Λ c.2) α} (ht : t < 64) (hn : n < 16)
    (ha : ∀ x : S16.Idx, (a x).toNat = (16 * t + (x 0).val) / 8) (hb : ∀ x : S16.Idx, (b x).toNat = 16 * ((16 * t + (x 0).val) % 8) + n)
    (hw : w = shapeCast S16 (fun x : S1x16.Idx => T (i2 n (16 * t + (x 1).val))) shapeCasts_S1x16_S16)
    (hk : iprop(Own c MT T ∗ Own c MO (unT f0 T t (n + 1))) ⊢ wp frame (wpE defs 𝒱' c bd) E (k ⟨⟩) Q) :
    iprop(Own c MT T ∗ Own c MO (unT f0 T t n)) ⊢ wp frame (wpE defs 𝒱' c bd) E
      (SparseCore.vectorStoreIdx MO ![a, b] w (fun _ => 1#1) false h2 hs >>= k) Q := by
  have hw' : ∀ x : S16.Idx, w x = T (i2 n (16 * t + (x 0).val)) := fun x => by
    rw [hw, cast16, i2_val1, Nat.mod_eq_of_lt (lt01 x)]
  iintro ⟨H1, H2⟩
  iapply (step_storeIdx (unT_step f0 T t n ht hn a b w h2 ha hb hw')) $$ H2
  iintro H2
  iapply hk
  isplitl [H1] <;> iassumption

end Steps

theorem un_row : ∀ (t : Fin k0_t2_loop.trips) (k : Fin 16),
    (k0_pay8 lanes 0#32 1#32 t (i1 k.val)).toNat = (16 * t.val + ((i1 k.val : S16.Idx) 0).val) / 8 := by decide +kernel

theorem un_col : ∀ (t : Fin k0_t2_loop.trips) (k : Fin 16),
    (k0_pay9 lanes 0#32 1#32 t (i1 k.val)).toNat = 16 * ((16 * t.val + ((i1 k.val : S16.Idx) 0).val) % 8) := by decide +kernel

/-- The thread of a subcore of the layout call. -/
abbrev thr0 (d : Dev nD) (i : grid0.Coords) : Thread nD τ := (d, .scVector ((i 0).castLE hcore0) ((i 1).castLE hsub0))

section Bodies

variable {defs : Defs nD τ sig (Elt F) Λ₀} {𝒱' : Variants} {bd : Option 𝒱'.V} {E : Set ℕ} (d : Dev nD)
variable (i : grid0.Coords) (arg2 : Memref sig .scVector .hbm S16x2600000 .f32) (harg2 : arg2.IsWhole)
  (arg3 : Memref sig .scVector .hbm S325000x128 .f32) (harg3 : arg3.IsWhole)
  (arg4 : Memref sig .scVector .vmem S16x1024 .f32) (harg4 : arg4.IsWhole)
  (arg5 : Memref sig .scVector .vmem S16x1024 .f32) (harg5 : arg5.IsWhole)
  (arg6 : Memref sig .scVector .vmem S128x128 .f32) (harg6 : arg6.IsWhole)
  (arg7 : Memref sig .scVector .vmem S128x128 .f32) (harg7 : arg7.IsWhole)
  (arg8 : DmaSems sig S_) (arg9 : DmaSems sig S_) (v59_r0 : DmaSems sig S_) (v59_r1 : DmaSems sig S_)

set_option maxRecDepth 4000 in
theorem wp_u2 (v1 x1 x2 : BitVec 32) (t1 : Fin k0_t1_loop.trips) (f0 : Vec F S128x128 .f32) (T : Vec F S16x1024 .f32)
    (t : Fin k0_t2_loop.trips) :
    iprop(Own (thr0 d i) arg4 T ∗ Own (thr0 d i) arg6 (unT f0 T t.val 0)) ⊢ wp frame (wpE defs 𝒱' (thr0 d i) bd) E
      (k0_t2_body (F := F) i arg2 harg2 arg3 harg3 arg4 harg4 arg5 harg5 arg6 harg6 arg7 harg7 arg8 arg9 v59_r0 v59_r1 v1 lanes x1 x2 t1 t ()) fun _ =>
        iprop(Own (thr0 d i) arg4 T ∗ Own (thr0 d i) arg6 (unT f0 T (t.val + 1) 0)) := by
  have ht : t.val < 64 := t.isLt
  have ha := forall_lt16 (P := fun x => (k0_pay8 lanes 0#32 1#32 t x).toNat = (16 * t.val + (x 0).val) / 8) (un_row t)
  have hv := forall_lt16 (P := fun x => (k0_pay9 lanes 0#32 1#32 t x).toNat = 16 * ((16 * t.val + (x 0).val) % 8)) (un_col t)
  unfold k0_t2_body
  rw [wp_bind, k0_part1_eq_skeleton]; unfold k0_part1_skel
  iterate 3
    refine wp_un_load (by clear * - t; revert t; decide +kernel) ?_
    refine wp_un_chk ht (by decide) ha hv (fun _ => rfl) id fun _ hb => ?_
    refine wp_un_store ht (by decide) ha hb rfl ?_
  refine wp_un_load (by clear * - t; revert t; decide +kernel) (wp_done ?_)
  dsimp only
  rw [wp_bind, k0_part2_eq_skeleton]; unfold k0_part2_skel
  refine wp_un_chk ht (by decide) ha hv (fun _ => rfl) id fun _ hb => ?_
  refine wp_un_store ht (by decide) ha hb rfl ?_
  iterate 4
    refine wp_un_load (by clear * - t; revert t; decide +kernel) ?_
    refine wp_un_chk ht (by decide) ha hv (fun _ => rfl) id fun _ hb => ?_
    refine wp_un_store ht (by decide) ha hb rfl ?_
  refine wp_done ?_
  rw [wp_bind, k0_part3_eq_skeleton]; unfold k0_part3_skel
  iterate 4
    refine wp_un_load (by clear * - t; revert t; decide +kernel) ?_
    refine wp_un_chk ht (by decide) ha hv (fun _ => rfl) id fun _ hb => ?_
    refine wp_un_store ht (by decide) ha hb rfl ?_
  refine wp_un_load (by clear * - t; revert t; decide +kernel) (wp_done ?_)
  dsimp only
  refine wp_un_chk ht (by decide) ha hv (fun _ => rfl) id fun _ hb => ?_
  refine wp_un_store ht (by decide) ha hb rfl ?_
  iterate 3
    refine wp_un_load (by clear * - t; revert t; decide +kernel) ?_
    refine wp_un_chk ht (by decide) ha hv (fun _ => rfl) id fun _ hb => ?_
    refine wp_un_store ht (by decide) ha hb rfl ?_
  refine wp_done ?_
  rw [← unT_next]

set_option maxRecDepth 65536 in
/-- The second loop of a trip is the first on the other pair of buffers. -/
theorem u3_eq (v1 x1 x2 : BitVec 32) (t1 : Fin k0_t1_loop.trips) (t : Fin k0_t3_loop.trips) :
    k0_t3_body (F := F) i arg2 harg2 arg3 harg3 arg4 harg4 arg5 harg5 arg6 harg6 arg7 harg7 arg8 arg9 v59_r0 v59_r1 lanes t ()
      = k0_t2_body (F := F) i arg2 harg2 arg3 harg3 arg5 harg5 arg5 harg5 arg7 harg7 arg7 harg7 arg8 arg9 v59_r0 v59_r1 v1 lanes x1 x2 t1 t () := rfl

end Bodies

end Cert.Proof

end
-- ==== Proof.UntileTile.lean ====
/- The table's layout call: a subcore's trips. It brings in a block, transposes it while the next one arrives, and copies it
   out. The last blocks of several subcores are the same block, so a block's rows may be written by several of them at once:
   every subcore holds a share of the whole result, with the contents it will have agreed beforehand, and marks the rows it
   has written. -/
module

public import Idealize.ShloMosaic.Lib.WriteMode
public import proofs.«01_k».proof.Proof.UntileLoop
public import proofs.«01_k».proof.Proof.GatherChunk

@[expose] public section

set_option maxHeartbeats 400000

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## The result, its blocks and who writes them -/

/-- The transposed table laid out: sixteen elements of a column after one another, eight columns to a row. -/
def unE (E : Vec F S16x2600000 .f32) : Vec F S325000x128 .f32 := fun p => E (i2 ((p 1).val % 16) (8 * (p 0).val + (p 1).val / 16))

/-- The subcore's number. -/
def wid0 (i : grid0.Coords) : ℕ := 2 * (i 1).val + (i 0).val

/-- The `s`-th block of subcore `w`. -/
def blk (w s : ℕ) : ℕ := min (w + 32 * s) 2538

/-- The block's columns. -/
def blkOf (E : Vec F S16x2600000 .f32) (b : ℕ) : Vec F S16x1024 .f32 := fun x => E (i2 (x 0).val (1024 * b + (x 1).val))

/-- The block's rows of the result. -/
def blkRows (b : ℕ) : Finset S325000x128.Idx := Finset.univ.filter fun p => (p 0).val / 128 = b

open Classical in
/-- The rows that subcore `w` has written after `n` blocks. -/
def marks (w n : ℕ) : Finset S325000x128.Idx := Finset.univ.filter fun p => ∃ s < n, (p 0).val / 128 = blk w s

theorem marks_zero (w : ℕ) : marks w 0 = ∅ := by
  ext p; simp [marks]

theorem marks_succ (w n : ℕ) : marks w n ∪ blkRows (blk w n) = marks w (n + 1) := by
  ext p
  simp only [marks, blkRows, Finset.mem_union, Finset.mem_filter, Finset.mem_univ, true_and]
  constructor
  · rintro (⟨s, hs, h⟩ | h)
    · exact ⟨s, by omega, h⟩
    · exact ⟨n, by omega, h⟩
  · rintro ⟨s, hs, h⟩
    by_cases hsn : s = n
    · subst hsn; exact .inr h
    · exact .inl ⟨s, by omega, h⟩

theorem off1_eq (i : grid0.Coords) : k0_off1 i 0#32 = ![0, 1024 * blk (wid0 i) 0] := by revert i; decide +kernel
theorem off2_eq (i : grid0.Coords) (t) : k0_off2 i t 1#32 = ![0, 1024 * blk (wid0 i) (2 * t.val + 1)] := by revert i t; decide +kernel
theorem off2_eq' (i : grid0.Coords) (t) : k0_off2 i t 2#32 = ![0, 1024 * blk (wid0 i) (2 * (t.val + 1))] := by revert i t; decide +kernel
theorem off20_eq (i : grid0.Coords) (t) : k0_off20 i t = ![128 * blk (wid0 i) (2 * t.val), 0] := by revert i t; decide +kernel
theorem off37_eq (i : grid0.Coords) (t) : k0_off37 i t = ![128 * blk (wid0 i) (2 * t.val + 1), 0] := by revert i t; decide +kernel

/-- Where the bookkeeping of the shared result sits. -/
abbrev EW : UEmb (UW F) (UU F) :=
  ((UEmb.inl : UEmb (UW F) (UW F × Counters)).trans (UEmb.inr : UEmb (UW F × Counters) (UP × (UW F × Counters)))).trans
    (UEmb.inr : UEmb (UP × (UW F × Counters)) (UU F))

/-- The bookkeeping is in place. -/
abbrev WInv (ι : ℕ) : sProp 𝕄 := wmInv (Ix := HIx 2) (EW (F := F)) ι

abbrev uLoc (d : Dev nD) : Loc nD τ sig := (SparseCore.T d).loc main_v2

/-- A share of the result, which held `f` and will hold the table `E` laid out, with the rows `M` written. -/
abbrev Wm (d : Dev nD) (q : PosShare TreeShare) (f : Vec F S325000x128 .f32) (E : Vec F S16x2600000 .f32) (M : Finset S325000x128.Idx) : sProp 𝕄 :=
  willBeTo (Ix := HIx 2) (EW (F := F)) (uLoc d) Finset.univ q f (fun p => some (unE E p)) M

omit [FloatOps F] in
/-- A block transposed is its rows of the result. -/
theorem unT_blk (f0 : Vec F S128x128 .f32) (E : Vec F S16x2600000 .f32) {b : ℕ} (hb : b ≤ 2538) (x : S128x128.Idx) :
    unT f0 (blkOf E b) 64 0 x = unE E (i2 (128 * b + (x 0).val) (x 1).val) := by
  have h0 := lt0 x
  have h1 := lt1 x
  rw [unT_all]
  unfold blkOf unE
  rw [i2_val0, i2_val1, i2_val0, i2_val1, Nat.mod_eq_of_lt (by omega : (x 1).val % 16 < 16), Nat.mod_eq_of_lt (by omega : 8 * (x 0).val + (x 1).val / 16 < 1024),
    Nat.mod_eq_of_lt h1, Nat.mod_eq_of_lt (by omega : 128 * b + (x 0).val < 325000), show 8 * (128 * b + (x 0).val) + (x 1).val / 16 = 1024 * b + (8 * (x 0).val + (x 1).val / 16) by omega]

section Steps

variable {Λ : Labels} {defs : Defs nD τ sig (Elt F) Λ} {𝒱' : Variants} {bd : Option 𝒱'.V} {α : Type} (d : Dev nD) (i : grid0.Coords)

/-- A block in flight, and the table's share with it. -/
def FlyB (sem : DmaSem sig) (q : PosShare TreeShare) (M2 : Memref sig .scVector .hbm S16x2600000 .f32) (MT : Memref sig .scVector .vmem S16x1024 .f32)
    (E : Vec F S16x2600000 .f32) (b : ℕ) : sProp 𝕄 :=
  iprop(∃ X, Fly (thr0 d i) sem MT.view.dmaCredit X ∗ (X -∗ (At q (thr0 d i) M2 E ∗ Own (thr0 d i) MT (blkOf E b))))

/-- A block's copy is started. -/
theorem step_bring {Q : α → sProp 𝕄} {q : PosShare TreeShare} {M2 : Memref sig .scVector .hbm S16x2600000 .f32} {MT : Memref sig .scVector .vmem S16x1024 .f32}
    {sem : DmaSem sig} {off : Fin 2 → ℕ} {inb} {b : ℕ} {E : Vec F S16x2600000 .f32} {k : PUnit → Prog (TpuEff nD τ sig (Elt F) Λ (thr0 d i).2) α} {w1 w2 w3 w4}
    (hoff : off = ![0, 1024 * b]) :
    iprop(At q (thr0 d i) M2 E ∗ (∃ g, Own (thr0 d i) MT g) ∗ semVal (thr0 d i, .dma sem) 0) ⊢
    iprop((FlyB d i sem q M2 MT E b -∗ wp frame (wpE defs 𝒱' (thr0 d i) bd) Set.univ (k ⟨⟩) Q)
      -∗ wp frame (wpE defs 𝒱' (thr0 d i) bd) Set.univ
        (Prog.lift (.enqueueDma (M2.slice (Rect.unit (s := S16x2600000) off S16x1024.size inb) w1) (.here MT) (.dma sem) w2 w3 w4) >>= k) Q) := by
  subst hoff
  iintro ⟨HE, ⟨%g, HT⟩, Hv⟩ Hk
  ihave HE := (at_slice (c := thr0 d i) (M := M2) (Rect.unit (s := S16x2600000) ![0, 1024 * b] S16x1024.size inb) w1) $$ HE
  icases HE with ⟨HE, Hw⟩
  unfold At Own
  icases HE with ⟨%gs, %hgs, Hs⟩
  icases HT with ⟨%gd, %hgd, Hd⟩
  iapply (Transfers.wp_dmaLocal (defs := defs) countersEmb 𝒱' (thr0 d i) bd (src := M2.slice (Rect.unit (s := S16x2600000) ![0, 1024 * b] S16x1024.size inb) w1) (via := .same) (dst := MT) (sm := .dma sem)
    (hsrc := w2) (hdst := w3) (hsem := w4) (k := k) (q := q) (fs := gs) (Sd := MT.view.set) (fd := gd)
    (default : HIx 2) MT.view.dmaCredit rfl (View.dmaCredit_pos _ (by decide : 0 < S16x1024.numel)) (Finset.Subset.refl _)) $$ [Hs Hd Hv]
  · isplitl [Hs]; · iexact Hs
    isplitl [Hd]; · iexact Hd
    iexact Hv
  iintro HF
  iapply Hk
  unfold FlyB At Own
  iexists _
  isplitl [HF]; · iexact HF
  iintro ⟨Hd, Hs⟩
  isplitl [Hs Hw]
  · iapply Hw
    iexists gs; isplitr
    · ipureintro; exact hgs
    · iexact Hs
  · iexists (MT.view.write (Elt F) gd ((M2.slice (Rect.unit (s := S16x2600000) ![0, 1024 * b] S16x1024.size inb) w1).view.read (Elt F) gs) Finset.univ); isplitr
    · ipureintro
      rw [View.read_write_univ, hgs]
      funext x
      unfold blkOf
      have hb : 1024 * b + 1024 ≤ 2600000 := inb 1
      have h0 := lt0 x
      have h1 := lt1 x
      refine congrArg E (ext2 ?_ ?_) <;> simp only [unit_emb, i2_val0, i2_val1]
      · rw [Nat.mod_eq_of_lt h0]; simp
      · rw [Nat.mod_eq_of_lt (by omega)]; simp
    · iexact Hd

/-- A block's rows are copied out. -/
theorem step_put {Q : α → sProp 𝕄} {MO : Memref sig .scVector .vmem S128x128 .f32} {sem : DmaSem sig} {ι : ℕ}
    {off : Fin 2 → ℕ} {inb} {b : ℕ} {q : PosShare TreeShare} {f : Vec F S128x128 .f32} {f0 : Vec F S325000x128 .f32} {E : Vec F S16x2600000 .f32} {M : Finset S325000x128.Idx}
    {T : CellTallies nD τ sig (HIx 2)} {W : Waits sig (HIx 2)}
    {k : PUnit → Prog (TpuEff nD τ sig (Elt F) Λ (thr0 d i).2) α} {w1 w2 w3 w4 w5 w6}
    (hoff : off = ![128 * b, 0]) (hf : ∀ x : S128x128.Idx, f x = unE E (i2 (128 * b + (x 0).val) (x 1).val)) :
    iprop(WInv (F := F) ι ∗ Own (thr0 d i) MO f ∗ Wm d q f0 E M ∗ semVal (thr0 d i, .dma sem) 0 ∗ Duty (thr0 d i) T W) ⊢
    iprop((iprop(Own (thr0 d i) MO f ∗ Wm d q f0 E (M ∪ blkRows b) ∗ semVal (thr0 d i, .dma sem) 0 ∗ Duty (thr0 d i) T W)
        -∗ wp frame (wpE defs 𝒱' (thr0 d i) bd) Set.univ (k ⟨⟩) Q)
      -∗ wp frame (wpE defs 𝒱' (thr0 d i) bd) Set.univ
        (Prog.lift (.enqueueDma MO (.here ((Memref.whole main_v2_scv).slice (Rect.unit (s := S325000x128) off S128x128.size inb) w1)) (.dma sem) w2 w3 w4) >>= fun _ =>
          Prog.lift (.waitDma2 sem MO ((Memref.whole main_v2_scv).slice (Rect.unit (s := S325000x128) off S128x128.size inb) w1) w5 w6) >>= k) Q) := by
  subst hoff
  have hb : 128 * b + 128 ≤ 325000 := inb 0
  have hset : ((Memref.whole main_v2_scv).slice (Rect.unit (s := S325000x128) ![128 * b, 0] S128x128.size inb) w1).view.set = blkRows b := by
    refine (View.set_slice (Memref.whole main_v2_scv).view _).trans ((Finset.map_refl).trans ?_)
    ext y
    refine Rect.mem_set_unit.trans ⟨fun h => ?_, fun h a => ?_⟩
    · have h0 : 128 * b ≤ (y 0).val ∧ (y 0).val < 128 * b + 128 := h 0
      exact Finset.mem_filter.mpr ⟨Finset.mem_univ _, by omega⟩
    · have h0 := (Finset.mem_filter.mp h).2
      match a with
      | 0 => show 128 * b ≤ (y 0).val ∧ (y 0).val < 128 * b + 128; omega
      | 1 => exact ⟨Nat.zero_le _, lt_of_lt_of_eq (lt1 y) (by simp)⟩
  unfold Own
  iintro ⟨#Hwm, ⟨%gs, %hgs, Hs⟩, Hd, Hv, Hu⟩ Hk
  have hadm : ((Memref.whole main_v2_scv).slice (Rect.unit (s := S325000x128) ![128 * b, 0] S128x128.size inb) w1).view.Admitted (Elt F)
      (fun p => some (unE E p)) (MO.view.read (Elt F) gs) Finset.univ := by
    refine View.admitted_some_iff.mpr fun x _ => ?_
    rw [hgs, hf]
    have h0 := lt0 x
    have h1 := lt1 x
    refine (congrArg (unE E) (ext2 ?_ ?_)).trans (show unE E ((Rect.unit (s := S325000x128) ![128 * b, 0] S128x128.size inb).emb x) = _ from rfl)
      <;> simp only [unit_emb, i2_val0, i2_val1]
    · rw [Nat.mod_eq_of_lt (by omega)]; simp
    · rw [Nat.mod_eq_of_lt h1]; simp
  have hwu := willBeTo_writeUpdate (Ix := HIx 2) (Lvl := ℕ) (emb := EW (F := F)) (ιwm := ι) (thr0 d i)
    (v := ((Memref.whole main_v2_scv).slice (Rect.unit (s := S325000x128) ![128 * b, 0] S128x128.size inb) w1).view)
    (w := MO.view.read (Elt F) gs) (S := Finset.univ) (q := q) (f := f0) (g := fun p => some (unE E p)) (W := M) (Finset.subset_univ _) hadm
  rw [hset] at hwu
  have hN0 : 0 < ((Memref.whole main_v2_scv).slice (Rect.unit (s := S325000x128) ![128 * b, 0] S128x128.size inb) w1).view.dmaCredit :=
    View.dmaCredit_pos _ (by decide : 0 < S128x128.numel)
  imod (Transfers.flight_alloc (countersEmb (U := UU F)) hN0 iprop(Wm d q f0 E (M ∪ blkRows b) ∗ (MO.view.loc (thr0 d i) ↦[MO.view.set]{fullShare} gs))
      (g := (thr0 d i, .dma sem))) $$ Hv with ⟨%γ, %δ, %κ, #Hinv, Hγ, Hδ⟩
  iapply (wp_enqueueDma (defs := defs) 𝒱' (thr0 d i) bd Set.univ (src := MO) (sem := .dma sem) (hsrc := w2) (hdst := w3) (hsem := w4) (default : HIx 2) _ rfl) $$ [Hs Hd] [Hγ]
  · isplitl [Hs]; · iexact Hs
    iapply hwu
    isplitr; · iexact Hwm
    iexact Hd
  · iapply (Transfers.flight_creditUpdate (countersEmb (U := UU F)) (δ := δ))
    isplitr; · iexact Hinv
    iexact Hγ
  iintro Hcred
  ihave HF := (Transfers.flight_intro (countersEmb (U := UU F)) (thr0 d i) (sm := .dma sem) (ι := (default : HIx 2))
    (N := ((Memref.whole main_v2_scv).slice (Rect.unit (s := S325000x128) ![128 * b, 0] S128x128.size inb) w1).view.dmaCredit)
    (D := iprop(Wm d q f0 E (M ∪ blkRows b) ∗ (MO.view.loc (thr0 d i) ↦[MO.view.set]{fullShare} gs))) (γ := γ) (δ := δ) (κ := κ)) $$ [Hδ Hcred]
  · isplitr; · iexact Hinv
    isplitl [Hδ]; · iexact Hδ
    iexact Hcred
  iapply (step_wait (defs := defs) (𝒱' := 𝒱') (c := thr0 d i) (bd := bd) (src := MO) (dst := (Memref.whole main_v2_scv).slice (Rect.unit (s := S325000x128) ![128 * b, 0] S128x128.size inb) w1)
    (hsrc := w5) (hdst := w6) (k := k) rfl (O := T) (W := W)) $$ [HF Hu]
  · isplitl [HF]; · iexact HF
    iexact Hu
  iintro ⟨⟨Hd, Hs⟩, Hv, Hu⟩
  iapply Hk
  isplitl [Hs]
  · iexists gs; isplitr
    · ipureintro; exact hgs
    · iexact Hs
  isplitl [Hd]; · iexact Hd
  isplitl [Hv] <;> iassumption

/-- Half a trip: the next block's copy is started, the block that has arrived is transposed and copied out. -/
theorem step_half {Q : α → sProp 𝕄} {qa qb q : PosShare TreeShare} {M2 : Memref sig .scVector .hbm S16x2600000 .f32} {MA MB : Memref sig .scVector .vmem S16x1024 .f32}
    {MO : Memref sig .scVector .vmem S128x128 .f32} {sa sb sr : DmaSem sig} {ι : ℕ} {off off' off2 : Fin 2 → ℕ} {inb inb' inb2} {b b' : ℕ}
    {f0 : Vec F S325000x128 .f32} {E : Vec F S16x2600000 .f32} {M : Finset S325000x128.Idx} {T : CellTallies nD τ sig (HIx 2)} {W : Waits sig (HIx 2)}
    {l : Scf.Loop 32} {hok : Scf.OK l.lb l.ub l.st} {body : Fin l.trips → Unit → Prog (TpuEff nD τ sig (Elt F) Λ (thr0 d i).2) Unit}
    {k : PUnit → Prog (TpuEff nD τ sig (Elt F) Λ (thr0 d i).2) α} {w1 w2 w3 w4 w5 w6 w7 w8 w9 w10 w11 w12 w13}
    (hoff : off = ![0, 1024 * b']) (hoff2 : off2 = ![128 * b, 0]) (hb : b ≤ 2538) (hl : l.trips = 64)
    (hbody : ∀ (g : Vec F S128x128 .f32) (V : Vec F S16x1024 .f32) (t : Fin l.trips),
      iprop(Own (thr0 d i) MA V ∗ Own (thr0 d i) MO (unT g V t.val 0)) ⊢ wp frame (wpE defs 𝒱' (thr0 d i) bd) Set.univ (body t ()) fun _ =>
        iprop(Own (thr0 d i) MA V ∗ Own (thr0 d i) MO (unT g V (t.val + 1) 0))) :
    iprop(WInv (F := F) ι ∗ FlyB d i sa qa M2 MA E b ∗ At qb (thr0 d i) M2 E ∗ (∃ g, Own (thr0 d i) MB g) ∗ (∃ g, Own (thr0 d i) MO g)
      ∗ semVal (thr0 d i, .dma sb) 0 ∗ semVal (thr0 d i, .dma sr) 0 ∗ Wm d q f0 E M ∗ Duty (thr0 d i) T W) ⊢
    iprop((iprop(FlyB d i sb qb M2 MB E b' ∗ At qa (thr0 d i) M2 E ∗ (∃ g, Own (thr0 d i) MA g) ∗ (∃ g, Own (thr0 d i) MO g)
        ∗ semVal (thr0 d i, .dma sa) 0 ∗ semVal (thr0 d i, .dma sr) 0 ∗ Wm d q f0 E (M ∪ blkRows b) ∗ Duty (thr0 d i) T W)
        -∗ wp frame (wpE defs 𝒱' (thr0 d i) bd) Set.univ (k ⟨⟩) Q)
      -∗ wp frame (wpE defs 𝒱' (thr0 d i) bd) Set.univ
        (Prog.lift (.enqueueDma (M2.slice (Rect.unit (s := S16x2600000) off S16x1024.size inb) w1) (.here MB) (.dma sb) w2 w3 w4) >>= fun _ =>
          Prog.lift (.waitDma2 sa (M2.slice (Rect.unit (s := S16x2600000) off' S16x1024.size inb') w5) MA w6 w7) >>= fun _ =>
          Scf.Loop.for l hok () body >>= fun _ =>
          Prog.lift (.enqueueDma MO (.here ((Memref.whole main_v2_scv).slice (Rect.unit (s := S325000x128) off2 S128x128.size inb2) w8)) (.dma sr) w9 w10 w11) >>= fun _ =>
          Prog.lift (.waitDma2 sr MO ((Memref.whole main_v2_scv).slice (Rect.unit (s := S325000x128) off2 S128x128.size inb2) w8) w12 w13) >>= k) Q) := by
  iintro ⟨#Hwm, HF, HE, HB, ⟨%g, HO⟩, Hsb, Hsr, HW, Hu⟩ Hk
  iapply (step_bring (defs := defs) (𝒱' := 𝒱') (bd := bd) d i hoff) $$ [HE HB Hsb]
  · isplitl [HE]; · iexact HE
    isplitl [HB] <;> iassumption
  iintro HFb
  unfold FlyB
  icases HF with ⟨%X, HF, HX⟩
  iapply (step_wait (defs := defs) (𝒱' := 𝒱') (c := thr0 d i) (bd := bd) (dst := MA) rfl (O := T) (W := W)) $$ [HF Hu]
  · isplitl [HF]; · iexact HF
    iexact Hu
  iintro ⟨HX', Hsa, Hu⟩
  ihave HX := HX $$ HX'
  icases HX with ⟨HE, HA⟩
  iapply (wp_loop (defs := defs) (𝒱' := 𝒱') (c := thr0 d i) (bd := bd) hl
    (fun t => iprop(Own (thr0 d i) MA (blkOf E b) ∗ Own (thr0 d i) MO (unT g (blkOf E b) t 0))) (fun t => hbody g (blkOf E b) t)) $$ [HA HO]
  · isplitl [HA]; · iexact HA
    rw [unT_zero]; iexact HO
  iintro ⟨HA, HO⟩
  iapply (step_put (defs := defs) (𝒱' := 𝒱') (bd := bd) d i (ι := ι) (T := T) (W := W) hoff2 (unT_blk g E hb)) $$ [HO HW Hsr Hu]
  · isplitr; · iexact Hwm
    isplitl [HO]; · iexact HO
    isplitl [HW]; · iexact HW
    isplitl [Hsr] <;> iassumption
  iintro ⟨HO, HW, Hsr, Hu⟩
  iapply Hk
  isplitl [HFb]; · iexact HFb
  isplitl [HE]; · iexact HE
  isplitl [HA]; · iexists _; iexact HA
  isplitl [HO]; · iexists _; iexact HO
  isplitl [Hsa]; · iexact Hsa
  isplitl [Hsr]; · iexact Hsr
  isplitl [HW]; · iexact HW
  iexact Hu

end Steps

section Tile

variable {defs : Defs nD τ sig (Elt F) Λ₀} {𝒱' : Variants} {bd : Option 𝒱'.V} (d : Dev nD)
variable (i : grid0.Coords) (arg2 : Memref sig .scVector .hbm S16x2600000 .f32) (harg2 : arg2.IsWhole)
  (arg4 : Memref sig .scVector .vmem S16x1024 .f32) (harg4 : arg4.IsWhole)
  (arg5 : Memref sig .scVector .vmem S16x1024 .f32) (harg5 : arg5.IsWhole)
  (arg6 : Memref sig .scVector .vmem S128x128 .f32) (harg6 : arg6.IsWhole)
  (arg7 : Memref sig .scVector .vmem S128x128 .f32) (harg7 : arg7.IsWhole)
  (arg8 : DmaSems sig S_) (arg9 : DmaSems sig S_) (v59_r0 : DmaSems sig S_) (v59_r1 : DmaSems sig S_)

variable {ι : ℕ} {qa qb q : PosShare TreeShare} {f0 : Vec F S325000x128 .f32} {E : Vec F S16x2600000 .f32}
  {T : CellTallies nD τ sig (HIx 2)} {W : Waits sig (HIx 2)}

theorem blk_le (w s : ℕ) : blk w s ≤ 2538 := Nat.min_le_right _ _

set_option maxRecDepth 4000 in
/-- The first half of a trip. -/
theorem wp_part7 (v1 : BitVec 32) (t : Fin k0_t1_loop.trips) (M : Finset S325000x128.Idx) :
    iprop(WInv (F := F) ι ∗ FlyB d i arg8.sem qa arg2 arg4 E (blk (wid0 i) (2 * t.val)) ∗ At qb (thr0 d i) arg2 E ∗ (∃ g, Own (thr0 d i) arg5 g) ∗ (∃ g, Own (thr0 d i) arg6 g)
      ∗ semVal (thr0 d i, .dma arg9.sem) 0 ∗ semVal (thr0 d i, .dma v59_r0.sem) 0 ∗ Wm d q f0 E M ∗ Duty (thr0 d i) T W) ⊢
    wp frame (wpE defs 𝒱' (thr0 d i) bd) Set.univ
      (k0_part7 (F := F) i arg2 harg2 (Memref.whole main_v2_scv) (Memref.isWhole_whole _) arg4 harg4 arg5 harg5 arg6 harg6 arg7 harg7 arg8 arg9 v59_r0 v59_r1 v1 lanes 0#32 1#32 t) fun _ =>
    iprop(FlyB d i arg9.sem qb arg2 arg5 E (blk (wid0 i) (2 * t.val + 1)) ∗ At qa (thr0 d i) arg2 E ∗ (∃ g, Own (thr0 d i) arg4 g) ∗ (∃ g, Own (thr0 d i) arg6 g)
      ∗ semVal (thr0 d i, .dma arg8.sem) 0 ∗ semVal (thr0 d i, .dma v59_r0.sem) 0 ∗ Wm d q f0 E (M ∪ blkRows (blk (wid0 i) (2 * t.val))) ∗ Duty (thr0 d i) T W) := by
  rw [k0_part7_eq_skeleton]; unfold k0_part7_skel
  iintro H
  iapply (step_half (defs := defs) (𝒱' := 𝒱') (bd := bd) d i (ι := ι) (T := T) (W := W) (off2_eq i t) (off20_eq i t) (blk_le _ _) (by decide +kernel)
    (fun g V t2 => wp_u2 d i arg2 harg2 _ _ arg4 harg4 arg5 harg5 arg6 harg6 arg7 harg7 arg8 arg9 v59_r0 v59_r1 v1 _ _ t g V t2)) $$ H
  iintro H
  rw [wp_pure]
  imodintro
  iexact H

/-- Between two trips. -/
def UInv (n : ℕ) : sProp 𝕄 :=
  iprop(FlyB d i arg8.sem qa arg2 arg4 E (blk (wid0 i) (2 * n)) ∗ At qb (thr0 d i) arg2 E ∗ (∃ g, Own (thr0 d i) arg5 g) ∗ (∃ g, Own (thr0 d i) arg6 g) ∗ (∃ g, Own (thr0 d i) arg7 g)
    ∗ semVal (thr0 d i, .dma arg9.sem) 0 ∗ semVal (thr0 d i, .dma v59_r0.sem) 0 ∗ semVal (thr0 d i, .dma v59_r1.sem) 0 ∗ Wm d q f0 E (marks (wid0 i) (2 * n)) ∗ Duty (thr0 d i) T W)

set_option maxRecDepth 4000 in
theorem wp_utrip (v1 : BitVec 32) (t : Fin k0_t1_loop.trips) :
    iprop(WInv (F := F) ι ∗ UInv (qa := qa) (qb := qb) (q := q) (f0 := f0) (E := E) (T := T) (W := W) d i arg2 arg4 arg5 arg6 arg7 arg8 arg9 v59_r0 v59_r1 t.val) ⊢
    wp frame (wpE defs 𝒱' (thr0 d i) bd) Set.univ
      (k0_t1_body (F := F) i arg2 harg2 (Memref.whole main_v2_scv) (Memref.isWhole_whole _) arg4 harg4 arg5 harg5 arg6 harg6 arg7 harg7 arg8 arg9 v59_r0 v59_r1 v1 lanes t ()) fun _ =>
    iprop(WInv (F := F) ι ∗ UInv (qa := qa) (qb := qb) (q := q) (f0 := f0) (E := E) (T := T) (W := W) d i arg2 arg4 arg5 arg6 arg7 arg8 arg9 v59_r0 v59_r1 (t.val + 1)) := by
  unfold k0_t1_body UInv
  iintro ⟨#Hwm, HF, HE, H5, H6, H7, Hs9, Hr0, Hr1, HW, Hu⟩
  iapply (wp_then (wp_part7 (bd := bd) (defs := defs) (𝒱' := 𝒱') d i arg2 harg2 arg4 harg4 arg5 harg5 arg6 harg6 arg7 harg7 arg8 arg9 v59_r0 v59_r1 (ι := ι) (qa := qa) (qb := qb) (q := q) (f0 := f0) (E := E)
    (T := T) (W := W) v1 t (marks (wid0 i) (2 * t.val)))) $$ [HF HE H5 H6 Hs9 Hr0 HW Hu]
  · isplitr; · iexact Hwm
    isplitl [HF]; · iexact HF
    isplitl [HE]; · iexact HE
    isplitl [H5]; · iexact H5
    isplitl [H6]; · iexact H6
    isplitl [Hs9]; · iexact Hs9
    isplitl [Hr0]; · iexact Hr0
    isplitl [HW] <;> iassumption
  iintro %_ ⟨HF, HE, H4, H6, Hs8, Hr0, HW, Hu⟩
  dsimp only
  iapply (step_half (defs := defs) (𝒱' := 𝒱') (bd := bd) d i (ι := ι) (T := T) (W := W) (off2_eq' i t) (off37_eq i t) (blk_le _ _) (by decide +kernel)
    (fun g V t3 => by
      rw [u3_eq (F := F) i arg2 harg2 (Memref.whole main_v2_scv) (Memref.isWhole_whole _) arg4 harg4 arg5 harg5 arg6 harg6 arg7 harg7 arg8 arg9 v59_r0 v59_r1 v1 0#32 1#32 t t3]
      exact wp_u2 d i arg2 harg2 _ _ arg5 harg5 arg5 harg5 arg7 harg7 arg7 harg7 arg8 arg9 v59_r0 v59_r1 v1 _ _ t g V t3)) $$ [HF HE H4 H7 Hs8 Hr1 HW Hu]
  · isplitr; · iexact Hwm
    isplitl [HF]; · iexact HF
    isplitl [HE]; · iexact HE
    isplitl [H4]; · iexact H4
    isplitl [H7]; · iexact H7
    isplitl [Hs8]; · iexact Hs8
    isplitl [Hr1]; · iexact Hr1
    isplitl [HW] <;> iassumption
  rw [marks_succ, marks_succ, show 2 * t.val + 1 + 1 = 2 * (t.val + 1) by omega]
  iintro ⟨HF, HE, H5, H7, Hs9, Hr1, HW, Hu⟩
  rw [wp_pure]
  imodintro
  isplitr; · iexact Hwm
  isplitl [HF]; · iexact HF
  isplitl [HE]; · iexact HE
  isplitl [H5]; · iexact H5
  isplitl [H6]; · iexact H6
  isplitl [H7]; · iexact H7
  isplitl [Hs9]; · iexact Hs9
  isplitl [Hr0]; · iexact Hr0
  isplitl [Hr1]; · iexact Hr1
  isplitl [HW] <;> iassumption

set_option maxRecDepth 4000 in
/-- The whole of a subcore's work. -/
theorem wp_utile :
    iprop(WInv (F := F) ι ∗ At qa (thr0 d i) arg2 E ∗ At qb (thr0 d i) arg2 E ∗ (∃ g, Own (thr0 d i) arg4 g) ∗ (∃ g, Own (thr0 d i) arg5 g) ∗ (∃ g, Own (thr0 d i) arg6 g) ∗ (∃ g, Own (thr0 d i) arg7 g)
      ∗ semVal (thr0 d i, .dma arg8.sem) 0 ∗ semVal (thr0 d i, .dma arg9.sem) 0 ∗ semVal (thr0 d i, .dma v59_r0.sem) 0 ∗ semVal (thr0 d i, .dma v59_r1.sem) 0
      ∗ Wm d q f0 E ∅ ∗ Duty (thr0 d i) T W) ⊢
    wp frame (wpE defs 𝒱' (thr0 d i) bd) Set.univ
      (cc0_k (F := F) i arg2 harg2 (Memref.whole main_v2_scv) (Memref.isWhole_whole _) arg4 harg4 arg5 harg5 arg6 harg6 arg7 harg7 arg8 arg9 v59_r0 v59_r1) fun _ =>
    iprop(At qa (thr0 d i) arg2 E ∗ At qb (thr0 d i) arg2 E ∗ (∃ g, Own (thr0 d i) arg4 g) ∗ (∃ g, Own (thr0 d i) arg5 g) ∗ (∃ g, Own (thr0 d i) arg6 g) ∗ (∃ g, Own (thr0 d i) arg7 g)
      ∗ semVal (thr0 d i, .dma arg8.sem) 0 ∗ semVal (thr0 d i, .dma arg9.sem) 0 ∗ semVal (thr0 d i, .dma v59_r0.sem) 0 ∗ semVal (thr0 d i, .dma v59_r1.sem) 0
      ∗ Wm d q f0 E (marks (wid0 i) 80) ∗ Duty (thr0 d i) T W) := by
  rw [cc0_k_eq_skeleton]; unfold cc0_k_skel
  iintro ⟨#Hwm, HE, HE', H4, H5, H6, H7, Hs8, Hs9, Hr0, Hr1, HW, Hu⟩
  iapply (step_bring (defs := defs) (𝒱' := 𝒱') (bd := bd) d i (off1_eq i)) $$ [HE H4 Hs8]
  · isplitl [HE]; · iexact HE
    isplitl [H4] <;> iassumption
  iintro HF
  iapply (wp_loop (defs := defs) (𝒱' := 𝒱') (c := thr0 d i) (bd := bd) (show _ = 40 by decide +kernel)
    (fun n => iprop(WInv (F := F) ι ∗ UInv (qa := qa) (qb := qb) (q := q) (f0 := f0) (E := E) (T := T) (W := W) d i arg2 arg4 arg5 arg6 arg7 arg8 arg9 v59_r0 v59_r1 n))
    (fun t => wp_utrip d i arg2 harg2 arg4 harg4 arg5 harg5 arg6 harg6 arg7 harg7 arg8 arg9 v59_r0 v59_r1 _ t)) $$ [HF HE' H5 H6 H7 Hs9 Hr0 Hr1 HW Hu]
  · unfold UInv
    rw [show 2 * 0 = 0 from rfl, marks_zero]
    isplitr; · iexact Hwm
    isplitl [HF]; · iexact HF
    isplitl [HE']; · iexact HE'
    isplitl [H5]; · iexact H5
    isplitl [H6]; · iexact H6
    isplitl [H7]; · iexact H7
    isplitl [Hs9]; · iexact Hs9
    isplitl [Hr0]; · iexact Hr0
    isplitl [Hr1]; · iexact Hr1
    isplitl [HW] <;> iassumption
  unfold UInv FlyB
  iintro ⟨-, ⟨%X, HF, HX⟩, HE', H5, H6, H7, Hs9, Hr0, Hr1, HW, Hu⟩
  iapply (step_wait (defs := defs) (𝒱' := 𝒱') (c := thr0 d i) (bd := bd) (dst := arg4) rfl (O := T) (W := W)) $$ [HF Hu]
  · isplitl [HF]; · iexact HF
    iexact Hu
  iintro ⟨HX', Hs8, Hu⟩
  ihave HX := HX $$ HX'
  icases HX with ⟨HE, H4⟩
  rw [wp_pure]
  imodintro
  isplitl [HE]; · iexact HE
  isplitl [HE']; · iexact HE'
  isplitl [H4]; · iexists _; iexact H4
  isplitl [H5]; · iexact H5
  isplitl [H6]; · iexact H6
  isplitl [H7]; · iexact H7
  isplitl [Hs8]; · iexact Hs8
  isplitl [Hs9]; · iexact Hs9
  isplitl [Hr0]; · iexact Hr0
  isplitl [Hr1]; · iexact Hr1
  isplitl [HW] <;> iassumption

end Tile

end Cert.Proof

end
-- ==== Proof.UntileTask.lean ====
/- The table's layout call's tasks as the launch hands them out: the shares of the result and the rows marked as written
   (`wm_deal`, `wm_gather`), and each vector subcore's task (`tile_body0`). -/
module

public import proofs.«01_k».proof.Proof.UntileTile
public import proofs.«01_k».proof.Proof.GatherTask

@[expose] public section

set_option maxHeartbeats 400000

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## Shares of the result -/

abbrev vLoc (d : Dev nD) : Loc nD τ sig := (SparseCore.T d).loc main_v1

section Shares

variable (d : Dev nD) (f0 : Vec F S325000x128 .f32) (E : Vec F S16x2600000 .f32)

omit [FloatOps F] in
theorem wm_halve (q : PosShare TreeShare) (M : Finset S325000x128.Idx) : (Wm d q f0 E M : sProp 𝕄) ⊢ iprop(Wm d q.left f0 E M ∗ Wm d q.right f0 E M) :=
  (BI.Region.intoSep_willBe_share (q := q) (q₁ := q.left) (q₂ := q.right)).into_sep

omit [FloatOps F] in
theorem wm_join (q : PosShare TreeShare) (M N : Finset S325000x128.Idx) : iprop(Wm d q.left f0 E M ∗ Wm d q.right f0 E N) ⊢ (Wm d q f0 E (M ∪ N) : sProp 𝕄) :=
  (BI.Region.combineSepAs_willBe_share_union (q := q) (q₁ := q.left) (q₂ := q.right)).combine_sep_as

omit [FloatOps F] in
/-- A share is dealt out in `2 ^ n`. -/
theorem wm_deal (M : Finset S325000x128.Idx) : ∀ (n : ℕ) (q : PosShare TreeShare),
    (Wm d q f0 E M : sProp 𝕄) ⊢ bigSep Finset.univ fun i : Fin (2 ^ n) => Wm d (ShareLeaves.leaf n q i) f0 E M
  | 0, q => Entails.of_eq (bigSep_univ_of_subsingleton (0 : Fin 1) (Φ := fun i : Fin (2 ^ 0) => (Wm d (ShareLeaves.leaf 0 q i) f0 E M : sProp 𝕄))).symm
  | n + 1, q => by
    rw [bigSep_univ_equiv (ShareLeaves.sumEquiv n) (fun i : Fin (2 ^ (n + 1)) => (Wm d (ShareLeaves.leaf (n + 1) q i) f0 E M : sProp 𝕄)), bigSep_univ_sum]
    rw [bigSep_congr (fun i _ => by rw [ShareLeaves.leaf_inl] : ∀ i ∈ (Finset.univ : Finset (Fin (2 ^ n))),
        (Wm d (ShareLeaves.leaf (n + 1) q (ShareLeaves.sumEquiv n (Sum.inl i))) f0 E M : sProp 𝕄) = Wm d (ShareLeaves.leaf n q.left i) f0 E M),
      bigSep_congr (fun i _ => by rw [ShareLeaves.leaf_inr] : ∀ i ∈ (Finset.univ : Finset (Fin (2 ^ n))),
        (Wm d (ShareLeaves.leaf (n + 1) q (ShareLeaves.sumEquiv n (Sum.inr i))) f0 E M : sProp 𝕄) = Wm d (ShareLeaves.leaf n q.right i) f0 E M)]
    exact (wm_halve d f0 E q M).trans (BI.sep_mono (wm_deal M n q.left) (wm_deal M n q.right))

omit [FloatOps F] in
/-- The shares come back together, and with them what each has written. -/
theorem wm_gather : ∀ (n : ℕ) (q : PosShare TreeShare) (Ms : Fin (2 ^ n) → Finset S325000x128.Idx),
    (bigSep Finset.univ fun i : Fin (2 ^ n) => (Wm d (ShareLeaves.leaf n q i) f0 E (Ms i) : sProp 𝕄)) ⊢ Wm d q f0 E (Finset.univ.biUnion Ms)
  | 0, q, Ms => by
    rw [show Finset.univ.biUnion Ms = Ms 0 from by ext p; simp [Finset.mem_biUnion]]
    exact Entails.of_eq (bigSep_univ_of_subsingleton (0 : Fin 1) (Φ := fun i : Fin (2 ^ 0) => (Wm d (ShareLeaves.leaf 0 q i) f0 E (Ms i) : sProp 𝕄)))
  | n + 1, q, Ms => by
    rw [bigSep_univ_equiv (ShareLeaves.sumEquiv n) (fun i : Fin (2 ^ (n + 1)) => (Wm d (ShareLeaves.leaf (n + 1) q i) f0 E (Ms i) : sProp 𝕄)), bigSep_univ_sum]
    rw [bigSep_congr (fun i _ => by rw [ShareLeaves.leaf_inl] : ∀ i ∈ (Finset.univ : Finset (Fin (2 ^ n))),
        (Wm d (ShareLeaves.leaf (n + 1) q (ShareLeaves.sumEquiv n (Sum.inl i))) f0 E (Ms (ShareLeaves.sumEquiv n (Sum.inl i))) : sProp 𝕄)
          = Wm d (ShareLeaves.leaf n q.left i) f0 E (Ms (ShareLeaves.sumEquiv n (Sum.inl i)))),
      bigSep_congr (fun i _ => by rw [ShareLeaves.leaf_inr] : ∀ i ∈ (Finset.univ : Finset (Fin (2 ^ n))),
        (Wm d (ShareLeaves.leaf (n + 1) q (ShareLeaves.sumEquiv n (Sum.inr i))) f0 E (Ms (ShareLeaves.sumEquiv n (Sum.inr i))) : sProp 𝕄)
          = Wm d (ShareLeaves.leaf n q.right i) f0 E (Ms (ShareLeaves.sumEquiv n (Sum.inr i))))]
    refine (BI.sep_mono (wm_gather n q.left fun i => Ms (ShareLeaves.sumEquiv n (Sum.inl i))) (wm_gather n q.right fun i => Ms (ShareLeaves.sumEquiv n (Sum.inr i)))).trans ?_
    refine (wm_join d f0 E q _ _).trans (Entails.of_eq (congrArg (Wm d q f0 E) ?_))
    ext p
    simp only [Finset.mem_union, Finset.mem_biUnion, Finset.mem_univ, true_and]
    rw [← (ShareLeaves.sumEquiv n).exists_congr_right (q := fun i => p ∈ Ms i), Sum.exists]

end Shares

/-! ## A vector subcore's own storage -/

section Tile

variable (d : Dev nD) (L : grid0.Coords)

abbrev cV0 (L : grid0.Coords) : Fin τ.nSC := (L 0).castLE hcore0
abbrev jV0 (L : grid0.Coords) : Fin τ.nSub := (L 1).castLE hsub0

/-- The kernel's semaphores on the subcore. -/
abbrev semsOf0 : Finset (DmaSem sig) := {cc0_scratch4.sem, cc0_scratch5.sem, cc0_scoped0.sem, cc0_scoped1.sem}
/-- Its scratch buffers. -/
abbrev bufsOf0 : Finset (Ref sig .scVector) := {cc0_scratch0, cc0_scratch1, cc0_scratch2, cc0_scratch3}

omit [FloatOps F] in
theorem ownSems0_V0 :
    (ownSems0 (V d (cV0 L) (jV0 L)) : sProp 𝕄) = iprop((semVal ((V d (cV0 L) (jV0 L)), .dma cc0_scratch4.sem) 0 ∗ semVal ((V d (cV0 L) (jV0 L)), .dma cc0_scratch5.sem) 0 ∗ semVal ((V d (cV0 L) (jV0 L)), .dma cc0_scoped0.sem) 0 ∗ semVal ((V d (cV0 L) (jV0 L)), .dma cc0_scoped1.sem) 0)
      ∗ bigSep (ownCells (V d (cV0 L) (jV0 L)) \ semsOf0.map (cellOf (V d (cV0 L) (jV0 L)))) fun g => semVal g 0) := by
  unfold SparseCore.Cfg.ownSems0
  rw [SparseCore.bigSep_sdiff_split' (t := semsOf0.map (cellOf (V d (cV0 L) (jV0 L)))) (fun g hg => by
    obtain ⟨s, hs, rfl⟩ := Finset.mem_map.mp hg
    refine mem_ownCells.mpr ⟨rfl, ?_⟩
    show (SemLoc.dma s : SemLoc sig).isScoped .scVector = true
    clear hg; revert hs; revert s; decide), BI.bigSep_map]
  rw [SparseCore.bigSep_insert' (by decide), SparseCore.bigSep_insert' (by decide), SparseCore.bigSep_insert' (by decide), bigSep_singleton]
  rfl

omit [FloatOps F] in
theorem ownBufs_V0 :
    (ownBufs (V d (cV0 L) (jV0 L)) : sProp 𝕄) = iprop(((∃ f, (V d (cV0 L) (jV0 L)).loc cc0_scratch0 ↦{fullShare} f) ∗ (∃ f, (V d (cV0 L) (jV0 L)).loc cc0_scratch1 ↦{fullShare} f) ∗ (∃ f, (V d (cV0 L) (jV0 L)).loc cc0_scratch2 ↦{fullShare} f) ∗ (∃ f, (V d (cV0 L) (jV0 L)).loc cc0_scratch3 ↦{fullShare} f))
      ∗ bigSep (ownRefs (τ := τ) (.scVector (cV0 L) (jV0 L)) \ bufsOf0.map (refOf (cV0 L) (jV0 L))) fun b => iprop(∃ f, ((d, b) : Loc nD τ sig) ↦{fullShare} f)) := by
  unfold SparseCore.Cfg.ownBufs
  have hs : bufsOf0.map (refOf (cV0 L) (jV0 L)) ⊆ ownRefs (τ := τ) (.scVector (cV0 L) (jV0 L)) := fun g hg => by
    obtain ⟨s, hs, rfl⟩ := Finset.mem_map.mp hg
    refine SparseCore.Cfg.mem_ownRefs_of_owner (p := Proc.scVector (cV0 L) (jV0 L)) (b := (Proc.scVector (cV0 L) (jV0 L)).devRef s) ?_
    have hs' : s.space = .vmem := by clear hg; revert hs; revert s; decide
    obtain ⟨sp, ix, h⟩ := s
    subst hs'
    rfl
  refine (SparseCore.bigSep_sdiff_split' hs).trans ?_
  rw [BI.bigSep_map]
  rw [SparseCore.bigSep_insert' (by decide), SparseCore.bigSep_insert' (by decide), SparseCore.bigSep_insert' (by decide), bigSep_singleton]
  rfl

/-- The subcore's task: from its shares of the table and of the result to the same, its rows of the result marked as written. -/
theorem tile_body0 (hF : (K (F := F)).Facts) (E : Vec F S16x2600000 .f32) (f0 : Vec F S325000x128 .f32) (q : PosShare TreeShare)
    (O : CellTallies nD τ sig (HIx 2)) (W : Waits sig (HIx 2)) (hO : ∀ g, O g none = 0) :
    iprop(levAts (K (F := F)).L (K (F := F)).lev ∗ (∃ ι, WInv (F := F) ι) ∗ ((vLoc d ↦{q} E) ∗ Wm d q f0 E ∅)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0_k L (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1)
          fun _ => iprop(((vLoc d ↦{q} E) ∗ Wm d q f0 E (marks (wid0 L) 80)) ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [(K (F := F)).scopedBufs_V hF d (cV0 L) (jV0 L), SparseCore.Cfg.scopedSems0_V (Val := Elt F) d (cV0 L) (jV0 L), ownSems0_V0, ownBufs_V0]
  iintro ⟨#Hlv, ⟨%ι, #Hwm⟩, ⟨He, Hw⟩, ⟨⟨⟨%b0, B0⟩, ⟨%f1, B1⟩, ⟨%f2, B2⟩, ⟨%f3, B3⟩⟩, Hbufs⟩, ⟨⟨S0, S1, S2, S3⟩, Hsems⟩, HO⟩
  ihave Hmw := (show levAts (K (F := F)).L (K (F := F)).lev ⊢ Transfers.MayWaits (V d (cV0 L) (jV0 L)) (default : HIx 2) O from
    (K (F := F)).mayWaits_none (thr := (V d (cV0 L) (jV0 L))) hO) $$ Hlv
  ihave He := (pointsTo_share (PosShare.mem_left_op_right q)).1 $$ He
  icases He with ⟨He, He'⟩
  ihave He := (at_whole (F := F) (q.left) (V d (cV0 L) (jV0 L)) main_v1_scv E).2 $$ He
  ihave He' := (at_whole (F := F) (q.right) (V d (cV0 L) (jV0 L)) main_v1_scv E).2 $$ He'
  ihave B0 := (own_whole (F := F) (V d (cV0 L) (jV0 L)) cc0_scratch0 b0).2 $$ B0
  ihave B1 := (own_whole (F := F) (V d (cV0 L) (jV0 L)) cc0_scratch1 f1).2 $$ B1
  ihave B2 := (own_whole (F := F) (V d (cV0 L) (jV0 L)) cc0_scratch2 f2).2 $$ B2
  ihave B3 := (own_whole (F := F) (V d (cV0 L) (jV0 L)) cc0_scratch3 f3).2 $$ B3
  ihave Hu := (show iprop(Transfers.MayWaits (V d (cV0 L) (jV0 L)) (default : HIx 2) O ∗ owes (V d (cV0 L) (jV0 L)) O W) ⊢ (Duty (V d (cV0 L) (jV0 L)) O W : sProp 𝕄) from by
    unfold Duty
    iintro ⟨Hm, HO⟩
    isplitl [Hm]; · iexact Hm
    iexists W; isplitr
    · ipureintro; exact fun p hp => .inl hp
    · iexact HO) $$ [Hmw HO]
  · isplitl [Hmw]; · iexact Hmw
    iexact HO
  ihave Hwp := (wp_utile (F := F) (defs := defs₀ (F := F)) (𝒱' := 𝒱₀) (bd := none) d L (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1
    (ι := ι) (qa := q.left) (qb := q.right) (q := q) (f0 := f0) (E := E) (T := O) (W := W)) $$ [He He' B0 B1 B2 B3 S0 S1 S2 S3 Hw Hu]
  · isplitr; · iexact Hwm
    isplitl [He]; · iexact He
    isplitl [He']; · iexact He'
    isplitl [B0]; · iexists _; iexact B0
    isplitl [B1]; · iexists _; iexact B1
    isplitl [B2]; · iexists _; iexact B2
    isplitl [B3]; · iexists _; iexact B3
    isplitl [S0]; · iexact S0
    isplitl [S1]; · iexact S1
    isplitl [S2]; · iexact S2
    isplitl [S3]; · iexact S3
    isplitl [Hw]; · iexact Hw
    iexact Hu
  iapply wp_wand $$ Hwp
  iintro %_ ⟨He, He', ⟨%b0, B0⟩, ⟨%f1, B1⟩, ⟨%f2, B2⟩, ⟨%f3, B3⟩, S0, S1, S2, S3, Hw, Hu⟩
  ihave He := (at_whole (F := F) (q.left) (V d (cV0 L) (jV0 L)) main_v1_scv E).1 $$ He
  ihave He' := (at_whole (F := F) (q.right) (V d (cV0 L) (jV0 L)) main_v1_scv E).1 $$ He'
  ihave He := (pointsTo_share (PosShare.mem_left_op_right q)).2 $$ [He He']
  · isplitl [He]; · iexact He
    iexact He'
  ihave B0 := (own_whole (F := F) (V d (cV0 L) (jV0 L)) cc0_scratch0 b0).1 $$ B0
  ihave B1 := (own_whole (F := F) (V d (cV0 L) (jV0 L)) cc0_scratch1 f1).1 $$ B1
  ihave B2 := (own_whole (F := F) (V d (cV0 L) (jV0 L)) cc0_scratch2 f2).1 $$ B2
  ihave B3 := (own_whole (F := F) (V d (cV0 L) (jV0 L)) cc0_scratch3 f3).1 $$ B3
  ihave HO := (show (Duty (thr0 d L) O W : sProp 𝕄) ⊢ iprop(∃ W', ⌜∀ p ∈ W', p ∈ W ∨ p.2 = none⌝ ∗ owes (thr0 d L) O W') from by
    unfold Duty
    iintro ⟨-, H⟩; iexact H) $$ Hu
  isplitl [He Hw]
  · isplitl [He]; · iexact He
    iexact Hw
  isplitl [B0 B1 B2 B3 Hbufs]
  · isplitr [Hbufs]
    · isplitl [B0]; · iexists _; iexact B0
      isplitl [B1]; · iexists _; iexact B1
      isplitl [B2]; · iexists _; iexact B2
      iexists _; iexact B3
    iexact Hbufs
  isplitl [S0 S1 S2 S3 Hsems]
  · isplitr [Hsems]
    · isplitl [S0]; · iexact S0
      isplitl [S1]; · iexact S1
      isplitl [S2]; · iexact S2
      iexact S3
    iexact Hsems
  iexact HO

end Tile

end Cert.Proof

end
-- ==== Proof.LayersBody.lean ====
/- The dense layers' body on one block of a thousand and twenty-four rows: what it leaves in its result's buffer, from the
   blocks it reads. -/
module

public import proofs.«01_k».proof.Proof.Step
public import Idealize.ShloMosaic.Lib.Pipeline.Kit
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-- The nine blocks the layers read: the gathered rows, three layers' weights and biases, the two summing matrices. -/
structure Lay (F : FTy → Type) where
  h : Vec F S1024x512 .f32
  w1 : Vec F S512x256 .f32
  b1 : Vec F S1x256 .f32
  w2 : Vec F S256x128 .f32
  b2 : Vec F S1x128 .f32
  w3 : Vec F S128x1 .f32
  b3 : Vec F S1x1 .f32
  sp : Vec F S512x16 .f32
  mp : Vec F S512x2 .f32

/-- What the layers leave of them. -/
def Lay.y (x : Lay F) : Vec F S1024x1 .f32 :=
  k2_pay1 (k2_pay3 x.h x.mp) (k2_pay4 x.h x.sp x.mp) (k2_pay5 x.h x.w1 x.b1 x.w2 x.b2) x.w3 x.b3

/-- The staging buffers those blocks lie in. -/
structure Bufs where
  h : Memref sig .tc .vmem S1024x512 .f32
  hh : h.IsWhole
  w1 : Memref sig .tc .vmem S512x256 .f32
  hw1 : w1.IsWhole
  b1 : Memref sig .tc .vmem S1x256 .f32
  hb1 : b1.IsWhole
  w2 : Memref sig .tc .vmem S256x128 .f32
  hw2 : w2.IsWhole
  b2 : Memref sig .tc .vmem S1x128 .f32
  hb2 : b2.IsWhole
  w3 : Memref sig .tc .vmem S128x1 .f32
  hw3 : w3.IsWhole
  b3 : Memref sig .tc .vmem S1x1 .f32
  hb3 : b3.IsWhole
  sp : Memref sig .tc .vmem S512x16 .f32
  hsp : sp.IsWhole
  mp : Memref sig .tc .vmem S512x2 .f32
  hmp : mp.IsWhole
  y : Memref sig .tc .vmem S1024x1 .f32
  hy : y.IsWhole

/-- The inputs' buffers hold the blocks. -/
def Bufs.holds (B : Bufs) (c : Dev nD) (x : Lay F) : sProp 𝕄 :=
  iprop(owns (c.tc : Thread nD τ) B.h fullShare x.h ∗ owns (c.tc : Thread nD τ) B.w1 fullShare x.w1 ∗ owns (c.tc : Thread nD τ) B.b1 fullShare x.b1
    ∗ owns (c.tc : Thread nD τ) B.w2 fullShare x.w2 ∗ owns (c.tc : Thread nD τ) B.b2 fullShare x.b2 ∗ owns (c.tc : Thread nD τ) B.w3 fullShare x.w3
    ∗ owns (c.tc : Thread nD τ) B.b3 fullShare x.b3 ∗ owns (c.tc : Thread nD τ) B.sp fullShare x.sp ∗ owns (c.tc : Thread nD τ) B.mp fullShare x.mp)

/-- The body on those buffers. -/
abbrev Bufs.run (B : Bufs) (i : grid2.Coords) : Prog (TpuEff nD τ sig (Elt F) Λ₀ .tc) PUnit :=
  cc2__tc_body i B.h B.hh B.w1 B.hw1 B.b1 B.hb1 B.w2 B.hw2 B.b2 B.hb2 B.w3 B.hw3 B.b3 B.hb3 B.sp B.hsp B.mp B.hmp B.y B.hy

theorem whole_load {κ : Kind} {sp : Space} {S : Shape} {e : EltTy} {off : Fin S.rank → ℕ} (h : off = fun _ => 0) (inb : ∀ a, off a + S.size a ≤ S.size a)
    (v : View sig κ sp S e) (f) : View.readAt (Elt F) v (Rect.unit off S.size inb).toLoadRect f = View.read (Elt F) v f :=
  View.ld_unit_zero h inb (View.read (Elt F) v f)

theorem zero2 : (![0, 0] : Fin 2 → ℕ) = fun _ => 0 := by decide

set_option maxHeartbeats 2000000 in
/-- The body, run: the inputs' buffers as they were, the result's at the layers' value. -/
theorem Bufs.sound (B : Bufs) (c : Dev nD) (E : Set ℕ) (i : grid2.Coords) (x : Lay F) (Q : PUnit → sProp 𝕄) :
    iprop(B.holds c x ∗ (∃ g, owns (c.tc : Thread nD τ) B.y fullShare g) ∗ (iprop(B.holds c x ∗ owns (c.tc : Thread nD τ) B.y fullShare x.y) -∗ Q ⟨⟩))
      ⊢ wp frame (wpE (defs₀ (F := F)) Variants.none (c.tc : Thread nD τ) none) E (B.run i) Q := by
  unfold Bufs.run
  simp only [cc2__tc_body_eq_skeleton]; unfold cc2__tc_body_skel
  simp only [k2_part1_eq_skeleton]
  unfold Bufs.holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, Hk⟩
  sl_exec
  sl_step
  iapply Hk
  isplitr [H9]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    iexists f8; isplitr; · ipureintro; exact e8
    iexact H8
  iexists _; isplitr
  swap; · iexact H9
  ipureintro
  refine (View.read_writes_eq_canon _ _ _ (View.cover_of_tiled [⟨_, _⟩] S1024x1.size (by rfl))).trans ?_
  refine (View.canon_unit_zero zero2 _ _).trans ?_
  unfold Lay.y
  rw [← e0, ← e1, ← e2, ← e3, ← e4, ← e5, ← e6, ← e7, ← e8]
  have r0 := whole_load zero2 inb_S1024x512_S1024x512_0_0 B.h.view f0
  have r1 := whole_load zero2 inb_S512x256_S512x256_0_0 B.w1.view f1
  have r2 := whole_load zero2 inb_S1x256_S1x256_0_0 B.b1.view f2
  have r3 := whole_load zero2 inb_S256x128_S256x128_0_0 B.w2.view f3
  have r4 := whole_load zero2 inb_S1x128_S1x128_0_0 B.b2.view f4
  have r7 := whole_load zero2 inb_S512x16_S512x16_0_0 B.sp.view f7
  have r8 := whole_load zero2 inb_S512x2_S512x2_0_0 B.mp.view f8
  have r5 := whole_load zero2 inb_S128x1_S128x1_0_0 B.w3.view f5
  have r6 := whole_load zero2 inb_S1x1_S1x1_0_0 B.b3.view f6
  exact congr (congr (congr (congr (congrArg k2_pay1 (congrArg₂ k2_pay3 r0 r8)) (congr (congrArg₂ k2_pay4 r0 r7) r8))
    (congr (congr (congr (congrArg₂ k2_pay5 r0 r1) r2) r3) r4)) r5) r6

end Cert.Proof

end
-- ==== Proof.LayersCall.lean ====
/- The dense layers' call: its sixteen points, what each reads and leaves, and the array it leaves. -/
module

public import proofs.«01_k».proof.Proof.LayersBody
public import proofs.«01_k».proof.Proof.Contents
public import Idealize.ShloMosaic.Lib.Pipeline.RegionArrays
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 2) (Elt F) ℕ (UU F) ℕ

/-! ## The call's layout -/

abbrev semTab : Fin 1 → List (DmaSem sig) := fun _ => Pipeline.specSems spec2

theorem cell_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) (by decide) (by decide)

theorem layers_win : Pipeline.WinFacts spec2 := by decide

theorem layers_pos : ∀ w : Fin 10, 0 < (spec2 w).block.numel := by decide

theorem layers_arr : ∀ w : Fin 10, (spec2 w).arr.IsWhole := fun
  | 0 | 1 | 2 | 3 | 4 | 5 | 6 | 7 | 8 | 9 => Memref.isWhole_whole _
  | ⟨_ + 10, h⟩ => absurd h (Nat.not_lt.2 (Nat.le_add_left _ _))

theorem layers_stage : ∀ (w : Fin 10) (s : Fin (spec2 w).nbuf), ((spec2 w).stage s).IsWhole := fun
  | 0 => fun s => hstage2_0 (s.cast nbuf2_0) | 1 => fun s => hstage2_1 (s.cast nbuf2_1) | 2 => fun s => hstage2_2 (s.cast nbuf2_2)
  | 3 => fun s => hstage2_3 (s.cast nbuf2_3) | 4 => fun s => hstage2_4 (s.cast nbuf2_4) | 5 => fun s => hstage2_5 (s.cast nbuf2_5)
  | 6 => fun s => hstage2_6 (s.cast nbuf2_6) | 7 => fun s => hstage2_7 (s.cast nbuf2_7) | 8 => fun s => hstage2_8 (s.cast nbuf2_8)
  | 9 => fun s => hstage2_9 (s.cast nbuf2_9) | ⟨_ + 10, h⟩ => absurd h (Nat.not_lt.2 (Nat.le_add_left _ _))

/-- A conjunction over the ten windows, one by one. -/
theorem windows {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

/-! ## What the call reads -/

variable (V : (d : Dev nD) → (b : Ref sig .tc) → Buf (Elt F) ((d.tc : Thread nD τ).loc b))

/-- A window's block at a point. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The nine blocks at a point. -/
def layAt (c : Dev nD) (t : Fin cfg2.N) : Lay F :=
  ⟨iblk V c 0 t, iblk V c 1 t, iblk V c 2 t, iblk V c 3 t, iblk V c 4 t, iblk V c 5 t, iblk V c 6 t, iblk V c 7 t, iblk V c 8 t⟩

/-- The staging buffers at a point. -/
def bufsAt (t : Fin cfg2.N) : Bufs where
  h := win2_0.stage (cfg2.slots t 0)
  hh := hstage2_0 ((cfg2.slots t 0).cast nbuf2_0)
  w1 := win2_1.stage (cfg2.slots t 1)
  hw1 := hstage2_1 ((cfg2.slots t 1).cast nbuf2_1)
  b1 := win2_2.stage (cfg2.slots t 2)
  hb1 := hstage2_2 ((cfg2.slots t 2).cast nbuf2_2)
  w2 := win2_3.stage (cfg2.slots t 3)
  hw2 := hstage2_3 ((cfg2.slots t 3).cast nbuf2_3)
  b2 := win2_4.stage (cfg2.slots t 4)
  hb2 := hstage2_4 ((cfg2.slots t 4).cast nbuf2_4)
  w3 := win2_5.stage (cfg2.slots t 5)
  hw3 := hstage2_5 ((cfg2.slots t 5).cast nbuf2_5)
  b3 := win2_6.stage (cfg2.slots t 6)
  hb3 := hstage2_6 ((cfg2.slots t 6).cast nbuf2_6)
  sp := win2_7.stage (cfg2.slots t 7)
  hsp := hstage2_7 ((cfg2.slots t 7).cast nbuf2_7)
  mp := win2_8.stage (cfg2.slots t 8)
  hmp := hstage2_8 ((cfg2.slots t 8).cast nbuf2_8)
  y := win2_9.stage (cfg2.slots t 9)
  hy := hstage2_9 ((cfg2.slots t 9).cast nbuf2_9)

/-- The pairs that may have been waited on once the gather has returned. -/
def seen (c : Dev nD) : Set (SemLoc sig × HIx 2) := {p | (K (F := F)).lev (((c.tc : Thread nD τ)), p.1) p.2 ≤ 16}

/-- What the call's run is followed by. -/
def dats : (p : Fin 1) → (c : Dev nD) → Dat τ (Elt F) (HIx 2) ℕ (UU F) ℕ (cfgs p) c := fun _ c =>
  { A := fun w => V c (Pipeline.arrRef spec2 w)
    after := fun w t => match w with
      | 0 => iblk V c 0 t | 1 => iblk V c 1 t | 2 => iblk V c 2 t | 3 => iblk V c 3 t | 4 => iblk V c 4 t
      | 5 => iblk V c 5 t | 6 => iblk V c 6 t | 7 => iblk V c 7 t | 8 => iblk V c 8 t
      | 9 => (layAt V c t).y
      | ⟨_ + 10, h⟩ => absurd h (Nat.not_lt.2 (Nat.le_add_left _ _))
    Φ := fun _ => Pipeline.scopedRest spec2 c
    q := fun _ => fullShare
    owed := fun _ => 0
    recorded := fun _ => seen (F := F) c }

variable (c : Dev nD)

/-- An input's buffer holds its block at every point. -/
theorem before_in (w : Fin cfg2.W) (hin : (cfg2.win w).isOut = false) (hcut : ∀ t t' : Fin cfg2.N, (cfg2.win w).index t = (cfg2.win w).index t' →
      (cfg2.win w).clip (cfg2.grid.coords t) = (cfg2.win w).clip (cfg2.grid.coords t'))
    (x : (t : Fin cfg2.N) → (cfg2.win w).block.Idx → Elt F (cfg2.win w).elt)
    (hx : ∀ t d, (dats V 0 c).fetched w t d = x t)
    (hafter : ∀ t, (cfg2.win w).cut (cfg2.grid.coords t) ((dats V 0 c).after w t) = (dats V 0 c).blockOf w t) (t : Fin cfg2.N) (d) :
    (dats V 0 c).before w t d = x t :=
  ((dats V 0 c).before_in_eq_fetched w hin (fun _ => rfl) hcut hafter t d).trans (hx t d)

theorem before0 (t : Fin cfg2.N) (d) : (dats V 0 c).before 0 t d = iblk V c 0 t := before_in V c 0 rfl (fun _ _ _ => rfl) _ (fun _ _ => rfl) (fun _ => rfl) t d
theorem before1 (t : Fin cfg2.N) (d) : (dats V 0 c).before 1 t d = iblk V c 1 t := before_in V c 1 rfl (fun _ _ _ => rfl) _ (fun _ _ => rfl) (fun _ => rfl) t d
theorem before2 (t : Fin cfg2.N) (d) : (dats V 0 c).before 2 t d = iblk V c 2 t := before_in V c 2 rfl (fun _ _ _ => rfl) _ (fun _ _ => rfl) (fun _ => rfl) t d
theorem before3 (t : Fin cfg2.N) (d) : (dats V 0 c).before 3 t d = iblk V c 3 t := before_in V c 3 rfl (fun _ _ _ => rfl) _ (fun _ _ => rfl) (fun _ => rfl) t d
theorem before4 (t : Fin cfg2.N) (d) : (dats V 0 c).before 4 t d = iblk V c 4 t := before_in V c 4 rfl (fun _ _ _ => rfl) _ (fun _ _ => rfl) (fun _ => rfl) t d
theorem before5 (t : Fin cfg2.N) (d) : (dats V 0 c).before 5 t d = iblk V c 5 t := before_in V c 5 rfl (fun _ _ _ => rfl) _ (fun _ _ => rfl) (fun _ => rfl) t d
theorem before6 (t : Fin cfg2.N) (d) : (dats V 0 c).before 6 t d = iblk V c 6 t := before_in V c 6 rfl (fun _ _ _ => rfl) _ (fun _ _ => rfl) (fun _ => rfl) t d
theorem before7 (t : Fin cfg2.N) (d) : (dats V 0 c).before 7 t d = iblk V c 7 t := before_in V c 7 rfl (fun _ _ _ => rfl) _ (fun _ _ => rfl) (fun _ => rfl) t d
theorem before8 (t : Fin cfg2.N) (d) : (dats V 0 c).before 8 t d = iblk V c 8 t := before_in V c 8 rfl (fun _ _ _ => rfl) _ (fun _ _ => rfl) (fun _ => rfl) t d

/-! ## The body at a point -/

theorem body_row (t : Fin cfg2.N) : defs₀ (F := F) .tc cfg2.body (cfg2.bodyArgs t (cfg2.slots t)) = (bufsAt t).run (grid2.coords t) := by
  rfl

/-- A window's staging buffer at a point, holding `x`. -/
abbrev stAt (c : Dev nD) (w : Fin cfg2.W) (t : Fin cfg2.N) (x : (cfg2.win w).block.Idx → Elt F (cfg2.win w).elt) : sProp 𝕄 :=
  owns (c.tc : Thread nD τ) ((cfg2.win w).stage (cfg2.slots t w)) fullShare x

/-- The body at a point, run: every input's block as it was, the result's at the layers' value. -/
theorem body_point (t : Fin cfg2.N) (R R' : sProp 𝕄) :
    iprop(R ∗ R' ∗ (∃ d, stAt c 0 t ((dats V 0 c).before 0 t d)) ∗ (∃ d, stAt c 1 t ((dats V 0 c).before 1 t d)) ∗ (∃ d, stAt c 2 t ((dats V 0 c).before 2 t d))
        ∗ (∃ d, stAt c 3 t ((dats V 0 c).before 3 t d)) ∗ (∃ d, stAt c 4 t ((dats V 0 c).before 4 t d)) ∗ (∃ d, stAt c 5 t ((dats V 0 c).before 5 t d))
        ∗ (∃ d, stAt c 6 t ((dats V 0 c).before 6 t d)) ∗ (∃ d, stAt c 7 t ((dats V 0 c).before 7 t d)) ∗ (∃ d, stAt c 8 t ((dats V 0 c).before 8 t d))
        ∗ (∃ d, stAt c 9 t ((dats V 0 c).before 9 t d)))
      ⊢ wp frame (wpE (defs₀ (F := F)) Variants.none (c.tc : Thread nD τ) none) Set.univ ((bufsAt t).run (grid2.coords t)) fun _ =>
        iprop(R ∗ R' ∗ stAt c 0 t (iblk V c 0 t) ∗ stAt c 1 t (iblk V c 1 t) ∗ stAt c 2 t (iblk V c 2 t) ∗ stAt c 3 t (iblk V c 3 t)
          ∗ stAt c 4 t (iblk V c 4 t) ∗ stAt c 5 t (iblk V c 5 t) ∗ stAt c 6 t (iblk V c 6 t) ∗ stAt c 7 t (iblk V c 7 t)
          ∗ stAt c 8 t (iblk V c 8 t) ∗ stAt c 9 t (layAt V c t).y) := by
  simp only [before0, before1, before2, before3, before4, before5, before6, before7, before8]
  iintro ⟨HR, HR', ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bufsAt t).sound c Set.univ (grid2.coords t) (layAt V c t) _)
  unfold Bufs.holds
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  iintro ⟨⟨H0, H1, H2, H3, H4, H5, H6, H7, H8⟩, H9⟩
  isplitl [HR]; · iexact HR
  isplitl [HR']; · iexact HR'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_all : BodyObligation (dats V 0 c) (defs₀ (F := F)) Variants.none none Set.univ := fun t => by
  rw [windows, windows, body_row]
  exact triple_restated (body_point V c t ((dats V 0 c).Φ t.castSucc) ((dats V 0 c).owesAt none t.castSucc)) rfl .rfl fun _ => .rfl

/-! ## The array the call leaves -/

/-- Row `i` of the result is row `i % 1024` of point `i / 1024`'s block. -/
def layersY : Vec F S16384x1 .f32 := fun i =>
  (layAt V c ⟨(i 0).val / 1024, by have h : (i 0).val < 16384 := (i 0).isLt; show _ < 16; omega⟩).y
    (i2 ((i 0).val % 1024) 0)

theorem y_congr {t t' : Fin cfg2.N} {y y' : S1024x1.Idx} (ht : t = t') (hy : y = y') : (layAt V c t).y y = (layAt V c t').y y' := by
  subst ht; subst hy; rfl

theorem arr_out : (dats V 0 c).arrAt 9 cfg2.N = layersY V c := by
  refine (dats V 0 c).arrAt_eq_of_covers 9 _ (by decide +kernel) fun t hf y => ?_
  have e : win2_9.index t = ![(grid2.coords t 0).val, 0] := (by decide +kernel : ∀ t : Fin grid2.N, win2_9.index t = ![(grid2.coords t 0).val, 0]) t
  have e' : (grid2.coords t 0).val = t.val := (by decide +kernel : ∀ t : Fin grid2.N, (grid2.coords t 0).val = t.val) t
  have hy : (y 0).val < 1024 := (y 0).isLt
  have hz : (y 1).val < 1 := (y 1).isLt
  dsimp only [dats]
  unfold layersY
  blk_simp [e]
  exact y_congr V c (Fin.ext (show t.val = ((grid2.coords t 0).val * 1024 + (y 0).val) / 1024 by omega)) (eq_i2 _ _ _ (show (y 0).val = ((grid2.coords t 0).val * 1024 + (y 0).val) % 1024 by omega) (show (y 1).val = 0 by omega))

theorem arr_in (w : Fin cfg2.W) (hin : (cfg2.win w).isOut = false) (n : ℕ) : (dats V 0 c).arrAt w n = V c (Pipeline.arrRef spec2 w) :=
  (dats V 0 c).arrAt_in w hin n

/-! ## The call, run -/

theorem layers_kit : Pipeline.LaunchFacts (nD := nD) (τ := τ) cfgs 0 := ⟨cell_inj, layers_win, layers_pos, layers_arr, layers_stage⟩

abbrev adm : (p : Fin 1) → (pcfgs (F := F) p).Adm := fun p => (cfgs p).toPCfg_adm

/-- The TensorCore's arrays before the call, and after it. -/
abbrev outRef : DevRef τ sig := Proc.devRef .tc (main_v14 : Ref sig .tc)

variable (W : Dev nD → Valuation τ sig (Elt F))

abbrev ofW : (d : Dev nD) → (b : Ref sig .tc) → Buf (Elt F) ((d.tc : Thread nD τ).loc b) := fun d b => W d (Proc.devRef .tc b)

def afterW (d : Dev nD) : Valuation τ sig (Elt F) := Function.update (W d) outRef (layersY (ofW W) d)

theorem after_out (d : Dev nD) : afterW W d outRef = layersY (ofW W) d := Function.update_self _ _ _
theorem after_ne (d : Dev nD) (b : DevRef τ sig) (h : b ≠ outRef) : afterW W d b = W d b := Function.update_of_ne h _ _

theorem arr_after (w : Fin cfg2.W) : (dats (ofW W) 0 c).arrAt w cfg2.N = afterW W c (Proc.devRef .tc (Pipeline.arrRef spec2 w)) := by
  match w with
  | 0 => exact (arr_in (ofW W) c 0 rfl _).trans (after_ne W c _ (by decide)).symm
  | 1 => exact (arr_in (ofW W) c 1 rfl _).trans (after_ne W c _ (by decide)).symm
  | 2 => exact (arr_in (ofW W) c 2 rfl _).trans (after_ne W c _ (by decide)).symm
  | 3 => exact (arr_in (ofW W) c 3 rfl _).trans (after_ne W c _ (by decide)).symm
  | 4 => exact (arr_in (ofW W) c 4 rfl _).trans (after_ne W c _ (by decide)).symm
  | 5 => exact (arr_in (ofW W) c 5 rfl _).trans (after_ne W c _ (by decide)).symm
  | 6 => exact (arr_in (ofW W) c 6 rfl _).trans (after_ne W c _ (by decide)).symm
  | 7 => exact (arr_in (ofW W) c 7 rfl _).trans (after_ne W c _ (by decide)).symm
  | 8 => exact (arr_in (ofW W) c 8 rfl _).trans (after_ne W c _ (by decide)).symm
  | 9 => exact (arr_out (ofW W) c).trans (after_out W c).symm

/-- What the call's cells start from. -/
abbrev layersGhost (c : Dev nD) : sProp 𝕄 := iprop(Pipeline.cellsGhost cfgs EP 0 c ∗ Pipeline.toksInit cfgs EP 0 c)

/-- The TensorCore owing nothing, what it has waited on bounded. -/
abbrev owesNone (c : Dev nD) : sProp 𝕄 := iprop(∃ Z, ⌜(K (F := F)).WBelow (c.tc : Thread nD τ) Z 16⌝ ∗ owes (c.tc : Thread nD τ) 0 Z)

abbrev arrs : Finset (DevRef τ sig) := Pipeline.arrRefs (τ := τ) spec2

theorem layers_held0 : ((dats (ofW W) 0 c).arrays ((dats (ofW W) 0 c).arrAt · 0) : sProp 𝕄) = StableHlo.held (c.tc : Thread nD τ) arrs (W c) :=
  Pipeline.arrays_held (pcfgs (F := F)) adm (dats (ofW W)) 0 layers_kit.toP c ((dats (ofW W) 0 c).share_full fun _ => rfl) _ (W c) fun _ => rfl

theorem layers_heldN : ((dats (ofW W) 0 c).arrays ((dats (ofW W) 0 c).arrAt · cfg2.N) : sProp 𝕄) = StableHlo.held (c.tc : Thread nD τ) arrs (afterW W c) :=
  Pipeline.arrays_held (pcfgs (F := F)) adm (dats (ofW W)) 0 layers_kit.toP c ((dats (ofW W) 0 c).share_full fun _ => rfl) _ (afterW W c) (arr_after c W)

theorem seen_of_below {Z : Waits sig (HIx 2)} (h : (K (F := F)).WBelow (c.tc : Thread nD τ) Z 16) : (↑Z : Set (SemLoc sig × HIx 2)) ⊆ (dats V 0 c).bound none 0 :=
  fun p hp => Or.inl (h p hp)

theorem below_of_seen {Z : Waits sig (HIx 2)} {t} (h : (↑Z : Set (SemLoc sig × HIx 2)) ⊆ (dats V 0 c).bound none t) : (K (F := F)).WBelow (c.tc : Thread nD τ) Z 16 :=
  fun p hp => (h hp).elim id fun ⟨_, _, e⟩ => by rw [e]; exact Nat.zero_le _

set_option maxHeartbeats 1000000 in
theorem layers_entry [∀ e, Nonempty (Elt F e)] (Q : PUnit → sProp 𝕄) :
    iprop(boundary (c.tc : Thread nD τ) ∗ layersGhost c ∗ owesNone c ∗ StableHlo.held (c.tc : Thread nD τ) arrs (W c)
        ∗ (iprop(boundary (c.tc : Thread nD τ) ∗ owesNone c ∗ StableHlo.held (c.tc : Thread nD τ) arrs (afterW W c)) -∗ Q ⟨⟩))
      ⊢ wp frame (wpE (D (F := F)) 𝒱 (c.tc : Thread nD τ) none) Set.univ (.op (.customCall (Pipeline.entry 0) ()) .ret) Q := by
  have hss := Pipeline.scopedSems0_split (Ix := HIx 2) (Val := Elt F) (Name := ℕ) (U := UU F) (Lvl := ℕ) (τ := τ) cfgs cell_inj 0 layers_win.to₀ (Pipeline.OwnSemFacts.none spec2) c
  have hsb := Pipeline.scopedBufs_split (Ix := HIx 2) (Val := Elt F) (Name := ℕ) (U := UU F) (Lvl := ℕ) (τ := τ) cfgs 0 layers_win.stage_scoped layers_win.stage_inj layers_stage c
  rw [Pipeline.ownSems0_none] at hss
  have hΦ : ∀ t, ((dats (ofW W) 0 c).Φ t : sProp 𝕄) = Pipeline.scopedRest spec2 c := fun _ => rfl
  have hsb' : (scopedBufs (c.tc : Thread nD τ) : sProp 𝕄) = iprop(Dat.staging cfg2 c ∗ Pipeline.scopedRest spec2 c) := hsb
  have hin : iprop((emp : sProp 𝕄) ∗ Pipeline.prefHeld (pcfgs (F := F) 0).pre c (fun k => k.elim0) (adm (F := F) 0).1 ∗ Pipeline.scopedRest spec2 c) ⊢ (dats (ofW W) 0 c).Φ 0 := by
    rw [hΦ]; iintro ⟨-, -, H⟩; iexact H
  have hout : iprop((dats (ofW W) 0 c).Φ (Fin.last cfg2.N) ∗ Pipeline.cellsSems0 cfgs 0 c ∗ Dat.staging cfg2 c ∗ Pipeline.idleSems0 cfgs cell_inj 0 (Pipeline.OwnSemFacts.none spec2) c)
      ⊢ iprop((emp : sProp 𝕄) ∗ scopedSems0 (c.tc : Thread nD τ) ∗ scopedBufs (c.tc : Thread nD τ)) := by
    rw [hss, hsb', hΦ]
    iintro ⟨HΦ, Hc, Hst, Hi⟩
    isplitr; · iempintro
    isplitl [Hc Hi]
    · isplitl [Hc]
      · isplitl [Hc]; · iexact Hc
        iempintro
      iexact Hi
    isplitl [Hst]; · iexact Hst
    iexact HΦ
  unfold boundary
  iintro ⟨⟨Hsb, Hss, Hop⟩, ⟨Hg, Ht⟩, Ho, Ha, Hk⟩
  ihave Hss := (Entails.of_eq hss) $$ Hss
  icases Hss with ⟨⟨Hcells, -⟩, Hidle⟩
  iapply (fupd_wp frame (wpE (D (F := F)) 𝒱 (c.tc : Thread nD τ) none) Set.univ _ _)
  imod (Pipeline.cellsInit_alloc cfgs (dats (ofW W)) EP cell_inj 0 c) $$ [Hcells Hg] with ⟨%κ, -, Hinit⟩
  · isplitl [Hcells] <;> iassumption
  imodintro
  iapply (Pipeline.wp_customCall_entry_frame (pcfgs (F := F)) adm (dats (ofW W)) none EP κ cell_inj 0 defs₀ 𝒱₀ (fun k => k.elim0) c Set.univ (fun _ _ => Set.mem_univ _)
    (body_all (ofW W) c).loose layers_pos none (fun u h => nomatch h) (X := iprop(emp)) (Y := iprop(emp)) (R := Pipeline.scopedRest spec2 c)
    (I := Pipeline.idleSems0 cfgs cell_inj 0 (Pipeline.OwnSemFacts.none spec2) c) (Entails.of_eq hsb) hin hout) $$ [Ha Ho Hinit Ht Hidle Hsb]
  · isplitl [Ha Ho Hinit Ht]
    · unfold Pipeline.EntryPre Pipeline.PerCore.EntryPre
      isplitl [Ha]
      · iapply (Entails.of_eq (layers_held0 c W).symm); iexact Ha
      isplitl [Ho]
      · icases Ho with ⟨%Z, %hZ, Ho⟩
        iexists Z; isplitr
        · ipureintro; exact seen_of_below (ofW W) c hZ
        · iexact Ho
      isplitr
      · iapply (Pipeline.cellsWaits_of_owed_zero cfgs (dats (ofW W)) none 0 c (fun _ => rfl))
        iempintro
      isplitl [Hinit] <;> iassumption
    isplitr
    · iapply (Entails.of_eq (Pipeline.prefHeld_of_none (pcfgs (F := F) 0).pre rfl c (fun k => k.elim0) (adm (F := F) 0).1).symm)
      iempintro
    isplitr; · iempintro
    isplitl [Hidle]; · iexact Hidle
    iexact Hsb
  iintro ⟨Hpost, -, Hss, Hsb⟩
  unfold Pipeline.EntryPost Pipeline.PerCore.EntryPost
  icases Hpost with ⟨Ha, Ho⟩
  rw [wp_ret]; imodintro
  iapply Hk
  isplitl [Hss Hsb Hop]
  · isplitl [Hsb]; · iexact Hsb
    isplitl [Hss]; · iexact Hss
    iexact Hop
  isplitl [Ho]
  · icases Ho with ⟨%Z, %hZ, Ho⟩
    iexists Z; isplitr
    · ipureintro; exact below_of_seen (ofW W) c hZ
    · iexact Ho
  iapply (Entails.of_eq (layers_heldN c W)); iexact Ha

/-- The TensorCore's arrays. -/
abbrev tcArrs : Finset (DevRef τ sig) := Pipeline.ucRefs τ sig

theorem arrs_sub : arrs ⊆ tcArrs := Pipeline.arrRefs_sub_ucRefs spec2 layers_win.arr_unscoped

theorem out_mem : outRef ∈ arrs := by
  have h : main_v14 = Pipeline.arrRef spec2 9 := rfl
  unfold outRef arrs Pipeline.arrRefs
  rw [h]
  exact Finset.mem_map_of_mem _ (Finset.mem_image_of_mem (Pipeline.arrRef spec2) (Finset.mem_univ 9))

/-- The call as the region's own program has it. -/
abbrev entryProg [FloatOps F] (c : Dev nD) : Prog (TpuEff nD τ sig (Elt F) (ΛP (F := F)) (c.tc : Thread nD τ).2) PUnit :=
  .op (.customCall (Pipeline.entry 0) ()) .ret

theorem lift_entry [FloatOps F] (c : Dev nD) :
    (SparseCore.liftProg (entryProg (F := F) c) : Prog (TpuEff nD τ sig (Elt F) (SparseCore.Sig (ΛP (F := F)) 2) (c.tc : Thread nD τ).2) PUnit)
      = Prog.lift (.customCall (SparseCore.inner (Pipeline.entry 0)) ()) := rfl

theorem rest_same : (StableHlo.held (c.tc : Thread nD τ) (tcArrs \ arrs) (afterW W c) : sProp 𝕄) = StableHlo.held (c.tc : Thread nD τ) (tcArrs \ arrs) (W c) :=
  StableHlo.held_congr _ fun b hb => after_ne W c b fun h => (Finset.mem_sdiff.mp hb).2 (h ▸ out_mem)

/-- The call in the whole program, every array of the TensorCore held. -/
theorem layers_run [∀ e, Nonempty (Elt F e)] (Q : PUnit → sProp 𝕄) :
    iprop(boundary (c.tc : Thread nD τ) ∗ layersGhost c ∗ owesNone c ∗ StableHlo.held (c.tc : Thread nD τ) tcArrs (W c)
        ∗ (iprop(boundary (c.tc : Thread nD τ) ∗ owesNone c ∗ StableHlo.held (c.tc : Thread nD τ) tcArrs (afterW W c)) -∗ Q ⟨⟩))
      ⊢ wp frame (wpE ((K (F := F)).defs (D (F := F))) 𝒱 (c.tc : Thread nD τ) none) Set.univ
          (Prog.lift (.customCall (SparseCore.inner (Pipeline.entry 0)) ())) Q := by
  rw [StableHlo.held_sub_split (c.tc : Thread nD τ) arrs_sub (W c), StableHlo.held_sub_split (c.tc : Thread nD τ) arrs_sub (afterW W c),
    rest_same]
  rw [← lift_entry c]
  iintro ⟨Hb, Hg, Ho, ⟨Ha, Hr⟩, Hk⟩
  iapply (SparseCore.Cfg.wp_liftProg (K := K (F := F)) (D (F := F)) 𝒱 (c.tc : Thread nD τ) Set.univ none (entryProg c) Q)
  iapply (layers_entry c W Q)
  isplitl [Hb]; · iexact Hb
  isplitl [Hg]; · iexact Hg
  isplitl [Ho]; · iexact Ho
  isplitl [Ha]; · iexact Ha
  iintro ⟨Hb, Ho, Ha⟩
  iapply Hk
  isplitl [Hb]; · iexact Hb
  isplitl [Ho]; · iexact Ho
  isplitl [Ha]; · iexact Ha
  iexact Hr

end Cert.Proof

end
-- ==== Proof.GatherCall.lean ====
/- The two SparseCore calls as the TensorCore starts them: what the handshakes carry, how a core's part is dealt to its sixteen
   subcores and how the whole is dealt to the two cores. -/
module

public import proofs.«01_k».proof.Proof.GatherTask
public import proofs.«01_k».proof.Proof.UntileTask
public import proofs.«01_k».proof.Proof.LayersCall

@[expose] public section

set_option maxHeartbeats 400000

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

variable (iv : Dev nD → Ins F) (h0 : Dev nD → Vec F S16384x512 .f32) (e0 : Dev nD → Vec F S16x2600000 .f32) (u0 : Dev nD → Vec F S325000x128 .f32)

/-- Core `c`'s share, and the rows its subcores write. -/
abbrev coreShare (c : Fin 2) : PosShare TreeShare := ShareLeaves.leaf 1 fullShare c
def coreRows (c : Fin 2) : Finset S16384x512.Idx := Finset.univ.filter fun p => (p 0).val / 512 % 2 = c.val
abbrev tileShare (c : Fin 2) (i : Fin 16) : PosShare TreeShare := ShareLeaves.leaf 4 (coreShare c) i

theorem nCore_zero : (K (F := F)).nCore 0 = 2 := rfl
theorem nSub_zero : (K (F := F)).nSub 0 = 16 := rfl
theorem nCore_one : (K (F := F)).nCore 1 = 2 := rfl
theorem nSub_one : (K (F := F)).nSub 1 = 16 := rfl

abbrev CorePart (d : Dev nD) (c : Fin 2) (g : Vec F S16384x512 .f32) : sProp 𝕄 := Part d (iv d) (coreShare c) (coreRows c) g
abbrev TilePart (d : Dev nD) (c : Fin 2) (i : Fin 16) (g : Vec F S16384x512 .f32) : sProp 𝕄 := Part d (iv d) (tileShare c i) (rowsOf (2 * i.val + c.val)) g

/-- A share of the transposed table and of its layout, of which the rows `M` are written. -/
abbrev Part0 (d : Dev nD) (E : Vec F S16x2600000 .f32) (f0 : Vec F S325000x128 .f32) (q : PosShare TreeShare) (M : Finset S325000x128.Idx) : sProp 𝕄 :=
  iprop((vLoc d ↦{q} E) ∗ Wm d q f0 E M)

/-- The rows that a subcore, a core and the whole call write. -/
abbrev tileMarks (c : Fin 2) (i : Fin 16) : Finset S325000x128.Idx := marks (2 * i.val + c.val) 80
def coreMarks (c : Fin 2) : Finset S325000x128.Idx := (Finset.univ : Finset (Fin (2 ^ 4))).biUnion fun i => tileMarks c i
def allMarks : Finset S325000x128.Idx := (Finset.univ : Finset (Fin (2 ^ 1))).biUnion fun c => coreMarks c

/-- A core takes its part of a call and brings it back with its rows written; so does each subcore. -/
def P : (K (F := F)).Pay (nD := nD) (Val := Elt F) (Name := ℕ) (U := UU F) where
  st := fun q d c => match q, c with
    | 0, c => Part0 d (e0 d) (u0 d) (coreShare (Fin.cast nCore_zero c)) ∅
    | 1, c => CorePart iv d (Fin.cast nCore_one c) (h0 d)
  dn := fun q d c => match q, c with
    | 0, c => Part0 d (e0 d) (u0 d) (coreShare (Fin.cast nCore_zero c)) (coreMarks (Fin.cast nCore_zero c))
    | 1, c => CorePart iv d (Fin.cast nCore_one c) (iv d).out
  go := fun q d c i => match q, c, i with
    | 0, c, i => Part0 d (e0 d) (u0 d) (tileShare (Fin.cast nCore_zero c) (Fin.cast nSub_zero i)) ∅
    | 1, c, i => TilePart iv d (Fin.cast nCore_one c) (Fin.cast nSub_one i) (h0 d)
  td := fun q d c i => match q, c, i with
    | 0, c, i => Part0 d (e0 d) (u0 d) (tileShare (Fin.cast nCore_zero c) (Fin.cast nSub_zero i)) (tileMarks (Fin.cast nCore_zero c) (Fin.cast nSub_zero i))
    | 1, c, i => TilePart iv d (Fin.cast nCore_one c) (Fin.cast nSub_one i) (iv d).out
  x := fun _ _ => iprop(∃ ι, WInv (F := F) ι)

instance P_storable : (P (F := F) iv h0 e0 u0).IsStorable where
  st q d c := match q, c with
    | 0, c => (inferInstance : BI.Storable (upEmb : UEmb _ 𝕄) (Part0 d (e0 d) (u0 d) (coreShare (Fin.cast nCore_zero c)) ∅))
    | 1, c => (inferInstance : BI.Storable (upEmb : UEmb _ 𝕄) (CorePart iv d (Fin.cast nCore_one c) (h0 d)))
  dn q d c := match q, c with
    | 0, c => (inferInstance : BI.Storable (upEmb : UEmb _ 𝕄) (Part0 d (e0 d) (u0 d) (coreShare (Fin.cast nCore_zero c)) (coreMarks (Fin.cast nCore_zero c))))
    | 1, c => (inferInstance : BI.Storable (upEmb : UEmb _ 𝕄) (CorePart iv d (Fin.cast nCore_one c) (iv d).out))
  go q d c i := match q, c, i with
    | 0, c, i => (inferInstance : BI.Storable (upEmb : UEmb _ 𝕄) (Part0 d (e0 d) (u0 d) (tileShare (Fin.cast nCore_zero c) (Fin.cast nSub_zero i)) ∅))
    | 1, c, i => (inferInstance : BI.Storable (upEmb : UEmb _ 𝕄) (TilePart iv d (Fin.cast nCore_one c) (Fin.cast nSub_one i) (h0 d)))
  td q d c i := match q, c, i with
    | 0, c, i => (inferInstance : BI.Storable (upEmb : UEmb _ 𝕄) (Part0 d (e0 d) (u0 d) (tileShare (Fin.cast nCore_zero c) (Fin.cast nSub_zero i)) (tileMarks (Fin.cast nCore_zero c) (Fin.cast nSub_zero i))))
    | 1, c, i => (inferInstance : BI.Storable (upEmb : UEmb _ 𝕄) (TilePart iv d (Fin.cast nCore_one c) (Fin.cast nSub_one i) (iv d).out))

/-- What the call's indices must satisfy. -/
def InsOK : Prop := ∀ d, InRange (iv d).X (iv d).O

/-! ## The tasks -/

def coordsV0 (c : Fin (grid0.bound 0)) (s : Fin (grid0.bound 1)) : grid0.Coords :=
  fun | 0 => c | 1 => s | ⟨_ + 2, h⟩ => absurd h (Nat.not_lt.2 (Nat.le_add_left _ _))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_k (coordsV0 c s) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1) ⟨⟩ c s := rfl

theorem defs₀_vector (c : Fin τ.nSC) (s : Fin τ.nSub) :
    defs₀ (F := F) (.scVector c s) 1 ()
      = SparseCore.onTile hcore1 hsub1 (fun c s => cc1_k (coordsV c s) (Memref.whole main_v0_scv) (Memref.isWhole_whole _) (Memref.whole main_v3_scv) (Memref.isWhole_whole _) (Memref.whole main_v5_scv) (Memref.isWhole_whole _) (Memref.whole main_c_scv) (Memref.isWhole_whole _) (Memref.whole main_v6_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scoped0 cc1_scoped1 cc1_scoped2 cc1_scoped3 cc1_scoped4 cc1_scoped5 cc1_scoped6) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : InsOK iv) : (K (F := F)).TileObl (D (F := F)) 𝒱 (P iv h0 e0 u0) v₀ 1 := by
  intro d c i O W hO _ _
  simp only [show (P iv h0 e0 u0).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (iv d) (hok d) (tileShare (Fin.cast nCore_one c) (Fin.cast nSub_one i)) (h0 d) O W hO).trans (wp_mono frame _ _ fun _ => obl_post)

set_option maxRecDepth 16384 in
theorem tileObl0 (hF : (K (F := F)).Facts) : (K (F := F)).TileObl (D (F := F)) 𝒱 (P iv h0 e0 u0) v₀ 0 := by
  intro d c i O W hO _ _
  simp only [show (P iv h0 e0 u0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV0 ⟨_, hci.1⟩ ⟨_, hci.2⟩) hF (e0 d) (u0 d) (tileShare (Fin.cast nCore_zero c) (Fin.cast nSub_zero i)) O W hO).trans (wp_mono frame _ _ fun _ => obl_post)

/-! ## Dealing the rows and the shares -/

theorem tileRows_disjoint (c : Fin 2) : ∀ i ∈ (Finset.univ : Finset (Fin (2 ^ 4))), ∀ j ∈ (Finset.univ : Finset (Fin (2 ^ 4))), i ≠ j →
    Disjoint (rowsOf (2 * i.val + c.val)) (rowsOf (2 * j.val + c.val)) := fun i _ j _ h =>
  Finset.disjoint_left.mpr fun p hi hj => h (Fin.ext (by
    have h1 := (Finset.mem_filter.mp hi).2; have h2 := (Finset.mem_filter.mp hj).2; omega))

theorem tileRows_cover (c : Fin 2) : (Finset.univ : Finset (Fin (2 ^ 4))).biUnion (fun i => rowsOf (2 * i.val + c.val)) = coreRows c := by
  ext p
  have hp : (p 0).val < 16384 := (p 0).isLt
  have hc := c.isLt
  simp only [Finset.mem_biUnion, Finset.mem_univ, true_and, rowsOf, coreRows, Finset.mem_filter]
  constructor
  · rintro ⟨i, hi⟩; omega
  · intro h; exact ⟨⟨(p 0).val / 512 / 2, by omega⟩, by show _ = 2 * ((p 0).val / 512 / 2) + c.val; omega⟩

theorem coreRows_disjoint : ∀ i ∈ (Finset.univ : Finset (Fin (2 ^ 1))), ∀ j ∈ (Finset.univ : Finset (Fin (2 ^ 1))), i ≠ j →
    Disjoint (coreRows i) (coreRows j) := fun i _ j _ h =>
  Finset.disjoint_left.mpr fun p hi hj => h (Fin.ext ((Finset.mem_filter.mp hi).2.symm.trans (Finset.mem_filter.mp hj).2))

theorem coreRows_cover : (Finset.univ : Finset (Fin (2 ^ 1))).biUnion coreRows = Finset.univ := by
  ext p
  simp only [Finset.mem_biUnion, Finset.mem_univ, true_and, coreRows, Finset.mem_filter, iff_true]
  exact ⟨⟨(p 0).val / 512 % 2, by omega⟩, rfl⟩

omit [FloatOps F] in
theorem core_deal (d : Dev nD) (c : Fin 2) (g : Vec F S16384x512 .f32) :
    (CorePart iv d c g : sProp 𝕄) = bigSep Finset.univ fun i : Fin 16 => TilePart iv d c i g :=
  part_deal d (iv d) 4 (coreShare c) (coreRows c) g (fun i => rowsOf (2 * i.val + c.val)) (tileRows_disjoint c) (tileRows_cover c)

omit [FloatOps F] in
theorem call_deal (d : Dev nD) (g : Vec F S16384x512 .f32) :
    (Part d (iv d) fullShare Finset.univ g : sProp 𝕄) = bigSep Finset.univ fun c : Fin 2 => CorePart iv d c g :=
  part_deal d (iv d) 1 fullShare Finset.univ g coreRows coreRows_disjoint coreRows_cover

omit [FloatOps F] in
theorem part0_deal (d : Dev nD) (E : Vec F S16x2600000 .f32) (f0 : Vec F S325000x128 .f32) (n : ℕ) (q : PosShare TreeShare) (M : Finset S325000x128.Idx) :
    (Part0 d E f0 q M : sProp 𝕄) ⊢ bigSep Finset.univ fun i : Fin (2 ^ n) => Part0 d E f0 (ShareLeaves.leaf n q i) M := by
  unfold Part0
  rw [bigSep_sep', ← ShareLeaves.pointsTo_leaves]
  exact BI.sep_mono_r (wm_deal d f0 E M n q)

omit [FloatOps F] in
theorem part0_gather (d : Dev nD) (E : Vec F S16x2600000 .f32) (f0 : Vec F S325000x128 .f32) (n : ℕ) (q : PosShare TreeShare) (Ms : Fin (2 ^ n) → Finset S325000x128.Idx) :
    (bigSep Finset.univ fun i : Fin (2 ^ n) => (Part0 d E f0 (ShareLeaves.leaf n q i) (Ms i) : sProp 𝕄)) ⊢ Part0 d E f0 q (Finset.univ.biUnion Ms) := by
  unfold Part0
  rw [bigSep_sep', ← ShareLeaves.pointsTo_leaves]
  exact BI.sep_mono_r (wm_gather d f0 E n q Ms)

theorem vecSplit : (K (F := F)).VecSplit' (P iv h0 e0 u0) 1 := by
  intro d c
  show CorePart iv d (Fin.cast nCore_one c) (h0 d) ⊢ |={Set.univ}=> iprop(
      (bigSep (Finset.univ : Finset (Fin 16)) fun i => TilePart iv d (Fin.cast nCore_one c) i (h0 d))
      ∗ ((bigSep (Finset.univ : Finset (Fin 16)) fun i => TilePart iv d (Fin.cast nCore_one c) i (iv d).out) -∗ CorePart iv d (Fin.cast nCore_one c) (iv d).out))
  rw [← core_deal, ← core_deal]
  iintro H; imodintro
  isplitl [H]; · iexact H
  iintro H; iexact H

theorem vecSplit0 : (K (F := F)).VecSplit' (P iv h0 e0 u0) 0 := by
  intro d c
  show Part0 d (e0 d) (u0 d) (coreShare (Fin.cast nCore_zero c)) ∅ ⊢ |={Set.univ}=> iprop(
      (bigSep (Finset.univ : Finset (Fin (2 ^ 4))) fun i => Part0 d (e0 d) (u0 d) (ShareLeaves.leaf 4 (coreShare (Fin.cast nCore_zero c)) i) ∅)
      ∗ ((bigSep (Finset.univ : Finset (Fin (2 ^ 4))) fun i => Part0 d (e0 d) (u0 d) (ShareLeaves.leaf 4 (coreShare (Fin.cast nCore_zero c)) i) (tileMarks (Fin.cast nCore_zero c) i))
        -∗ Part0 d (e0 d) (u0 d) (coreShare (Fin.cast nCore_zero c)) (coreMarks (Fin.cast nCore_zero c))))
  iintro H; imodintro
  isplitl [H]
  · iapply (part0_deal d (e0 d) (u0 d) 4 (coreShare (Fin.cast nCore_zero c)) ∅)
    iexact H
  iintro H
  iapply (part0_gather d (e0 d) (u0 d) 4 (coreShare (Fin.cast nCore_zero c)) (fun i => tileMarks (Fin.cast nCore_zero c) i))
  iexact H

theorem st1_eq (d : Dev nD) : (bigSep Finset.univ fun c : Fin ((K (F := F)).nCore 1) => (P iv h0 e0 u0).st 1 d c) = Part d (iv d) fullShare Finset.univ (h0 d) :=
  (call_deal iv d (h0 d)).symm
theorem dn1_eq (d : Dev nD) : (bigSep Finset.univ fun c : Fin ((K (F := F)).nCore 1) => (P iv h0 e0 u0).dn 1 d c) = Part d (iv d) fullShare Finset.univ (iv d).out :=
  (call_deal iv d (iv d).out).symm

theorem st0_of (d : Dev nD) : Part0 d (e0 d) (u0 d) fullShare ∅ ⊢ (bigSep Finset.univ fun c : Fin ((K (F := F)).nCore 0) => (P iv h0 e0 u0).st 0 d c) :=
  part0_deal d (e0 d) (u0 d) 1 fullShare ∅
theorem dn0_to (d : Dev nD) : (bigSep Finset.univ fun c : Fin ((K (F := F)).nCore 0) => (P iv h0 e0 u0).dn 0 d c) ⊢ Part0 d (e0 d) (u0 d) fullShare allMarks :=
  part0_gather d (e0 d) (u0 d) 1 fullShare fun c => coreMarks c

/-! ## The ghost state at launch -/

def u₀ : UU F := (initOf (K (F := F)).hsCells (K (F := F)).hsToks,
  (initOf (Pipeline.cells cfgs cell_inj) (Pipeline.launchToks cfgs cell_inj), (wm₀ nD τ sig (Elt F), 1)))

/-- What a device's TensorCore starts with. -/
abbrev startGhost (d : Dev nD) : sProp 𝕄 := iprop(layersGhost d ∗ ∃ ι, WInv (F := F) ι)

/-- The handshakes' ghost state is the calls'; the staging cells' is dealt to the devices; the bookkeeping of the shared result is everyone's. -/
theorem hu₀ (ms : MemSt nD τ sig (Elt F)) : (ownU (u₀ (F := F)) : sProp 𝕄)
    ⊢ |={Set.univ}=> iprop(BI.own (EH (initOf (K (F := F)).hsCells (K (F := F)).hsToks)) ∗ (bigSep Finset.univ fun d : Dev nD => startGhost d)
        ∗ bigSep Finset.univ fun thr : Thread nD τ => bigSep Finset.univ fun q : Fin 2 => (P iv h0 e0 u0).x q thr) := by
  have hg : (bigSep Finset.univ fun d : Dev nD => (startGhost d : sProp 𝕄))
      = iprop(((bigSep Finset.univ fun d : Dev nD => bigSep Finset.univ fun p : Fin 1 => Pipeline.cellsGhost cfgs EP p d)
        ∗ (bigSep Finset.univ fun d : Dev nD => bigSep Finset.univ fun p : Fin 1 => Pipeline.toksInit cfgs EP p d))
        ∗ (bigSep Finset.univ fun _ : Dev nD => iprop(∃ ι, WInv (F := F) ι))) := by
    rw [← bigSep_sep', ← bigSep_sep']
    refine bigSep_congr fun d _ => ?_
    rw [bigSep_univ_of_subsingleton (0 : Fin 1), bigSep_univ_of_subsingleton (0 : Fin 1)]
  unfold u₀
  iintro Hu
  ihave H := (ownU_pair (initOf (K (F := F)).hsCells (K (F := F)).hsToks) ((initOf (Pipeline.cells cfgs cell_inj) (Pipeline.launchToks cfgs cell_inj), (wm₀ nD τ sig (Elt F), 1)) : UP × (UW F × Counters))) $$ Hu
  icases H with ⟨HH, HP⟩
  ihave H := (own_pair_emb (embR : Emb (UP × (UW F × Counters)) 𝕄) (initOf (Pipeline.cells cfgs cell_inj) (Pipeline.launchToks cfgs cell_inj)) ((wm₀ nD τ sig (Elt F), 1) : UW F × Counters)) $$ HP
  icases H with ⟨HP, HW⟩
  ihave H := (own_pair_emb ((Emb.inr : Emb (UW F × Counters) (UP × (UW F × Counters))).trans (embR : Emb (UP × (UW F × Counters)) 𝕄)) (wm₀ nD τ sig (Elt F)) (1 : Counters)) $$ HW
  icases H with ⟨HW, -⟩
  ihave HW := (show (BI.own (((Emb.inl : Emb (UW F) (UW F × Counters)).trans ((Emb.inr : Emb (UW F × Counters) (UP × (UW F × Counters))).trans (embR : Emb (UP × (UW F × Counters)) 𝕄))) (wm₀ nD τ sig (Elt F))) : sProp 𝕄)
      ⊢ ownU ((EW (F := F)) (wm₀ nD τ sig (Elt F))) from Entails.of_eq rfl) $$ HW
  imod (wmInv_alloc (Ix := HIx 2) (emb := EW (F := F)) ms) $$ HW with ⟨%ι, -, #HI⟩
  imod (Pipeline.fund_ghost cfgs EP cell_inj) $$ HP with HP
  imodintro
  isplitl [HH]; · iexact HH
  isplitl [HP]
  · rw [hg]
    isplitl [HP]; · iexact HP
    iapply (bigSep_of_persistent (Finset.univ : Finset (Dev nD)) iprop(∃ ι, WInv (F := F) ι))
    iexists ι; iexact HI
  iapply (bigSep_of_persistent (Finset.univ : Finset (Thread nD τ)) (bigSep (Finset.univ : Finset (Fin 2)) fun _ => iprop(∃ ι, WInv (F := F) ι)))
  iapply (bigSep_of_persistent (Finset.univ : Finset (Fin 2)) iprop(∃ ι, WInv (F := F) ι))
  iexists ι; iexact HI

end Cert.Proof

end
-- ==== Proof.GatherRun.lean ====
/- The whole program's run: @main's host operations and its three calls; the arguments end unchanged and the result holds
   what the last call leaves, laid out as one axis. -/
module

public import proofs.«01_k».proof.Proof.GatherCall

@[expose] public section

set_option maxHeartbeats 400000

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 2) (Elt F) ℕ (UU F) ℕ

variable (m : (ℓ : Loc nD τ sig) → Buf (Elt F) ℓ) (ρ : Dev nD → PrngReg)

/-! ## The host's operations -/

abbrev op0 : HloOp τ sig (Elt F) := (StableHlo.nullary main_c (fun i => lit0 (S832.rowMajor i)))
abbrev op1 : HloOp τ sig (Elt F) := (StableHlo.nullary main_cst (fun i => FloatOps.ofBits .f32 (lit1 (S512x16.rowMajor i))))
abbrev op2 : HloOp τ sig (Elt F) := (StableHlo.nullary main_cst_0 (fun i => FloatOps.ofBits .f32 (lit2 (S512x2.rowMajor i))))
abbrev op3 : HloOp τ sig (Elt F) := (StableHlo.reshape main_arg0 main_v0 (rfl : (.i32 : EltTy) = .i32) shapeCasts_S16384x26_S425984)
abbrev opT : HloOp τ sig (Elt F) := (StableHlo.unary main_arg1 main_v1 ((transpose S16x2600000 [1, 0] · transposes_S2600000x16_S16x2600000_1_0) : (⟨S2600000x16, .f32⟩ : BufTy).Contents (Elt F) → (⟨S16x2600000, .f32⟩ : BufTy).Contents (Elt F)))
abbrev opR : HloOp τ sig (Elt F) := (StableHlo.reshape main_v2 main_v3 (rfl : (.f32 : EltTy) = .f32) shapeCasts_S325000x128_S2600000x16)
abbrev op4 : HloOp τ sig (Elt F) := (StableHlo.unary main_arg2 main_v4 ((transpose S1x2600000 [1, 0] · transposes_S2600000x1_S1x2600000_1_0) : (⟨S2600000x1, .f32⟩ : BufTy).Contents (Elt F) → (⟨S1x2600000, .f32⟩ : BufTy).Contents (Elt F)))
abbrev op5 : HloOp τ sig (Elt F) := (StableHlo.reshape main_v4 main_v5 (rfl : (.f32 : EltTy) = .f32) shapeCasts_S1x2600000_S162500x16)
abbrev op6 : HloOp τ sig (Elt F) := (StableHlo.unary main_arg1 main_v6 ((extractStridedSlice S64x16 ![2599936, 0] · slices_S2600000x16_S64x16_2599936_0) : (⟨S2600000x16, .f32⟩ : BufTy).Contents (Elt F) → (⟨S64x16, .f32⟩ : BufTy).Contents (Elt F)))
abbrev op7 : HloOp τ sig (Elt F) := (StableHlo.nullary main_cst_1 (constant S_ .f32 0x00000000#32))
abbrev op8 : HloOp τ sig (Elt F) := (StableHlo.unary main_cst_1 main_v8 (broadcastInDim S96x256 ![] bcast_S_S96x256 : (⟨S_, .f32⟩ : BufTy).Contents (Elt F) → (⟨S96x256, .f32⟩ : BufTy).Contents (Elt F)))
abbrev op9 : HloOp τ sig (Elt F) := (StableHlo.binary main_arg4 main_v8 main_v9 ((fun a b => concatenate S512x256 0 [⟨S416x256, a⟩, ⟨S96x256, b⟩] concatenates_S416x256_S96x256_S512x256_d0) : (⟨S416x256, .f32⟩ : BufTy).Contents (Elt F) → (⟨S96x256, .f32⟩ : BufTy).Contents (Elt F) → (⟨S512x256, .f32⟩ : BufTy).Contents (Elt F)))
abbrev op10 : HloOp τ sig (Elt F) := (StableHlo.reshape main_arg5 main_v10 (rfl : (.f32 : EltTy) = .f32) shapeCasts_S256_S1x256)
abbrev op11 : HloOp τ sig (Elt F) := (StableHlo.reshape main_arg7 main_v11 (rfl : (.f32 : EltTy) = .f32) shapeCasts_S128_S1x128)
abbrev op12 : HloOp τ sig (Elt F) := (StableHlo.binary main_arg9 main_arg3 main_v12 (addf : (⟨S1, .f32⟩ : BufTy).Contents (Elt F) → (⟨S1, .f32⟩ : BufTy).Contents (Elt F) → (⟨S1, .f32⟩ : BufTy).Contents (Elt F)))
abbrev op13 : HloOp τ sig (Elt F) := (StableHlo.reshape main_v12 main_v13 (rfl : (.f32 : EltTy) = .f32) shapeCasts_S1_S1x1)
abbrev op14 : HloOp τ sig (Elt F) := (StableHlo.reshape main_v14 main_v15 (rfl : (.f32 : EltTy) = .f32) shapeCasts_S16384x1_S16384)

/-- Before the table's layout call, before the gather call, before the layers' call, and after it. -/
abbrev opsA0 : List (HloOp τ sig (Elt F)) := [op0, op1, op2, op3, opT]
abbrev opsA1 : List (HloOp τ sig (Elt F)) := [opR, op4, op5, op6]
abbrev opsB : List (HloOp τ sig (Elt F)) := [op7, op8, op9, op10, op11, op12, op13]
abbrev opsC : List (HloOp τ sig (Elt F)) := [op14]

omit [FloatOps F] in
theorem tcArr (b : Ref sig .tc) (hb : b.isScoped = false := by rfl) : (Proc.devRef .tc b : DevRef τ sig) ∈ tcArrs := Pipeline.devRef_mem_ucRefs hb

/-- A list of host operations, one after the other. -/
def hostOps (ops : List (HloOp τ sig (Elt F))) (rest : Prog (TpuEff nD τ sig (Elt F) (SparseCore.Sig (ΛP (F := F)) 2) .tc) PUnit) :
    Prog (TpuEff nD τ sig (Elt F) (SparseCore.Sig (ΛP (F := F)) 2) .tc) PUnit :=
  ops.foldr (fun op p => (hlo rfl op (fun _ => .ret PUnit.unit) : Prog (TpuEff nD τ sig (Elt F) (SparseCore.Sig (ΛP (F := F)) 2) .tc) PUnit) >>= fun _ => p) rest

theorem main_eq (d : Dev nD) : main (F := F) d = hostOps opsA0 ((sc (F := F)).run d 0 >>= fun _ => hostOps opsA1 ((sc (F := F)).run d 1 >>= fun _ => hostOps opsB
    (Prog.lift (.customCall (SparseCore.inner (Pipeline.entry 0)) ()) >>= fun _ => hostOps opsC (pure ⟨⟩)))) := rfl

/-- A list of host operations run with every array of the TensorCore held. -/
theorem hostOps_run (d : Dev nD) (rest : Prog (TpuEff nD τ sig (Elt F) (SparseCore.Sig (ΛP (F := F)) 2) .tc) PUnit) (Q : PUnit → sProp 𝕄) :
    ∀ (ops : List (HloOp τ sig (Elt F))) (_ : ∀ op ∈ ops, op.bufs ⊆ StableHlo.tcRefs τ sig ∧ op.fresh = ∅) (W : Valuation τ sig (Elt F)),
    iprop(boundary (T d) ∗ held (T d) tcArrs W
        ∗ (iprop(boundary (T d) ∗ held (T d) tcArrs (StableHlo.after ops W)) -∗ wp frame (wpE ((K (F := F)).defs (D (F := F))) 𝒱 (T d) none) Set.univ rest Q))
      ⊢ wp frame (wpE ((K (F := F)).defs (D (F := F))) 𝒱 (T d) none) Set.univ (hostOps ops rest) Q
  | [], _, W => by
    change _ ⊢ wp frame _ Set.univ rest Q
    iintro ⟨Hb, Hh, Hk⟩
    iapply Hk
    isplitl [Hb]; · iexact Hb
    iexact Hh
  | op :: ops, h, W => by
    have ih := hostOps_run d rest Q ops (fun o ho => h o (List.mem_cons_of_mem _ ho)) (op.result W)
    have h1 := h op (List.mem_cons_self ..)
    change _ ⊢ wp frame _ Set.univ ((hlo rfl op (fun _ => .ret PUnit.unit) : Prog (TpuEff nD τ sig (Elt F) (SparseCore.Sig (ΛP (F := F)) 2) .tc) PUnit) >>= fun _ => hostOps ops rest) Q
    rw [wp_bind]
    iintro ⟨Hb, Hh, Hk⟩
    iapply (wp_hlo_within 𝒱 (SparseCore.T d) none Set.univ (op := op) (S := tcArrs) (Pipeline.sub_ucRefs op h1.1) h1.2) $$ [Hb Hh]
    · isplitl [Hb] <;> iassumption
    iintro ⟨Hb, Hh⟩
    rw [wp_ret]; imodintro
    iapply ih
    isplitl [Hb]; · iexact Hb
    isplitl [Hh]; · iexact Hh
    iexact Hk

theorem opsA0_ok : ∀ op ∈ opsA0 (F := F), op.bufs ⊆ StableHlo.tcRefs τ sig ∧ op.fresh = ∅ := by
  simp only [List.forall_mem_cons]
  exact ⟨⟨StableHlo.nullary_bufs_sub .., rfl⟩, ⟨StableHlo.nullary_bufs_sub .., rfl⟩, ⟨StableHlo.nullary_bufs_sub .., rfl⟩, ⟨StableHlo.reshape_bufs_sub .., rfl⟩,
    ⟨StableHlo.unary_bufs_sub .., rfl⟩, fun _ h => absurd h List.not_mem_nil⟩

theorem opsA1_ok : ∀ op ∈ opsA1 (F := F), op.bufs ⊆ StableHlo.tcRefs τ sig ∧ op.fresh = ∅ := by
  simp only [List.forall_mem_cons]
  exact ⟨⟨StableHlo.reshape_bufs_sub .., rfl⟩, ⟨StableHlo.unary_bufs_sub .., rfl⟩, ⟨StableHlo.reshape_bufs_sub .., rfl⟩, ⟨StableHlo.unary_bufs_sub .., rfl⟩,
    fun _ h => absurd h List.not_mem_nil⟩

theorem opsB_ok : ∀ op ∈ opsB (F := F), op.bufs ⊆ StableHlo.tcRefs τ sig ∧ op.fresh = ∅ := by
  simp only [List.forall_mem_cons]
  exact ⟨⟨StableHlo.nullary_bufs_sub .., rfl⟩, ⟨StableHlo.unary_bufs_sub .., rfl⟩, ⟨StableHlo.binary_bufs_sub .., rfl⟩, ⟨StableHlo.reshape_bufs_sub .., rfl⟩,
    ⟨StableHlo.reshape_bufs_sub .., rfl⟩, ⟨StableHlo.binary_bufs_sub .., rfl⟩, ⟨StableHlo.reshape_bufs_sub .., rfl⟩, fun _ h => absurd h List.not_mem_nil⟩

theorem opsC_ok : ∀ op ∈ opsC (F := F), op.bufs ⊆ StableHlo.tcRefs τ sig ∧ op.fresh = ∅ := by
  simp only [List.forall_mem_cons]
  exact ⟨⟨StableHlo.reshape_bufs_sub .., rfl⟩, fun _ h => absurd h List.not_mem_nil⟩

/-! ## What the arrays hold -/

abbrev vRef : DevRef τ sig := Proc.devRef .tc (main_v1 : Ref sig .tc)
abbrev uRef : DevRef τ sig := Proc.devRef .tc (main_v2 : Ref sig .tc)

/-- At launch, and before the table's layout call. -/
def V0 (d : Dev nD) : Valuation τ sig (Elt F) := fun b => m (d, b)
def Vu (d : Dev nD) : Valuation τ sig (Elt F) := StableHlo.after opsA0 (V0 m d)

/-- What that call finds: the transposed table, and its result's buffer; and what it leaves. -/
def eBefore (d : Dev nD) : Vec F S16x2600000 .f32 := Vu m d vRef
def uBefore (d : Dev nD) : Vec F S325000x128 .f32 := Vu m d uRef
def uAfter (d : Dev nD) : Vec F S325000x128 .f32 := allMarks.piecewise (unE (eBefore m d)) (uBefore m d)

/-- After that call, and before the gather call. -/
def Vt (d : Dev nD) : Valuation τ sig (Elt F) := Function.update (Vu m d) uRef (uAfter m d : Vec F S325000x128 .f32)
def Vh (d : Dev nD) : Valuation τ sig (Elt F) := StableHlo.after opsA1 (Vt m d)

theorem Vt_u (d : Dev nD) : Vt m d uRef = (uAfter m d : Vec F S325000x128 .f32) := Function.update_self ..
theorem Vt_ne (d : Dev nD) (b : DevRef τ sig) (h : b ≠ uRef) : Vt m d b = Vu m d b := Function.update_of_ne h ..

/-- The arrays the layout call takes. -/
abbrev unArrs : Finset (DevRef τ sig) := {vRef, uRef}

omit [FloatOps F] in
theorem unArrs_sub : unArrs ⊆ tcArrs := Finset.insert_subset (tcArr _) (Finset.singleton_subset_iff.mpr (tcArr _))

omit [FloatOps F] in
theorem held_unArrs (d : Dev nD) (W : Valuation τ sig (Elt F)) :
    (held (T d) unArrs W : sProp 𝕄) = iprop((vLoc d ↦{fullShare} W vRef) ∗ (uLoc d ↦{fullShare} W uRef)) := by
  unfold held unArrs
  rw [SparseCore.bigSep_insert' (by decide), bigSep_singleton]

theorem un_before (d : Dev nD) : (held (T d) unArrs (Vu m d) : sProp 𝕄) = iprop((vLoc d ↦{fullShare} eBefore m d) ∗ (uLoc d ↦{fullShare} uBefore m d)) := by
  rw [held_unArrs]; rfl

theorem un_after (d : Dev nD) : (held (T d) unArrs (Vt m d) : sProp 𝕄) = iprop((vLoc d ↦{fullShare} eBefore m d) ∗ (uLoc d ↦{fullShare} uAfter m d)) := by
  rw [held_unArrs, Vt_ne m d _ (by decide), Vt_u]; rfl

theorem un_rest (d : Dev nD) : (held (T d) (tcArrs \ unArrs) (Vu m d) : sProp 𝕄) = held (T d) (tcArrs \ unArrs) (Vt m d) :=
  StableHlo.held_congr _ fun b hb => (Vt_ne m d b fun h => (Finset.mem_sdiff.mp hb).2 (by rw [h]; decide)).symm

/-- What the gather call reads. -/
def insOf (d : Dev nD) : Ins F where
  X := Vh m d (Proc.devRef .tc (main_v0 : Ref sig .tc))
  E := Vh m d (Proc.devRef .tc (main_v3 : Ref sig .tc))
  L := Vh m d (Proc.devRef .tc (main_v5 : Ref sig .tc))
  O := Vh m d (Proc.devRef .tc (main_c : Ref sig .tc))
  Tl := Vh m d (Proc.devRef .tc (main_v6 : Ref sig .tc))

abbrev hRef : DevRef τ sig := Proc.devRef .tc (main_v7 : Ref sig .tc)

/-- What the call finds in its result. -/
def hBefore (d : Dev nD) : Vec F S16384x512 .f32 := Vh m d hRef

/-- After the gather call, before and after the layers' call, and at the end. -/
def Vg (d : Dev nD) : Valuation τ sig (Elt F) := Function.update (Vh m d) hRef ((insOf m d).out : Vec F S16384x512 .f32)
def Vm (d : Dev nD) : Valuation τ sig (Elt F) := StableHlo.after opsB (Vg m d)
def Vend (d : Dev nD) : Valuation τ sig (Elt F) := StableHlo.after opsC (afterW (Vm m) d)

theorem Vg_h (d : Dev nD) : Vg m d hRef = ((insOf m d).out : Vec F S16384x512 .f32) := Function.update_self ..
theorem Vg_ne (d : Dev nD) (b : DevRef τ sig) (h : b ≠ hRef) : Vg m d b = Vh m d b := Function.update_of_ne h ..

/-- The arrays the gather call takes. -/
abbrev scArrs : Finset (DevRef τ sig) := {Proc.devRef .tc (main_v0 : Ref sig .tc), Proc.devRef .tc (main_v3 : Ref sig .tc), Proc.devRef .tc (main_v5 : Ref sig .tc), Proc.devRef .tc (main_c : Ref sig .tc), Proc.devRef .tc (main_v6 : Ref sig .tc), hRef}

omit [FloatOps F] in
theorem scArrs_sub : scArrs ⊆ tcArrs :=
  Finset.insert_subset (tcArr _) (Finset.insert_subset (tcArr _) (Finset.insert_subset (tcArr _) (Finset.insert_subset (tcArr _)
    (Finset.insert_subset (tcArr _) (Finset.singleton_subset_iff.mpr (tcArr _))))))

omit [FloatOps F] in
theorem held_scArrs (d : Dev nD) (W : Valuation τ sig (Elt F)) :
    (held (T d) scArrs W : sProp 𝕄) = iprop(((SparseCore.T d).loc main_v0 ↦{fullShare} W (Proc.devRef .tc (main_v0 : Ref sig .tc))) ∗ ((SparseCore.T d).loc main_v3 ↦{fullShare} W (Proc.devRef .tc (main_v3 : Ref sig .tc))) ∗ ((SparseCore.T d).loc main_v5 ↦{fullShare} W (Proc.devRef .tc (main_v5 : Ref sig .tc))) ∗ ((SparseCore.T d).loc main_c ↦{fullShare} W (Proc.devRef .tc (main_c : Ref sig .tc))) ∗ ((SparseCore.T d).loc main_v6 ↦{fullShare} W (Proc.devRef .tc (main_v6 : Ref sig .tc))) ∗ ((SparseCore.T d).loc main_v7 ↦{fullShare} W hRef)) := by
  unfold held scArrs
  rw [SparseCore.bigSep_insert' (by decide), SparseCore.bigSep_insert' (by decide), SparseCore.bigSep_insert' (by decide), SparseCore.bigSep_insert' (by decide), SparseCore.bigSep_insert' (by decide), bigSep_singleton]

/-- What the call takes, and what it brings back. -/
theorem sc_before (d : Dev nD) : (held (T d) scArrs (Vh m d) : sProp 𝕄) = Part d (insOf m d) fullShare Finset.univ (hBefore m d) := by
  rw [held_scArrs]
  dsimp only [Part, insOf, hBefore]

theorem sc_after (d : Dev nD) : (held (T d) scArrs (Vg m d) : sProp 𝕄) = Part d (insOf m d) fullShare Finset.univ (insOf m d).out := by
  rw [held_scArrs, Vg_ne m d _ (by decide), Vg_ne m d _ (by decide), Vg_ne m d _ (by decide), Vg_ne m d _ (by decide), Vg_ne m d _ (by decide), Vg_h]
  dsimp only [Part, insOf]

theorem sc_rest (d : Dev nD) : (held (T d) (tcArrs \ scArrs) (Vh m d) : sProp 𝕄) = held (T d) (tcArrs \ scArrs) (Vg m d) :=
  StableHlo.held_congr _ fun b hb => (Vg_ne m d b fun h => (Finset.mem_sdiff.mp hb).2 (by rw [h]; decide)).symm

/-- After the SparseCore calls the TensorCore owes nothing. -/
theorem tcSt_two (d : Dev nD) : ∃ R : sProp 𝕄, (K (F := F)).tcSt EH d 2 = iprop(owesNone d ∗ R) :=
  ⟨_, by unfold SparseCore.Cfg.tcSt; rw [(K (F := F)).Otc_end d le_rfl]; rfl⟩

/-- What @main leaves the claim: every array of the TensorCore. -/
abbrev FIN (d : Dev nD) : sProp 𝕄 := held (T d) tcArrs (Vend m d)

/-- What the two SparseCore calls carry in this run. -/
abbrev PM : (K (F := F)).Pay (nD := nD) (Val := Elt F) (Name := ℕ) (U := UU F) := P (insOf m) (hBefore m) (eBefore m) (uBefore m)

/-- @main on device `d`'s TensorCore. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ startGhost d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R, hR⟩ := tcSt_two (F := F) d
  have hu : (unscopedBufs d (fun b => m ((SparseCore.T d).loc b)) : sProp 𝕄) = held (T d) tcArrs (V0 m d) := Pipeline.unscopedBufs_held d (V0 m d)
  unfold SparseCore.Cfg.tcRes SparseCore.Cfg.tcEnd
  rw [hu, main_eq]
  iintro ⟨#Hctx, Hst, ⟨Hb, Hh, Hts, -⟩, Hg, ⟨%ι, #HI⟩⟩
  iapply (hostOps_run d _ _ opsA0 opsA0_ok (V0 m d))
  isplitl [Hb]; · iexact Hb
  isplitl [Hh]; · iexact Hh
  iintro ⟨Hb, Hh⟩
  ihave Hh := (Entails.of_eq ((show (held (T d) tcArrs (StableHlo.after opsA0 (V0 m d)) : sProp 𝕄) = held (T d) tcArrs (Vu m d) from rfl).trans
    (StableHlo.held_sub_split (T d) unArrs_sub (Vu m d)))) $$ Hh
  icases Hh with ⟨Hp, Hr⟩
  ihave Hp := (Entails.of_eq (un_before m d)) $$ Hp
  icases Hp with ⟨Hv, Hw⟩
  imod (pointsTo_castIn (emb := EW (F := F)) (ιwm := ι) (ℓ := uLoc d) (I := Finset.univ) (f := uBefore m d) (fun p => some (unE (eBefore m d) p))) $$ [HI Hw] with Hw
  · isplitr; · iexact HI
    iexact Hw
  rw [wp_bind]
  iapply ((K (F := F)).wp_run (D (F := F)) 𝒱 (EH := EH) (P := PM m) κ d 0) $$ [Hst Hv Hw Hr Hb Hts Hg]
  isplitr; · iexact Hctx
  isplitl [Hst]; · iexact Hst
  isplitl [Hv Hw]
  · iapply (st0_of (insOf m) (hBefore m) (eBefore m) (uBefore m) d)
    isplitl [Hv] <;> iassumption
  iintro ⟨Hst, Hp⟩
  ihave Hp := (dn0_to (insOf m) (hBefore m) (eBefore m) (uBefore m) d) $$ Hp
  icases Hp with ⟨Hv, Hw⟩
  imod (willBeTo_castOut_some (emb := EW (F := F)) (ιwm := ι) (ℓ := uLoc d) (I := Finset.univ) (f := uBefore m d) (g := unE (eBefore m d)) (W := allMarks)) $$ [HI Hw] with Hw
  · isplitr; · iexact HI
    iexact Hw
  ihave Hp := (Entails.of_eq (un_after m d).symm) $$ [Hv Hw]
  · isplitl [Hv]; · iexact Hv
    iexact Hw
  ihave Hr := (Entails.of_eq (un_rest m d)) $$ Hr
  ihave Hh := (Entails.of_eq (StableHlo.held_sub_split (T d) unArrs_sub (Vt m d)).symm) $$ [Hp Hr]
  · isplitl [Hp] <;> iassumption
  iapply (hostOps_run d _ _ opsA1 opsA1_ok (Vt m d))
  isplitl [Hb]; · iexact Hb
  isplitl [Hh]; · iexact Hh
  iintro ⟨Hb, Hh⟩
  ihave Hh := (Entails.of_eq ((show (held (T d) tcArrs (StableHlo.after opsA1 (Vt m d)) : sProp 𝕄) = held (T d) tcArrs (Vh m d) from rfl).trans
    (StableHlo.held_sub_split (T d) scArrs_sub (Vh m d)))) $$ Hh
  icases Hh with ⟨Hp, Hr⟩
  ihave Hp := (Entails.of_eq (sc_before m d)) $$ Hp
  rw [wp_bind]
  iapply ((K (F := F)).wp_run (D (F := F)) 𝒱 (EH := EH) (P := PM m) κ d 1) $$ [Hst Hp Hr Hb Hts Hg]
  isplitr; · iexact Hctx
  isplitl [Hst]; · iexact Hst
  isplitl [Hp]
  · rw [st1_eq]; iexact Hp
  iintro ⟨Hst, Hp⟩
  ihave Hp := (Entails.of_eq ((dn1_eq (insOf m) (hBefore m) (eBefore m) (uBefore m) d).trans (sc_after m d).symm)) $$ Hp
  ihave Hr := (Entails.of_eq (sc_rest m d)) $$ Hr
  ihave Hh := (Entails.of_eq (StableHlo.held_sub_split (T d) scArrs_sub (Vg m d)).symm) $$ [Hp Hr]
  · isplitl [Hp] <;> iassumption
  iapply (hostOps_run d _ _ opsB opsB_ok (Vg m d))
  isplitl [Hb]; · iexact Hb
  isplitl [Hh]; · iexact Hh
  iintro ⟨Hb, Hh⟩
  ihave Hst := (Entails.of_eq ((show ((K (F := F)).tcSt EH d ((1 : Fin 2).val + 1) : sProp 𝕄) = (K (F := F)).tcSt EH d 2 from rfl).trans hR)) $$ Hst
  icases Hst with ⟨Ho, HR⟩
  rw [wp_bind]
  iapply (layers_run d (Vm m) _)
  isplitl [Hb]; · iexact Hb
  isplitl [Hg]; · iexact Hg
  isplitl [Ho]; · iexact Ho
  isplitl [Hh]; · iexact Hh
  iintro ⟨Hb, Ho, Hh⟩
  iapply (hostOps_run d _ _ opsC opsC_ok (afterW (Vm m) d))
  isplitl [Hb]; · iexact Hb
  isplitl [Hh]; · iexact Hh
  iintro ⟨Hb, Hh⟩
  rw [wp_pure]; imodintro
  isplitl [Ho HR]
  · iapply (Entails.of_eq hR.symm)
    isplitl [Ho] <;> iassumption
  isplitl [Hh]; · iexact Hh
  isplitl [Hb] <;> iassumption

def fq (d : Dev nD) (s' : Phys nD τ sig (Elt F)) : Prop := ∀ b ∈ tcArrs, s'.mem.mem (d, b) = Vend m d b

theorem hfin (d : Dev nD) (s' : Phys nD τ sig (Elt F)) : iprop(FIN m d ∗ SI s') ⊢ (⌜fq m d s'⌝ : sProp 𝕄) := by
  unfold FIN held
  iintro ⟨H, HSI⟩
  ihave H := (pointsTo_read_all tcArrs (fun b => (d, b)) (Vend m d) s') $$ [H HSI]
  · isplitl [H] <;> iassumption
  icases H with ⟨%h, -⟩
  ipureintro; exact h

/-- What the run ends in. -/
def QC : PUnit × MemSt nD τ sig (Elt F) → Prop := fun r =>
  (∀ d : Dev nD, ∀ b ∈ tcArrs, r.2.mem (d, b) = Vend m d b) ∧ r.2.sem = fun _ => 0

theorem run_main [∀ e, Nonempty (Elt F e)] (hok : InsOK (insOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq | 1 => nomatch hq)
    (fun q _ => match q with
      | 0 => tileObl0 (insOf m) (hBefore m) (eBefore m) (uBefore m) facts
      | 1 => tileObl (insOf m) (hBefore m) (eBefore m) (uBefore m) facts hok)
    (fun q _ => match q with
      | 0 => SparseCore.Cfg.VecSplit.of_plain (vecSplit0 (insOf m) (hBefore m) (eBefore m) (uBefore m))
      | 1 => SparseCore.Cfg.VecSplit.of_plain (vecSplit (insOf m) (hBefore m) (eBefore m) (uBefore m)))
    m ρ main (fun d => startGhost d) (FIN m) (u₀ (F := F)) (sep_elim_left.trans (hu₀ (insOf m) (hBefore m) (eBefore m) (uBefore m) ⟨m, fun _ => 0, ρ⟩)) (hmain m ρ) (fq m) (hfin m) (QC m) (fun _ h hz => ⟨h, hz⟩)

end Cert.Proof

end
-- ==== Proof.RefRows.lean ====
/- What the reference computes: the row numbers it looks up, that each is in range, and its result entry by entry. -/
module

public import proofs.«01_k».proof.Proof.Contents
public import proofs.«01_k».proof.Proof.Gen.ReferenceIdeal.Run
public import Idealize.ShloMosaic.Lib.PointwiseCore
public import Idealize.ShloMosaic.Lib.ReduceAll

@[expose] public section

set_option maxHeartbeats 400000

noncomputable section

namespace Cert.Proof.Ref

open Cert.ReferenceIdeal Cert.ReferenceIdeal.Gen
open Idealize.ShloMosaic

variable {F : FTy → Type} [FloatOps F]

/-! ## The row numbers -/

/-- The words the reference looks up: the indices plus each field's first row. -/
def words (x : IVec S16384x26 32) : IVec S16384x26 32 :=
  addi x (broadcastInDim S16384x26 ![0, 1] bcast_S1x26_S16384x26_0_1 (broadcastInDim S1x26 ![1] bcast_S26_S1x26_1 (fun i => lit0 (S26.rowMajor i))))

/-- The same with a negative word counted from the table's end, as one column per lookup. -/
def starts (x : IVec S16384x26 32) : IVec S16384x26x1 32 :=
  broadcastInDim S16384x26x1 ![0, 1] bcast_S16384x26_S16384x26x1_0_1
    (select (cmpi .slt (words x) (broadcastInDim S16384x26 ![] bcast_S_S16384x26 (constantI S_ 32 0#32)))
      (addi (words x) (broadcastInDim S16384x26 ![] bcast_S_S16384x26 (constantI S_ 32 2600000#32))) (words x))

/-- Whether each lookup is in range. -/
def inside (x : IVec S16384x26 32) : IVec S16384x26 1 :=
  Host.reduce IntOp.andi
    (andi (cmpi .sge (starts x) (broadcastInDim S16384x26x1 ![] bcast_S_S16384x26x1 (constantI S_ 32 0#32)))
      (cmpi .sle (starts x) (broadcastInDim S16384x26x1 ![0, 1, 2] bcast_S1x1x1_S16384x26x1_0_1_2 (broadcastInDim S1x1x1 ![2] bcast_S1_S1x1x1_2 (constantI S1 32 2599999#32)))))
    (constantI S_ 1 1#1) reducesTo_S16384x26x1_S16384x26_d2 h_S_

/-- The looked-up rows of the first table. -/
def rowsE (x : IVec S16384x26 32) (e : FVec F S2600000x16 .f32) : FVec F S16384x26x16 .f32 :=
  select (broadcastInDim S16384x26x16 ![0, 1] bcast_S16384x26_S16384x26x16_0_1 (inside x))
    (Host.gather gather_S2600000x16_S16384x26x1_S16384x26x16_2_0_n_n_0_2_116 e (starts x))
    (broadcastInDim S16384x26x16 ![] bcast_S_S16384x26x16 (constant S_ .f32 0x7FC00000#32))

/-- The looked-up rows of the second table. -/
def rowsL (x : IVec S16384x26 32) (l : FVec F S2600000x1 .f32) : FVec F S16384x26x1 .f32 :=
  select (broadcastInDim S16384x26x1 ![0, 1] bcast_S16384x26_S16384x26x1_0_1 (inside x))
    (Host.gather gather_S2600000x1_S16384x26x1_S16384x26x1_2_0_n_n_0_2_11 l (starts x))
    (broadcastInDim S16384x26x1 ![] bcast_S_S16384x26x1 (constant S_ .f32 0x7FC00000#32))

theorem lit0_eq : ∀ f : Fin 26, lit0 f = BitVec.ofNat 32 (100000 * f.val) := by decide

theorem words_apply (x : IVec S16384x26 32) (p : S16384x26.Idx) : words x p = IntOp.addi (x p) (BitVec.ofNat 32 (100000 * (p 1).val)) := by
  unfold words
  pointwise
  have h : (S26.rowMajor (ix1 (p 1))).val = (p 1).val := Shape.rowMajor_val_one _
  exact congrArg (IntOp.addi (x p)) ((lit0_eq _).trans (by rw [h]))

/-- The row number of lookup `p`. -/
def rowOf (x : IVec S16384x26 32) (p : S16384x26.Idx) : ℕ := (x p).toNat + 100000 * (p 1).val

variable {x : IVec S16384x26 32} (hx : ∀ p, (x p).toNat < 100000)
include hx

theorem rowOf_lt (p : S16384x26.Idx) : rowOf x p < 2600000 := by
  have h₁ := hx p
  have h₂ : (p 1).val < 26 := lt1 p
  unfold rowOf; omega

theorem words_toNat (p : S16384x26.Idx) : (words x p).toNat = rowOf x p := by
  have h := rowOf_lt hx p
  rw [words_apply]
  unfold rowOf at h ⊢
  show (x p + _).toNat = _
  rw [BitVec.toNat_add, BitVec.toNat_ofNat]
  omega

theorem words_toInt (p : S16384x26.Idx) : (words x p).toInt = rowOf x p := by
  have h := rowOf_lt hx p
  rw [BitVec.toInt_eq_toNat_of_lt (by rw [words_toNat hx]; omega), words_toNat hx]

theorem starts_apply (p : S16384x26x1.Idx) : starts x p = words x (i2 (p 0).val (p 1).val) := by
  have h := rowOf_lt hx (i2 (p 0).val (p 1).val)
  have hi : (ix2 (p 0) (p 1) : S16384x26.Idx) = i2 (p 0).val (p 1).val := eq_i2 _ _ _ rfl rfl
  unfold starts
  pointwise
  rw [hi]
  have h0 : IntOp.cmpi CmpIPredicate.slt (words x (i2 (p 0).val (p 1).val)) 0#32 = 0#1 := by
    show BitVec.ofBool (BitVec.slt _ _) = _
    rw [BitVec.slt_eq_decide, words_toInt hx, decide_eq_false (by show ¬ ((_ : ℤ) < 0); omega)]
    rfl
  rw [h0]
  rfl

theorem inside_apply (p : S16384x26.Idx) : inside x p = 1#1 := by
  refine Host.reduce_andi_one _ _ _ _ _ rfl fun i => ?_
  have h := rowOf_lt hx (i2 (i 0).val (i 1).val)
  pointwise
  rw [starts_apply hx]
  have h0 : IntOp.cmpi CmpIPredicate.sge (words x (i2 (i 0).val (i 1).val)) 0#32 = 1#1 := by
    show BitVec.ofBool (BitVec.sle _ _) = _
    rw [BitVec.sle_eq_decide, words_toInt hx, decide_eq_true (by show ((0 : ℤ) ≤ _); omega)]
    rfl
  have h1 : IntOp.cmpi CmpIPredicate.sle (words x (i2 (i 0).val (i 1).val)) 2599999#32 = 1#1 := by
    show BitVec.ofBool (BitVec.sle _ _) = _
    rw [BitVec.sle_eq_decide, words_toInt hx, decide_eq_true (by show (_ ≤ (2599999 : ℤ)); omega)]
    rfl
  rw [h0, h1]
  rfl

omit hx

/-! ## The lookups -/

/-- The dimension numbers of a lookup of whole rows by a rectangle of row numbers. -/
abbrev rowsDims (N W R C : Nat) (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- Such a lookup, entry by entry, where the row number is in range. -/
theorem gather_rows {α : Type} {N W R C : Nat} [NeZero N] [NeZero W] (wf) (e : (⟨2, ![N, W]⟩ : Shape).Idx → α) (idx : IVec ⟨3, ![R, C, 1]⟩ 32)
    (y : (⟨3, ![R, C, W]⟩ : Shape).Idx) (r : ℕ) (hr : r < N)
    (hi : (idx (fun | ⟨0, _⟩ => y 0 | ⟨1, _⟩ => y 1 | ⟨2, _⟩ => (0 : Fin 1))).toInt = (r : ℤ)) :
    Host.gather (rowsDims N W R C wf) e idx y = e (i2 r (y 2).val) := by
  unfold Host.gather
  congr 1
  refine ext2 ?_ ?_
  · show (rowsDims N W R C wf).start y idx 0 + (rowsDims N W R C wf).batchCoord y 0 + (rowsDims N W R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowsDims N W R C wf).startIndexMap from List.mem_singleton.mpr rfl)]
    have hsi : (rowsDims N W R C wf).siIdx y ⟨List.idxOf (0 : Fin 2) (rowsDims N W R C wf).startIndexMap,
        List.idxOf_lt_length_iff.2 (List.mem_singleton.mpr rfl)⟩ = (fun | ⟨0, _⟩ => y 0 | ⟨1, _⟩ => y 1 | ⟨2, _⟩ => (0 : Fin 1)) := by
      funext b; refine Fin.ext ?_
      match b with
      | ⟨0, _⟩ => rfl
      | ⟨1, _⟩ => rfl
      | ⟨2, _⟩ => rfl
    rw [hsi, hi, i2_val0, Nat.mod_eq_of_lt hr]
    show min (r : ℤ).toNat (N - 1) + 0 + 0 = r
    omega
  · show (rowsDims N W R C wf).start y idx 1 + (rowsDims N W R C wf).batchCoord y 1 + (rowsDims N W R C wf).offCoord y 1 = _
    rw [GatherDims.batchCoord_eq_zero _ _ _ List.not_mem_nil]
    have h1 : (rowsDims N W R C wf).start y idx 1 = 0 := rfl
    have h2 : (rowsDims N W R C wf).offCoord y 1 = (y 2).val := rfl
    rw [h1, h2, i2_val1]
    have h3 : (y 2).val < W := (y 2).isLt
    rw [Nat.mod_eq_of_lt h3]; omega

include hx

theorem rowsE_apply (e : FVec F S2600000x16 .f32) (y : S16384x26x16.Idx) :
    rowsE x e y = e (i2 (rowOf x (i2 (y 0).val (y 1).val)) (y 2).val) := by
  unfold rowsE
  pointwise
  rw [inside_apply hx]
  refine Eq.trans rfl (gather_rows gather_S2600000x16_S16384x26x1_S16384x26x16_2_0_n_n_0_2_116_wf e (starts x) y _ (rowOf_lt hx (i2 (y 0).val (y 1).val)) ?_)
  rw [starts_apply hx, words_toInt hx]

theorem rowsL_apply (l : FVec F S2600000x1 .f32) (y : S16384x26x1.Idx) :
    rowsL x l y = l (i2 (rowOf x (i2 (y 0).val (y 1).val)) 0) := by
  have h2 : (y 2).val = 0 := by have h : (y 2).val < 1 := (y 2).isLt; omega
  have h := gather_rows gather_S2600000x1_S16384x26x1_S16384x26x1_2_0_n_n_0_2_11_wf l (starts x) y _ (rowOf_lt hx (i2 (y 0).val (y 1).val))
    (by rw [starts_apply hx, words_toInt hx])
  rw [h2] at h
  unfold rowsL
  pointwise
  rw [inside_apply hx]
  exact Eq.trans rfl h

omit hx

/-! ## The result -/

/-- The looked-up rows of both tables, side by side, with zeros behind. -/
def hSpec (x : IVec S16384x26 32) (e : FVec F S2600000x16 .f32) (l : FVec F S2600000x1 .f32) : FVec F Cert.KernelIdeal.S16384x512 .f32 := fun p =>
  if (p 1).val < 416 then e (i2 (rowOf x (i2 (p 0).val ((p 1).val / 16))) ((p 1).val % 16))
  else if (p 1).val < 442 then l (i2 (rowOf x (i2 (p 0).val ((p 1).val - 416))) 0)
  else FloatOps.ofBits .f32 0#32

end Cert.Proof.Ref

end
-- ==== Proof.GatherValue.lean ====
/- What the call leaves, in terms of the program's arguments: the looked-up rows of both tables, side by side. -/
module

public import proofs.«01_k».proof.Proof.GatherTask
public import proofs.«01_k».proof.Proof.RefRows

@[expose] public section

set_option maxHeartbeats 400000

noncomputable section

namespace Cert.Proof

open Cert.KernelIdeal Cert.KernelIdeal.Gen
open Idealize.ShloMosaic
open Cert.Proof.Ref (rowOf rowOf_lt hSpec)

variable {F : FTy → Type} [FloatOps F]

/-- What the call reads, said of the program's arguments. -/
structure Reads (v : Ins F) (x : IVec S16384x26 32) (e : Vec F S2600000x16 .f32) (l : Vec F S2600000x1 .f32) : Prop where
  small : ∀ p, (x p).toNat < 100000
  X : ∀ k, k < 425984 → v.X (i1 k) = x (i2 (k / 26) (k % 26))
  O : ∀ k, k < 832 → v.O (i1 k) = BitVec.ofNat 32 (100000 * (k % 26))
  E : ∀ a b, a < 2599936 → b < 16 → v.E (i2 a b) = e (i2 a b)
  L : ∀ a b, a < 162500 → b < 16 → v.L (i2 a b) = l (i2 (16 * a + b) 0)
  Tl : ∀ a b, a < 64 → b < 16 → v.Tl (i2 a b) = e (i2 (2599936 + a) b)

namespace Reads

variable {v : Ins F} {x : IVec S16384x26 32} {e : Vec F S2600000x16 .f32} {l : Vec F S2600000x1 .f32} (h : Reads v x e l)
include h

theorem cI_toNat {b k : ℕ} (hb : b ≤ 425152) (hk : k < 832) :
    (cI v.X v.O b (i1 k)).toNat = (x (i2 ((b + k) / 26) ((b + k) % 26))).toNat + 100000 * (k % 26) := by
  have hs := h.small (i2 ((b + k) / 26) ((b + k) % 26))
  have hv : ((i1 k : S832.Idx) 0).val = k := by rw [i1_val]; exact Nat.mod_eq_of_lt hk
  show (v.X (i1 (b + ((i1 k : S832.Idx) 0).val)) + v.O (i1 k)).toNat = _
  rw [hv, h.X _ (by omega), h.O _ hk, BitVec.toNat_add, BitVec.toNat_ofNat]
  omega

theorem cL_toNat {b k : ℕ} (hb : b ≤ 425152) (hk : k < 832) : (cL v.X v.O b (i1 k)).toNat = (cI v.X v.O b (i1 k)).toNat / 16 := by
  show (IntOp.shrui .vector (cI v.X v.O b (i1 k)) 4#32).toNat = _
  simp [IntOp.shrui, Nat.shiftRight_eq_div_pow]

theorem cI_lt {b k : ℕ} (hb : b ≤ 425152) (hk : k < 832) : (cI v.X v.O b (i1 k)).toNat < 2600000 := by
  have hs := h.small (i2 ((b + k) / 26) ((b + k) % 26))
  rw [h.cI_toNat hb hk]; omega

/-- Every word the call reads names a row. -/
theorem inRange : InRange v.X v.O := by
  intro b hb p
  have hp : (p 0).val < 832 := lt01 p
  rw [eq_i1 p (p 0).val rfl, h.cL_toNat hb hp]
  have := h.cI_lt hb hp
  exact ⟨this, by omega⟩

/-- The row named for field `f` of row `r` of chunk `c`. -/
theorem cI_row {c r f : ℕ} (hc : c < 512) (hr : r < 32) (hf : f < 26) :
    (cI v.X v.O (832 * c) (i1 (26 * r + f))).toNat = rowOf x (i2 (32 * c + r) f) := by
  rw [h.cI_toNat (by omega) (by omega)]
  unfold rowOf
  rw [i2_val1, show (832 * c + (26 * r + f)) / 26 = 32 * c + r by omega, show (832 * c + (26 * r + f)) % 26 = f by omega,
    show (26 * r + f) % 26 = f by omega, Nat.mod_eq_of_lt hf]

omit h [FloatOps F] in
theorem inTail_iff (w : BitVec 32) (hw : w.toNat < 2600000) : inTail w = 1#1 ↔ 2599936 ≤ w.toNat := by
  have hi : w.toInt = w.toNat := BitVec.toInt_eq_toNat_of_lt (by omega)
  show BitVec.ofBool (BitVec.sle _ _) = _ ↔ _
  rw [BitVec.sle_eq_decide, hi, show (2599936#32 : BitVec 32).toInt = 2599936 by decide]
  by_cases hle : 2599936 ≤ w.toNat
  · rw [decide_eq_true (by omega)]; exact ⟨fun _ => hle, fun _ => rfl⟩
  · rw [decide_eq_false (by omega)]; exact ⟨fun h => absurd h (by decide), fun h => absurd h hle⟩

omit h [FloatOps F] in
theorem tailRow_eq (w : BitVec 32) (hw : w.toNat < 2600000) (hle : 2599936 ≤ w.toNat) : tailRow w = w.toNat - 2599936 := by
  obtain ⟨k, hk, rfl⟩ : ∃ k < 64, w = BitVec.ofNat 32 (2599936 + k) :=
    ⟨w.toNat - 2599936, by omega, by apply BitVec.eq_of_toNat_eq; rw [BitVec.toNat_ofNat]; omega⟩
  clear hw hle
  revert k
  decide +kernel

/-- What the call leaves. -/
theorem out_eq : v.out = hSpec x e l := by
  funext p
  have hp0 : (p 0).val < 16384 := lt0 p
  have hp1 : (p 1).val < 512 := lt1 p
  have hc : (p 0).val / 32 < 512 := by omega
  have hr : (p 0).val % 32 < 32 := Nat.mod_lt _ (by decide)
  have hp : 32 * ((p 0).val / 32) + (p 0).val % 32 = (p 0).val := by omega
  have q0 : ((i2 ((p 0).val % 32) (p 1).val : S32x512.Idx) 0).val = (p 0).val % 32 := by rw [i2_val0]; omega
  have q1 : ((i2 ((p 0).val % 32) (p 1).val : S32x512.Idx) 1).val = (p 1).val := by rw [i2_val1]; omega
  show fixF _ _ _ _ _ (i2 ((p 0).val % 32) (p 1).val) = _
  unfold fixF repF selF hSpec gRows
  simp only [q0, q1]
  by_cases h1 : (p 1).val < 416
  · have hf : (p 1).val / 16 < 26 := by omega
    have hrow := h.cI_row hc hr hf
    have hlt := rowOf_lt h.small (i2 (32 * ((p 0).val / 32) + (p 0).val % 32) ((p 1).val / 16))
    rw [hp] at hrow hlt
    rw [if_pos h1]
    by_cases ht : inTail (cI v.X v.O (832 * ((p 0).val / 32)) (i1 (26 * ((p 0).val % 32) + (p 1).val / 16))) = 1#1
    · have hle := (inTail_iff _ (by rw [hrow]; exact hlt)).1 ht
      rw [if_pos ⟨h1, ht, Or.inl (by omega)⟩, tailRow_eq _ (by rw [hrow]; exact hlt) hle, hrow, h.Tl _ _ (by omega) (by omega)]
      rw [hrow] at hle
      rw [show ∀ n, 2599936 ≤ n → 2599936 + (n - 2599936) = n by omega] <;> exact hle
    · have a0 : ((i2 (26 * ((p 0).val % 32) + (p 1).val / 16) ((p 1).val % 16) : S832x16.Idx) 0).val = 26 * ((p 0).val % 32) + (p 1).val / 16 := by
        rw [i2_val0]; omega
      have a1 : ((i2 (26 * ((p 0).val % 32) + (p 1).val / 16) ((p 1).val % 16) : S832x16.Idx) 1).val = (p 1).val % 16 := by
        rw [i2_val1]; omega
      have hnt : rowOf x (i2 (p 0).val ((p 1).val / 16)) < 2599936 := by
        by_contra hge
        exact ht ((inTail_iff _ (by rw [hrow]; exact hlt)).2 (by rw [hrow]; omega))
      rw [if_neg (fun hh => ht hh.2.1), if_pos ⟨h1, Or.inl hr⟩, a0, a1, hrow, h.E _ _ hnt (by omega)]
  · rw [if_neg (fun hh => h1 hh.1), if_neg (fun hh => h1 hh.1), if_neg h1]
    by_cases h2 : (p 1).val < 442
    · have hf : (p 1).val - 416 < 26 := by omega
      have hrow := h.cI_row hc hr hf
      have hlt := rowOf_lt h.small (i2 (32 * ((p 0).val / 32) + (p 0).val % 32) ((p 1).val - 416))
      rw [hp] at hrow hlt
      have a0 : ∀ t, ((i2 (26 * ((p 0).val % 32) + ((p 1).val - 416)) t : S832x16.Idx) 0).val = 26 * ((p 0).val % 32) + ((p 1).val - 416) := fun t => by
        rw [i2_val0]; omega
      have a1 : ∀ s t, ((i2 s t : S832x16.Idx) 1).val = t % 16 := fun s t => i2_val1 s t
      rw [if_pos ⟨by omega, h2, by omega⟩, if_pos h2, a0, a1, h.cL_toNat (by omega) (by omega), hrow, h.L _ _ (by omega) (by omega),
        Nat.mod_mod, Nat.div_add_mod]
    · rw [if_neg (fun hh => h2 hh.2.1), if_neg h2]
      rfl

end Reads

end Cert.Proof

end
-- ==== Proof.GatherReads.lean ====
/- What the host's operations hand the call, read off the program's arguments; and the precondition, read at an index. -/
module

public import proofs.«01_k».proof.Proof.GatherRun
public import proofs.«01_k».proof.Proof.GatherValue
public import proofs.«01_k».proof.Proof.Gen.Pre_in_vocab

@[expose] public section

set_option maxHeartbeats 400000

noncomputable section

namespace Cert.Proof

open Cert.KernelIdeal Cert.KernelIdeal.Gen
open Idealize.ShloMosaic
open Idealize.ShloMosaic.StableHlo

variable {F : FTy → Type} [FloatOps F]

/-- The precondition, read at an index: every index lies in its field's vocabulary. -/
theorem small_of_pre (x : IVec S16384x26 32) (e : Vec F S2600000x16 .f32) (l : Vec F S2600000x1 .f32) (a3 : Vec F S1 .f32) (a4 : Vec F S416x256 .f32)
    (a5 : Vec F S256 .f32) (a6 : Vec F S256x128 .f32) (a7 : Vec F S128 .f32) (a8 : Vec F S128x1 .f32) (a9 : Vec F S1 .f32)
    (h : Cert.Pre_in_vocab.fn (F := F) x e l a3 a4 a5 a6 a7 a8 a9 = fun _ => 1#1) (p : S16384x26.Idx) : (x p).toNat < 100000 := by
  haveI : Subsingleton Cert.Pre_in_vocab.S_.Idx := ⟨fun a b => funext fun i => i.elim0⟩
  have h1 := Host.reduce_andi_all _ _ _ _ (Shape.Idx.first Cert.Pre_in_vocab.Gen.h_S_) (congrFun h _) p
  pointwise at h1
  have h2 : BitVec.ofBool (BitVec.sle 0#32 (x p)) &&& BitVec.ofBool (BitVec.slt (x p) 100000#32) = 1#1 := h1
  have hb : ∀ a b : Bool, BitVec.ofBool a &&& BitVec.ofBool b = 1#1 → a = true ∧ b = true := by decide
  obtain ⟨ha, hb⟩ := hb _ _ h2
  rw [BitVec.sle_eq_decide] at ha
  rw [BitVec.slt_eq_decide] at hb
  have ha' := of_decide_eq_true ha
  have hb' := of_decide_eq_true hb
  rw [show (0#32 : BitVec 32).toInt = 0 by decide] at ha'
  rw [show (100000#32 : BitVec 32).toInt = 100000 by decide] at hb'
  rw [BitVec.toInt_eq_toNat_cond] at ha' hb'
  have := (x p).isLt
  split at ha' <;> omega

/-- The table of the fields' first rows, thirty-two times over. -/
theorem offs_eq : ∀ k : Fin 832, lit0 k = BitVec.ofNat 32 (100000 * (k.val % 26)) := by decide +kernel

variable (m : (ℓ : Loc nD τ sig) → Buf (Elt F) ℓ)

/-! ## What the host's operations leave alone -/

abbrev argLoc (d : Dev nD) (b : Ref sig .tc) : Loc nD τ sig := (d.tc : Thread nD τ).loc b

/-- What each line of operations writes. -/
def wA0 : List (Ref sig .tc) := [main_c, main_cst, main_cst_0, main_v0, main_v1]
def wA1 : List (Ref sig .tc) := [main_v3, main_v4, main_v5, main_v6]
def wB : List (Ref sig .tc) := [main_cst_1, main_v8, main_v9, main_v10, main_v11, main_v12, main_v13]

theorem Vu_kept (d : Dev nD) (r : Ref sig .tc) (h : r ∉ wA0) : Vu m d (Proc.devRef .tc r) = m (argLoc d r) :=
  after_of_writes_sub _ _ (forall_writes_sub_of_map rfl) h

theorem Vh_same (d : Dev nD) (r : Ref sig .tc) (h : r ∉ main_v2 :: wA1) : Vh m d (Proc.devRef .tc r) = Vu m d (Proc.devRef .tc r) := by
  simp only [List.mem_cons, not_or] at h
  exact (after_of_writes_sub (W := wA1) _ _ (forall_writes_sub_of_map rfl) (by simpa only [wA1, List.mem_cons, not_or] using h.2)).trans (Vt_ne m d _ (devRef_ne_of_ne h.1))

theorem Vh_kept (d : Dev nD) (r : Ref sig .tc) (h : r ∉ main_v2 :: (wA0 ++ wA1)) : Vh m d (Proc.devRef .tc r) = m (argLoc d r) := by
  simp only [List.mem_cons, List.mem_append, not_or] at h
  rw [Vh_same m d r (by simp only [List.mem_cons, not_or]; exact ⟨h.1, h.2.2⟩), Vu_kept m d r h.2.1]

theorem Vt_kept (d : Dev nD) (r : Ref sig .tc) (h : r ∉ main_v2 :: wA0) : Vt m d (Proc.devRef .tc r) = m (argLoc d r) := by
  simp only [List.mem_cons, not_or] at h
  rw [Vt_ne m d _ (devRef_ne_of_ne h.1), Vu_kept m d r h.2]

theorem Vm_kept (d : Dev nD) (r : Ref sig .tc) (h : r ∉ wB) : Vm m d (Proc.devRef .tc r) = Vg m d (Proc.devRef .tc r) :=
  after_of_writes_sub _ _ (forall_writes_sub_of_map rfl) h

theorem Vend_kept (d : Dev nD) (r : Ref sig .tc) (h : r ≠ main_v15) : Vend m d (Proc.devRef .tc r) = afterW (Vm m) d (Proc.devRef .tc r) :=
  after_of_writes_sub (W := [main_v15]) _ _ (forall_writes_sub_of_map rfl) fun h' => h (List.mem_singleton.1 h')

/-- A buffer nothing writes ends as it began. -/
theorem Vm_arg (d : Dev nD) (r : Ref sig .tc) (h : r ∉ main_v7 :: (wB ++ main_v2 :: (wA0 ++ wA1))) : Vm m d (Proc.devRef .tc r) = m (argLoc d r) := by
  rw [List.mem_cons, List.mem_append, not_or, not_or] at h
  rw [Vm_kept m d r h.2.1, Vg_ne m d _ (devRef_ne_of_ne h.1), Vh_kept m d r h.2.2]

theorem Vend_arg (d : Dev nD) (r : Ref sig .tc) (h : r ∉ main_v15 :: main_v14 :: main_v7 :: (wB ++ main_v2 :: (wA0 ++ wA1))) :
    Vend m d (Proc.devRef .tc r) = m (argLoc d r) := by
  rw [List.mem_cons, List.mem_cons, not_or, not_or] at h
  rw [Vend_kept m d r h.1, after_ne (Vm m) d _ (devRef_ne_of_ne h.2.1), Vm_arg m d r h.2.2]

/-! ## What the table's layout call leaves -/

/-- Every row but the last eight is written. -/
theorem mem_allMarks (p : S325000x128.Idx) (h : (p 0).val < 324992) : p ∈ allMarks := by
  simp only [allMarks, coreMarks, tileMarks, marks, Finset.mem_biUnion, Finset.mem_univ, true_and, Finset.mem_filter]
  refine ⟨⟨(p 0).val / 128 % 2, by omega⟩, ⟨(p 0).val / 128 % 32 / 2, by omega⟩, (p 0).val / 128 / 32, by omega, ?_⟩
  show (p 0).val / 128 = min (2 * ((p 0).val / 128 % 32 / 2) + (p 0).val / 128 % 2 + 32 * ((p 0).val / 128 / 32)) 2538
  omega

theorem eBefore_eq (d : Dev nD) (a b : ℕ) (ha : a < 2600000) (hb : b < 16) :
    eBefore m d (i2 b a) = (m (argLoc d main_arg1) : Vec F S2600000x16 .f32) (i2 a b) := by
  have e : eBefore m d = transpose S16x2600000 [1, 0] (m (argLoc d main_arg1) : Vec F S2600000x16 .f32) transposes_S2600000x16_S16x2600000_1_0 := by
    show Vu m d (Proc.devRef .tc (main_v1 : Ref sig .tc)) = _
    unfold Vu
    after_results_simp
    rfl
  rw [e]
  pointwise
  have h1 : ((i2 b a : S16x2600000.Idx) 1).val = a := (i2_val1 b a).trans (Nat.mod_eq_of_lt ha)
  have h0 : ((i2 b a : S16x2600000.Idx) 0).val = b := (i2_val0 b a).trans (Nat.mod_eq_of_lt hb)
  exact congrArg (m (argLoc d main_arg1)) (eq_i2 _ _ _ h1 h0)

/-- The table's rows, but the last sixty-four, laid out. -/
theorem uAfter_eq (d : Dev nD) (a b : ℕ) (ha : a < 2599936) (hb : b < 16) :
    uAfter m d (i2 ((a * 16 + b) / 128) ((a * 16 + b) % 128)) = (m (argLoc d main_arg1) : Vec F S2600000x16 .f32) (i2 a b) := by
  have h0 : ((i2 ((a * 16 + b) / 128) ((a * 16 + b) % 128) : S325000x128.Idx) 0).val = (a * 16 + b) / 128 := (i2_val0 _ _).trans (Nat.mod_eq_of_lt (by omega))
  have h1 : ((i2 ((a * 16 + b) / 128) ((a * 16 + b) % 128) : S325000x128.Idx) 1).val = (a * 16 + b) % 128 := (i2_val1 _ _).trans (Nat.mod_eq_of_lt (by omega))
  unfold uAfter
  rw [Finset.piecewise_eq_of_mem _ _ _ (mem_allMarks _ (by rw [h0]; omega))]
  unfold unE
  rw [h0, h1, show (a * 16 + b) % 128 % 16 = b by omega, show 8 * ((a * 16 + b) / 128) + (a * 16 + b) % 128 / 16 = a by omega]
  exact eBefore_eq m d a b (by omega) hb

/-! ## What the gather call reads -/

theorem insOf_reads (d : Dev nD) (hx : ∀ p, ((m (argLoc d main_arg0) : IVec S16384x26 32) p).toNat < 100000) :
    Reads (insOf m d) (m (argLoc d main_arg0)) (m (argLoc d main_arg1)) (m (argLoc d main_arg2)) where
  small := hx
  X := by
    intro k hk
    have e : (insOf m d).X = shapeCast S425984 (m (argLoc d main_arg0) : IVec S16384x26 32) shapeCasts_S16384x26_S425984 := by
      show Vh m d (Proc.devRef .tc (main_v0 : Ref sig .tc)) = _
      rw [Vh_same m d _ (by decide)]
      unfold Vu
      after_results_simp
      rfl
    rw [e]
    pointwise
    have h : ((i1 k : S425984.Idx) 0).val = k := (i1_val k).trans (Nat.mod_eq_of_lt hk)
    exact congrArg (m (argLoc d main_arg0)) (eq_i2 _ _ _ (congrArg (· / 26) h) (congrArg (· % 26) h))
  O := by
    intro k hk
    have e : (insOf m d).O = fun i => lit0 (S832.rowMajor i) := by
      show Vh m d (Proc.devRef .tc (main_c : Ref sig .tc)) = _
      rw [Vh_same m d _ (by decide)]
      unfold Vu
      after_results_simp
      rfl
    have h : (S832.rowMajor (i1 k)).val = k := (Shape.rowMajor_val_one _).trans (Nat.mod_eq_of_lt hk)
    rw [e]
    exact (offs_eq _).trans (by rw [h])
  E := by
    intro a b ha hb
    have e : (insOf m d).E = shapeCast S2600000x16 (Vt m d uRef : Vec F S325000x128 .f32) shapeCasts_S325000x128_S2600000x16 := by
      dsimp only [insOf]
      unfold Vh
      after_results_simp
      generalize Vt m d = V
      rfl
    rw [e, Vt_u]
    pointwise
    have h0 : ((i2 a b : S2600000x16.Idx) 0).val = a := (i2_val0 a b).trans (Nat.mod_eq_of_lt (by omega))
    have h1 : ((i2 a b : S2600000x16.Idx) 1).val = b := (i2_val1 a b).trans (Nat.mod_eq_of_lt hb)
    refine (congrArg (uAfter m d) (eq_i2 _ ((a * 16 + b) / 128) ((a * 16 + b) % 128) ?_ ?_)).trans (uAfter_eq m d a b ha hb)
    · show ((i2 a b : S2600000x16.Idx) 0).val / 8 = _
      rw [h0]; omega
    · show ((i2 a b : S2600000x16.Idx) 0).val % 8 * 16 + ((i2 a b : S2600000x16.Idx) 1).val = _
      rw [h0, h1]; omega
  L := by
    intro a b ha hb
    have e : (insOf m d).L = shapeCast S162500x16 (transpose S1x2600000 [1, 0] (m (argLoc d main_arg2) : Vec F S2600000x1 .f32) transposes_S2600000x1_S1x2600000_1_0) shapeCasts_S1x2600000_S162500x16 := by
      show Vh m d (Proc.devRef .tc (main_v5 : Ref sig .tc)) = _
      rw [← Vt_kept m d main_arg2 (by decide)]
      unfold Vh
      after_results_simp
      rfl
    rw [e]
    pointwise
    have h0 : ((i2 a b : S162500x16.Idx) 0).val = a := (i2_val0 a b).trans (Nat.mod_eq_of_lt ha)
    have h1 : ((i2 a b : S162500x16.Idx) 1).val = b := (i2_val1 a b).trans (Nat.mod_eq_of_lt hb)
    refine congrArg (m (argLoc d main_arg2)) (eq_i2 _ _ _ ?_ rfl)
    show ((i2 a b : S162500x16.Idx) 0).val * 16 + ((i2 a b : S162500x16.Idx) 1).val = _
    rw [h0, h1]; omega
  Tl := by
    intro a b ha hb
    have e : (insOf m d).Tl = extractStridedSlice S64x16 ![2599936, 0] (m (argLoc d main_arg1) : Vec F S2600000x16 .f32) slices_S2600000x16_S64x16_2599936_0 := by
      show Vh m d (Proc.devRef .tc (main_v6 : Ref sig .tc)) = _
      rw [← Vt_kept m d main_arg1 (by decide)]
      unfold Vh
      after_results_simp
    rw [e]
    pointwise
    have h0 : ((i2 a b : S64x16.Idx) 0).val = a := (i2_val0 a b).trans (Nat.mod_eq_of_lt ha)
    have h1 : ((i2 a b : S64x16.Idx) 1).val = b := (i2_val1 a b).trans (Nat.mod_eq_of_lt hb)
    refine congrArg (m (argLoc d main_arg1)) (eq_i2 _ _ _ ?_ h1)
    show 2599936 + ((i2 a b : S64x16.Idx) 0).val = _
    rw [h0]

end Cert.Proof

end
-- ==== Proof.RefValue.lean ====
/- The reference's result, entry by entry, from the rows it looks up. -/
module

public import proofs.«01_k».proof.Proof.RefRows
public import Idealize.ShloMosaic.Lib.Pointwise

@[expose] public section

set_option maxHeartbeats 400000

noncomputable section

namespace Cert.Proof

open Idealize.ShloMosaic

/-! ## One row, over the extended reals -/

/-- The sum over the embedding's columns of the square of the sum less the sum of the squares. -/
def rowInter (e : Fin 26 → Fin 16 → EReal) : EReal := ∑ d : Fin 16, ((∑ f : Fin 26, e f d) * (∑ f : Fin 26, e f d) - ∑ f : Fin 26, e f d * e f d)

/-- A dense layer. -/
def dense {K N : ℕ} (x : Fin K → EReal) (w : Fin K → Fin N → EReal) (b : Fin N → EReal) (j : Fin N) : EReal := max ((∑ k : Fin K, x k * w k j) + b j) 0

/-- The reference's result on one row. -/
def rowRef (half : EReal) (e : Fin 26 → Fin 16 → EReal) (l : Fin 26 → EReal) (lb b3 : EReal) (w1 : Fin 416 → Fin 256 → EReal) (b1 : Fin 256 → EReal)
    (w2 : Fin 256 → Fin 128 → EReal) (b2 : Fin 128 → EReal) (w3 : Fin 128 → EReal) : EReal :=
  (((∑ f : Fin 26, l f) + lb) + half * rowInter e)
    + ((∑ k : Fin 128, dense (dense (fun p : Fin 416 => e ⟨p.val / 16, by omega⟩ ⟨p.val % 16, by omega⟩) w1 b1) w2 b2 k * w3 k) + b3)

end Cert.Proof

namespace Cert.Proof.Ref

open Cert.ReferenceIdeal Cert.ReferenceIdeal.Gen
open Idealize.ShloMosaic

section Any

variable {F : FTy → Type} [FloatOps F]

/-- The pooled linear terms. -/
def linear (L : FVec F S16384x26x1 .f32) (a3 : FVec F S1 .f32) : FVec F S16384x1 .f32 :=
  addf (Host.reduceAdd L (constant S_ .f32 0x00000000#32) reducesTo_S16384x26x1_S16384x1_d1 h_S_) (broadcastInDim S16384x1 ![0, 1] bcast_S1x1_S16384x1_0_1 (broadcastInDim S1x1 ![1] bcast_S1_S1x1_1 a3))

/-- Half the pairwise interactions. -/
def inter (E : FVec F S16384x26x16 .f32) : FVec F S16384x1 .f32 :=
  mulf (broadcastInDim S16384x1 ![] bcast_S_S16384x1 (constant S_ .f32 0x3F000000#32)) (broadcastInDim S16384x1 ![0] bcast_S16384_S16384x1_0 (Host.reduceAdd (subf (mulf (Host.reduceAdd E (constant S_ .f32 0x00000000#32) reducesTo_S16384x26x16_S16384x16_d1 h_S_) (Host.reduceAdd E (constant S_ .f32 0x00000000#32) reducesTo_S16384x26x16_S16384x16_d1 h_S_)) (Host.reduceAdd (mulf E E) (constant S_ .f32 0x00000000#32) reducesTo_S16384x26x16_S16384x16_d1 h_S_)) (constant S_ .f32 0x00000000#32) reducesTo_S16384x16_S16384_d1 h_S_))

/-- The dense layers. -/
def layer1 (E : FVec F S16384x26x16 .f32) (a4 : FVec F S416x256 .f32) (a5 : FVec F S256 .f32) : FVec F S16384x256 .f32 :=
  maximumf (addf (Host.dotGeneral dot_S16384x416_S416x256_S16384x256_1_0_0_1_n_n none (shapeCast _ E shapeCasts_S16384x26x16_S16384x416) a4) (broadcastInDim S16384x256 ![0, 1] bcast_S1x256_S16384x256_0_1 (broadcastInDim S1x256 ![1] bcast_S256_S1x256_1 a5))) (broadcastInDim S16384x256 ![] bcast_S_S16384x256 (constant S_ .f32 0x00000000#32))
def layer2 (H : FVec F S16384x256 .f32) (a6 : FVec F S256x128 .f32) (a7 : FVec F S128 .f32) : FVec F S16384x128 .f32 :=
  maximumf (addf (Host.dotGeneral dot_S16384x256_S256x128_S16384x128_1_0_0_1_n_n none H a6) (broadcastInDim S16384x128 ![0, 1] bcast_S1x128_S16384x128_0_1 (broadcastInDim S1x128 ![1] bcast_S128_S1x128_1 a7))) (broadcastInDim S16384x128 ![] bcast_S_S16384x128 (constant S_ .f32 0x00000000#32))
def layer3 (H : FVec F S16384x128 .f32) (a8 : FVec F S128x1 .f32) (a9 : FVec F S1 .f32) : FVec F S16384x1 .f32 :=
  addf (Host.dotGeneral dot_S16384x128_S128x1_S16384x1_1_0_0_1_n_n none H a8) (broadcastInDim S16384x1 ![0, 1] bcast_S1x1_S16384x1_0_1 (broadcastInDim S1x1 ![1] bcast_S1_S1x1_1 a9))

/-- The result from the looked-up rows. -/
def total (E : FVec F S16384x26x16 .f32) (L : FVec F S16384x26x1 .f32) (a3 : FVec F S1 .f32) (a4 : FVec F S416x256 .f32) (a5 : FVec F S256 .f32)
    (a6 : FVec F S256x128 .f32) (a7 : FVec F S128 .f32) (a8 : FVec F S128x1 .f32) (a9 : FVec F S1 .f32) : FVec F S16384 .f32 :=
  shapeCast S16384 (addf (addf (linear L a3) (inter E)) (layer3 (layer2 (layer1 E a4 a5) a6 a7) a8 a9)) shapeCasts_S16384x1_S16384

set_option maxRecDepth 8192 in
theorem res_eq (m : (ℓ : Loc nD τ sig) → Buf (Elt F) ℓ) (c : Dev nD) :
    Value.res_main_v35 m c = total (rowsE (m ((c.tc : Thread nD τ).loc main_arg0)) (m ((c.tc : Thread nD τ).loc main_arg1))) (rowsL (m ((c.tc : Thread nD τ).loc main_arg0)) (m ((c.tc : Thread nD τ).loc main_arg2)))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v35 total linear inter layer3 layer2 layer1 rowsE rowsL inside starts words
  rfl

end Any

theorem linear_apply (L : FVec Ideal S16384x26x1 .f32) (a3 : FVec Ideal S1 .f32) (r : Fin 16384) (z : Fin 1) :
    linear L a3 (ix2 r z) = (∑ f : Fin 26, L (ix3 r f 0)) + a3 (ix1 0) := by
  pointwise [linear]

theorem inter_apply (E : FVec Ideal S16384x26x16 .f32) (r : Fin 16384) (z : Fin 1) :
    inter E (ix2 r z) = Ideal.ofBits .f32 0x3F000000#32 * rowInter fun f d => E (ix3 r f d) := by
  pointwise [inter]
  rfl

theorem layer1_apply (E : FVec Ideal S16384x26x16 .f32) (a4 : FVec Ideal S416x256 .f32) (a5 : FVec Ideal S256 .f32) (r : Fin 16384) (j : Fin 256) :
    layer1 E a4 a5 (ix2 r j) = dense (fun p : Fin 416 => E (ix3 r ⟨p.val / 16, by omega⟩ ⟨p.val % 16, by omega⟩)) (fun k j => a4 (ix2 k j)) (fun j => a5 (ix1 j)) j := by
  pointwise [layer1]
  rfl

theorem layer2_apply (H : FVec Ideal S16384x256 .f32) (a6 : FVec Ideal S256x128 .f32) (a7 : FVec Ideal S128 .f32) (r : Fin 16384) (j : Fin 128) :
    layer2 H a6 a7 (ix2 r j) = dense (fun p => H (ix2 r p)) (fun k j => a6 (ix2 k j)) (fun j => a7 (ix1 j)) j := by
  pointwise [layer2]
  rfl

theorem layer3_apply (H : FVec Ideal S16384x128 .f32) (a8 : FVec Ideal S128x1 .f32) (a9 : FVec Ideal S1 .f32) (r : Fin 16384) (z : Fin 1) :
    layer3 H a8 a9 (ix2 r z) = (∑ k : Fin 128, H (ix2 r k) * a8 (ix2 k z)) + a9 (ix1 0) := by
  pointwise [layer3]

/-- The result's entry, from its row of the looked-up embeddings and linear terms. -/
theorem total_apply (E : FVec Ideal S16384x26x16 .f32) (L : FVec Ideal S16384x26x1 .f32) (a3 : FVec Ideal S1 .f32) (a4 : FVec Ideal S416x256 .f32)
    (a5 : FVec Ideal S256 .f32) (a6 : FVec Ideal S256x128 .f32) (a7 : FVec Ideal S128 .f32) (a8 : FVec Ideal S128x1 .f32) (a9 : FVec Ideal S1 .f32) (r : Fin 16384) :
    total E L a3 a4 a5 a6 a7 a8 a9 (ix1 r)
      = rowRef (Ideal.ofBits .f32 0x3F000000#32) (fun f d => E (ix3 r f d)) (fun f => L (ix3 r f 0)) (a3 (ix1 0)) (a9 (ix1 0))
          (fun k j => a4 (ix2 k j)) (fun j => a5 (ix1 j)) (fun k j => a6 (ix2 k j)) (fun j => a7 (ix1 j)) (fun k => a8 (ix2 k 0)) := by
  pointwise [total, linear_apply, inter_apply, layer3_apply]
  simp only [layer2_apply, layer1_apply]
  rfl

end Cert.Proof.Ref

end
-- ==== Proof.RowEq.lean ====
/- One row of the kernel's dense layers is one row of the reference, over the extended reals. -/
module

public import proofs.«01_k».proof.Proof.RefValue

@[expose] public section

set_option maxHeartbeats 400000

noncomputable section

namespace Cert.Proof

open Idealize.ShloMosaic

/-- The kernel's result on one row `h`: the products with the two tables in the place of the reference's sums, and the two last biases added first. -/
def rowKer (half : EReal) (h : Fin 512 → EReal) (sp : Fin 512 → Fin 16 → EReal) (mp : Fin 512 → Fin 2 → EReal) (b : EReal) (w1 : Fin 512 → Fin 256 → EReal)
    (b1 : Fin 256 → EReal) (w2 : Fin 256 → Fin 128 → EReal) (b2 : Fin 128 → EReal) (w3 : Fin 128 → EReal) : EReal :=
  (((∑ k : Fin 128, dense (dense h w1 b1) w2 b2 k * w3 k)
      + half * ((∑ d : Fin 16, (∑ p : Fin 512, h p * sp p d) * (∑ p : Fin 512, h p * sp p d)) - ∑ p : Fin 512, h p * h p * mp p 0))
    + ∑ p : Fin 512, h p * mp p 1) + b

/-! ## Sums -/

/-- A sum over the padded columns of terms that vanish past column 416. -/
theorem sum_low (F : Fin 512 → EReal) (G : Fin 416 → EReal) (h0 : ∀ p : Fin 416, F ⟨p.val, by omega⟩ = G p) (h1 : ∀ p : Fin 512, 416 ≤ p.val → F p = 0) :
    ∑ p : Fin 512, F p = ∑ p : Fin 416, G p := by
  refine (Fin.sum_univ_add (a := 416) (b := 96) (F : Fin (416 + 96) → EReal)).trans ?_
  rw [Finset.sum_eq_zero (s := Finset.univ) (f := fun i : Fin 96 => F (Fin.natAdd 416 i)) (fun i _ => h1 _ (by simp)), add_zero]
  exact Finset.sum_congr rfl fun p _ => h0 p

/-- A sum over the padded columns of terms that vanish but at columns 416 to 441. -/
theorem sum_mid (F : Fin 512 → EReal) (G : Fin 26 → EReal) (h0 : ∀ p : Fin 512, p.val < 416 → F p = 0) (h1 : ∀ f : Fin 26, F ⟨416 + f.val, by omega⟩ = G f)
    (h2 : ∀ p : Fin 512, 442 ≤ p.val → F p = 0) : ∑ p : Fin 512, F p = ∑ f : Fin 26, G f := by
  refine (Fin.sum_univ_add (a := 416) (b := 96) (F : Fin (416 + 96) → EReal)).trans ?_
  rw [Finset.sum_eq_zero (s := Finset.univ) (f := fun i : Fin 416 => F (Fin.castAdd 96 i)) (fun i _ => h0 _ (by simp)), zero_add]
  refine (Fin.sum_univ_add (a := 26) (b := 70) (fun i : Fin (26 + 70) => F (Fin.natAdd 416 i))).trans ?_
  rw [Finset.sum_eq_zero (s := Finset.univ) (f := fun i : Fin 70 => F (Fin.natAdd 416 (Fin.natAdd 26 i : Fin (26 + 70)))) (fun i _ => h2 _ (by simp; omega)), add_zero]
  exact Finset.sum_congr rfl fun p _ => h1 p

/-- A sum over the 416 columns, field by field. -/
theorem sum_fields (g : Fin 26 → Fin 16 → EReal) : ∑ p : Fin 416, g ⟨p.val / 16, by omega⟩ ⟨p.val % 16, by omega⟩ = ∑ f : Fin 26, ∑ d : Fin 16, g f d :=
  (Fintype.sum_equiv (finProdFinEquiv (m := 26) (n := 16)).symm _ (fun q => g q.1 q.2) (fun _ => rfl)).trans (Fintype.sum_prod_type _)

theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- Nonnegative terms can be taken away one by one or all together. -/
theorem sum_sub {ι : Type} [Fintype ι] (a b : ι → EReal) (hb : ∀ i, 0 ≤ b i) : ∑ i, (a i - b i) = (∑ i, a i) - ∑ i, b i := by
  classical
  have h : ∀ s : Finset ι, ∑ i ∈ s, -b i = -∑ i ∈ s, b i := by
    intro s
    refine Finset.induction_on s (by simp) fun i s hi ih => ?_
    have h1 : b i ≠ ⊥ := fun e => absurd (hb i) (by rw [e]; simp)
    have h2 : ∑ j ∈ s, b j ≠ ⊥ := fun e => absurd (Finset.sum_nonneg (s := s) fun j _ => hb j) (by rw [e]; simp)
    rw [Finset.sum_insert hi, Finset.sum_insert hi, ih, EReal.neg_add (.inl h1) (.inr h2), sub_eq_add_neg]
  simp only [sub_eq_add_neg]
  rw [Finset.sum_add_distrib, h]

/-! ## The row -/

/-- Where the row holds the looked-up embeddings, then the linear terms, then zeros, and the tables hold what sums them, the kernel's row is the reference's. -/
theorem rowKer_eq (half : EReal) (e : Fin 26 → Fin 16 → EReal) (l : Fin 26 → EReal) (lb b3 : EReal) (w1 : Fin 416 → Fin 256 → EReal) (b1 : Fin 256 → EReal)
    (w2 : Fin 256 → Fin 128 → EReal) (b2 : Fin 128 → EReal) (w3 : Fin 128 → EReal) (h : Fin 512 → EReal) (sp : Fin 512 → Fin 16 → EReal)
    (mp : Fin 512 → Fin 2 → EReal) (w1' : Fin 512 → Fin 256 → EReal)
    (he : ∀ p : Fin 416, h ⟨p.val, by omega⟩ = e ⟨p.val / 16, by omega⟩ ⟨p.val % 16, by omega⟩) (hl : ∀ f : Fin 26, h ⟨416 + f.val, by omega⟩ = l f)
    (hsp : ∀ p d, sp p d = if p.val < 416 ∧ p.val % 16 = d.val then 1 else 0) (hm0 : ∀ p, mp p 0 = if p.val < 416 then 1 else 0)
    (hm1 : ∀ p, mp p 1 = if 416 ≤ p.val ∧ p.val < 442 then 1 else 0)
    (hw : ∀ (p : Fin 416) j, w1' ⟨p.val, by omega⟩ j = w1 p j) (hw0 : ∀ (p : Fin 512) j, 416 ≤ p.val → w1' p j = 0) :
    rowKer half h sp mp (b3 + lb) w1' b1 w2 b2 w3 = rowRef half e l lb b3 w1 b1 w2 b2 w3 := by
  have es : ∀ d : Fin 16, ∑ p : Fin 512, h p * sp p d = ∑ f : Fin 26, e f d := by
    intro d
    refine (sum_low _ (fun p => e ⟨p.val / 16, by omega⟩ ⟨p.val % 16, by omega⟩ * if p.val % 16 = d.val then 1 else 0) (fun p => ?_) (fun p hp => ?_)).trans ?_
    · rw [he, hsp]; simp [p.isLt]
    · rw [hsp, if_neg (by omega), mul_zero]
    · refine (sum_fields fun f d' => e f d' * if d'.val = d.val then 1 else 0).trans (Finset.sum_congr rfl fun f _ => ?_)
      simp [← Fin.ext_iff]
  have e0 : ∑ p : Fin 512, h p * h p * mp p 0 = ∑ d : Fin 16, ∑ f : Fin 26, e f d * e f d := by
    refine (sum_low _ (fun p => e ⟨p.val / 16, by omega⟩ ⟨p.val % 16, by omega⟩ * e ⟨p.val / 16, by omega⟩ ⟨p.val % 16, by omega⟩) (fun p => ?_) (fun p hp => ?_)).trans ?_
    · rw [he, hm0, if_pos p.isLt, mul_one]
    · rw [hm0, if_neg (by omega), mul_zero]
    · exact (sum_fields fun f d => e f d * e f d).trans Finset.sum_comm
  have e1 : ∑ p : Fin 512, h p * mp p 1 = ∑ f : Fin 26, l f := by
    refine sum_mid _ _ (fun p hp => ?_) (fun f => ?_) (fun p hp => ?_)
    · rw [hm1, if_neg (by omega), mul_zero]
    · rw [hl, hm1, if_pos ⟨by simp, by simp; omega⟩, mul_one]
    · rw [hm1, if_neg (by omega), mul_zero]
  have ed : dense h w1' b1 = dense (fun p : Fin 416 => e ⟨p.val / 16, by omega⟩ ⟨p.val % 16, by omega⟩) w1 b1 := by
    funext j
    unfold dense
    rw [sum_low (fun p => h p * w1' p j) (fun p => e ⟨p.val / 16, by omega⟩ ⟨p.val % 16, by omega⟩ * w1 p j) (fun p => by rw [he, hw])
      (fun p hp => by rw [hw0 p j hp, mul_zero])]
  unfold rowKer rowRef rowInter
  rw [e0, e1, ed, sum_sub _ _ fun d => Finset.sum_nonneg fun f _ => sq_nonneg' _]
  simp only [es]
  abel

end Cert.Proof

end
-- ==== Proof.LayersRow.lean ====
/- What the dense layers leave of a block, row by row, over the extended reals. -/
module

public import proofs.«01_k».proof.Proof.LayersBody
public import proofs.«01_k».proof.Proof.RowEq

@[expose] public section

set_option maxHeartbeats 400000

noncomputable section

namespace Cert.Proof

open Cert.KernelIdeal Cert.KernelIdeal.Gen
open Idealize.ShloMosaic

/-! ## A block's row -/

section Row

variable (x : Lay Ideal) (r : Fin 1024)

theorem lin_apply (z : Fin 1) : k2_pay3 x.h x.mp (ix2 r z) = ∑ p : Fin 512, x.h (ix2 r p) * x.mp (ix2 p 1) := by
  pointwise [k2_pay3, k2_pay2]

theorem pair_apply (z : Fin 1) : k2_pay4 x.h x.sp x.mp (ix2 r z)
    = Ideal.ofBits .f32 0x3F000000#32 * ((∑ d : Fin 16, (∑ p : Fin 512, x.h (ix2 r p) * x.sp (ix2 p d)) * (∑ p : Fin 512, x.h (ix2 r p) * x.sp (ix2 p d)))
        - ∑ p : Fin 512, x.h (ix2 r p) * x.h (ix2 r p) * x.mp (ix2 p 0)) := by
  pointwise [k2_pay4, k2_pay2]

theorem deep_apply (j : Fin 128) : k2_pay5 x.h x.w1 x.b1 x.w2 x.b2 (ix2 r j)
    = dense (dense (fun p => x.h (ix2 r p)) (fun p j => x.w1 (ix2 p j)) (fun j => x.b1 (ix2 0 j))) (fun p j => x.w2 (ix2 p j)) (fun j => x.b2 (ix2 0 j)) j := by
  pointwise [k2_pay5, k2_pay2]
  rfl

theorem y_apply : x.y (ix2 r (0 : Fin 1))
    = rowKer (Ideal.ofBits .f32 0x3F000000#32) (fun p => x.h (ix2 r p)) (fun p d => x.sp (ix2 p d)) (fun p d => x.mp (ix2 p d)) (x.b3 (ix2 0 0))
        (fun p j => x.w1 (ix2 p j)) (fun j => x.b1 (ix2 0 j)) (fun p j => x.w2 (ix2 p j)) (fun j => x.b2 (ix2 0 j)) (fun p => x.w3 (ix2 p 0)) := by
  unfold Lay.y
  pointwise [k2_pay1, lin_apply, pair_apply, deep_apply]
  rfl

end Row

end Cert.Proof

end
-- ==== Proof.LayersTables.lean ====
/- The two tables the dense layers sum with, entry by entry. -/
module

public import proofs.«01_k».proof.Proof.Step
public import Idealize.ShloMosaic.Lib.Pointwise

@[expose] public section

noncomputable section

namespace Cert.Proof

open Cert.KernelIdeal Cert.KernelIdeal.Gen
open Idealize.ShloMosaic

theorem sum_table : ∀ k : Fin 8192, lit1 k = if k.val / 16 < 416 ∧ k.val / 16 % 16 = k.val % 16 then 0x3F800000#32 else 0#32 := by decide +kernel

theorem pick_table : ∀ k : Fin 1024, lit2 k = if k.val % 2 = 0 then (if k.val / 2 < 416 then 0x3F800000#32 else 0#32)
    else if 416 ≤ k.val / 2 ∧ k.val / 2 < 442 then 0x3F800000#32 else 0#32 := by decide +kernel

theorem one_bits : Ideal.ofBits .f32 0x3F800000#32 = 1 := by
  simp [Ideal.ofBits, Ideal.ieee, -EReal.coe_mul]
  norm_num

/-- Column `d` of the first table picks the columns of that remainder among the first 416. -/
theorem sum_entry (k : Fin 8192) (p d : ℕ) (hd : d < 16) (h : k.val = p * 16 + d) :
    Ideal.ofBits .f32 (lit1 k) = if p < 416 ∧ p % 16 = d then 1 else 0 := by
  rw [sum_table, h, show (p * 16 + d) / 16 = p by omega, show (p * 16 + d) % 16 = d by omega]
  split
  · exact one_bits
  · exact Ideal.ofBits_zero_f32

/-- Column 0 of the second table picks the first 416 columns; column 1 the next 26. -/
theorem pick_entry (k : Fin 1024) (p d : ℕ) (hd : d < 2) (h : k.val = p * 2 + d) :
    Ideal.ofBits .f32 (lit2 k) = if d = 0 then (if p < 416 then 1 else 0) else if 416 ≤ p ∧ p < 442 then 1 else 0 := by
  rw [pick_table, h, show (p * 2 + d) / 2 = p by omega, show (p * 2 + d) % 2 = d by omega]
  split <;> split
  all_goals first | exact one_bits | exact Ideal.ofBits_zero_f32

end Cert.Proof

end
-- ==== Proof.LayersValue.lean ====
/- What the dense layers' call reads, and what it leaves: the reference's rows. -/
module

public import proofs.«01_k».proof.Proof.GatherReads
public import proofs.«01_k».proof.Proof.LayersRow
public import proofs.«01_k».proof.Proof.LayersTables

@[expose] public section

set_option maxHeartbeats 400000

noncomputable section

namespace Cert.Proof

open Cert.KernelIdeal Cert.KernelIdeal.Gen
open Idealize.ShloMosaic
open Idealize.ShloMosaic.StableHlo
open Idealize.ShloMosaic.Pipeline

/-! ## The blocks -/

section Blocks

variable {F : FTy → Type} [FloatOps F]
variable (V : (d : Dev nD) → (b : Ref sig .tc) → Buf (Elt F) ((d.tc : Thread nD τ).loc b)) (c : Dev nD) (t : Fin cfg2.N)

theorem blk_h (r : Fin 1024) (p : Fin 512) : (layAt V c t).h (ix2 r p) = V c main_v7 (i2 (t.val * 1024 + r.val) p.val) := by
  have e : win2_0.index t = ![(grid2.coords t 0).val, 0] := (by decide +kernel : ∀ t : Fin grid2.N, win2_0.index t = ![(grid2.coords t 0).val, 0]) t
  have e' : (grid2.coords t 0).val = t.val := (by decide +kernel : ∀ t : Fin grid2.N, (grid2.coords t 0).val = t.val) t
  show V c main_v7 ((win2_0.blk t).view.emb (ix2 r p)) = _
  refine congrArg (V c main_v7) (eq_i2 _ _ _ ?_ ?_) <;> blk_simp [e, e']

theorem blk_w1 : (layAt V c t).w1 = V c main_v9 :=
  funext fun y => congrArg (V c main_v9) (ext2 (p := (win2_1.blk t).view.emb y) (by blk_simp [show win2_1.index t = ![0, 0] from rfl]) (by blk_simp [show win2_1.index t = ![0, 0] from rfl]))
theorem blk_b1 : (layAt V c t).b1 = V c main_v10 :=
  funext fun y => congrArg (V c main_v10) (ext2 (p := (win2_2.blk t).view.emb y) (by blk_simp [show win2_2.index t = ![0, 0] from rfl]) (by blk_simp [show win2_2.index t = ![0, 0] from rfl]))
theorem blk_w2 : (layAt V c t).w2 = V c main_arg6 :=
  funext fun y => congrArg (V c main_arg6) (ext2 (p := (win2_3.blk t).view.emb y) (by blk_simp [show win2_3.index t = ![0, 0] from rfl]) (by blk_simp [show win2_3.index t = ![0, 0] from rfl]))
theorem blk_b2 : (layAt V c t).b2 = V c main_v11 :=
  funext fun y => congrArg (V c main_v11) (ext2 (p := (win2_4.blk t).view.emb y) (by blk_simp [show win2_4.index t = ![0, 0] from rfl]) (by blk_simp [show win2_4.index t = ![0, 0] from rfl]))
theorem blk_w3 : (layAt V c t).w3 = V c main_arg8 :=
  funext fun y => congrArg (V c main_arg8) (ext2 (p := (win2_5.blk t).view.emb y) (by blk_simp [show win2_5.index t = ![0, 0] from rfl]) (by blk_simp [show win2_5.index t = ![0, 0] from rfl]))
theorem blk_b3 : (layAt V c t).b3 = V c main_v13 :=
  funext fun y => congrArg (V c main_v13) (ext2 (p := (win2_6.blk t).view.emb y) (by blk_simp [show win2_6.index t = ![0, 0] from rfl]) (by blk_simp [show win2_6.index t = ![0, 0] from rfl]))
theorem blk_sp : (layAt V c t).sp = V c main_cst :=
  funext fun y => congrArg (V c main_cst) (ext2 (p := (win2_7.blk t).view.emb y) (by blk_simp [show win2_7.index t = ![0, 0] from rfl]) (by blk_simp [show win2_7.index t = ![0, 0] from rfl]))
theorem blk_mp : (layAt V c t).mp = V c main_cst_0 :=
  funext fun y => congrArg (V c main_cst_0) (ext2 (p := (win2_8.blk t).view.emb y) (by blk_simp [show win2_8.index t = ![0, 0] from rfl]) (by blk_simp [show win2_8.index t = ![0, 0] from rfl]))

end Blocks

/-! ## The arrays the call reads -/

section Arrays

variable (m : (ℓ : Loc nD τ sig) → Buf (Elt Ideal) ℓ) (d : Dev nD)

/-- The program's floating-point arguments. -/
abbrev argE : FVec Ideal S2600000x16 .f32 := m (argLoc d main_arg1)
abbrev argL : FVec Ideal S2600000x1 .f32 := m (argLoc d main_arg2)
abbrev argLb : FVec Ideal S1 .f32 := m (argLoc d main_arg3)
abbrev argW1 : FVec Ideal S416x256 .f32 := m (argLoc d main_arg4)
abbrev argB1 : FVec Ideal S256 .f32 := m (argLoc d main_arg5)
abbrev argW2 : FVec Ideal S256x128 .f32 := m (argLoc d main_arg6)
abbrev argB2 : FVec Ideal S128 .f32 := m (argLoc d main_arg7)
abbrev argW3 : FVec Ideal S128x1 .f32 := m (argLoc d main_arg8)
abbrev argB3 : FVec Ideal S1 .f32 := m (argLoc d main_arg9)

theorem Vg_arg (r : Ref sig .tc) (h : r ∉ main_v7 :: main_v2 :: (wA0 ++ wA1)) : Vg m d (Proc.devRef .tc r) = m (argLoc d r) := by
  rw [List.mem_cons, not_or] at h
  rw [Vg_ne m d _ (devRef_ne_of_ne h.1), Vh_kept m d r h.2]

theorem at_w1 (p : Fin 512) (j : Fin 256) : (show FVec Ideal S512x256 .f32 from Vm m d (Proc.devRef .tc (main_v9 : Ref sig .tc))) (ix2 p j)
    = if h : p.val < 416 then argW1 m d (ix2 ⟨p.val, h⟩ j) else 0 := by
  unfold Vm
  after_results_simp
  pointwise
  exact dite_congr rfl (fun _ => congrFun (Vg_arg m d main_arg4 (by decide)) _) (fun _ => rfl)

theorem at_b1 (j : Fin 256) : (show FVec Ideal S1x256 .f32 from Vm m d (Proc.devRef .tc (main_v10 : Ref sig .tc))) (ix2 0 j) = argB1 m d (ix1 j) := by
  unfold Vm
  after_results_simp
  pointwise
  rw [Vg_arg m d _ (by decide)]

theorem at_b2 (j : Fin 128) : (show FVec Ideal S1x128 .f32 from Vm m d (Proc.devRef .tc (main_v11 : Ref sig .tc))) (ix2 0 j) = argB2 m d (ix1 j) := by
  unfold Vm
  after_results_simp
  pointwise
  rw [Vg_arg m d _ (by decide)]

theorem at_b3 : (show FVec Ideal S1x1 .f32 from Vm m d (Proc.devRef .tc (main_v13 : Ref sig .tc))) (ix2 0 0) = argB3 m d (ix1 0) + argLb m d (ix1 0) := by
  unfold Vm
  after_results_simp
  pointwise
  rw [Vg_arg m d _ (by decide), Vg_arg m d _ (by decide)]

theorem at_sp : (Vm m d (Proc.devRef .tc (main_cst : Ref sig .tc)) : FVec Ideal S512x16 .f32) = fun i => Ideal.ofBits .f32 (lit1 (S512x16.rowMajor i)) := by
  rw [Vm_kept m d _ (by decide), Vg_ne m d _ (devRef_ne_of_ne (by decide)), Vh_same m d _ (by decide)]
  unfold Vu
  after_results_simp
  rfl

theorem at_mp : (Vm m d (Proc.devRef .tc (main_cst_0 : Ref sig .tc)) : FVec Ideal S512x2 .f32) = fun i => Ideal.ofBits .f32 (lit2 (S512x2.rowMajor i)) := by
  rw [Vm_kept m d _ (by decide), Vg_ne m d _ (devRef_ne_of_ne (by decide)), Vh_same m d _ (by decide)]
  unfold Vu
  after_results_simp
  rfl

variable (hx : ∀ p, ((m (argLoc d main_arg0) : IVec S16384x26 32) p).toNat < 100000)
include hx

theorem at_h : (Vm m d (Proc.devRef .tc (main_v7 : Ref sig .tc)) : FVec Ideal S16384x512 .f32) = Ref.hSpec (m (argLoc d main_arg0)) (argE m d) (argL m d) := by
  rw [Vm_kept m d _ (by decide)]
  exact (Vg_h m d).trans (insOf_reads m d hx).out_eq

/-! ## The result's rows -/

/-- The row of the tables that a field's word looks up. -/
abbrev look (r : Fin 16384) (f : Fin 26) : ℕ := Ref.rowOf (m (argLoc d main_arg0) : IVec S16384x26 32) (i2 r.val f.val)

theorem layersY_row (r : Fin 16384) : layersY (ofW (Vm m)) d (ix2 r (0 : Fin 1))
    = rowRef (Ideal.ofBits .f32 0x3F000000#32) (fun f k => argE m d (i2 (look m d r f) k.val)) (fun f => argL m d (i2 (look m d r f) 0)) (argLb m d (ix1 0)) (argB3 m d (ix1 0))
        (fun k j => argW1 m d (ix2 k j)) (fun j => argB1 m d (ix1 j)) (fun k j => argW2 m d (ix2 k j)) (fun j => argB2 m d (ix1 j)) (fun k => argW3 m d (ix2 k 0)) := by
  have hr : r.val / 1024 < 16 := by omega
  have hq : r.val % 1024 < 1024 := Nat.mod_lt _ (by decide)
  have hh : ∀ p : Fin 512, (layAt (ofW (Vm m)) d ⟨r.val / 1024, hr⟩).h (ix2 ⟨r.val % 1024, hq⟩ p)
      = Ref.hSpec (m (argLoc d main_arg0)) (argE m d) (argL m d) (i2 r.val p.val) := fun p =>
    (blk_h (ofW (Vm m)) d ⟨r.val / 1024, hr⟩ ⟨r.val % 1024, hq⟩ p).trans
      ((congrFun (at_h m d hx) _).trans (congrArg _ (by congr 1; show r.val / 1024 * 1024 + r.val % 1024 = r.val; omega)))
  have v0 : ∀ p : Fin 512, ((i2 r.val p.val : Cert.KernelIdeal.S16384x512.Idx) 0).val = r.val := fun p => Nat.mod_eq_of_lt r.isLt
  have v1 : ∀ p : Fin 512, ((i2 r.val p.val : Cert.KernelIdeal.S16384x512.Idx) 1).val = p.val := fun p => Nat.mod_eq_of_lt p.isLt
  refine Eq.trans (congrArg (layAt (ofW (Vm m)) d ⟨r.val / 1024, hr⟩).y (eq_i2 (ix2 (⟨r.val % 1024, hq⟩ : Fin 1024) (0 : Fin 1)) _ _ rfl rfl).symm) ?_
  rw [y_apply, blk_w1, blk_b1, blk_w2, blk_b2, blk_w3, blk_b3, blk_sp, blk_mp]
  have hb3 : ofW (Vm m) d main_v13 (ix2 0 0) = argB3 m d (ix1 0) + argLb m d (ix1 0) := at_b3 m d
  have hb1 : (fun j : Fin 256 => ofW (Vm m) d main_v10 (ix2 0 j)) = fun j => argB1 m d (ix1 j) := funext fun j => at_b1 m d j
  have hb2 : (fun j : Fin 128 => ofW (Vm m) d main_v11 (ix2 0 j)) = fun j => argB2 m d (ix1 j) := funext fun j => at_b2 m d j
  have hw2 : ofW (Vm m) d main_arg6 = argW2 m d := Vm_arg m d _ (by decide)
  have hw3 : ofW (Vm m) d main_arg8 = argW3 m d := Vm_arg m d _ (by decide)
  rw [hb3, hb1, hb2, hw2, hw3]
  refine rowKer_eq _ _ _ _ _ _ _ _ _ _ _ _ _ _ (fun p => ?_) (fun f => ?_) (fun p k => ?_) (fun p => ?_) (fun p => ?_) (fun p j => ?_) (fun p j hp => ?_)
  · refine (hh _).trans ?_
    unfold Ref.hSpec
    rw [v1, v0, if_pos p.isLt]
  · refine (hh _).trans ?_
    unfold Ref.hSpec
    rw [v1, v0, if_neg (by simp), if_pos (by simp; omega)]
    simp
  · exact (congrFun (at_sp m d) _).trans (sum_entry _ _ _ k.isLt (Shape.rowMajor_val_two _))
  · exact (congrFun (at_mp m d) _).trans ((pick_entry _ p.val 0 (by decide) (Shape.rowMajor_val_two _)).trans (if_pos rfl))
  · exact (congrFun (at_mp m d) _).trans ((pick_entry _ p.val 1 (by decide) (Shape.rowMajor_val_two _)).trans (if_neg (by decide)))
  · exact (at_w1 m d _ j).trans (dif_pos p.isLt)
  · exact (at_w1 m d p j).trans (dif_neg (by omega))

/-- What the program leaves in its result is what the reference computes. -/
theorem result_eq : Vend m d (Proc.devRef .tc (main_v15 : Ref sig .tc))
    = Ref.total (Ref.rowsE (m (argLoc d main_arg0)) (argE m d)) (Ref.rowsL (m (argLoc d main_arg0)) (argL m d)) (argLb m d) (argW1 m d) (argB1 m d) (argW2 m d)
        (argB2 m d) (argW3 m d) (argB3 m d) := by
  have e : Vend m d (Proc.devRef .tc (main_v15 : Ref sig .tc)) = shapeCast S16384 (layersY (ofW (Vm m)) d) shapeCasts_S16384x1_S16384 := by
    unfold Vend
    after_results_simp
    exact congrArg (fun y : FVec Ideal S16384x1 .f32 => shapeCast S16384 y shapeCasts_S16384x1_S16384) (after_out (Vm m) d)
  refine e.trans (funext fun i => ?_)
  obtain ⟨r, rfl⟩ : ∃ r : Fin 16384, i = ix1 r := ⟨i 0, ext1 rfl⟩
  have hE : (fun (f : Fin 26) (k : Fin 16) => Ref.rowsE (m (argLoc d main_arg0)) (argE m d) (ix3 r f k)) = fun f k => argE m d (i2 (look m d r f) k.val) :=
    funext fun f => funext fun k => Ref.rowsE_apply hx (argE m d) (ix3 r f k)
  have hL : (fun f : Fin 26 => Ref.rowsL (m (argLoc d main_arg0)) (argL m d) (ix3 r f (0 : Fin 1))) = fun f => argL m d (i2 (look m d r f) 0) :=
    funext fun f => Ref.rowsL_apply hx (argL m d) (ix3 r f (0 : Fin 1))
  rw [Ref.total_apply, hE, hL]
  refine Eq.trans ?_ (layersY_row m d hx r)
  pointwise

end Arrays

end Cert.Proof

end
-- ==== Proof.lean ====
/- The claim: the kernel's frames, the reference's frame, and that both leave the same result. -/
module

public import proofs.«01_k».proof.Defs
public import proofs.«01_k».proof.Proof.SameProgram
public import proofs.«01_k».proof.Proof.LayersValue

@[expose] public section

noncomputable section

namespace Cert.Proof

open Idealize.ShloMosaic Idealize.SL.Sem

section Kernel

open Cert.KernelIdeal Cert.KernelIdeal.Gen

variable {F : FTy → Type} [FloatOps F] (m : (ℓ : Loc nD τ sig) → Buf (Elt F) ℓ)

/-- The words in range are all that the kernel's run needs. -/
theorem ok_of_pre (h : ∀ d, Cert.Pre_in_vocab.fn (F := F) (m (argLoc d main_arg0)) (m (argLoc d main_arg1)) (m (argLoc d main_arg2)) (m (argLoc d main_arg3))
    (m (argLoc d main_arg4)) (m (argLoc d main_arg5)) (m (argLoc d main_arg6)) (m (argLoc d main_arg7)) (m (argLoc d main_arg8)) (m (argLoc d main_arg9)) = fun _ => 1#1) :
    InsOK (insOf m) :=
  fun d => (insOf_reads m d (small_of_pre _ _ _ _ _ _ _ _ _ _ (h d))).inRange

/-- What the run ends in leaves an argument as it began. -/
theorem arg_same {r : PUnit × MemSt nD τ sig (Elt F)} (h : QC m r) (d : Dev nD) (b : Ref sig .tc) (hs : b.isScoped = false)
    (hb : b ∉ main_v15 :: main_v14 :: main_v7 :: (wB ++ main_v2 :: (wA0 ++ wA1))) : r.2.mem (argLoc d b) = m (argLoc d b) :=
  (h.1 d _ (tcArr b hs)).trans (Vend_arg m d b hb)

theorem args_same {r : PUnit × MemSt nD τ sig (Elt F)} (h : QC m r) (d : Dev nD) :
    r.2.mem (argLoc d main_arg0) = m (argLoc d main_arg0) ∧ r.2.mem (argLoc d main_arg1) = m (argLoc d main_arg1) ∧ r.2.mem (argLoc d main_arg2) = m (argLoc d main_arg2)
      ∧ r.2.mem (argLoc d main_arg3) = m (argLoc d main_arg3) ∧ r.2.mem (argLoc d main_arg4) = m (argLoc d main_arg4) ∧ r.2.mem (argLoc d main_arg5) = m (argLoc d main_arg5)
      ∧ r.2.mem (argLoc d main_arg6) = m (argLoc d main_arg6) ∧ r.2.mem (argLoc d main_arg7) = m (argLoc d main_arg7) ∧ r.2.mem (argLoc d main_arg8) = m (argLoc d main_arg8)
      ∧ r.2.mem (argLoc d main_arg9) = m (argLoc d main_arg9) :=
  have k := arg_same m h d
  ⟨k _ rfl (by decide), k _ rfl (by decide), k _ rfl (by decide), k _ rfl (by decide), k _ rfl (by decide), k _ rfl (by decide), k _ rfl (by decide),
    k _ rfl (by decide), k _ rfl (by decide), k _ rfl (by decide)⟩

end Kernel

theorem frame_kernel : Cert.quiescent_Kernel := fun m ρ hpre =>
  (θ_run Cert.Kernel.defs _ _).mono (fun _ h => ⟨fun c => args_same m h c, h.2⟩) (run_same _ _ (run_main (F := Bits) m ρ (ok_of_pre m hpre)))

theorem frame_kernelIdeal : Cert.quiescent_KernelIdeal := fun m ρ hpre =>
  (θ_run Cert.KernelIdeal.defs _ _).mono (fun _ h => ⟨fun c => args_same m h c, h.2⟩) (run_main (F := Ideal) m ρ (ok_of_pre m hpre))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' hpre hargs
  refine ⟨fun c => Vend m c (Proc.devRef .tc (Cert.KernelIdeal.main_v15 : Ref Cert.KernelIdeal.sig .tc)), ?_, ?_⟩
  · exact (θ_run Cert.KernelIdeal.defs _ _).mono (fun _ h c => ⟨h.1 c _ (tcArr Cert.KernelIdeal.main_v15 rfl), args_same m h c⟩)
      (run_main (F := Ideal) m ρ (ok_of_pre m hpre))
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9⟩ := hargs c
    refine (Ref.res_eq m' c).trans ?_
    rw [e0, e1, e2, e3, e4, e5, e6, e7, e8, e9]
    exact (result_eq m c (small_of_pre _ _ _ _ _ _ _ _ _ _ (hpre c))).symm

theorem claim : Cert.Claim :=
  ⟨Cert.Kernel.Gen.facts, Cert.KernelIdeal.Gen.facts, Cert.ReferenceIdeal.Gen.facts, Cert.Pre_in_vocab.Gen.facts,
    frame_kernel, frame_kernelIdeal, frame_reference, trivial, algebraic⟩

end Cert.Proof

end
